-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_k [hPre_finite_q_k : Cert.Pre_finite_q_k.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_q_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_k [hPre_finite_q_k : Cert.Pre_finite_q_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_q_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateRefIdeal (m : (ℓ : Loc Cert.RotateRefIdeal.nD Cert.RotateRefIdeal.τ Cert.RotateRefIdeal.sig) → Buf (Elt Ideal) ℓ) : Prop :=
  True

def Pre_Windowed (m : (ℓ : Loc Cert.Windowed.nD Cert.Windowed.τ Cert.Windowed.sig) → Buf (Elt Bits) ℓ) : Prop :=
  True

def Pre_WindowedIdeal (m : (ℓ : Loc Cert.WindowedIdeal.nD Cert.WindowedIdeal.τ Cert.WindowedIdeal.sig) → Buf (Elt Ideal) ℓ) : Prop :=
  True

def Pre_WindowedIdeal_finite_windowed [hPre_finite_windowed : Cert.Pre_finite_windowed.Facts] (m : (ℓ : Loc Cert.WindowedIdeal.nD Cert.WindowedIdeal.τ Cert.WindowedIdeal.sig) → Buf (Elt Ideal) ℓ) : Prop :=
  ∀ c : Dev Cert.WindowedIdeal.nD,
    (Cert.Pre_finite_windowed.fn (F := Ideal) (m ((c.tc : Thread Cert.WindowedIdeal.nD Cert.WindowedIdeal.τ).loc Cert.WindowedIdeal.main_arg0)) (m ((c.tc : Thread Cert.WindowedIdeal.nD Cert.WindowedIdeal.τ).loc Cert.WindowedIdeal.main_arg1)) (m ((c.tc : Thread Cert.WindowedIdeal.nD Cert.WindowedIdeal.τ).loc Cert.WindowedIdeal.main_arg2)) (m ((c.tc : Thread Cert.WindowedIdeal.nD Cert.WindowedIdeal.τ).loc Cert.WindowedIdeal.main_arg3)) (m ((c.tc : Thread Cert.WindowedIdeal.nD Cert.WindowedIdeal.τ).loc Cert.WindowedIdeal.main_arg4)) (m ((c.tc : Thread Cert.WindowedIdeal.nD Cert.WindowedIdeal.τ).loc Cert.WindowedIdeal.main_arg5))).1 = (fun _ => 1#1)
    ∧ (Cert.Pre_finite_windowed.fn (F := Ideal) (m ((c.tc : Thread Cert.WindowedIdeal.nD Cert.WindowedIdeal.τ).loc Cert.WindowedIdeal.main_arg0)) (m ((c.tc : Thread Cert.WindowedIdeal.nD Cert.WindowedIdeal.τ).loc Cert.WindowedIdeal.main_arg1)) (m ((c.tc : Thread Cert.WindowedIdeal.nD Cert.WindowedIdeal.τ).loc Cert.WindowedIdeal.main_arg2)) (m ((c.tc : Thread Cert.WindowedIdeal.nD Cert.WindowedIdeal.τ).loc Cert.WindowedIdeal.main_arg3)) (m ((c.tc : Thread Cert.WindowedIdeal.nD Cert.WindowedIdeal.τ).loc Cert.WindowedIdeal.main_arg4)) (m ((c.tc : Thread Cert.WindowedIdeal.nD Cert.WindowedIdeal.τ).loc Cert.WindowedIdeal.main_arg5))).2.1 = (fun _ => 1#1)
    ∧ (Cert.Pre_finite_windowed.fn (F := Ideal) (m ((c.tc : Thread Cert.WindowedIdeal.nD Cert.WindowedIdeal.τ).loc Cert.WindowedIdeal.main_arg0)) (m ((c.tc : Thread Cert.WindowedIdeal.nD Cert.WindowedIdeal.τ).loc Cert.WindowedIdeal.main_arg1)) (m ((c.tc : Thread Cert.WindowedIdeal.nD Cert.WindowedIdeal.τ).loc Cert.WindowedIdeal.main_arg2)) (m ((c.tc : Thread Cert.WindowedIdeal.nD Cert.WindowedIdeal.τ).loc Cert.WindowedIdeal.main_arg3)) (m ((c.tc : Thread Cert.WindowedIdeal.nD Cert.WindowedIdeal.τ).loc Cert.WindowedIdeal.main_arg4)) (m ((c.tc : Thread Cert.WindowedIdeal.nD Cert.WindowedIdeal.τ).loc Cert.WindowedIdeal.main_arg5))).2.2.1 = (fun _ => 1#1)
    ∧ (Cert.Pre_finite_windowed.fn (F := Ideal) (m ((c.tc : Thread Cert.WindowedIdeal.nD Cert.WindowedIdeal.τ).loc Cert.WindowedIdeal.main_arg0)) (m ((c.tc : Thread Cert.WindowedIdeal.nD Cert.WindowedIdeal.τ).loc Cert.WindowedIdeal.main_arg1)) (m ((c.tc : Thread Cert.WindowedIdeal.nD Cert.WindowedIdeal.τ).loc Cert.WindowedIdeal.main_arg2)) (m ((c.tc : Thread Cert.WindowedIdeal.nD Cert.WindowedIdeal.τ).loc Cert.WindowedIdeal.main_arg3)) (m ((c.tc : Thread Cert.WindowedIdeal.nD Cert.WindowedIdeal.τ).loc Cert.WindowedIdeal.main_arg4)) (m ((c.tc : Thread Cert.WindowedIdeal.nD Cert.WindowedIdeal.τ).loc Cert.WindowedIdeal.main_arg5))).2.2.2 = (fun _ => 1#1)

def Pre_WindowedRefIdeal (m : (ℓ : Loc Cert.WindowedRefIdeal.nD Cert.WindowedRefIdeal.τ Cert.WindowedRefIdeal.sig) → Buf (Elt Ideal) ℓ) : Prop :=
  True

def Pre_WindowedRefIdeal_finite_windowed [hPre_finite_windowed : Cert.Pre_finite_windowed.Facts] (m : (ℓ : Loc Cert.WindowedRefIdeal.nD Cert.WindowedRefIdeal.τ Cert.WindowedRefIdeal.sig) → Buf (Elt Ideal) ℓ) : Prop :=
  ∀ c : Dev Cert.WindowedRefIdeal.nD,
    (Cert.Pre_finite_windowed.fn (F := Ideal) (m ((c.tc : Thread Cert.WindowedRefIdeal.nD Cert.WindowedRefIdeal.τ).loc Cert.WindowedRefIdeal.main_arg0)) (m ((c.tc : Thread Cert.WindowedRefIdeal.nD Cert.WindowedRefIdeal.τ).loc Cert.WindowedRefIdeal.main_arg1)) (m ((c.tc : Thread Cert.WindowedRefIdeal.nD Cert.WindowedRefIdeal.τ).loc Cert.WindowedRefIdeal.main_arg2)) (m ((c.tc : Thread Cert.WindowedRefIdeal.nD Cert.WindowedRefIdeal.τ).loc Cert.WindowedRefIdeal.main_arg3)) (m ((c.tc : Thread Cert.WindowedRefIdeal.nD Cert.WindowedRefIdeal.τ).loc Cert.WindowedRefIdeal.main_arg4)) (m ((c.tc : Thread Cert.WindowedRefIdeal.nD Cert.WindowedRefIdeal.τ).loc Cert.WindowedRefIdeal.main_arg5))).1 = (fun _ => 1#1)
    ∧ (Cert.Pre_finite_windowed.fn (F := Ideal) (m ((c.tc : Thread Cert.WindowedRefIdeal.nD Cert.WindowedRefIdeal.τ).loc Cert.WindowedRefIdeal.main_arg0)) (m ((c.tc : Thread Cert.WindowedRefIdeal.nD Cert.WindowedRefIdeal.τ).loc Cert.WindowedRefIdeal.main_arg1)) (m ((c.tc : Thread Cert.WindowedRefIdeal.nD Cert.WindowedRefIdeal.τ).loc Cert.WindowedRefIdeal.main_arg2)) (m ((c.tc : Thread Cert.WindowedRefIdeal.nD Cert.WindowedRefIdeal.τ).loc Cert.WindowedRefIdeal.main_arg3)) (m ((c.tc : Thread Cert.WindowedRefIdeal.nD Cert.WindowedRefIdeal.τ).loc Cert.WindowedRefIdeal.main_arg4)) (m ((c.tc : Thread Cert.WindowedRefIdeal.nD Cert.WindowedRefIdeal.τ).loc Cert.WindowedRefIdeal.main_arg5))).2.1 = (fun _ => 1#1)
    ∧ (Cert.Pre_finite_windowed.fn (F := Ideal) (m ((c.tc : Thread Cert.WindowedRefIdeal.nD Cert.WindowedRefIdeal.τ).loc Cert.WindowedRefIdeal.main_arg0)) (m ((c.tc : Thread Cert.WindowedRefIdeal.nD Cert.WindowedRefIdeal.τ).loc Cert.WindowedRefIdeal.main_arg1)) (m ((c.tc : Thread Cert.WindowedRefIdeal.nD Cert.WindowedRefIdeal.τ).loc Cert.WindowedRefIdeal.main_arg2)) (m ((c.tc : Thread Cert.WindowedRefIdeal.nD Cert.WindowedRefIdeal.τ).loc Cert.WindowedRefIdeal.main_arg3)) (m ((c.tc : Thread Cert.WindowedRefIdeal.nD Cert.WindowedRefIdeal.τ).loc Cert.WindowedRefIdeal.main_arg4)) (m ((c.tc : Thread Cert.WindowedRefIdeal.nD Cert.WindowedRefIdeal.τ).loc Cert.WindowedRefIdeal.main_arg5))).2.2.1 = (fun _ => 1#1)
    ∧ (Cert.Pre_finite_windowed.fn (F := Ideal) (m ((c.tc : Thread Cert.WindowedRefIdeal.nD Cert.WindowedRefIdeal.τ).loc Cert.WindowedRefIdeal.main_arg0)) (m ((c.tc : Thread Cert.WindowedRefIdeal.nD Cert.WindowedRefIdeal.τ).loc Cert.WindowedRefIdeal.main_arg1)) (m ((c.tc : Thread Cert.WindowedRefIdeal.nD Cert.WindowedRefIdeal.τ).loc Cert.WindowedRefIdeal.main_arg2)) (m ((c.tc : Thread Cert.WindowedRefIdeal.nD Cert.WindowedRefIdeal.τ).loc Cert.WindowedRefIdeal.main_arg3)) (m ((c.tc : Thread Cert.WindowedRefIdeal.nD Cert.WindowedRefIdeal.τ).loc Cert.WindowedRefIdeal.main_arg4)) (m ((c.tc : Thread Cert.WindowedRefIdeal.nD Cert.WindowedRefIdeal.τ).loc Cert.WindowedRefIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q_k [hKernelIdeal : Cert.KernelIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q_k [hReferenceIdeal : Cert.ReferenceIdeal.Facts] [hPre_finite_q_k : Cert.Pre_finite_q_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0))
      ∧ r.2.sem = fun _ => 0)

def quiescent_RotateRefIdeal [hRotateRefIdeal : Cert.RotateRefIdeal.Facts] : Prop :=
  ∀ (m : (ℓ : Loc Cert.RotateRefIdeal.nD Cert.RotateRefIdeal.τ Cert.RotateRefIdeal.sig) → Buf (Elt Ideal) ℓ) (g : Dev Cert.RotateRefIdeal.nD → PrngReg), Pre_RotateRefIdeal m →
    θ_run (Cert.RotateRefIdeal.defs (F := Ideal)) (onTc (τ := Cert.RotateRefIdeal.τ) (Cert.RotateRefIdeal.main (F := Ideal))) ⟨m, fun _ => 0, g⟩ (fun r => (∀ c : Dev Cert.RotateRefIdeal.nD,
      r.2.mem ((c.tc : Thread Cert.RotateRefIdeal.nD Cert.RotateRefIdeal.τ).loc Cert.RotateRefIdeal.main_arg0) = m ((c.tc : Thread Cert.RotateRefIdeal.nD Cert.RotateRefIdeal.τ).loc Cert.RotateRefIdeal.main_arg0))
      ∧ r.2.sem = fun _ => 0)

def quiescent_Windowed [hWindowed : Cert.Windowed.Facts] : Prop :=
  ∀ (m : (ℓ : Loc Cert.Windowed.nD Cert.Windowed.τ Cert.Windowed.sig) → Buf (Elt Bits) ℓ) (g : Dev Cert.Windowed.nD → PrngReg), Pre_Windowed m →
    θ_run (Cert.Windowed.defs (F := Bits)) (onTc (τ := Cert.Windowed.τ) (Cert.Windowed.main (F := Bits))) ⟨m, fun _ => 0, g⟩ (fun r => (∀ c : Dev Cert.Windowed.nD,
      r.2.mem ((c.tc : Thread Cert.Windowed.nD Cert.Windowed.τ).loc Cert.Windowed.main_arg0) = m ((c.tc : Thread Cert.Windowed.nD Cert.Windowed.τ).loc Cert.Windowed.main_arg0)
      ∧ r.2.mem ((c.tc : Thread Cert.Windowed.nD Cert.Windowed.τ).loc Cert.Windowed.main_arg1) = m ((c.tc : Thread Cert.Windowed.nD Cert.Windowed.τ).loc Cert.Windowed.main_arg1)
      ∧ r.2.mem ((c.tc : Thread Cert.Windowed.nD Cert.Windowed.τ).loc Cert.Windowed.main_arg2) = m ((c.tc : Thread Cert.Windowed.nD Cert.Windowed.τ).loc Cert.Windowed.main_arg2)
      ∧ r.2.mem ((c.tc : Thread Cert.Windowed.nD Cert.Windowed.τ).loc Cert.Windowed.main_arg3) = m ((c.tc : Thread Cert.Windowed.nD Cert.Windowed.τ).loc Cert.Windowed.main_arg3)
      ∧ r.2.mem ((c.tc : Thread Cert.Windowed.nD Cert.Windowed.τ).loc Cert.Windowed.main_arg4) = m ((c.tc : Thread Cert.Windowed.nD Cert.Windowed.τ).loc Cert.Windowed.main_arg4)
      ∧ r.2.mem ((c.tc : Thread Cert.Windowed.nD Cert.Windowed.τ).loc Cert.Windowed.main_arg5) = m ((c.tc : Thread Cert.Windowed.nD Cert.Windowed.τ).loc Cert.Windowed.main_arg5))
      ∧ r.2.sem = fun _ => 0)

def quiescent_WindowedIdeal [hWindowedIdeal : Cert.WindowedIdeal.Facts] : Prop :=
  ∀ (m : (ℓ : Loc Cert.WindowedIdeal.nD Cert.WindowedIdeal.τ Cert.WindowedIdeal.sig) → Buf (Elt Ideal) ℓ) (g : Dev Cert.WindowedIdeal.nD → PrngReg), Pre_WindowedIdeal m →
    θ_run (Cert.WindowedIdeal.defs (F := Ideal)) (onTc (τ := Cert.WindowedIdeal.τ) (Cert.WindowedIdeal.main (F := Ideal))) ⟨m, fun _ => 0, g⟩ (fun r => (∀ c : Dev Cert.WindowedIdeal.nD,
      r.2.mem ((c.tc : Thread Cert.WindowedIdeal.nD Cert.WindowedIdeal.τ).loc Cert.WindowedIdeal.main_arg0) = m ((c.tc : Thread Cert.WindowedIdeal.nD Cert.WindowedIdeal.τ).loc Cert.WindowedIdeal.main_arg0)
      ∧ r.2.mem ((c.tc : Thread Cert.WindowedIdeal.nD Cert.WindowedIdeal.τ).loc Cert.WindowedIdeal.main_arg1) = m ((c.tc : Thread Cert.WindowedIdeal.nD Cert.WindowedIdeal.τ).loc Cert.WindowedIdeal.main_arg1)
      ∧ r.2.mem ((c.tc : Thread Cert.WindowedIdeal.nD Cert.WindowedIdeal.τ).loc Cert.WindowedIdeal.main_arg2) = m ((c.tc : Thread Cert.WindowedIdeal.nD Cert.WindowedIdeal.τ).loc Cert.WindowedIdeal.main_arg2)
      ∧ r.2.mem ((c.tc : Thread Cert.WindowedIdeal.nD Cert.WindowedIdeal.τ).loc Cert.WindowedIdeal.main_arg3) = m ((c.tc : Thread Cert.WindowedIdeal.nD Cert.WindowedIdeal.τ).loc Cert.WindowedIdeal.main_arg3)
      ∧ r.2.mem ((c.tc : Thread Cert.WindowedIdeal.nD Cert.WindowedIdeal.τ).loc Cert.WindowedIdeal.main_arg4) = m ((c.tc : Thread Cert.WindowedIdeal.nD Cert.WindowedIdeal.τ).loc Cert.WindowedIdeal.main_arg4)
      ∧ r.2.mem ((c.tc : Thread Cert.WindowedIdeal.nD Cert.WindowedIdeal.τ).loc Cert.WindowedIdeal.main_arg5) = m ((c.tc : Thread Cert.WindowedIdeal.nD Cert.WindowedIdeal.τ).loc Cert.WindowedIdeal.main_arg5))
      ∧ r.2.sem = fun _ => 0)

def quiescent_WindowedIdeal_pre_finite_windowed [hWindowedIdeal : Cert.WindowedIdeal.Facts] [hPre_finite_windowed : Cert.Pre_finite_windowed.Facts] : Prop :=
  ∀ (m : (ℓ : Loc Cert.WindowedIdeal.nD Cert.WindowedIdeal.τ Cert.WindowedIdeal.sig) → Buf (Elt Ideal) ℓ) (g : Dev Cert.WindowedIdeal.nD → PrngReg), Pre_WindowedIdeal_finite_windowed m →
    θ_run (Cert.WindowedIdeal.defs (F := Ideal)) (onTc (τ := Cert.WindowedIdeal.τ) (Cert.WindowedIdeal.main (F := Ideal))) ⟨m, fun _ => 0, g⟩ (fun r => (∀ c : Dev Cert.WindowedIdeal.nD,
      r.2.mem ((c.tc : Thread Cert.WindowedIdeal.nD Cert.WindowedIdeal.τ).loc Cert.WindowedIdeal.main_arg0) = m ((c.tc : Thread Cert.WindowedIdeal.nD Cert.WindowedIdeal.τ).loc Cert.WindowedIdeal.main_arg0)
      ∧ r.2.mem ((c.tc : Thread Cert.WindowedIdeal.nD Cert.WindowedIdeal.τ).loc Cert.WindowedIdeal.main_arg1) = m ((c.tc : Thread Cert.WindowedIdeal.nD Cert.WindowedIdeal.τ).loc Cert.WindowedIdeal.main_arg1)
      ∧ r.2.mem ((c.tc : Thread Cert.WindowedIdeal.nD Cert.WindowedIdeal.τ).loc Cert.WindowedIdeal.main_arg2) = m ((c.tc : Thread Cert.WindowedIdeal.nD Cert.WindowedIdeal.τ).loc Cert.WindowedIdeal.main_arg2)
      ∧ r.2.mem ((c.tc : Thread Cert.WindowedIdeal.nD Cert.WindowedIdeal.τ).loc Cert.WindowedIdeal.main_arg3) = m ((c.tc : Thread Cert.WindowedIdeal.nD Cert.WindowedIdeal.τ).loc Cert.WindowedIdeal.main_arg3)
      ∧ r.2.mem ((c.tc : Thread Cert.WindowedIdeal.nD Cert.WindowedIdeal.τ).loc Cert.WindowedIdeal.main_arg4) = m ((c.tc : Thread Cert.WindowedIdeal.nD Cert.WindowedIdeal.τ).loc Cert.WindowedIdeal.main_arg4)
      ∧ r.2.mem ((c.tc : Thread Cert.WindowedIdeal.nD Cert.WindowedIdeal.τ).loc Cert.WindowedIdeal.main_arg5) = m ((c.tc : Thread Cert.WindowedIdeal.nD Cert.WindowedIdeal.τ).loc Cert.WindowedIdeal.main_arg5))
      ∧ r.2.sem = fun _ => 0)

def quiescent_WindowedRefIdeal [hWindowedRefIdeal : Cert.WindowedRefIdeal.Facts] : Prop :=
  ∀ (m : (ℓ : Loc Cert.WindowedRefIdeal.nD Cert.WindowedRefIdeal.τ Cert.WindowedRefIdeal.sig) → Buf (Elt Ideal) ℓ) (g : Dev Cert.WindowedRefIdeal.nD → PrngReg), Pre_WindowedRefIdeal m →
    θ_run (Cert.WindowedRefIdeal.defs (F := Ideal)) (onTc (τ := Cert.WindowedRefIdeal.τ) (Cert.WindowedRefIdeal.main (F := Ideal))) ⟨m, fun _ => 0, g⟩ (fun r => (∀ c : Dev Cert.WindowedRefIdeal.nD,
      r.2.mem ((c.tc : Thread Cert.WindowedRefIdeal.nD Cert.WindowedRefIdeal.τ).loc Cert.WindowedRefIdeal.main_arg0) = m ((c.tc : Thread Cert.WindowedRefIdeal.nD Cert.WindowedRefIdeal.τ).loc Cert.WindowedRefIdeal.main_arg0)
      ∧ r.2.mem ((c.tc : Thread Cert.WindowedRefIdeal.nD Cert.WindowedRefIdeal.τ).loc Cert.WindowedRefIdeal.main_arg1) = m ((c.tc : Thread Cert.WindowedRefIdeal.nD Cert.WindowedRefIdeal.τ).loc Cert.WindowedRefIdeal.main_arg1)
      ∧ r.2.mem ((c.tc : Thread Cert.WindowedRefIdeal.nD Cert.WindowedRefIdeal.τ).loc Cert.WindowedRefIdeal.main_arg2) = m ((c.tc : Thread Cert.WindowedRefIdeal.nD Cert.WindowedRefIdeal.τ).loc Cert.WindowedRefIdeal.main_arg2)
      ∧ r.2.mem ((c.tc : Thread Cert.WindowedRefIdeal.nD Cert.WindowedRefIdeal.τ).loc Cert.WindowedRefIdeal.main_arg3) = m ((c.tc : Thread Cert.WindowedRefIdeal.nD Cert.WindowedRefIdeal.τ).loc Cert.WindowedRefIdeal.main_arg3)
      ∧ r.2.mem ((c.tc : Thread Cert.WindowedRefIdeal.nD Cert.WindowedRefIdeal.τ).loc Cert.WindowedRefIdeal.main_arg4) = m ((c.tc : Thread Cert.WindowedRefIdeal.nD Cert.WindowedRefIdeal.τ).loc Cert.WindowedRefIdeal.main_arg4)
      ∧ r.2.mem ((c.tc : Thread Cert.WindowedRefIdeal.nD Cert.WindowedRefIdeal.τ).loc Cert.WindowedRefIdeal.main_arg5) = m ((c.tc : Thread Cert.WindowedRefIdeal.nD Cert.WindowedRefIdeal.τ).loc Cert.WindowedRefIdeal.main_arg5))
      ∧ r.2.sem = fun _ => 0)

def quiescent_WindowedRefIdeal_pre_finite_windowed [hWindowedRefIdeal : Cert.WindowedRefIdeal.Facts] [hPre_finite_windowed : Cert.Pre_finite_windowed.Facts] : Prop :=
  ∀ (m : (ℓ : Loc Cert.WindowedRefIdeal.nD Cert.WindowedRefIdeal.τ Cert.WindowedRefIdeal.sig) → Buf (Elt Ideal) ℓ) (g : Dev Cert.WindowedRefIdeal.nD → PrngReg), Pre_WindowedRefIdeal_finite_windowed m →
    θ_run (Cert.WindowedRefIdeal.defs (F := Ideal)) (onTc (τ := Cert.WindowedRefIdeal.τ) (Cert.WindowedRefIdeal.main (F := Ideal))) ⟨m, fun _ => 0, g⟩ (fun r => (∀ c : Dev Cert.WindowedRefIdeal.nD,
      r.2.mem ((c.tc : Thread Cert.WindowedRefIdeal.nD Cert.WindowedRefIdeal.τ).loc Cert.WindowedRefIdeal.main_arg0) = m ((c.tc : Thread Cert.WindowedRefIdeal.nD Cert.WindowedRefIdeal.τ).loc Cert.WindowedRefIdeal.main_arg0)
      ∧ r.2.mem ((c.tc : Thread Cert.WindowedRefIdeal.nD Cert.WindowedRefIdeal.τ).loc Cert.WindowedRefIdeal.main_arg1) = m ((c.tc : Thread Cert.WindowedRefIdeal.nD Cert.WindowedRefIdeal.τ).loc Cert.WindowedRefIdeal.main_arg1)
      ∧ r.2.mem ((c.tc : Thread Cert.WindowedRefIdeal.nD Cert.WindowedRefIdeal.τ).loc Cert.WindowedRefIdeal.main_arg2) = m ((c.tc : Thread Cert.WindowedRefIdeal.nD Cert.WindowedRefIdeal.τ).loc Cert.WindowedRefIdeal.main_arg2)
      ∧ r.2.mem ((c.tc : Thread Cert.WindowedRefIdeal.nD Cert.WindowedRefIdeal.τ).loc Cert.WindowedRefIdeal.main_arg3) = m ((c.tc : Thread Cert.WindowedRefIdeal.nD Cert.WindowedRefIdeal.τ).loc Cert.WindowedRefIdeal.main_arg3)
      ∧ r.2.mem ((c.tc : Thread Cert.WindowedRefIdeal.nD Cert.WindowedRefIdeal.τ).loc Cert.WindowedRefIdeal.main_arg4) = m ((c.tc : Thread Cert.WindowedRefIdeal.nD Cert.WindowedRefIdeal.τ).loc Cert.WindowedRefIdeal.main_arg4)
      ∧ r.2.mem ((c.tc : Thread Cert.WindowedRefIdeal.nD Cert.WindowedRefIdeal.τ).loc Cert.WindowedRefIdeal.main_arg5) = m ((c.tc : Thread Cert.WindowedRefIdeal.nD Cert.WindowedRefIdeal.τ).loc Cert.WindowedRefIdeal.main_arg5))
      ∧ r.2.sem = fun _ => 0)

def preserves_Kernel_KernelIdeal : Prop :=
  True

def algebraic_KernelIdeal_ReferenceIdeal_pre_finite_q_k [hKernelIdeal : Cert.KernelIdeal.Facts] [hReferenceIdeal : Cert.ReferenceIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)) →
    ∃ (v0 : (c : Dev Cert.EvenInIdeal.nD) → Buf (Elt Ideal) ((c.tc : Thread Cert.EvenInIdeal.nD Cert.EvenInIdeal.τ).loc Cert.EvenInIdeal.main_v1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v1) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v6) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)) →
    ∃ (v0 : (c : Dev Cert.OddInIdeal.nD) → Buf (Elt Ideal) ((c.tc : Thread Cert.OddInIdeal.nD Cert.OddInIdeal.τ).loc Cert.OddInIdeal.main_v1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v1) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v6) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)) →
    ∃ (v0 : (c : Dev Cert.QueryIdeal.nD) → Buf (Elt Ideal) ((c.tc : Thread Cert.QueryIdeal.nD Cert.QueryIdeal.τ).loc Cert.QueryIdeal.main_v1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v1) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v6) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)
      ∧ m' ((c.tc : Thread Cert.OddOutRefIdeal.nD Cert.OddOutRefIdeal.τ).loc Cert.OddOutRefIdeal.main_arg6) = m ((c.tc : Thread Cert.OddOutIdeal.nD Cert.OddOutIdeal.τ).loc Cert.OddOutIdeal.main_arg6)) →
    ∃ (v0 : (c : Dev Cert.OddOutIdeal.nD) → Buf (Elt Ideal) ((c.tc : Thread Cert.OddOutIdeal.nD Cert.OddOutIdeal.τ).loc Cert.OddOutIdeal.main_v3)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v3) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v32) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5)
          ∧ r.2.mem ((c.tc : Thread Cert.OddOutRefIdeal.nD Cert.OddOutRefIdeal.τ).loc Cert.OddOutRefIdeal.main_arg6) = m' ((c.tc : Thread Cert.OddOutRefIdeal.nD Cert.OddOutRefIdeal.τ).loc Cert.OddOutRefIdeal.main_arg6))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)) →
    ∃ (v0 : (c : Dev Cert.EvenOutIdeal.nD) → Buf (Elt Ideal) ((c.tc : Thread Cert.EvenOutIdeal.nD Cert.EvenOutIdeal.τ).loc Cert.EvenOutIdeal.main_v3)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v3) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v31) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v50) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)) →
    ∃ (v0 : (c : Dev Cert.ScanIdeal.nD) → Buf (Elt Ideal) ((c.tc : Thread Cert.ScanIdeal.nD Cert.ScanIdeal.τ).loc Cert.ScanIdeal.main_v0_0)) (v1 : (c : Dev Cert.ScanIdeal.nD) → Buf (Elt Ideal) ((c.tc : Thread Cert.ScanIdeal.nD Cert.ScanIdeal.τ).loc Cert.ScanIdeal.main_v0_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_0) = v0 c
          ∧ r.2.mem ((c.tc : Thread Cert.ScanIdeal.nD Cert.ScanIdeal.τ).loc Cert.ScanIdeal.main_v0_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v2_9) = v0 c
          ∧ r.2.mem ((c.tc : Thread Cert.ScanRefIdeal.nD Cert.ScanRefIdeal.τ).loc Cert.ScanRefIdeal.main_v2_10) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)) →
    ∃ (v0 : (c : Dev Cert.GatedIdeal.nD) → Buf (Elt Ideal) ((c.tc : Thread Cert.GatedIdeal.nD Cert.GatedIdeal.τ).loc Cert.GatedIdeal.main_v1)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v1) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v21) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v10) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1))

def preserves_Rotate_RotateIdeal : Prop :=
  True

def algebraic_RotateIdeal_RotateRefIdeal [hRotateIdeal : Cert.RotateIdeal.Facts] [hRotateRefIdeal : Cert.RotateRefIdeal.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateRefIdeal.nD Cert.RotateRefIdeal.τ Cert.RotateRefIdeal.sig) → Buf (Elt Ideal) ℓ) (g' : Dev Cert.RotateRefIdeal.nD → PrngReg), Pre_RotateIdeal m →
    (∀ c : Dev Cert.RotateIdeal.nD,
      m' ((c.tc : Thread Cert.RotateRefIdeal.nD Cert.RotateRefIdeal.τ).loc Cert.RotateRefIdeal.main_arg0) = m ((c.tc : Thread Cert.RotateIdeal.nD Cert.RotateIdeal.τ).loc Cert.RotateIdeal.main_arg0)) →
    ∃ (v0 : (c : Dev Cert.RotateIdeal.nD) → Buf (Elt Ideal) ((c.tc : Thread Cert.RotateIdeal.nD Cert.RotateIdeal.τ).loc Cert.RotateIdeal.main_v53_0)) (v1 : (c : Dev Cert.RotateIdeal.nD) → Buf (Elt Ideal) ((c.tc : Thread Cert.RotateIdeal.nD Cert.RotateIdeal.τ).loc Cert.RotateIdeal.main_v53_1)) (v2 : (c : Dev Cert.RotateIdeal.nD) → Buf (Elt Ideal) ((c.tc : Thread Cert.RotateIdeal.nD Cert.RotateIdeal.τ).loc Cert.RotateIdeal.main_v53_2)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v53_0) = v0 c
          ∧ r.2.mem ((c.tc : Thread Cert.RotateIdeal.nD Cert.RotateIdeal.τ).loc Cert.RotateIdeal.main_v53_1) = v1 c
          ∧ r.2.mem ((c.tc : Thread Cert.RotateIdeal.nD Cert.RotateIdeal.τ).loc Cert.RotateIdeal.main_v53_2) = v2 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0))
      ∧ θ_run (Cert.RotateRefIdeal.defs (F := Ideal)) (onTc (τ := Cert.RotateRefIdeal.τ) (Cert.RotateRefIdeal.main (F := Ideal))) ⟨m', fun _ => 0, g'⟩ (fun r => ∀ c : Dev Cert.RotateRefIdeal.nD,
          r.2.mem ((c.tc : Thread Cert.RotateRefIdeal.nD Cert.RotateRefIdeal.τ).loc Cert.RotateRefIdeal.main_v120) = v0 c
          ∧ r.2.mem ((c.tc : Thread Cert.RotateRefIdeal.nD Cert.RotateRefIdeal.τ).loc Cert.RotateRefIdeal.main_v122) = v1 c
          ∧ r.2.mem ((c.tc : Thread Cert.RotateRefIdeal.nD Cert.RotateRefIdeal.τ).loc Cert.RotateRefIdeal.main_v124) = v2 c
          ∧ r.2.mem ((c.tc : Thread Cert.RotateRefIdeal.nD Cert.RotateRefIdeal.τ).loc Cert.RotateRefIdeal.main_arg0) = m' ((c.tc : Thread Cert.RotateRefIdeal.nD Cert.RotateRefIdeal.τ).loc Cert.RotateRefIdeal.main_arg0))

def preserves_Windowed_WindowedIdeal : Prop :=
  True

def algebraic_WindowedIdeal_WindowedRefIdeal_pre_finite_windowed [hWindowedIdeal : Cert.WindowedIdeal.Facts] [hWindowedRefIdeal : Cert.WindowedRefIdeal.Facts] [hPre_finite_windowed : Cert.Pre_finite_windowed.Facts] : Prop :=
  ∀ (m : (ℓ : Loc Cert.WindowedIdeal.nD Cert.WindowedIdeal.τ Cert.WindowedIdeal.sig) → Buf (Elt Ideal) ℓ) (g : Dev Cert.WindowedIdeal.nD → PrngReg)
    (m' : (ℓ : Loc Cert.WindowedRefIdeal.nD Cert.WindowedRefIdeal.τ Cert.WindowedRefIdeal.sig) → Buf (Elt Ideal) ℓ) (g' : Dev Cert.WindowedRefIdeal.nD → PrngReg), Pre_WindowedIdeal_finite_windowed m →
    (∀ c : Dev Cert.WindowedIdeal.nD,
      m' ((c.tc : Thread Cert.WindowedRefIdeal.nD Cert.WindowedRefIdeal.τ).loc Cert.WindowedRefIdeal.main_arg0) = m ((c.tc : Thread Cert.WindowedIdeal.nD Cert.WindowedIdeal.τ).loc Cert.WindowedIdeal.main_arg0)
      ∧ m' ((c.tc : Thread Cert.WindowedRefIdeal.nD Cert.WindowedRefIdeal.τ).loc Cert.WindowedRefIdeal.main_arg1) = m ((c.tc : Thread Cert.WindowedIdeal.nD Cert.WindowedIdeal.τ).loc Cert.WindowedIdeal.main_arg1)
      ∧ m' ((c.tc : Thread Cert.WindowedRefIdeal.nD Cert.WindowedRefIdeal.τ).loc Cert.WindowedRefIdeal.main_arg2) = m ((c.tc : Thread Cert.WindowedIdeal.nD Cert.WindowedIdeal.τ).loc Cert.WindowedIdeal.main_arg2)
      ∧ m' ((c.tc : Thread Cert.WindowedRefIdeal.nD Cert.WindowedRefIdeal.τ).loc Cert.WindowedRefIdeal.main_arg3) = m ((c.tc : Thread Cert.WindowedIdeal.nD Cert.WindowedIdeal.τ).loc Cert.WindowedIdeal.main_arg3)
      ∧ m' ((c.tc : Thread Cert.WindowedRefIdeal.nD Cert.WindowedRefIdeal.τ).loc Cert.WindowedRefIdeal.main_arg4) = m ((c.tc : Thread Cert.WindowedIdeal.nD Cert.WindowedIdeal.τ).loc Cert.WindowedIdeal.main_arg4)
      ∧ m' ((c.tc : Thread Cert.WindowedRefIdeal.nD Cert.WindowedRefIdeal.τ).loc Cert.WindowedRefIdeal.main_arg5) = m ((c.tc : Thread Cert.WindowedIdeal.nD Cert.WindowedIdeal.τ).loc Cert.WindowedIdeal.main_arg5)) →
    ∃ (v0 : (c : Dev Cert.WindowedIdeal.nD) → Buf (Elt Ideal) ((c.tc : Thread Cert.WindowedIdeal.nD Cert.WindowedIdeal.τ).loc Cert.WindowedIdeal.main_v0)),
      θ_run (Cert.WindowedIdeal.defs (F := Ideal)) (onTc (τ := Cert.WindowedIdeal.τ) (Cert.WindowedIdeal.main (F := Ideal))) ⟨m, fun _ => 0, g⟩ (fun r => ∀ c : Dev Cert.WindowedIdeal.nD,
          r.2.mem ((c.tc : Thread Cert.WindowedIdeal.nD Cert.WindowedIdeal.τ).loc Cert.WindowedIdeal.main_v0) = v0 c
          ∧ r.2.mem ((c.tc : Thread Cert.WindowedIdeal.nD Cert.WindowedIdeal.τ).loc Cert.WindowedIdeal.main_arg0) = m ((c.tc : Thread Cert.WindowedIdeal.nD Cert.WindowedIdeal.τ).loc Cert.WindowedIdeal.main_arg0)
          ∧ r.2.mem ((c.tc : Thread Cert.WindowedIdeal.nD Cert.WindowedIdeal.τ).loc Cert.WindowedIdeal.main_arg1) = m ((c.tc : Thread Cert.WindowedIdeal.nD Cert.WindowedIdeal.τ).loc Cert.WindowedIdeal.main_arg1)
          ∧ r.2.mem ((c.tc : Thread Cert.WindowedIdeal.nD Cert.WindowedIdeal.τ).loc Cert.WindowedIdeal.main_arg2) = m ((c.tc : Thread Cert.WindowedIdeal.nD Cert.WindowedIdeal.τ).loc Cert.WindowedIdeal.main_arg2)
          ∧ r.2.mem ((c.tc : Thread Cert.WindowedIdeal.nD Cert.WindowedIdeal.τ).loc Cert.WindowedIdeal.main_arg3) = m ((c.tc : Thread Cert.WindowedIdeal.nD Cert.WindowedIdeal.τ).loc Cert.WindowedIdeal.main_arg3)
          ∧ r.2.mem ((c.tc : Thread Cert.WindowedIdeal.nD Cert.WindowedIdeal.τ).loc Cert.WindowedIdeal.main_arg4) = m ((c.tc : Thread Cert.WindowedIdeal.nD Cert.WindowedIdeal.τ).loc Cert.WindowedIdeal.main_arg4)
          ∧ r.2.mem ((c.tc : Thread Cert.WindowedIdeal.nD Cert.WindowedIdeal.τ).loc Cert.WindowedIdeal.main_arg5) = m ((c.tc : Thread Cert.WindowedIdeal.nD Cert.WindowedIdeal.τ).loc Cert.WindowedIdeal.main_arg5))
      ∧ θ_run (Cert.WindowedRefIdeal.defs (F := Ideal)) (onTc (τ := Cert.WindowedRefIdeal.τ) (Cert.WindowedRefIdeal.main (F := Ideal))) ⟨m', fun _ => 0, g'⟩ (fun r => ∀ c : Dev Cert.WindowedRefIdeal.nD,
          r.2.mem ((c.tc : Thread Cert.WindowedRefIdeal.nD Cert.WindowedRefIdeal.τ).loc Cert.WindowedRefIdeal.main_v37) = v0 c
          ∧ r.2.mem ((c.tc : Thread Cert.WindowedRefIdeal.nD Cert.WindowedRefIdeal.τ).loc Cert.WindowedRefIdeal.main_arg0) = m' ((c.tc : Thread Cert.WindowedRefIdeal.nD Cert.WindowedRefIdeal.τ).loc Cert.WindowedRefIdeal.main_arg0)
          ∧ r.2.mem ((c.tc : Thread Cert.WindowedRefIdeal.nD Cert.WindowedRefIdeal.τ).loc Cert.WindowedRefIdeal.main_arg1) = m' ((c.tc : Thread Cert.WindowedRefIdeal.nD Cert.WindowedRefIdeal.τ).loc Cert.WindowedRefIdeal.main_arg1)
          ∧ r.2.mem ((c.tc : Thread Cert.WindowedRefIdeal.nD Cert.WindowedRefIdeal.τ).loc Cert.WindowedRefIdeal.main_arg2) = m' ((c.tc : Thread Cert.WindowedRefIdeal.nD Cert.WindowedRefIdeal.τ).loc Cert.WindowedRefIdeal.main_arg2)
          ∧ r.2.mem ((c.tc : Thread Cert.WindowedRefIdeal.nD Cert.WindowedRefIdeal.τ).loc Cert.WindowedRefIdeal.main_arg3) = m' ((c.tc : Thread Cert.WindowedRefIdeal.nD Cert.WindowedRefIdeal.τ).loc Cert.WindowedRefIdeal.main_arg3)
          ∧ r.2.mem ((c.tc : Thread Cert.WindowedRefIdeal.nD Cert.WindowedRefIdeal.τ).loc Cert.WindowedRefIdeal.main_arg4) = m' ((c.tc : Thread Cert.WindowedRefIdeal.nD Cert.WindowedRefIdeal.τ).loc Cert.WindowedRefIdeal.main_arg4)
          ∧ r.2.mem ((c.tc : Thread Cert.WindowedRefIdeal.nD Cert.WindowedRefIdeal.τ).loc Cert.WindowedRefIdeal.main_arg5) = m' ((c.tc : Thread Cert.WindowedRefIdeal.nD Cert.WindowedRefIdeal.τ).loc Cert.WindowedRefIdeal.main_arg5))

def Claim : Prop :=
  ∃ (hKernel : Cert.Kernel.Facts) (hKernelIdeal : Cert.KernelIdeal.Facts) (hReferenceIdeal : Cert.ReferenceIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hQuery : Cert.Query.Facts) (hQueryIdeal : Cert.QueryIdeal.Facts) (hQueryRefIdeal : Cert.QueryRefIdeal.Facts) (hOddOut : Cert.OddOut.Facts) (hOddOutIdeal : Cert.OddOutIdeal.Facts) (hOddOutRefIdeal : Cert.OddOutRefIdeal.Facts) (hEvenOut : Cert.EvenOut.Facts) (hEvenOutIdeal : Cert.EvenOutIdeal.Facts) (hEvenOutRefIdeal : Cert.EvenOutRefIdeal.Facts) (hExperts : Cert.Experts.Facts) (hExpertsIdeal : Cert.ExpertsIdeal.Facts) (hExpertsRefIdeal : Cert.ExpertsRefIdeal.Facts) (hScan : Cert.Scan.Facts) (hScanIdeal : Cert.ScanIdeal.Facts) (hScanRefIdeal : Cert.ScanRefIdeal.Facts) (hGated : Cert.Gated.Facts) (hGatedIdeal : Cert.GatedIdeal.Facts) (hGatedRefIdeal : Cert.GatedRefIdeal.Facts) (hDense : Cert.Dense.Facts) (hDenseIdeal : Cert.DenseIdeal.Facts) (hDenseRefIdeal : Cert.DenseRefIdeal.Facts) (hRotate : Cert.Rotate.Facts) (hRotateIdeal : Cert.RotateIdeal.Facts) (hRotateRefIdeal : Cert.RotateRefIdeal.Facts) (hWindowed : Cert.Windowed.Facts) (hWindowedIdeal : Cert.WindowedIdeal.Facts) (hWindowedRefIdeal : Cert.WindowedRefIdeal.Facts) (hPre_finite_q_k : Cert.Pre_finite_q_k.Facts) (hPre_finite_windowed : Cert.Pre_finite_windowed.Facts),
    quiescent_Kernel (hKernel := hKernel)
    ∧ quiescent_KernelIdeal (hKernelIdeal := hKernelIdeal)
    ∧ quiescent_KernelIdeal_pre_finite_q_k (hKernelIdeal := hKernelIdeal) (hPre_finite_q_k := hPre_finite_q_k)
    ∧ quiescent_ReferenceIdeal (hReferenceIdeal := hReferenceIdeal)
    ∧ quiescent_ReferenceIdeal_pre_finite_q_k (hReferenceIdeal := hReferenceIdeal) (hPre_finite_q_k := hPre_finite_q_k)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_Query (hQuery := hQuery)
    ∧ quiescent_QueryIdeal (hQueryIdeal := hQueryIdeal)
    ∧ quiescent_QueryRefIdeal (hQueryRefIdeal := hQueryRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Scan (hScan := hScan)
    ∧ quiescent_ScanIdeal (hScanIdeal := hScanIdeal)
    ∧ quiescent_ScanRefIdeal (hScanRefIdeal := hScanRefIdeal)
    ∧ quiescent_Gated (hGated := hGated)
    ∧ quiescent_GatedIdeal (hGatedIdeal := hGatedIdeal)
    ∧ quiescent_GatedRefIdeal (hGatedRefIdeal := hGatedRefIdeal)
    ∧ quiescent_Dense (hDense := hDense)
    ∧ quiescent_DenseIdeal (hDenseIdeal := hDenseIdeal)
    ∧ quiescent_DenseRefIdeal (hDenseRefIdeal := hDenseRefIdeal)
    ∧ quiescent_Rotate (hRotate := hRotate)
    ∧ quiescent_RotateIdeal (hRotateIdeal := hRotateIdeal)
    ∧ quiescent_RotateRefIdeal (hRotateRefIdeal := hRotateRefIdeal)
    ∧ quiescent_Windowed (hWindowed := hWindowed)
    ∧ quiescent_WindowedIdeal (hWindowedIdeal := hWindowedIdeal)
    ∧ quiescent_WindowedIdeal_pre_finite_windowed (hWindowedIdeal := hWindowedIdeal) (hPre_finite_windowed := hPre_finite_windowed)
    ∧ quiescent_WindowedRefIdeal (hWindowedRefIdeal := hWindowedRefIdeal)
    ∧ quiescent_WindowedRefIdeal_pre_finite_windowed (hWindowedRefIdeal := hWindowedRefIdeal) (hPre_finite_windowed := hPre_finite_windowed)
    ∧ preserves_Kernel_KernelIdeal
    ∧ algebraic_KernelIdeal_ReferenceIdeal_pre_finite_q_k (hKernelIdeal := hKernelIdeal) (hReferenceIdeal := hReferenceIdeal) (hPre_finite_q_k := hPre_finite_q_k)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_Query_QueryIdeal
    ∧ algebraic_QueryIdeal_QueryRefIdeal (hQueryIdeal := hQueryIdeal) (hQueryRefIdeal := hQueryRefIdeal)
    ∧ preserves_OddOut_OddOutIdeal
    ∧ algebraic_OddOutIdeal_OddOutRefIdeal (hOddOutIdeal := hOddOutIdeal) (hOddOutRefIdeal := hOddOutRefIdeal)
    ∧ preserves_EvenOut_EvenOutIdeal
    ∧ algebraic_EvenOutIdeal_EvenOutRefIdeal (hEvenOutIdeal := hEvenOutIdeal) (hEvenOutRefIdeal := hEvenOutRefIdeal)
    ∧ preserves_Experts_ExpertsIdeal
    ∧ algebraic_ExpertsIdeal_ExpertsRefIdeal (hExpertsIdeal := hExpertsIdeal) (hExpertsRefIdeal := hExpertsRefIdeal)
    ∧ preserves_Scan_ScanIdeal
    ∧ algebraic_ScanIdeal_ScanRefIdeal (hScanIdeal := hScanIdeal) (hScanRefIdeal := hScanRefIdeal)
    ∧ preserves_Gated_GatedIdeal
    ∧ algebraic_GatedIdeal_GatedRefIdeal (hGatedIdeal := hGatedIdeal) (hGatedRefIdeal := hGatedRefIdeal)
    ∧ preserves_Dense_DenseIdeal
    ∧ algebraic_DenseIdeal_DenseRefIdeal (hDenseIdeal := hDenseIdeal) (hDenseRefIdeal := hDenseRefIdeal)
    ∧ preserves_Rotate_RotateIdeal
    ∧ algebraic_RotateIdeal_RotateRefIdeal (hRotateIdeal := hRotateIdeal) (hRotateRefIdeal := hRotateRefIdeal)
    ∧ preserves_Windowed_WindowedIdeal
    ∧ algebraic_WindowedIdeal_WindowedRefIdeal_pre_finite_windowed (hWindowedIdeal := hWindowedIdeal) (hWindowedRefIdeal := hWindowedRefIdeal) (hPre_finite_windowed := hPre_finite_windowed)
-- ==== Pre_finite_q_k.lean ====
abbrev S2x8x8192x64 : Shape := ⟨4, ![2, 8, 8192, 64]⟩
abbrev S2x2x8448x64 : Shape := ⟨4, ![2, 2, 8448, 64]⟩
abbrev S_ : Shape := ⟨0, ![]⟩

class Facts : Prop where
  bcast_S_S2x8x8192x64 : S_.BroadcastsInDim S2x8x8192x64 (![] : Fin 0 → Fin S2x8x8192x64.rank)
  reducesTo_S2x8x8192x64_S_d0_1_2_3 : S2x8x8192x64.ReducesTo [0, 1, 2, 3] S_
  h_S_ : 0 < S_.numel
  bcast_S_S2x2x8448x64 : S_.BroadcastsInDim S2x2x8448x64 (![] : Fin 0 → Fin S2x2x8448x64.rank)
  reducesTo_S2x2x8448x64_S_d0_1_2_3 : S2x2x8448x64.ReducesTo [0, 1, 2, 3] S_

variable [Facts]

def fn {F : FTy → Type} [FloatOps F] (main_arg0 : FVec F S2x8x8192x64 .bf16) (main_arg1 : FVec F S2x2x8448x64 .bf16) (main_arg2 : FVec F S2x2x8448x64 .bf16) : IVec S_ 1 × IVec S_ 1 :=
  let main_v0 : FVec F S2x8x8192x64 .bf16 := Host.absf main_arg0
  let main_cst : FVec F S_ .bf16 := constant S_ .bf16 0x7F80#16
  let main_v1 : FVec F S2x8x8192x64 .bf16 := broadcastInDim S2x8x8192x64 ![] bcast_S_S2x8x8192x64 main_cst
  let main_v2 : IVec S2x8x8192x64 1 := cmpf .olt main_v0 main_v1
  let main_c : IVec S_ 1 := constantI S_ 1 1#1
  let main_v3 : IVec S_ 1 := (fun x v => Host.reduce IntOp.andi x v reducesTo_S2x8x8192x64_S_d0_1_2_3 h_S_) main_v2 main_c
  let main_v4 : FVec F S2x2x8448x64 .bf16 := Host.absf main_arg1
  let main_cst_0 : FVec F S_ .bf16 := constant S_ .bf16 0x7F80#16
  let main_v5 : FVec F S2x2x8448x64 .bf16 := broadcastInDim S2x2x8448x64 ![] bcast_S_S2x2x8448x64 main_cst_0
  let main_v6 : IVec S2x2x8448x64 1 := cmpf .olt main_v4 main_v5
  let main_c_1 : IVec S_ 1 := constantI S_ 1 1#1
  let main_v7 : IVec S_ 1 := (fun x v => Host.reduce IntOp.andi x v reducesTo_S2x2x8448x64_S_d0_1_2_3 h_S_) main_v6 main_c_1
  (main_v3, main_v7)
-- ==== Pre_finite_windowed.lean ====
abbrev S2x8x8192x64 : Shape := ⟨4, ![2, 8, 8192, 64]⟩
abbrev S2x2x8192x64 : Shape := ⟨4, ![2, 2, 8192, 64]⟩
abbrev S2x2x256x64 : Shape := ⟨4, ![2, 2, 256, 64]⟩
abbrev S8 : Shape := ⟨1, ![8]⟩
abbrev S_ : Shape := ⟨0, ![]⟩

class Facts : Prop where
  bcast_S_S2x8x8192x64 : S_.BroadcastsInDim S2x8x8192x64 (![] : Fin 0 → Fin S2x8x8192x64.rank)
  reducesTo_S2x8x8192x64_S_d0_1_2_3 : S2x8x8192x64.ReducesTo [0, 1, 2, 3] S_
  h_S_ : 0 < S_.numel
  bcast_S_S2x2x8192x64 : S_.BroadcastsInDim S2x2x8192x64 (![] : Fin 0 → Fin S2x2x8192x64.rank)
  reducesTo_S2x2x8192x64_S_d0_1_2_3 : S2x2x8192x64.ReducesTo [0, 1, 2, 3] S_
  bcast_S_S2x2x256x64 : S_.BroadcastsInDim S2x2x256x64 (![] : Fin 0 → Fin S2x2x256x64.rank)
  reducesTo_S2x2x256x64_S_d0_1_2_3 : S2x2x256x64.ReducesTo [0, 1, 2, 3] S_
  bcast_S_S8 : S_.BroadcastsInDim S8 (![] : Fin 0 → Fin S8.rank)
  reducesTo_S8_S_d0 : S8.ReducesTo [0] S_

variable [Facts]

def fn {F : FTy → Type} [FloatOps F] (main_arg0 : FVec F S2x8x8192x64 .bf16) (main_arg1 : FVec F S2x2x8192x64 .bf16) (main_arg2 : FVec F S2x2x8192x64 .bf16) (main_arg3 : FVec F S2x2x256x64 .bf16) (main_arg4 : FVec F S2x2x256x64 .bf16) (main_arg5 : FVec F S8 .f32) : IVec S_ 1 × IVec S_ 1 × IVec S_ 1 × IVec S_ 1 :=
  let main_v0 : FVec F S2x8x8192x64 .bf16 := Host.absf main_arg0
  let main_cst : FVec F S_ .bf16 := constant S_ .bf16 0x7F80#16
  let main_v1 : FVec F S2x8x8192x64 .bf16 := broadcastInDim S2x8x8192x64 ![] bcast_S_S2x8x8192x64 main_cst
  let main_v2 : IVec S2x8x8192x64 1 := cmpf .olt main_v0 main_v1
  let main_c : IVec S_ 1 := constantI S_ 1 1#1
  let main_v3 : IVec S_ 1 := (fun x v => Host.reduce IntOp.andi x v reducesTo_S2x8x8192x64_S_d0_1_2_3 h_S_) main_v2 main_c
  let main_v4 : FVec F S2x2x8192x64 .bf16 := Host.absf main_arg1
  let main_cst_0 : FVec F S_ .bf16 := constant S_ .bf16 0x7F80#16
  let main_v5 : FVec F S2x2x8192x64 .bf16 := broadcastInDim S2x2x8192x64 ![] bcast_S_S2x2x8192x64 main_cst_0
  let main_v6 : IVec S2x2x8192x64 1 := cmpf .olt main_v4 main_v5
  let main_c_1 : IVec S_ 1 := constantI S_ 1 1#1
  let main_v7 : IVec S_ 1 := (fun x v => Host.reduce IntOp.andi x v reducesTo_S2x2x8192x64_S_d0_1_2_3 h_S_) main_v6 main_c_1
  let main_v8 : FVec F S2x2x256x64 .bf16 := Host.absf main_arg3
  let main_cst_2 : FVec F S_ .bf16 := constant S_ .bf16 0x7F80#16
  let main_v9 : FVec F S2x2x256x64 .bf16 := broadcastInDim S2x2x256x64 ![] bcast_S_S2x2x256x64 main_cst_2
  let main_v10 : IVec S2x2x256x64 1 := cmpf .olt main_v8 main_v9
  let main_c_3 : IVec S_ 1 := constantI S_ 1 1#1
  let main_v11 : IVec S_ 1 := (fun x v => Host.reduce IntOp.andi x v reducesTo_S2x2x256x64_S_d0_1_2_3 h_S_) main_v10 main_c_3
  let main_cst_4 : FVec F S_ .f32 := constant S_ .f32 0x7F800000#32
  let main_v12 : FVec F S8 .f32 := broadcastInDim S8 ![] bcast_S_S8 main_cst_4
  let main_v13 : IVec S8 1 := cmpf .olt main_arg5 main_v12
  let main_c_5 : IVec S_ 1 := constantI S_ 1 1#1
  let main_v14 : IVec S_ 1 := (fun x v => Host.reduce IntOp.andi x v reducesTo_S8_S_d0 h_S_) main_v13 main_c_5
  (main_v3, main_v7, main_v11, main_v14)
-- ==== Kernel.lean ====
abbrev S2x8x8192x64 : Shape := ⟨4, ![2, 8, 8192, 64]⟩
abbrev S2x2x8448x64 : Shape := ⟨4, ![2, 2, 8448, 64]⟩
abbrev S_ : Shape := ⟨0, ![]⟩
abbrev S8 : Shape := ⟨1, ![8]⟩
abbrev S2x8192x512 : Shape := ⟨3, ![2, 8192, 512]⟩
abbrev S1x4x256x64 : Shape := ⟨4, ![1, 4, 256, 64]⟩
abbrev S1x1x2816x64 : Shape := ⟨4, ![1, 1, 2816, 64]⟩
abbrev S1x256x256 : Shape := ⟨3, ![1, 256, 256]⟩
abbrev S1024x128 : Shape := ⟨2, ![1024, 128]⟩
abbrev S1024x64 : Shape := ⟨2, ![1024, 64]⟩
abbrev S2816x64 : Shape := ⟨2, ![2816, 64]⟩
abbrev S1x1x256x64 : Shape := ⟨4, ![1, 1, 256, 64]⟩
abbrev S256x64 : Shape := ⟨2, ![256, 64]⟩
abbrev S256x2816 : Shape := ⟨2, ![256, 2816]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 6
  | .vmem => 11
  | .smem => 1
  | _ => 0

abbrev bufTy : (tb : Table) → Fin (tcTables nBuf tb) → BufTy
  | .hbm, ⟨0, _⟩ => ⟨S2x8x8192x64, .bf16⟩
  | .hbm, ⟨1, _⟩ => ⟨S2x2x8448x64, .bf16⟩
  | .hbm, ⟨2, _⟩ => ⟨S2x2x8448x64, .bf16⟩
  | .hbm, ⟨3, _⟩ => ⟨S_, .f32⟩
  | .hbm, ⟨4, _⟩ => ⟨S8, .f32⟩
  | .hbm, ⟨5, _⟩ => ⟨S2x8192x512, .bf16⟩
  | .local _ .vmem, ⟨0, _⟩ => ⟨S1x4x256x64, .bf16⟩
  | .local _ .vmem, ⟨1, _⟩ => ⟨S1x4x256x64, .bf16⟩
  | .local _ .vmem, ⟨2, _⟩ => ⟨S1x1x2816x64, .bf16⟩
  | .local _ .vmem, ⟨3, _⟩ => ⟨S1x1x2816x64, .bf16⟩
  | .local _ .vmem, ⟨4, _⟩ => ⟨S1x1x2816x64, .bf16⟩
  | .local _ .vmem, ⟨5, _⟩ => ⟨S1x1x2816x64, .bf16⟩
  | .local _ .vmem, ⟨6, _⟩ => ⟨S1x256x256, .bf16⟩
  | .local _ .vmem, ⟨7, _⟩ => ⟨S1x256x256, .bf16⟩
  | .local _ .vmem, ⟨8, _⟩ => ⟨S1024x128, .f32⟩
  | .local _ .vmem, ⟨9, _⟩ => ⟨S1024x128, .f32⟩
  | .local _ .vmem, ⟨10, _⟩ => ⟨S1024x64, .f32⟩
  | .local _ .smem, ⟨0, _⟩ => ⟨S8, .f32⟩
  | _, _ => ⟨S2x8x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨4, ![2, 2, 32, 3], ![false, false, false, false]⟩

def k0_cond2 (i : grid0.Coords) : BitVec 1 :=
  let arg3 : BitVec 32 := BitVec.ofNat 32 (i 3).val
  let c2_i32 : BitVec 32 := 2#32
  let v643 : BitVec 1 := Scalar.cmpi .eq arg3 c2_i32
  let v644 : BitVec 32 := Scalar.extui v643
  let c0_i32_77 : BitVec 32 := 0#32
  let v645 : BitVec 1 := Scalar.cmpi .ne v644 c0_i32_77
  v645

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 2 → Memref sig .tc .vmem S1x4x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x1x2816x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x1x2816x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== ReferenceIdeal.lean ====
abbrev S2x8x8192x64 : Shape := ⟨4, ![2, 8, 8192, 64]⟩
abbrev S2x2x8448x64 : Shape := ⟨4, ![2, 2, 8448, 64]⟩
abbrev S2x2x4x8192x64 : Shape := ⟨5, ![2, 2, 4, 8192, 64]⟩
abbrev S2x2x4x8192x8448 : Shape := ⟨5, ![2, 2, 4, 8192, 8448]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S2x8192x2x4x64 : Shape := ⟨5, ![2, 8192, 2, 4, 64]⟩
abbrev S2x8192x512 : Shape := ⟨3, ![2, 8192, 512]⟩

abbrev nBuf : Space → Nat
  | .hbm => 26
  | .vmem => 0
  | .smem => 0
  | _ => 0

abbrev bufTy : (tb : Table) → Fin (tcTables nBuf tb) → BufTy
  | .hbm, ⟨0, _⟩ => ⟨S2x8x8192x64, .bf16⟩
  | .hbm, ⟨1, _⟩ => ⟨S2x2x8448x64, .bf16⟩
  | .hbm, ⟨2, _⟩ => ⟨S2x2x8448x64, .bf16⟩
  | .hbm, ⟨3, _⟩ => ⟨S2x8x8192x64, .f32⟩
  | .hbm, ⟨4, _⟩ => ⟨S2x2x8448x64, .f32⟩
  | .hbm, ⟨5, _⟩ => ⟨S2x2x8448x64, .f32⟩
  | .hbm, ⟨6, _⟩ => ⟨S2x2x4x8192x64, .f32⟩
  | .hbm, ⟨7, _⟩ => ⟨S2x2x4x8192x8448, .f32⟩
  | .hbm, ⟨8, _⟩ => ⟨S_, .f32⟩
  | .hbm, ⟨9, _⟩ => ⟨S2x2x4x8192, .f32⟩
  | .hbm, ⟨10, _⟩ => ⟨S_, .f32⟩
  | .hbm, ⟨11, _⟩ => ⟨S2x2x4x8192, .f32⟩
  | .hbm, ⟨12, _⟩ => ⟨S2x2x4x8192, .f32⟩
  | .hbm, ⟨13, _⟩ => ⟨S2x2x4x8192x1, .f32⟩
  | .hbm, ⟨14, _⟩ => ⟨S2x2x4x8192x8448, .f32⟩
  | .hbm, ⟨15, _⟩ => ⟨S2x2x4x8192x8448, .f32⟩
  | .hbm, ⟨16, _⟩ => ⟨S2x2x4x8192x8448, .f32⟩
  | .hbm, ⟨17, _⟩ => ⟨S_, .f32⟩
  | .hbm, ⟨18, _⟩ => ⟨S2x2x4x8192, .f32⟩
  | .hbm, ⟨19, _⟩ => ⟨S2x2x4x8192x1, .f32⟩
  | .hbm, ⟨20, _⟩ => ⟨S2x2x4x8192x8448, .f32⟩
  | .hbm, ⟨21, _⟩ => ⟨S2x2x4x8192x8448, .f32⟩
  | .hbm, ⟨22, _⟩ => ⟨S2x2x64x4x8192, .f32⟩
  | .hbm, ⟨23, _⟩ => ⟨S2x8192x2x4x64, .f32⟩
  | .hbm, ⟨24, _⟩ => ⟨S2x8192x512, .f32⟩
  | .hbm, ⟨25, _⟩ => ⟨S2x8192x512, .bf16⟩
  | _, _ => ⟨S2x8x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== EvenIn.lean ====
abbrev S2x8192x1024 : Shape := ⟨3, ![2, 8192, 1024]⟩
abbrev S2x1x1024 : Shape := ⟨3, ![2, 1, 1024]⟩
abbrev S1024x2304 : Shape := ⟨2, ![1024, 2304]⟩
abbrev S2x8192x2304 : Shape := ⟨3, ![2, 8192, 2304]⟩
abbrev S1x512x1024 : Shape := ⟨3, ![1, 512, 1024]⟩
abbrev S1x1x1024 : Shape := ⟨3, ![1, 1, 1024]⟩
abbrev S1x512x2304 : Shape := ⟨3, ![1, 512, 2304]⟩
abbrev S512x1024 : Shape := ⟨2, ![512, 1024]⟩
abbrev S1x1024 : Shape := ⟨2, ![1, 1024]⟩
abbrev S512x2304 : Shape := ⟨2, ![512, 2304]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2304, .f32⟩
  | .hbm, ⟨4, _⟩ => ⟨S1024x2304, .bf16⟩
  | .hbm, ⟨5, _⟩ => ⟨S2x8192x2304, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2304, .bf16⟩
  | .local _ .vmem, ⟨7, _⟩ => ⟨S1x512x2304, .f32⟩
  | .local _ .vmem, ⟨8, _⟩ => ⟨S1x512x2304, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1x512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== EvenInIdeal.lean ====
abbrev S2x8192x1024 : Shape := ⟨3, ![2, 8192, 1024]⟩
abbrev S2x1x1024 : Shape := ⟨3, ![2, 1, 1024]⟩
abbrev S1024x2304 : Shape := ⟨2, ![1024, 2304]⟩
abbrev S2x8192x2304 : Shape := ⟨3, ![2, 8192, 2304]⟩
abbrev S1x512x1024 : Shape := ⟨3, ![1, 512, 1024]⟩
abbrev S1x1x1024 : Shape := ⟨3, ![1, 1, 1024]⟩
abbrev S1x512x2304 : Shape := ⟨3, ![1, 512, 2304]⟩
abbrev S512x1024 : Shape := ⟨2, ![512, 1024]⟩
abbrev S1x1024 : Shape := ⟨2, ![1, 1024]⟩
abbrev S512x2304 : Shape := ⟨2, ![512, 2304]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2304, .f32⟩
  | .hbm, ⟨4, _⟩ => ⟨S1024x2304, .bf16⟩
  | .hbm, ⟨5, _⟩ => ⟨S2x8192x2304, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2304, .bf16⟩
  | .local _ .vmem, ⟨7, _⟩ => ⟨S1x512x2304, .f32⟩
  | .local _ .vmem, ⟨8, _⟩ => ⟨S1x512x2304, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1x512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== EvenInRefIdeal.lean ====
abbrev S2x8192x1024 : Shape := ⟨3, ![2, 8192, 1024]⟩
abbrev S2x1x1024 : Shape := ⟨3, ![2, 1, 1024]⟩
abbrev S1024x2304 : Shape := ⟨2, ![1024, 2304]⟩
abbrev S_ : Shape := ⟨0, ![]⟩
abbrev S2x8192x2304 : Shape := ⟨3, ![2, 8192, 2304]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2304, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x2304, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== OddIn.lean ====
abbrev S2x8192x1024 : Shape := ⟨3, ![2, 8192, 1024]⟩
abbrev S2x1x1024 : Shape := ⟨3, ![2, 1, 1024]⟩
abbrev S1024x2816 : Shape := ⟨2, ![1024, 2816]⟩
abbrev S2x8192x2816 : Shape := ⟨3, ![2, 8192, 2816]⟩
abbrev S1x512x1024 : Shape := ⟨3, ![1, 512, 1024]⟩
abbrev S1x1x1024 : Shape := ⟨3, ![1, 1, 1024]⟩
abbrev S1x512x2816 : Shape := ⟨3, ![1, 512, 2816]⟩
abbrev S512x1024 : Shape := ⟨2, ![512, 1024]⟩
abbrev S1x1024 : Shape := ⟨2, ![1, 1024]⟩
abbrev S512x2816 : Shape := ⟨2, ![512, 2816]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2816, .f32⟩
  | .hbm, ⟨4, _⟩ => ⟨S1024x2816, .bf16⟩
  | .hbm, ⟨5, _⟩ => ⟨S2x8192x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2816, .bf16⟩
  | .local _ .vmem, ⟨7, _⟩ => ⟨S1x512x2816, .f32⟩
  | .local _ .vmem, ⟨8, _⟩ => ⟨S1x512x2816, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1x512x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OddInIdeal.lean ====
abbrev S2x8192x1024 : Shape := ⟨3, ![2, 8192, 1024]⟩
abbrev S2x1x1024 : Shape := ⟨3, ![2, 1, 1024]⟩
abbrev S1024x2816 : Shape := ⟨2, ![1024, 2816]⟩
abbrev S2x8192x2816 : Shape := ⟨3, ![2, 8192, 2816]⟩
abbrev S1x512x1024 : Shape := ⟨3, ![1, 512, 1024]⟩
abbrev S1x1x1024 : Shape := ⟨3, ![1, 1, 1024]⟩
abbrev S1x512x2816 : Shape := ⟨3, ![1, 512, 2816]⟩
abbrev S512x1024 : Shape := ⟨2, ![512, 1024]⟩
abbrev S1x1024 : Shape := ⟨2, ![1, 1024]⟩
abbrev S512x2816 : Shape := ⟨2, ![512, 2816]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2816, .f32⟩
  | .hbm, ⟨4, _⟩ => ⟨S1024x2816, .bf16⟩
  | .hbm, ⟨5, _⟩ => ⟨S2x8192x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2816, .bf16⟩
  | .local _ .vmem, ⟨7, _⟩ => ⟨S1x512x2816, .f32⟩
  | .local _ .vmem, ⟨8, _⟩ => ⟨S1x512x2816, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1x512x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OddInRefIdeal.lean ====
abbrev S2x8192x1024 : Shape := ⟨3, ![2, 8192, 1024]⟩
abbrev S2x1x1024 : Shape := ⟨3, ![2, 1, 1024]⟩
abbrev S1024x2816 : Shape := ⟨2, ![1024, 2816]⟩
abbrev S_ : Shape := ⟨0, ![]⟩
abbrev S2x8192x2816 : Shape := ⟨3, ![2, 8192, 2816]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2816, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x2816, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Query.lean ====
abbrev S2x8192x1024 : Shape := ⟨3, ![2, 8192, 1024]⟩
abbrev S2x1x1024 : Shape := ⟨3, ![2, 1, 1024]⟩
abbrev S1024x2048 : Shape := ⟨2, ![1024, 2048]⟩
abbrev S2x8192x2048 : Shape := ⟨3, ![2, 8192, 2048]⟩
abbrev S1x512x1024 : Shape := ⟨3, ![1, 512, 1024]⟩
abbrev S1x1x1024 : Shape := ⟨3, ![1, 1, 1024]⟩
abbrev S1x512x2048 : Shape := ⟨3, ![1, 512, 2048]⟩
abbrev S512x1024 : Shape := ⟨2, ![512, 1024]⟩
abbrev S1x1024 : Shape := ⟨2, ![1, 1024]⟩
abbrev S512x2048 : Shape := ⟨2, ![512, 2048]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2048, .f32⟩
  | .hbm, ⟨4, _⟩ => ⟨S1024x2048, .bf16⟩
  | .hbm, ⟨5, _⟩ => ⟨S2x8192x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2048, .bf16⟩
  | .local _ .vmem, ⟨7, _⟩ => ⟨S1x512x2048, .f32⟩
  | .local _ .vmem, ⟨8, _⟩ => ⟨S1x512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== QueryRefIdeal.lean ====
abbrev S2x8192x1024 : Shape := ⟨3, ![2, 8192, 1024]⟩
abbrev S2x1x1024 : Shape := ⟨3, ![2, 1, 1024]⟩
abbrev S1024x2048 : Shape := ⟨2, ![1024, 2048]⟩
abbrev S_ : Shape := ⟨0, ![]⟩
abbrev S2x8192x2048 : Shape := ⟨3, ![2, 8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x2048, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== OddOut.lean ====
abbrev S2x8192x512 : Shape := ⟨3, ![2, 8192, 512]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S1x1024 : Shape := ⟨2, ![1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S1024x1024, .f32⟩
  | .hbm, ⟨3, _⟩ => ⟨S2x8192x1024, .f32⟩
  | .hbm, ⟨4, _⟩ => ⟨S2x1x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S2x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OddOutIdeal.lean ====
abbrev S2x8192x512 : Shape := ⟨3, ![2, 8192, 512]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S1x1024 : Shape := ⟨2, ![1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S1024x1024, .f32⟩
  | .hbm, ⟨3, _⟩ => ⟨S2x8192x1024, .f32⟩
  | .hbm, ⟨4, _⟩ => ⟨S2x1x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S2x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OddOutRefIdeal.lean ====
abbrev S2x8192x512 : Shape := ⟨3, ![2, 8192, 512]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S1024x1024, .f32⟩
  | .hbm, ⟨3, _⟩ => ⟨S2x8192x1024, .f32⟩
  | .hbm, ⟨4, _⟩ => ⟨S2x1x1024, .f32⟩
  | .hbm, ⟨5, _⟩ => ⟨S1024, .f32⟩
  | .hbm, ⟨6, _⟩ => ⟨S1024, .f32⟩
  | .hbm, ⟨7, _⟩ => ⟨S2x8192x512, .f32⟩
  | .hbm, ⟨8, _⟩ => ⟨S2x8192x512, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x1024, .f32⟩
  | .hbm, ⟨39, _⟩ => ⟨S2x8192x1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | .hbm, ⟨43, _⟩ => ⟨S1x1x1024, .f32⟩
  | .hbm, ⟨44, _⟩ => ⟨S2x8192x1024, .f32⟩
  | .hbm, ⟨45, _⟩ => ⟨S2x8192x1024, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== EvenOut.lean ====
abbrev S2x8192x512 : Shape := ⟨3, ![2, 8192, 512]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S1x1024 : Shape := ⟨2, ![1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .f32⟩
  | .hbm, ⟨2, _⟩ => ⟨S1024x1024, .f32⟩
  | .hbm, ⟨3, _⟩ => ⟨S2x8192x1024, .f32⟩
  | .hbm, ⟨4, _⟩ => ⟨S2x1x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S2x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .f32⟩
  | .local _ .vmem, ⟨3, _⟩ => ⟨S1x512x512, .f32⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== EvenOutRefIdeal.lean ====
abbrev S2x8192x512 : Shape := ⟨3, ![2, 8192, 512]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .f32⟩
  | .hbm, ⟨2, _⟩ => ⟨S1024x1024, .f32⟩
  | .hbm, ⟨3, _⟩ => ⟨S2x8192x1024, .f32⟩
  | .hbm, ⟨4, _⟩ => ⟨S2x1x1024, .f32⟩
  | .hbm, ⟨5, _⟩ => ⟨S1024, .f32⟩
  | .hbm, ⟨6, _⟩ => ⟨S1024, .f32⟩
  | .hbm, ⟨7, _⟩ => ⟨S2x8192x512, .f32⟩
  | .hbm, ⟨8, _⟩ => ⟨S2x8192x1024, .f32⟩
  | .hbm, ⟨9, _⟩ => ⟨S2x8192x1024, .f32⟩
  | .hbm, ⟨10, _⟩ => ⟨S_, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S_, .f32⟩
  | .hbm, ⟨26, _⟩ => ⟨S2x8192, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Experts.lean ====
abbrev S2x8192x1024 : Shape := ⟨3, ![2, 8192, 1024]⟩
abbrev S2x1x1024 : Shape := ⟨3, ![2, 1, 1024]⟩
abbrev S16384x128x128 : Shape := ⟨3, ![16384, 128, 128]⟩
abbrev S16384x1024 : Shape := ⟨2, ![16384, 1024]⟩
abbrev S1024 : Shape := ⟨1, ![1024]⟩
abbrev S2x8192x128x128 : Shape := ⟨4, ![2, 8192, 128, 128]⟩
abbrev S1x1024 : Shape := ⟨2, ![1, 1024]⟩
abbrev S1x512x1024 : Shape := ⟨3, ![1, 512, 1024]⟩
abbrev S1x1x1024 : Shape := ⟨3, ![1, 1, 1024]⟩
abbrev S1x512x16x128 : Shape := ⟨4, ![1, 512, 16, 128]⟩
abbrev S2048x1024 : Shape := ⟨2, ![2048, 1024]⟩
abbrev S512x1024 : Shape := ⟨2, ![512, 1024]⟩
abbrev S512x2048 : Shape := ⟨2, ![512, 2048]⟩
abbrev S512x16x128 : Shape := ⟨3, ![512, 16, 128]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S16384x128x128, .bf16⟩
  | .hbm, ⟨4, _⟩ => ⟨S16384x1024, .bf16⟩
  | .hbm, ⟨5, _⟩ => ⟨S16384x1024, .bf16⟩
  | .hbm, ⟨6, _⟩ => ⟨S2x1x1024, .f32⟩
  | .hbm, ⟨7, _⟩ => ⟨S1024, .f32⟩
  | .hbm, ⟨8, _⟩ => ⟨S1024, .f32⟩
  | .hbm, ⟨9, _⟩ => ⟨S2x8192x128x128, .bf16⟩
  | .hbm, ⟨10, _⟩ => ⟨S1x1024, .f32⟩
  | .hbm, ⟨11, _⟩ => ⟨S1x1024, .f32⟩
  | .hbm, ⟨12, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x16x128, .bf16⟩
  | .local _ .vmem, ⟨7, _⟩ => ⟨S1x512x16x128, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S512x1024, .bf16⟩
  | .local _ .vmem, ⟨19, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 16, 8], ![false, false, false]⟩

def k0_cond2 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ExpertsRefIdeal.lean ====
abbrev S2x8192x1024 : Shape := ⟨3, ![2, 8192, 1024]⟩
abbrev S2x1x1024 : Shape := ⟨3, ![2, 1, 1024]⟩
abbrev S16384x128x128 : Shape := ⟨3, ![16384, 128, 128]⟩
abbrev S16384x1024 : Shape := ⟨2, ![16384, 1024]⟩
abbrev S1024 : Shape := ⟨1, ![1024]⟩
abbrev S_ : Shape := ⟨0, ![]⟩
abbrev S1024x16384 : Shape := ⟨2, ![1024, 16384]⟩
abbrev S2x8192x16384 : Shape := ⟨3, ![2, 8192, 16384]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S16384x128x128, .bf16⟩
  | .hbm, ⟨4, _⟩ => ⟨S16384x1024, .bf16⟩
  | .hbm, ⟨5, _⟩ => ⟨S16384x1024, .bf16⟩
  | .hbm, ⟨6, _⟩ => ⟨S2x1x1024, .f32⟩
  | .hbm, ⟨7, _⟩ => ⟨S1024, .f32⟩
  | .hbm, ⟨8, _⟩ => ⟨S1024, .f32⟩
  | .hbm, ⟨9, _⟩ => ⟨S16384x128x128, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S1024x16384, .f32⟩
  | .hbm, ⟨20, _⟩ => ⟨S2x8192x16384, .f32⟩
  | .hbm, ⟨21, _⟩ => ⟨S_, .f32⟩
  | .hbm, ⟨22, _⟩ => ⟨S2x8192x16384, .f32⟩
  | .hbm, ⟨23, _⟩ => ⟨S2x8192x16384, .f32⟩
  | .hbm, ⟨24, _⟩ => ⟨S_, .f32⟩
  | .hbm, ⟨25, _⟩ => ⟨S2x8192x16384, .f32⟩
  | .hbm, ⟨26, _⟩ => ⟨S2x8192x16384, .f32⟩
  | .hbm, ⟨27, _⟩ => ⟨S2x8192x16384, .f32⟩
  | .hbm, ⟨28, _⟩ => ⟨S_, .f32⟩
  | .hbm, ⟨29, _⟩ => ⟨S2x8192x16384, .f32⟩
  | .hbm, ⟨30, _⟩ => ⟨S2x8192x16384, .f32⟩
  | .hbm, ⟨31, _⟩ => ⟨S2x8192x16384, .f32⟩
  | .hbm, ⟨32, _⟩ => ⟨S2x8192x16384, .f32⟩
  | .hbm, ⟨33, _⟩ => ⟨S2x8192x16384, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x8192, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x8192, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | .hbm, ⟨67, _⟩ => ⟨S1x1x1024, .f32⟩
  | .hbm, ⟨68, _⟩ => ⟨S2x8192x1024, .f32⟩
  | .hbm, ⟨69, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Scan.lean ====
abbrev S2x2x8448x512 : Shape := ⟨4, ![2, 2, 8448, 512]⟩
abbrev S2x2x132x4x64x64 : Shape := ⟨6, ![2, 2, 132, 4, 64, 64]⟩
abbrev S2x2x132x4x128 : Shape := ⟨5, ![2, 2, 132, 4, 128]⟩
abbrev S2x8448x512 : Shape := ⟨3, ![2, 8448, 512]⟩
abbrev S1x1x64x512 : Shape := ⟨4, ![1, 1, 64, 512]⟩
abbrev S1x1x1x4x64x64 : Shape := ⟨6, ![1, 1, 1, 4, 64, 64]⟩
abbrev S1x1x1x4x128 : Shape := ⟨5, ![1, 1, 1, 4, 128]⟩
abbrev S1x64x512 : Shape := ⟨3, ![1, 64, 512]⟩
abbrev S8x128x128 : Shape := ⟨3, ![8, 128, 128]⟩
abbrev S1x128x128 : Shape := ⟨3, ![1, 128, 128]⟩
abbrev S128x128 : Shape := ⟨2, ![128, 128]⟩
abbrev S1x1x64x128 : Shape := ⟨4, ![1, 1, 64, 128]⟩
abbrev S64x128 : Shape := ⟨2, ![64, 128]⟩
abbrev S1x1x1x1x64x64 : Shape := ⟨6, ![1, 1, 1, 1, 64, 64]⟩
abbrev S64x64 : Shape := ⟨2, ![64, 64]⟩
abbrev S1x64x128 : Shape := ⟨3, ![1, 64, 128]⟩
abbrev S1x1x1x1x128 : Shape := ⟨5, ![1, 1, 1, 1, 128]⟩
abbrev S1x128 : Shape := ⟨2, ![1, 128]⟩

abbrev nBuf : Space → Nat
  | .hbm => 8
  | .vmem => 29
  | .smem => 0
  | _ => 0

abbrev bufTy : (tb : Table) → Fin (tcTables nBuf tb) → BufTy
  | .hbm, ⟨0, _⟩ => ⟨S2x2x8448x512, .f32⟩
  | .hbm, ⟨1, _⟩ => ⟨S2x2x8448x512, .bf16⟩
  | .hbm, ⟨2, _⟩ => ⟨S2x2x8448x512, .bf16⟩
  | .hbm, ⟨3, _⟩ => ⟨S2x2x8448x512, .bf16⟩
  | .hbm, ⟨4, _⟩ => ⟨S2x2x132x4x64x64, .bf16⟩
  | .hbm, ⟨5, _⟩ => ⟨S2x2x132x4x128, .f32⟩
  | .hbm, ⟨6, _⟩ => ⟨S2x8448x512, .f32⟩
  | .hbm, ⟨7, _⟩ => ⟨S2x8448x512, .f32⟩
  | .local _ .vmem, ⟨0, _⟩ => ⟨S1x1x64x512, .f32⟩
  | .local _ .vmem, ⟨1, _⟩ => ⟨S1x1x64x512, .f32⟩
  | .local _ .vmem, ⟨2, _⟩ => ⟨S1x1x64x512, .bf16⟩
  | .local _ .vmem, ⟨3, _⟩ => ⟨S1x1x64x512, .bf16⟩
  | .local _ .vmem, ⟨4, _⟩ => ⟨S1x1x64x512, .bf16⟩
  | .local _ .vmem, ⟨5, _⟩ => ⟨S1x1x64x512, .bf16⟩
  | .local _ .vmem, ⟨6, _⟩ => ⟨S1x1x64x512, .bf16⟩
  | .local _ .vmem, ⟨7, _⟩ => ⟨S1x1x64x512, .bf16⟩
  | .local _ .vmem, ⟨8, _⟩ => ⟨S1x1x1x4x64x64, .bf16⟩
  | .local _ .vmem, ⟨9, _⟩ => ⟨S1x1x1x4x64x64, .bf16⟩
  | .local _ .vmem, ⟨10, _⟩ => ⟨S1x1x1x4x128, .f32⟩
  | .local _ .vmem, ⟨11, _⟩ => ⟨S1x1x1x4x128, .f32⟩
  | .local _ .vmem, ⟨12, _⟩ => ⟨S1x1x64x512, .f32⟩
  | .local _ .vmem, ⟨13, _⟩ => ⟨S1x1x64x512, .f32⟩
  | .local _ .vmem, ⟨14, _⟩ => ⟨S1x1x64x512, .bf16⟩
  | .local _ .vmem, ⟨15, _⟩ => ⟨S1x1x64x512, .bf16⟩
  | .local _ .vmem, ⟨16, _⟩ => ⟨S1x1x64x512, .bf16⟩
  | .local _ .vmem, ⟨17, _⟩ => ⟨S1x1x64x512, .bf16⟩
  | .local _ .vmem, ⟨18, _⟩ => ⟨S1x1x64x512, .bf16⟩
  | .local _ .vmem, ⟨19, _⟩ => ⟨S1x1x64x512, .bf16⟩
  | .local _ .vmem, ⟨20, _⟩ => ⟨S1x1x1x4x64x64, .bf16⟩
  | .local _ .vmem, ⟨21, _⟩ => ⟨S1x1x1x4x64x64, .bf16⟩
  | .local _ .vmem, ⟨22, _⟩ => ⟨S1x1x1x4x128, .f32⟩
  | .local _ .vmem, ⟨23, _⟩ => ⟨S1x1x1x4x128, .f32⟩
  | .local _ .vmem, ⟨24, _⟩ => ⟨S1x64x512, .f32⟩
  | .local _ .vmem, ⟨25, _⟩ => ⟨S1x64x512, .f32⟩
  | .local _ .vmem, ⟨26, _⟩ => ⟨S1x64x512, .f32⟩
  | .local _ .vmem, ⟨27, _⟩ => ⟨S1x64x512, .f32⟩
  | .local _ .vmem, ⟨28, _⟩ => ⟨S8x128x128, .f32⟩
  | _, _ => ⟨S2x2x8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 132], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, arg1.toNat, c0_i32_0.toNat, c0_i32_1.toNat, c0_i32_2.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c135_i32 : BitVec 32 := 135#32
  let v2 : BitVec 32 := Scalar.subi c135_i32 arg1
  let v3 : BitVec 32 := Scalar.select v0 v1 v2
  let c1_i32 : BitVec 32 := 1#32
  let c0_i32 : BitVec 32 := 0#32
  let c0_i32_0 : BitVec 32 := 0#32
  ![c1_i32.toNat, arg0.toNat, v3.toNat, c0_i32.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c135_i32 : BitVec 32 := 135#32
  let v2 : BitVec 32 := Scalar.subi c135_i32 arg1
  let v3 : BitVec 32 := Scalar.select v0 v1 v2
  let c1_i32 : BitVec 32 := 1#32
  let c0_i32 : BitVec 32 := 0#32
  let c0_i32_0 : BitVec 32 := 0#32
  ![c1_i32.toNat, arg0.toNat, v3.toNat, c0_i32.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c135_i32 : BitVec 32 := 135#32
  let v2 : BitVec 32 := Scalar.subi c135_i32 arg1
  let v3 : BitVec 32 := Scalar.select v0 v1 v2
  let c1_i32 : BitVec 32 := 1#32
  let c0_i32 : BitVec 32 := 0#32
  let c0_i32_0 : BitVec 32 := 0#32
  ![c1_i32.toNat, arg0.toNat, v3.toNat, c0_i32.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c135_i32 : BitVec 32 := 135#32
  let v2 : BitVec 32 := Scalar.subi c135_i32 arg1
  let v3 : BitVec 32 := Scalar.select v0 v1 v2
  let c1_i32 : BitVec 32 := 1#32
  let c0_i32 : BitVec 32 := 0#32
  let c0_i32_0 : BitVec 32 := 0#32
  ![c1_i32.toNat, arg0.toNat, v3.toNat, c0_i32.toNat]

def cc0_transform_10 (i : grid0.Coords) : Fin 6 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c135_i32 : BitVec 32 := 135#32
  let v2 : BitVec 32 := Scalar.subi c135_i32 arg1
  let v3 : BitVec 32 := Scalar.select v0 v1 v2
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, v3.toNat, c0_i32.toNat, c0_i32_0.toNat, c0_i32_1.toNat]

def cc0_transform_11 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c135_i32 : BitVec 32 := 135#32
  let v2 : BitVec 32 := Scalar.subi c135_i32 arg1
  let v3 : BitVec 32 := Scalar.select v0 v1 v2
  let c1_i32 : BitVec 32 := 1#32
  let c0_i32 : BitVec 32 := 0#32
  let c0_i32_0 : BitVec 32 := 0#32
  let c0_i32_1 : BitVec 32 := 0#32
  ![c1_i32.toNat, arg0.toNat, v3.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c135_i32 : BitVec 32 := 135#32
  let v2 : BitVec 32 := Scalar.subi c135_i32 arg1
  let v3 : BitVec 32 := Scalar.select v0 v1 v2
  let c0_i32 : BitVec 32 := 0#32
  let c0_i32_0 : BitVec 32 := 0#32
  ![arg0.toNat, v3.toNat, c0_i32.toNat]

abbrev stage0_0 : Fin 2 → Memref sig .tc .vmem S1x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x4x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x4x64x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ScanRefIdeal.lean ====
abbrev S2x2x8448x512 : Shape := ⟨4, ![2, 2, 8448, 512]⟩
abbrev S2x2x132x4x64x64 : Shape := ⟨6, ![2, 2, 132, 4, 64, 64]⟩
abbrev S2x2x132x4x128 : Shape := ⟨5, ![2, 2, 132, 4, 128]⟩
abbrev S_ : Shape := ⟨0, ![]⟩
abbrev S2x8448x512 : Shape := ⟨3, ![2, 8448, 512]⟩
abbrev S2x2x4x128x128 : Shape := ⟨5, ![2, 2, 4, 128, 128]⟩
abbrev S1x2x64x512 : Shape := ⟨4, ![1, 2, 64, 512]⟩
abbrev S2x2x64x512 : Shape := ⟨4, ![2, 2, 64, 512]⟩
abbrev S2x2x64x4x128 : Shape := ⟨5, ![2, 2, 64, 4, 128]⟩
abbrev S2x2x4x64x128 : Shape := ⟨5, ![2, 2, 4, 64, 128]⟩
abbrev S1x2x1x4x64x64 : Shape := ⟨6, ![1, 2, 1, 4, 64, 64]⟩
abbrev S2x2x1x4x64x64 : Shape := ⟨6, ![2, 2, 1, 4, 64, 64]⟩
abbrev S2x2x4x64x64 : Shape := ⟨5, ![2, 2, 4, 64, 64]⟩
abbrev S1x2x1x4x128 : Shape := ⟨5, ![1, 2, 1, 4, 128]⟩
abbrev S2x2x1x4x128 : Shape := ⟨5, ![2, 2, 1, 4, 128]⟩
abbrev S2x2x4x1x128 : Shape := ⟨5, ![2, 2, 4, 1, 128]⟩
abbrev S2x2x1x64x512 : Shape := ⟨5, ![2, 2, 1, 64, 512]⟩
abbrev S1x2x1x64x512 : Shape := ⟨5, ![1, 2, 1, 64, 512]⟩
abbrev S2x1x64x512 : Shape := ⟨4, ![2, 1, 64, 512]⟩
abbrev S2x132x64x512 : Shape := ⟨4, ![2, 132, 64, 512]⟩

abbrev nBuf : Space → Nat
  | .hbm => 153
  | .vmem => 0
  | .smem => 0
  | _ => 0

abbrev hbmTy0_0 (i : Nat) : BufTy := match i % 128 with
  | 0 => ⟨S2x2x8448x512, .f32⟩
  | 1 => ⟨S2x2x8448x512, .bf16⟩
  | 2 => ⟨S2x2x8448x512, .bf16⟩
  | 3 => ⟨S2x2x8448x512, .bf16⟩
  | 4 => ⟨S2x2x132x4x64x64, .bf16⟩
  | 5 => ⟨S2x2x132x4x128, .f32⟩
  | 6 => ⟨S_, .f32⟩
  | 7 => ⟨S2x8448x512, .f32⟩
  | 8 => ⟨S_, .f32⟩
  | 9 => ⟨S2x2x4x128x128, .f32⟩
  | 10 => ⟨S_, .i32⟩
  | 11 => ⟨S_, .i32⟩
  | 12 => ⟨S2x2x8448x512, .f32⟩
  | 13 => ⟨S2x2x8448x512, .bf16⟩
  | 14 => ⟨S2x2x8448x512, .bf16⟩
  | 15 => ⟨S2x2x8448x512, .bf16⟩
  | 16 => ⟨S2x2x132x4x64x64, .bf16⟩
  | 17 => ⟨S2x2x132x4x128, .f32⟩
  | 18 => ⟨S_, .i32⟩
  | 19 => ⟨S_, .i32⟩
  | 20 => ⟨S2x2x4x128x128, .f32⟩
  | 21 => ⟨S2x8448x512, .f32⟩
  | 22 => ⟨S2x8448x512, .f32⟩
  | 23 => ⟨S_, .i32⟩
  | 24 => ⟨S_, .i1⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S1x2x64x512, .f32⟩
  | 40 => ⟨S_, .i32⟩
  | 41 => ⟨S_, .i32⟩
  | 42 => ⟨S_, .i32⟩
  | 43 => ⟨S_, .i32⟩
  | 44 => ⟨S_, .i32⟩
  | 45 => ⟨S1x2x64x512, .f32⟩
  | 46 => ⟨S2x2x64x512, .f32⟩
  | 47 => ⟨S2x2x64x4x128, .f32⟩
  | 48 => ⟨S2x2x4x64x128, .f32⟩
  | 49 => ⟨S_, .i32⟩
  | 50 => ⟨S_, .i32⟩
  | 51 => ⟨S_, .i32⟩
  | 52 => ⟨S_, .i32⟩
  | 53 => ⟨S_, .i32⟩
  | 54 => ⟨S1x2x64x512, .bf16⟩
  | 55 => ⟨S_, .i32⟩
  | 56 => ⟨S_, .i32⟩
  | 57 => ⟨S_, .i32⟩
  | 58 => ⟨S_, .i32⟩
  | 59 => ⟨S_, .i32⟩
  | 60 => ⟨S1x2x64x512, .bf16⟩
  | 61 => ⟨S2x2x64x512, .bf16⟩
  | 62 => ⟨S2x2x64x512, .f32⟩
  | 63 => ⟨S2x2x64x4x128, .f32⟩
  | 64 => ⟨S2x2x4x64x128, .f32⟩
  | 65 => ⟨S_, .i32⟩
  | 66 => ⟨S_, .i32⟩
  | 67 => ⟨S_, .i32⟩
  | 68 => ⟨S_, .i32⟩
  | 69 => ⟨S_, .i32⟩
  | 70 => ⟨S1x2x64x512, .bf16⟩
  | 71 => ⟨S_, .i32⟩
  | 72 => ⟨S_, .i32⟩
  | 73 => ⟨S_, .i32⟩
  | 74 => ⟨S_, .i32⟩
  | 75 => ⟨S_, .i32⟩
  | 76 => ⟨S1x2x64x512, .bf16⟩
  | 77 => ⟨S2x2x64x512, .bf16⟩
  | 78 => ⟨S2x2x64x512, .f32⟩
  | 79 => ⟨S2x2x64x4x128, .f32⟩
  | 80 => ⟨S2x2x4x64x128, .f32⟩
  | 81 => ⟨S_, .i32⟩
  | 82 => ⟨S_, .i32⟩
  | 83 => ⟨S_, .i32⟩
  | 84 => ⟨S_, .i32⟩
  | 85 => ⟨S_, .i32⟩
  | 86 => ⟨S1x2x64x512, .bf16⟩
  | 87 => ⟨S_, .i32⟩
  | 88 => ⟨S_, .i32⟩
  | 89 => ⟨S_, .i32⟩
  | 90 => ⟨S_, .i32⟩
  | 91 => ⟨S_, .i32⟩
  | 92 => ⟨S1x2x64x512, .bf16⟩
  | 93 => ⟨S2x2x64x512, .bf16⟩
  | 94 => ⟨S2x2x64x512, .f32⟩
  | 95 => ⟨S2x2x64x4x128, .f32⟩
  | 96 => ⟨S2x2x4x64x128, .f32⟩
  | 97 => ⟨S_, .i32⟩
  | 98 => ⟨S_, .i32⟩
  | 99 => ⟨S_, .i32⟩
  | 100 => ⟨S_, .i32⟩
  | 101 => ⟨S_, .i32⟩
  | 102 => ⟨S1x2x1x4x64x64, .bf16⟩
  | 103 => ⟨S_, .i32⟩
  | 104 => ⟨S_, .i32⟩
  | 105 => ⟨S_, .i32⟩
  | 106 => ⟨S_, .i32⟩
  | 107 => ⟨S_, .i32⟩
  | 108 => ⟨S1x2x1x4x64x64, .bf16⟩
  | 109 => ⟨S2x2x1x4x64x64, .bf16⟩
  | 110 => ⟨S2x2x4x64x64, .bf16⟩
  | 111 => ⟨S_, .i32⟩
  | 112 => ⟨S_, .i32⟩
  | 113 => ⟨S_, .i32⟩
  | 114 => ⟨S_, .i32⟩
  | 115 => ⟨S1x2x1x4x128, .f32⟩
  | 116 => ⟨S_, .i32⟩
  | 117 => ⟨S_, .i32⟩
  | 118 => ⟨S_, .i32⟩
  | 119 => ⟨S_, .i32⟩
  | 120 => ⟨S1x2x1x4x128, .f32⟩
  | 121 => ⟨S2x2x1x4x128, .f32⟩
  | 122 => ⟨S2x2x4x1x128, .f32⟩
  | 123 => ⟨S2x2x4x64x128, .f32⟩
  | 124 => ⟨S2x2x4x64x128, .f32⟩
  | 125 => ⟨S2x2x4x64x128, .f32⟩
  | 126 => ⟨S2x2x4x64x64, .f32⟩
  | 127 => ⟨S2x2x4x64x128, .f32⟩
  | _ => ⟨S2x2x8448x512, .f32⟩

abbrev hbmTy0_1 (i : Nat) : BufTy := match i % 128 with
  | 0 => ⟨S2x2x4x64x128, .f32⟩
  | 1 => ⟨S2x2x4x128x128, .f32⟩
  | 2 => ⟨S2x2x4x128x128, .f32⟩
  | 3 => ⟨S2x2x4x128x128, .f32⟩
  | 4 => ⟨S2x2x4x128x128, .f32⟩
  | 5 => ⟨S2x2x64x4x128, .f32⟩
  | 6 => ⟨S2x2x1x64x512, .f32⟩
  | 7 => ⟨S1x2x1x64x512, .f32⟩
  | 8 => ⟨S2x1x64x512, .f32⟩
  | 9 => ⟨S2x132x64x512, .f32⟩
  | 10 => ⟨S_, .i32⟩
  | 11 => ⟨S_, .i32⟩
  | 12 => ⟨S_, .i32⟩
  | 13 => ⟨S2x132x64x512, .f32⟩
  | 14 => ⟨S2x8448x512, .f32⟩
  | 15 => ⟨S1x2x1x64x512, .f32⟩
  | 16 => ⟨S2x1x64x512, .f32⟩
  | 17 => ⟨S2x132x64x512, .f32⟩
  | 18 => ⟨S_, .i32⟩
  | 19 => ⟨S_, .i32⟩
  | 20 => ⟨S_, .i32⟩
  | 21 => ⟨S2x132x64x512, .f32⟩
  | 22 => ⟨S2x8448x512, .f32⟩
  | 23 => ⟨S_, .i32⟩
  | 24 => ⟨S_, .i32⟩
  | _ => ⟨S2x2x8448x512, .f32⟩

abbrev hbmTy (i : Nat) : BufTy := match i / 128 with
  | 0 => hbmTy0_0 i
  | 1 => hbmTy0_1 i
  | _ => ⟨S2x2x8448x512, .f32⟩

abbrev bufTy : (tb : Table) → Fin (tcTables nBuf tb) → BufTy
  | .hbm, ⟨i, _⟩ => hbmTy i
  | _, _ => ⟨S2x2x8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_c : Ref sig .tc := ⟨.hbm, 10, rfl⟩
abbrev main_c_1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_v2_5 : Ref sig .tc := ⟨.hbm, 17, rfl⟩
abbrev main_v2_6 : Ref sig .tc := ⟨.hbm, 18, rfl⟩
abbrev main_v2_7 : Ref sig .tc := ⟨.hbm, 19, rfl⟩
abbrev main_v2_8 : Ref sig .tc := ⟨.hbm, 20, rfl⟩
abbrev main_v2_9 : Ref sig .tc := ⟨.hbm, 21, rfl⟩
abbrev main_v2_10 : Ref sig .tc := ⟨.hbm, 22, rfl⟩
abbrev main_while0c_c_12 : Ref sig .tc := ⟨.hbm, 23, rfl⟩
abbrev main_while0c_v3 : Ref sig .tc := ⟨.hbm, 24, rfl⟩
abbrev main_while0b_c_12 : Ref sig .tc := ⟨.hbm, 25, rfl⟩
abbrev main_while0b_v3 : Ref sig .tc := ⟨.hbm, 26, rfl⟩
abbrev main_while0b_c_13 : Ref sig .tc := ⟨.hbm, 27, rfl⟩
abbrev main_while0b_v4 : Ref sig .tc := ⟨.hbm, 28, rfl⟩
abbrev main_while0b_c_14 : Ref sig .tc := ⟨.hbm, 29, rfl⟩
abbrev main_while0b_v5 : Ref sig .tc := ⟨.hbm, 30, rfl⟩
abbrev main_while0b_c_15 : Ref sig .tc := ⟨.hbm, 31, rfl⟩
abbrev main_while0b_v6 : Ref sig .tc := ⟨.hbm, 32, rfl⟩
abbrev main_while0b_v7 : Ref sig .tc := ⟨.hbm, 33, rfl⟩
abbrev main_while0b_c_16 : Ref sig .tc := ⟨.hbm, 34, rfl⟩
abbrev main_while0b_v8 : Ref sig .tc := ⟨.hbm, 35, rfl⟩
abbrev main_while0b_c_17 : Ref sig .tc := ⟨.hbm, 36, rfl⟩
abbrev main_while0b_c_18 : Ref sig .tc := ⟨.hbm, 37, rfl⟩
abbrev main_while0b_c_19 : Ref sig .tc := ⟨.hbm, 38, rfl⟩
abbrev main_while0b_v9 : Ref sig .tc := ⟨.hbm, 39, rfl⟩
abbrev main_while0b_c_20 : Ref sig .tc := ⟨.hbm, 40, rfl⟩
abbrev main_while0b_v10 : Ref sig .tc := ⟨.hbm, 41, rfl⟩
abbrev main_while0b_c_21 : Ref sig .tc := ⟨.hbm, 42, rfl⟩
abbrev main_while0b_c_22 : Ref sig .tc := ⟨.hbm, 43, rfl⟩
abbrev main_while0b_c_23 : Ref sig .tc := ⟨.hbm, 44, rfl⟩
abbrev main_while0b_v11 : Ref sig .tc := ⟨.hbm, 45, rfl⟩
abbrev main_while0b_v12 : Ref sig .tc := ⟨.hbm, 46, rfl⟩
abbrev main_while0b_v13 : Ref sig .tc := ⟨.hbm, 47, rfl⟩
abbrev main_while0b_v14 : Ref sig .tc := ⟨.hbm, 48, rfl⟩
abbrev main_while0b_c_24 : Ref sig .tc := ⟨.hbm, 49, rfl⟩
abbrev main_while0b_v15 : Ref sig .tc := ⟨.hbm, 50, rfl⟩
abbrev main_while0b_c_25 : Ref sig .tc := ⟨.hbm, 51, rfl⟩
abbrev main_while0b_c_26 : Ref sig .tc := ⟨.hbm, 52, rfl⟩
abbrev main_while0b_c_27 : Ref sig .tc := ⟨.hbm, 53, rfl⟩
abbrev main_while0b_v16 : Ref sig .tc := ⟨.hbm, 54, rfl⟩
abbrev main_while0b_c_28 : Ref sig .tc := ⟨.hbm, 55, rfl⟩
abbrev main_while0b_v17 : Ref sig .tc := ⟨.hbm, 56, rfl⟩
abbrev main_while0b_c_29 : Ref sig .tc := ⟨.hbm, 57, rfl⟩
abbrev main_while0b_c_30 : Ref sig .tc := ⟨.hbm, 58, rfl⟩
abbrev main_while0b_c_31 : Ref sig .tc := ⟨.hbm, 59, rfl⟩
abbrev main_while0b_v18 : Ref sig .tc := ⟨.hbm, 60, rfl⟩
abbrev main_while0b_v19 : Ref sig .tc := ⟨.hbm, 61, rfl⟩
abbrev main_while0b_v20 : Ref sig .tc := ⟨.hbm, 62, rfl⟩
abbrev main_while0b_v21 : Ref sig .tc := ⟨.hbm, 63, rfl⟩
abbrev main_while0b_v22 : Ref sig .tc := ⟨.hbm, 64, rfl⟩
abbrev main_while0b_c_32 : Ref sig .tc := ⟨.hbm, 65, rfl⟩
abbrev main_while0b_v23 : Ref sig .tc := ⟨.hbm, 66, rfl⟩
abbrev main_while0b_c_33 : Ref sig .tc := ⟨.hbm, 67, rfl⟩
abbrev main_while0b_c_34 : Ref sig .tc := ⟨.hbm, 68, rfl⟩
abbrev main_while0b_c_35 : Ref sig .tc := ⟨.hbm, 69, rfl⟩
abbrev main_while0b_v24 : Ref sig .tc := ⟨.hbm, 70, rfl⟩
abbrev main_while0b_c_36 : Ref sig .tc := ⟨.hbm, 71, rfl⟩
abbrev main_while0b_v25 : Ref sig .tc := ⟨.hbm, 72, rfl⟩
abbrev main_while0b_c_37 : Ref sig .tc := ⟨.hbm, 73, rfl⟩
abbrev main_while0b_c_38 : Ref sig .tc := ⟨.hbm, 74, rfl⟩
abbrev main_while0b_c_39 : Ref sig .tc := ⟨.hbm, 75, rfl⟩
abbrev main_while0b_v26 : Ref sig .tc := ⟨.hbm, 76, rfl⟩
abbrev main_while0b_v27 : Ref sig .tc := ⟨.hbm, 77, rfl⟩
abbrev main_while0b_v28 : Ref sig .tc := ⟨.hbm, 78, rfl⟩
abbrev main_while0b_v29 : Ref sig .tc := ⟨.hbm, 79, rfl⟩
abbrev main_while0b_v30 : Ref sig .tc := ⟨.hbm, 80, rfl⟩
abbrev main_while0b_c_40 : Ref sig .tc := ⟨.hbm, 81, rfl⟩
abbrev main_while0b_v31 : Ref sig .tc := ⟨.hbm, 82, rfl⟩
abbrev main_while0b_c_41 : Ref sig .tc := ⟨.hbm, 83, rfl⟩
abbrev main_while0b_c_42 : Ref sig .tc := ⟨.hbm, 84, rfl⟩
abbrev main_while0b_c_43 : Ref sig .tc := ⟨.hbm, 85, rfl⟩
abbrev main_while0b_v32 : Ref sig .tc := ⟨.hbm, 86, rfl⟩
abbrev main_while0b_c_44 : Ref sig .tc := ⟨.hbm, 87, rfl⟩
abbrev main_while0b_v33 : Ref sig .tc := ⟨.hbm, 88, rfl⟩
abbrev main_while0b_c_45 : Ref sig .tc := ⟨.hbm, 89, rfl⟩
abbrev main_while0b_c_46 : Ref sig .tc := ⟨.hbm, 90, rfl⟩
abbrev main_while0b_c_47 : Ref sig .tc := ⟨.hbm, 91, rfl⟩
abbrev main_while0b_v34 : Ref sig .tc := ⟨.hbm, 92, rfl⟩
abbrev main_while0b_v35 : Ref sig .tc := ⟨.hbm, 93, rfl⟩
abbrev main_while0b_v36 : Ref sig .tc := ⟨.hbm, 94, rfl⟩
abbrev main_while0b_v37 : Ref sig .tc := ⟨.hbm, 95, rfl⟩
abbrev main_while0b_v38 : Ref sig .tc := ⟨.hbm, 96, rfl⟩
abbrev main_while0b_c_48 : Ref sig .tc := ⟨.hbm, 97, rfl⟩
abbrev main_while0b_c_49 : Ref sig .tc := ⟨.hbm, 98, rfl⟩
abbrev main_while0b_c_50 : Ref sig .tc := ⟨.hbm, 99, rfl⟩
abbrev main_while0b_c_51 : Ref sig .tc := ⟨.hbm, 100, rfl⟩
abbrev main_while0b_c_52 : Ref sig .tc := ⟨.hbm, 101, rfl⟩
abbrev main_while0b_v39 : Ref sig .tc := ⟨.hbm, 102, rfl⟩
abbrev main_while0b_c_53 : Ref sig .tc := ⟨.hbm, 103, rfl⟩
abbrev main_while0b_c_54 : Ref sig .tc := ⟨.hbm, 104, rfl⟩
abbrev main_while0b_c_55 : Ref sig .tc := ⟨.hbm, 105, rfl⟩
abbrev main_while0b_c_56 : Ref sig .tc := ⟨.hbm, 106, rfl⟩
abbrev main_while0b_c_57 : Ref sig .tc := ⟨.hbm, 107, rfl⟩
abbrev main_while0b_v40 : Ref sig .tc := ⟨.hbm, 108, rfl⟩
abbrev main_while0b_v41 : Ref sig .tc := ⟨.hbm, 109, rfl⟩
abbrev main_while0b_v42 : Ref sig .tc := ⟨.hbm, 110, rfl⟩
abbrev main_while0b_c_58 : Ref sig .tc := ⟨.hbm, 111, rfl⟩
abbrev main_while0b_c_59 : Ref sig .tc := ⟨.hbm, 112, rfl⟩
abbrev main_while0b_c_60 : Ref sig .tc := ⟨.hbm, 113, rfl⟩
abbrev main_while0b_c_61 : Ref sig .tc := ⟨.hbm, 114, rfl⟩
abbrev main_while0b_v43 : Ref sig .tc := ⟨.hbm, 115, rfl⟩
abbrev main_while0b_c_62 : Ref sig .tc := ⟨.hbm, 116, rfl⟩
abbrev main_while0b_c_63 : Ref sig .tc := ⟨.hbm, 117, rfl⟩
abbrev main_while0b_c_64 : Ref sig .tc := ⟨.hbm, 118, rfl⟩
abbrev main_while0b_c_65 : Ref sig .tc := ⟨.hbm, 119, rfl⟩
abbrev main_while0b_v44 : Ref sig .tc := ⟨.hbm, 120, rfl⟩
abbrev main_while0b_v45 : Ref sig .tc := ⟨.hbm, 121, rfl⟩
abbrev main_while0b_v46 : Ref sig .tc := ⟨.hbm, 122, rfl⟩
abbrev main_while0b_v47 : Ref sig .tc := ⟨.hbm, 123, rfl⟩
abbrev main_while0b_v48 : Ref sig .tc := ⟨.hbm, 124, rfl⟩
abbrev main_while0b_v49 : Ref sig .tc := ⟨.hbm, 125, rfl⟩
abbrev main_while0b_v50 : Ref sig .tc := ⟨.hbm, 126, rfl⟩
abbrev main_while0b_v51 : Ref sig .tc := ⟨.hbm, 127, rfl⟩
abbrev main_while0b_v52 : Ref sig .tc := ⟨.hbm, 128, rfl⟩
abbrev main_while0b_v53 : Ref sig .tc := ⟨.hbm, 129, rfl⟩
abbrev main_while0b_v54 : Ref sig .tc := ⟨.hbm, 130, rfl⟩
abbrev main_while0b_v55 : Ref sig .tc := ⟨.hbm, 131, rfl⟩
abbrev main_while0b_v56 : Ref sig .tc := ⟨.hbm, 132, rfl⟩
abbrev main_while0b_v57 : Ref sig .tc := ⟨.hbm, 133, rfl⟩
abbrev main_while0b_v58 : Ref sig .tc := ⟨.hbm, 134, rfl⟩
abbrev main_while0b_v59 : Ref sig .tc := ⟨.hbm, 135, rfl⟩
abbrev main_while0b_v60 : Ref sig .tc := ⟨.hbm, 136, rfl⟩
abbrev main_while0b_v61 : Ref sig .tc := ⟨.hbm, 137, rfl⟩
abbrev main_while0b_c_66 : Ref sig .tc := ⟨.hbm, 138, rfl⟩
abbrev main_while0b_c_67 : Ref sig .tc := ⟨.hbm, 139, rfl⟩
abbrev main_while0b_c_68 : Ref sig .tc := ⟨.hbm, 140, rfl⟩
abbrev main_while0b_v62 : Ref sig .tc := ⟨.hbm, 141, rfl⟩
abbrev main_while0b_v63 : Ref sig .tc := ⟨.hbm, 142, rfl⟩
abbrev main_while0b_v64 : Ref sig .tc := ⟨.hbm, 143, rfl⟩
abbrev main_while0b_v65 : Ref sig .tc := ⟨.hbm, 144, rfl⟩
abbrev main_while0b_v66 : Ref sig .tc := ⟨.hbm, 145, rfl⟩
abbrev main_while0b_c_69 : Ref sig .tc := ⟨.hbm, 146, rfl⟩
abbrev main_while0b_c_70 : Ref sig .tc := ⟨.hbm, 147, rfl⟩
abbrev main_while0b_c_71 : Ref sig .tc := ⟨.hbm, 148, rfl⟩
abbrev main_while0b_v67 : Ref sig .tc := ⟨.hbm, 149, rfl⟩
abbrev main_while0b_v68 : Ref sig .tc := ⟨.hbm, 150, rfl⟩
abbrev main_while0b_c_72 : Ref sig .tc := ⟨.hbm, 151, rfl⟩
abbrev main_while0b_v69 : Ref sig .tc := ⟨.hbm, 152, rfl⟩

abbrev nD : Nat := 1
abbrev τ : Topo := Topo.v7x

variable {F : FTy → Type} [FloatOps F]

abbrev main_while0_count : Scf.Loop 32 := ⟨0#32, 132#32, 1#32⟩
-- ==== Gated.lean ====
abbrev S2x8448x512 : Shape := ⟨3, ![2, 8448, 512]⟩
abbrev S2x8192x2816 : Shape := ⟨3, ![2, 8192, 2816]⟩
abbrev S128 : Shape := ⟨1, ![128]⟩
abbrev S1x128 : Shape := ⟨2, ![1, 128]⟩
abbrev S2x8192x512 : Shape := ⟨3, ![2, 8192, 512]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 6
  | .vmem => 9
  | .smem => 0
  | _ => 0

abbrev bufTy : (tb : Table) → Fin (tcTables nBuf tb) → BufTy
  | .hbm, ⟨0, _⟩ => ⟨S2x8448x512, .f32⟩
  | .hbm, ⟨1, _⟩ => ⟨S2x8448x512, .f32⟩
  | .hbm, ⟨2, _⟩ => ⟨S2x8192x2816, .f32⟩
  | .hbm, ⟨3, _⟩ => ⟨S128, .f32⟩
  | .hbm, ⟨4, _⟩ => ⟨S1x128, .f32⟩
  | .hbm, ⟨5, _⟩ => ⟨S2x8192x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x128, .f32⟩
  | .local _ .vmem, ⟨7, _⟩ => ⟨S1x256x512, .bf16⟩
  | .local _ .vmem, ⟨8, _⟩ => ⟨S1x256x512, .bf16⟩
  | _, _ => ⟨S2x8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GatedRefIdeal.lean ====
abbrev S2x8448x512 : Shape := ⟨3, ![2, 8448, 512]⟩
abbrev S2x8192x2816 : Shape := ⟨3, ![2, 8192, 2816]⟩
abbrev S128 : Shape := ⟨1, ![128]⟩
abbrev S2x8192x512 : Shape := ⟨3, ![2, 8192, 512]⟩
abbrev S2x8192x4x128 : Shape := ⟨4, ![2, 8192, 4, 128]⟩
abbrev S_ : Shape := ⟨0, ![]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S2x8448x512, .f32⟩
  | .hbm, ⟨1, _⟩ => ⟨S2x8448x512, .f32⟩
  | .hbm, ⟨2, _⟩ => ⟨S2x8192x2816, .f32⟩
  | .hbm, ⟨3, _⟩ => ⟨S128, .f32⟩
  | .hbm, ⟨4, _⟩ => ⟨S2x8448x512, .f32⟩
  | .hbm, ⟨5, _⟩ => ⟨S2x8192x512, .f32⟩
  | .hbm, ⟨6, _⟩ => ⟨S2x8192x4x128, .f32⟩
  | .hbm, ⟨7, _⟩ => ⟨S2x8192x512, .f32⟩
  | .hbm, ⟨8, _⟩ => ⟨S2x8192x4x128, .f32⟩
  | .hbm, ⟨9, _⟩ => ⟨S2x8192x4x128, .f32⟩
  | .hbm, ⟨10, _⟩ => ⟨S_, .f32⟩
  | .hbm, ⟨11, _⟩ => ⟨S2x8192x4, .f32⟩
  | .hbm, ⟨12, _⟩ => ⟨S2x8192x4x1, .f32⟩
  | .hbm, ⟨13, _⟩ => ⟨S_, .f32⟩
  | .hbm, ⟨14, _⟩ => ⟨S2x8192x4x1, .f32⟩
  | .hbm, ⟨15, _⟩ => ⟨S2x8192x4x1, .f32⟩
  | .hbm, ⟨16, _⟩ => ⟨S_, .f32⟩
  | .hbm, ⟨17, _⟩ => ⟨S2x8192x4x1, .f32⟩
  | .hbm, ⟨18, _⟩ => ⟨S2x8192x4x1, .f32⟩
  | .hbm, ⟨19, _⟩ => ⟨S2x8192x4x1, .f32⟩
  | .hbm, ⟨20, _⟩ => ⟨S2x8192x4x128, .f32⟩
  | .hbm, ⟨21, _⟩ => ⟨S2x8192x4x128, .f32⟩
  | .hbm, ⟨22, _⟩ => ⟨S1x1x1x128, .f32⟩
  | .hbm, ⟨23, _⟩ => ⟨S2x8192x4x128, .f32⟩
  | .hbm, ⟨24, _⟩ => ⟨S2x8192x4x128, .f32⟩
  | .hbm, ⟨25, _⟩ => ⟨S2x8192x4x128, .f32⟩
  | .hbm, ⟨26, _⟩ => ⟨S2x8192x4x128, .f32⟩
  | .hbm, ⟨27, _⟩ => ⟨S_, .f32⟩
  | .hbm, ⟨28, _⟩ => ⟨S2x8192x4x128, .f32⟩
  | .hbm, ⟨29, _⟩ => ⟨S2x8192x4x128, .f32⟩
  | .hbm, ⟨30, _⟩ => ⟨S_, .f32⟩
  | .hbm, ⟨31, _⟩ => ⟨S2x8192x4x128, .f32⟩
  | .hbm, ⟨32, _⟩ => ⟨S2x8192x4x128, .f32⟩
  | .hbm, ⟨33, _⟩ => ⟨S2x8192x4x128, .f32⟩
  | .hbm, ⟨34, _⟩ => ⟨S2x8192x4x128, .f32⟩
  | .hbm, ⟨35, _⟩ => ⟨S2x8192x512, .f32⟩
  | .hbm, ⟨36, _⟩ => ⟨S2x8192x512, .bf16⟩
  | _, _ => ⟨S2x8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Dense.lean ====
abbrev S16384x128 : Shape := ⟨2, ![16384, 128]⟩
abbrev S16384x128x128 : Shape := ⟨3, ![16384, 128, 128]⟩
abbrev S128x128 : Shape := ⟨2, ![128, 128]⟩
abbrev S128x128x128 : Shape := ⟨3, ![128, 128, 128]⟩
abbrev S1x128 : Shape := ⟨2, ![1, 128]⟩
abbrev S1x128x128 : Shape := ⟨3, ![1, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .i32⟩
  | .hbm, ⟨1, _⟩ => ⟨S16384x128, .f32⟩
  | .hbm, ⟨2, _⟩ => ⟨S16384x128x128, .bf16⟩
  | .local _ .vmem, ⟨0, _⟩ => ⟨S128x128, .i32⟩
  | .local _ .vmem, ⟨1, _⟩ => ⟨S128x128, .i32⟩
  | .local _ .vmem, ⟨2, _⟩ => ⟨S128x128, .f32⟩
  | .local _ .vmem, ⟨3, _⟩ => ⟨S128x128, .f32⟩
  | .local _ .vmem, ⟨4, _⟩ => ⟨S128x128x128, .bf16⟩
  | .local _ .vmem, ⟨5, _⟩ => ⟨S128x128x128, .bf16⟩
  | _, _ => ⟨S16384x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c128_i32 : BitVec 32 := 128#32
  let v1 : BitVec 32 := Scalar.addi c0_i32 c128_i32
  let c1_i32 : BitVec 32 := 1#32
  ⟨c0_i32, v1, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let v2 : Index := Scalar.indexCast arg4
  let c0 : Index := 0#32
  ![v2.toNat, 0]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let v25 : Index := Scalar.indexCast arg4
  let c0_5 : Index := 0#32
  let c0_6 : Index := 0#32
  ![v25.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DenseRefIdeal.lean ====
abbrev S16384x128 : Shape := ⟨2, ![16384, 128]⟩
abbrev S16384x128x1 : Shape := ⟨3, ![16384, 128, 1]⟩
abbrev S16384 : Shape := ⟨1, ![16384]⟩
abbrev S1x1x16384 : Shape := ⟨3, ![1, 1, 16384]⟩
abbrev S16384x128x16384 : Shape := ⟨3, ![16384, 128, 16384]⟩
abbrev S_ : Shape := ⟨0, ![]⟩
abbrev S16384x16384 : Shape := ⟨2, ![16384, 16384]⟩
abbrev S16384x128x128 : Shape := ⟨3, ![16384, 128, 128]⟩

abbrev nBuf : Space → Nat
  | .hbm => 18
  | .vmem => 0
  | .smem => 0
  | _ => 0

abbrev bufTy : (tb : Table) → Fin (tcTables nBuf tb) → BufTy
  | .hbm, ⟨0, _⟩ => ⟨S16384x128, .i32⟩
  | .hbm, ⟨1, _⟩ => ⟨S16384x128, .f32⟩
  | .hbm, ⟨2, _⟩ => ⟨S16384x128x1, .i32⟩
  | .hbm, ⟨3, _⟩ => ⟨S16384, .i32⟩
  | .hbm, ⟨4, _⟩ => ⟨S1x1x16384, .i32⟩
  | .hbm, ⟨5, _⟩ => ⟨S16384x128x16384, .i32⟩
  | .hbm, ⟨6, _⟩ => ⟨S16384x128x16384, .i32⟩
  | .hbm, ⟨7, _⟩ => ⟨S16384x128x16384, .i1⟩
  | .hbm, ⟨8, _⟩ => ⟨S16384x128x1, .f32⟩
  | .hbm, ⟨9, _⟩ => ⟨S_, .f32⟩
  | .hbm, ⟨10, _⟩ => ⟨S_, .f32⟩
  | .hbm, ⟨11, _⟩ => ⟨S16384x128x16384, .f32⟩
  | .hbm, ⟨12, _⟩ => ⟨S16384x128x16384, .f32⟩
  | .hbm, ⟨13, _⟩ => ⟨S16384x128x16384, .f32⟩
  | .hbm, ⟨14, _⟩ => ⟨S_, .f32⟩
  | .hbm, ⟨15, _⟩ => ⟨S16384x16384, .f32⟩
  | .hbm, ⟨16, _⟩ => ⟨S16384x128x128, .f32⟩
  | .hbm, ⟨17, _⟩ => ⟨S16384x128x128, .bf16⟩
  | _, _ => ⟨S16384x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Rotate.lean ====
abbrev S2x8192x2304 : Shape := ⟨3, ![2, 8192, 2304]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x512 : Shape := ⟨2, ![1, 512]⟩
abbrev S1x128 : Shape := ⟨2, ![1, 128]⟩
abbrev S512 : Shape := ⟨1, ![512]⟩
abbrev S512x1 : Shape := ⟨2, ![512, 1]⟩
abbrev S512x512 : Shape := ⟨2, ![512, 512]⟩
abbrev S2x8x8192x64 : Shape := ⟨4, ![2, 8, 8192, 64]⟩
abbrev S2x2x8192x64 : Shape := ⟨4, ![2, 2, 8192, 64]⟩
abbrev S1x512x512 : Shape := ⟨3, ![1, 512, 512]⟩
abbrev S1x512x128 : Shape := ⟨3, ![1, 512, 128]⟩
abbrev S512x128 : Shape := ⟨2, ![512, 128]⟩
abbrev S1x8x512x64 : Shape := ⟨4, ![1, 8, 512, 64]⟩
abbrev S1x2x512x64 : Shape := ⟨4, ![1, 2, 512, 64]⟩
abbrev S512x64 : Shape := ⟨2, ![512, 64]⟩
abbrev S1x1x512x64 : Shape := ⟨4, ![1, 1, 512, 64]⟩

abbrev nBuf : Space → Nat
  | .hbm => 79
  | .vmem => 19
  | .smem => 0
  | _ => 0

abbrev bufTy : (tb : Table) → Fin (tcTables nBuf tb) → BufTy
  | .hbm, ⟨0, _⟩ => ⟨S2x8192x2304, .f32⟩
  | .hbm, ⟨1, _⟩ => ⟨S128, .f32⟩
  | .hbm, ⟨2, _⟩ => ⟨S128x64, .f32⟩
  | .hbm, ⟨3, _⟩ => ⟨S8192, .f32⟩
  | .hbm, ⟨4, _⟩ => ⟨S64, .f32⟩
  | .hbm, ⟨5, _⟩ => ⟨S1x64, .f32⟩
  | .hbm, ⟨6, _⟩ => ⟨S128x64, .f32⟩
  | .hbm, ⟨7, _⟩ => ⟨S8192, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S8192x1, .f32⟩
  | .hbm, ⟨17, _⟩ => ⟨S1x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x1, .f32⟩
  | .hbm, ⟨22, _⟩ => ⟨S1x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x64, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x64, .f32⟩
  | .hbm, ⟨38, _⟩ => ⟨S1x8192x1x64, .f32⟩
  | .hbm, ⟨39, _⟩ => ⟨S1x8192x2x64, .f32⟩
  | .hbm, ⟨40, _⟩ => ⟨S8192x128, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S_, .f32⟩
  | .hbm, ⟨45, _⟩ => ⟨S1x512, .f32⟩
  | .hbm, ⟨46, _⟩ => ⟨S_, .f32⟩
  | .hbm, ⟨47, _⟩ => ⟨S1x128, .f32⟩
  | .hbm, ⟨48, _⟩ => ⟨S512, .i32⟩
  | .hbm, ⟨49, _⟩ => ⟨S_, .i32⟩
  | .hbm, ⟨50, _⟩ => ⟨S_, .i32⟩
  | .hbm, ⟨51, _⟩ => ⟨S512, .i32⟩
  | .hbm, ⟨52, _⟩ => ⟨S512, .i32⟩
  | .hbm, ⟨53, _⟩ => ⟨S512, .i32⟩
  | .hbm, ⟨54, _⟩ => ⟨S_, .i32⟩
  | .hbm, ⟨55, _⟩ => ⟨S512, .i32⟩
  | .hbm, ⟨56, _⟩ => ⟨S512, .i1⟩
  | .hbm, ⟨57, _⟩ => ⟨S512, .i32⟩
  | .hbm, ⟨58, _⟩ => ⟨S512, .i32⟩
  | .hbm, ⟨59, _⟩ => ⟨S_, .i32⟩
  | .hbm, ⟨60, _⟩ => ⟨S512, .i32⟩
  | .hbm, ⟨61, _⟩ => ⟨S512, .i1⟩
  | .hbm, ⟨62, _⟩ => ⟨S512, .i1⟩
  | .hbm, ⟨63, _⟩ => ⟨S_, .i32⟩
  | .hbm, ⟨64, _⟩ => ⟨S512, .i32⟩
  | .hbm, ⟨65, _⟩ => ⟨S512, .i32⟩
  | .hbm, ⟨66, _⟩ => ⟨S512, .i32⟩
  | .hbm, ⟨67, _⟩ => ⟨S512x1, .i32⟩
  | .hbm, ⟨68, _⟩ => ⟨S1x512, .i32⟩
  | .hbm, ⟨69, _⟩ => ⟨S512x512, .i32⟩
  | .hbm, ⟨70, _⟩ => ⟨S512x512, .i32⟩
  | .hbm, ⟨71, _⟩ => ⟨S512x512, .i1⟩
  | .hbm, ⟨72, _⟩ => ⟨S512x512, .f32⟩
  | .hbm, ⟨73, _⟩ => ⟨S_, .f32⟩
  | .hbm, ⟨74, _⟩ => ⟨S512x512, .f32⟩
  | .hbm, ⟨75, _⟩ => ⟨S512x512, .f32⟩
  | .hbm, ⟨76, _⟩ => ⟨S2x8x8192x64, .bf16⟩
  | .hbm, ⟨77, _⟩ => ⟨S2x2x8192x64, .bf16⟩
  | .hbm, ⟨78, _⟩ => ⟨S2x2x8192x64, .bf16⟩
  | .local _ .vmem, ⟨0, _⟩ => ⟨S1x512x512, .f32⟩
  | .local _ .vmem, ⟨1, _⟩ => ⟨S1x512x512, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x128, .f32⟩
  | .local _ .vmem, ⟨12, _⟩ => ⟨S512x512, .f32⟩
  | .local _ .vmem, ⟨13, _⟩ => ⟨S1x8x512x64, .bf16⟩
  | .local _ .vmem, ⟨14, _⟩ => ⟨S1x8x512x64, .bf16⟩
  | .local _ .vmem, ⟨15, _⟩ => ⟨S1x2x512x64, .bf16⟩
  | .local _ .vmem, ⟨16, _⟩ => ⟨S1x2x512x64, .bf16⟩
  | .local _ .vmem, ⟨17, _⟩ => ⟨S1x2x512x64, .bf16⟩
  | .local _ .vmem, ⟨18, _⟩ => ⟨S1x2x512x64, .bf16⟩
  | _, _ => ⟨S2x8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_1 : Ref sig .tc := ⟨.hbm, 44, rfl⟩
abbrev main_v41 : Ref sig .tc := ⟨.hbm, 45, rfl⟩
abbrev main_cst_2 : Ref sig .tc := ⟨.hbm, 46, rfl⟩
abbrev main_v42 : Ref sig .tc := ⟨.hbm, 47, rfl⟩
abbrev main_v43 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_3 : Ref sig .tc := ⟨.hbm, 73, rfl⟩
abbrev main_v51 : Ref sig .tc := ⟨.hbm, 74, rfl⟩
abbrev main_v52 : Ref sig .tc := ⟨.hbm, 75, rfl⟩
abbrev main_v53_0 : Ref sig .tc := ⟨.hbm, 76, rfl⟩
abbrev main_v53_1 : Ref sig .tc := ⟨.hbm, 77, rfl⟩
abbrev main_v53_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RotateRefIdeal.lean ====
abbrev S2x8192x2304 : Shape := ⟨3, ![2, 8192, 2304]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S2x8192x512 : Shape := ⟨3, ![2, 8192, 512]⟩
abbrev S2x8192x8x64 : Shape := ⟨4, ![2, 8192, 8, 64]⟩
abbrev S2x8192x128 : Shape := ⟨3, ![2, 8192, 128]⟩
abbrev S2x8192x2x64 : Shape := ⟨4, ![2, 8192, 2, 64]⟩
abbrev S8192x1x16 : Shape := ⟨3, ![8192, 1, 16]⟩
abbrev S2x8192x8x16 : Shape := ⟨4, ![2, 8192, 8, 16]⟩
abbrev S1x8192x1x16 : Shape := ⟨4, ![1, 8192, 1, 16]⟩
abbrev S2x8192x2x16 : Shape := ⟨4, ![2, 8192, 2, 16]⟩
abbrev S2x8x8192x64 : Shape := ⟨4, ![2, 8, 8192, 64]⟩
abbrev S2x2x8192x64 : Shape := ⟨4, ![2, 2, 8192, 64]⟩

abbrev nBuf : Space → Nat
  | .hbm => 129
  | .vmem => 0
  | .smem => 0
  | _ => 0

abbrev hbmTy0_0 (i : Nat) : BufTy := match i % 128 with
  | 0 => ⟨S2x8192x2304, .f32⟩
  | 1 => ⟨S128, .f32⟩
  | 2 => ⟨S128x64, .f32⟩
  | 3 => ⟨S8192, .f32⟩
  | 4 => ⟨S64, .f32⟩
  | 5 => ⟨S1x64, .f32⟩
  | 6 => ⟨S128x64, .f32⟩
  | 7 => ⟨S8192, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S8192x1, .f32⟩
  | 17 => ⟨S1x16, .f32⟩
  | 18 => ⟨S8192x16, .f32⟩
  | 19 => ⟨S8192x16, .f32⟩
  | 20 => ⟨S8192x16, .f32⟩
  | 21 => ⟨S8192x16, .f32⟩
  | 22 => ⟨S8192x1, .f32⟩
  | 23 => ⟨S1x16, .f32⟩
  | 24 => ⟨S8192x16, .f32⟩
  | 25 => ⟨S8192x16, .f32⟩
  | 26 => ⟨S8192x16, .f32⟩
  | 27 => ⟨S8192x16, .f32⟩
  | 28 => ⟨S8192x1, .f32⟩
  | 29 => ⟨S1x16, .f32⟩
  | 30 => ⟨S8192x16, .f32⟩
  | 31 => ⟨S8192x16, .f32⟩
  | 32 => ⟨S8192x16, .f32⟩
  | 33 => ⟨S8192x16, .f32⟩
  | 34 => ⟨S8192x1, .f32⟩
  | 35 => ⟨S1x16, .f32⟩
  | 36 => ⟨S8192x16, .f32⟩
  | 37 => ⟨S8192x16, .f32⟩
  | 38 => ⟨S8192x16, .f32⟩
  | 39 => ⟨S8192x16, .f32⟩
  | 40 => ⟨S2x8192x512, .f32⟩
  | 41 => ⟨S2x8192x8x64, .f32⟩
  | 42 => ⟨S2x8192x128, .f32⟩
  | 43 => ⟨S2x8192x2x64, .f32⟩
  | 44 => ⟨S2x8192x128, .f32⟩
  | 45 => ⟨S2x8192x2x64, .f32⟩
  | 46 => ⟨S8192x1x16, .f32⟩
  | 47 => ⟨S8192x1x16, .f32⟩
  | 48 => ⟨S8192x1x16, .f32⟩
  | 49 => ⟨S8192x1x16, .f32⟩
  | 50 => ⟨S2x8192x8x16, .f32⟩
  | 51 => ⟨S2x8192x8x16, .f32⟩
  | 52 => ⟨S2x8192x8x16, .f32⟩
  | 53 => ⟨S2x8192x8x16, .f32⟩
  | 54 => ⟨S1x8192x1x16, .f32⟩
  | 55 => ⟨S2x8192x8x16, .f32⟩
  | 56 => ⟨S2x8192x8x16, .f32⟩
  | 57 => ⟨S1x8192x1x16, .f32⟩
  | 58 => ⟨S2x8192x8x16, .f32⟩
  | 59 => ⟨S2x8192x8x16, .f32⟩
  | 60 => ⟨S2x8192x8x16, .f32⟩
  | 61 => ⟨S1x8192x1x16, .f32⟩
  | 62 => ⟨S2x8192x8x16, .f32⟩
  | 63 => ⟨S2x8192x8x16, .f32⟩
  | 64 => ⟨S1x8192x1x16, .f32⟩
  | 65 => ⟨S2x8192x8x16, .f32⟩
  | 66 => ⟨S2x8192x8x16, .f32⟩
  | 67 => ⟨S2x8192x8x16, .f32⟩
  | 68 => ⟨S1x8192x1x16, .f32⟩
  | 69 => ⟨S2x8192x8x16, .f32⟩
  | 70 => ⟨S2x8192x8x16, .f32⟩
  | 71 => ⟨S1x8192x1x16, .f32⟩
  | 72 => ⟨S2x8192x8x16, .f32⟩
  | 73 => ⟨S2x8192x8x16, .f32⟩
  | 74 => ⟨S2x8192x8x16, .f32⟩
  | 75 => ⟨S1x8192x1x16, .f32⟩
  | 76 => ⟨S2x8192x8x16, .f32⟩
  | 77 => ⟨S2x8192x8x16, .f32⟩
  | 78 => ⟨S1x8192x1x16, .f32⟩
  | 79 => ⟨S2x8192x8x16, .f32⟩
  | 80 => ⟨S2x8192x8x16, .f32⟩
  | 81 => ⟨S2x8192x8x16, .f32⟩
  | 82 => ⟨S2x8192x8x64, .f32⟩
  | 83 => ⟨S_, .f32⟩
  | 84 => ⟨S2x8192x8x64, .f32⟩
  | 85 => ⟨S2x8192x8x64, .f32⟩
  | 86 => ⟨S8192x1x16, .f32⟩
  | 87 => ⟨S8192x1x16, .f32⟩
  | 88 => ⟨S8192x1x16, .f32⟩
  | 89 => ⟨S8192x1x16, .f32⟩
  | 90 => ⟨S2x8192x2x16, .f32⟩
  | 91 => ⟨S2x8192x2x16, .f32⟩
  | 92 => ⟨S2x8192x2x16, .f32⟩
  | 93 => ⟨S2x8192x2x16, .f32⟩
  | 94 => ⟨S1x8192x1x16, .f32⟩
  | 95 => ⟨S2x8192x2x16, .f32⟩
  | 96 => ⟨S2x8192x2x16, .f32⟩
  | 97 => ⟨S1x8192x1x16, .f32⟩
  | 98 => ⟨S2x8192x2x16, .f32⟩
  | 99 => ⟨S2x8192x2x16, .f32⟩
  | 100 => ⟨S2x8192x2x16, .f32⟩
  | 101 => ⟨S1x8192x1x16, .f32⟩
  | 102 => ⟨S2x8192x2x16, .f32⟩
  | 103 => ⟨S2x8192x2x16, .f32⟩
  | 104 => ⟨S1x8192x1x16, .f32⟩
  | 105 => ⟨S2x8192x2x16, .f32⟩
  | 106 => ⟨S2x8192x2x16, .f32⟩
  | 107 => ⟨S2x8192x2x16, .f32⟩
  | 108 => ⟨S1x8192x1x16, .f32⟩
  | 109 => ⟨S2x8192x2x16, .f32⟩
  | 110 => ⟨S2x8192x2x16, .f32⟩
  | 111 => ⟨S1x8192x1x16, .f32⟩
  | 112 => ⟨S2x8192x2x16, .f32⟩
  | 113 => ⟨S2x8192x2x16, .f32⟩
  | 114 => ⟨S2x8192x2x16, .f32⟩
  | 115 => ⟨S1x8192x1x16, .f32⟩
  | 116 => ⟨S2x8192x2x16, .f32⟩
  | 117 => ⟨S2x8192x2x16, .f32⟩
  | 118 => ⟨S1x8192x1x16, .f32⟩
  | 119 => ⟨S2x8192x2x16, .f32⟩
  | 120 => ⟨S2x8192x2x16, .f32⟩
  | 121 => ⟨S2x8192x2x16, .f32⟩
  | 122 => ⟨S2x8192x2x64, .f32⟩
  | 123 => ⟨S2x8x8192x64, .f32⟩
  | 124 => ⟨S2x8x8192x64, .bf16⟩
  | 125 => ⟨S2x2x8192x64, .f32⟩
  | 126 => ⟨S2x2x8192x64, .bf16⟩
  | 127 => ⟨S2x2x8192x64, .f32⟩
  | _ => ⟨S2x8192x2304, .f32⟩

abbrev hbmTy0_1 (i : Nat) : BufTy := match i % 128 with
  | 0 => ⟨S2x2x8192x64, .bf16⟩
  | _ => ⟨S2x8192x2304, .f32⟩

abbrev hbmTy (i : Nat) : BufTy := match i / 128 with
  | 0 => hbmTy0_0 i
  | 1 => hbmTy0_1 i
  | _ => ⟨S2x8192x2304, .f32⟩

abbrev bufTy : (tb : Table) → Fin (tcTables nBuf tb) → BufTy
  | .hbm, ⟨i, _⟩ => hbmTy i
  | _, _ => ⟨S2x8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_cst_1 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩

abbrev nD : Nat := 1
abbrev τ : Topo := Topo.v7x

variable {F : FTy → Type} [FloatOps F]
-- ==== Windowed.lean ====
abbrev S2x8x8192x64 : Shape := ⟨4, ![2, 8, 8192, 64]⟩
abbrev S2x2x8192x64 : Shape := ⟨4, ![2, 2, 8192, 64]⟩
abbrev S2x2x256x64 : Shape := ⟨4, ![2, 2, 256, 64]⟩
abbrev S8 : Shape := ⟨1, ![8]⟩
abbrev S2x8192x512 : Shape := ⟨3, ![2, 8192, 512]⟩
abbrev S1x8x128x64 : Shape := ⟨4, ![1, 8, 128, 64]⟩
abbrev S1x2x128x64 : Shape := ⟨4, ![1, 2, 128, 64]⟩
abbrev S1x2x256x64 : Shape := ⟨4, ![1, 2, 256, 64]⟩
abbrev S1x128x512 : Shape := ⟨3, ![1, 128, 512]⟩
abbrev S1x1x128x64 : Shape := ⟨4, ![1, 1, 128, 64]⟩
abbrev S128x64 : Shape := ⟨2, ![128, 64]⟩
abbrev S1x1x256x64 : Shape := ⟨4, ![1, 1, 256, 64]⟩
abbrev S256x64 : Shape := ⟨2, ![256, 64]⟩
abbrev S640x64 : Shape := ⟨2, ![640, 64]⟩
abbrev S128x640 : Shape := ⟨2, ![128, 640]⟩
abbrev S1 : Shape := ⟨1, ![1]⟩
abbrev S128 : Shape := ⟨1, ![128]⟩
abbrev S128x1 : Shape := ⟨2, ![128, 1]⟩
abbrev S128x512 : Shape := ⟨2, ![128, 512]⟩

abbrev nBuf : Space → Nat
  | .hbm => 7
  | .vmem => 20
  | .smem => 1
  | _ => 0

abbrev bufTy : (tb : Table) → Fin (tcTables nBuf tb) → BufTy
  | .hbm, ⟨0, _⟩ => ⟨S2x8x8192x64, .bf16⟩
  | .hbm, ⟨1, _⟩ => ⟨S2x2x8192x64, .bf16⟩
  | .hbm, ⟨2, _⟩ => ⟨S2x2x8192x64, .bf16⟩
  | .hbm, ⟨3, _⟩ => ⟨S2x2x256x64, .bf16⟩
  | .hbm, ⟨4, _⟩ => ⟨S2x2x256x64, .bf16⟩
  | .hbm, ⟨5, _⟩ => ⟨S8, .f32⟩
  | .hbm, ⟨6, _⟩ => ⟨S2x8192x512, .bf16⟩
  | .local _ .vmem, ⟨0, _⟩ => ⟨S1x8x128x64, .bf16⟩
  | .local _ .vmem, ⟨1, _⟩ => ⟨S1x8x128x64, .bf16⟩
  | .local _ .vmem, ⟨2, _⟩ => ⟨S1x2x128x64, .bf16⟩
  | .local _ .vmem, ⟨3, _⟩ => ⟨S1x2x128x64, .bf16⟩
  | .local _ .vmem, ⟨4, _⟩ => ⟨S1x2x128x64, .bf16⟩
  | .local _ .vmem, ⟨5, _⟩ => ⟨S1x2x128x64, .bf16⟩
  | .local _ .vmem, ⟨6, _⟩ => ⟨S1x2x128x64, .bf16⟩
  | .local _ .vmem, ⟨7, _⟩ => ⟨S1x2x128x64, .bf16⟩
  | .local _ .vmem, ⟨8, _⟩ => ⟨S1x2x128x64, .bf16⟩
  | .local _ .vmem, ⟨9, _⟩ => ⟨S1x2x128x64, .bf16⟩
  | .local _ .vmem, ⟨10, _⟩ => ⟨S1x2x128x64, .bf16⟩
  | .local _ .vmem, ⟨11, _⟩ => ⟨S1x2x128x64, .bf16⟩
  | .local _ .vmem, ⟨12, _⟩ => ⟨S1x2x128x64, .bf16⟩
  | .local _ .vmem, ⟨13, _⟩ => ⟨S1x2x128x64, .bf16⟩
  | .local _ .vmem, ⟨14, _⟩ => ⟨S1x2x256x64, .bf16⟩
  | .local _ .vmem, ⟨15, _⟩ => ⟨S1x2x256x64, .bf16⟩
  | .local _ .vmem, ⟨16, _⟩ => ⟨S1x2x256x64, .bf16⟩
  | .local _ .vmem, ⟨17, _⟩ => ⟨S1x2x256x64, .bf16⟩
  | .local _ .vmem, ⟨18, _⟩ => ⟨S1x128x512, .bf16⟩
  | .local _ .vmem, ⟨19, _⟩ => ⟨S1x128x512, .bf16⟩
  | .local _ .smem, ⟨0, _⟩ => ⟨S8, .f32⟩
  | _, _ => ⟨S2x8x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![arg0.toNat, c0_i32.toNat, v1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![arg0.toNat, c0_i32.toNat, v1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== WindowedRefIdeal.lean ====
abbrev S2x8x8192x64 : Shape := ⟨4, ![2, 8, 8192, 64]⟩
abbrev S2x2x8192x64 : Shape := ⟨4, ![2, 2, 8192, 64]⟩
abbrev S2x2x256x64 : Shape := ⟨4, ![2, 2, 256, 64]⟩
abbrev S8 : Shape := ⟨1, ![8]⟩
abbrev S2x2x4x8192x64 : Shape := ⟨5, ![2, 2, 4, 8192, 64]⟩
abbrev S8192x8192 : Shape := ⟨2, ![8192, 8192]⟩
abbrev S_ : Shape := ⟨0, ![]⟩
abbrev S2x2x4x8192x8192 : Shape := ⟨5, ![2, 2, 4, 8192, 8192]⟩
abbrev S2x2x4x8192x256 : Shape := ⟨5, ![2, 2, 4, 8192, 256]⟩
abbrev S2x4x1x1 : Shape := ⟨4, ![2, 4, 1, 1]⟩
abbrev S2x2x4x8192x1 : Shape := ⟨5, ![2, 2, 4, 8192, 1]⟩
abbrev S2x2x4x8192x8449 : Shape := ⟨5, ![2, 2, 4, 8192, 8449]⟩
abbrev S2x2x4x8192 : Shape := ⟨4, ![2, 2, 4, 8192]⟩
abbrev S2x2x64x4x8192 : Shape := ⟨5, ![2, 2, 64, 4, 8192]⟩
abbrev S2x8192x2x4x64 : Shape := ⟨5, ![2, 8192, 2, 4, 64]⟩
abbrev S2x8192x512 : Shape := ⟨3, ![2, 8192, 512]⟩

abbrev nBuf : Space → Nat
  | .hbm => 52
  | .vmem => 0
  | .smem => 0
  | _ => 0

abbrev bufTy : (tb : Table) → Fin (tcTables nBuf tb) → BufTy
  | .hbm, ⟨0, _⟩ => ⟨S2x8x8192x64, .bf16⟩
  | .hbm, ⟨1, _⟩ => ⟨S2x2x8192x64, .bf16⟩
  | .hbm, ⟨2, _⟩ => ⟨S2x2x8192x64, .bf16⟩
  | .hbm, ⟨3, _⟩ => ⟨S2x2x256x64, .bf16⟩
  | .hbm, ⟨4, _⟩ => ⟨S2x2x256x64, .bf16⟩
  | .hbm, ⟨5, _⟩ => ⟨S8, .f32⟩
  | .hbm, ⟨6, _⟩ => ⟨S2x8x8192x64, .f32⟩
  | .hbm, ⟨7, _⟩ => ⟨S2x2x8192x64, .f32⟩
  | .hbm, ⟨8, _⟩ => ⟨S2x2x8192x64, .f32⟩
  | .hbm, ⟨9, _⟩ => ⟨S2x2x256x64, .f32⟩
  | .hbm, ⟨10, _⟩ => ⟨S2x2x256x64, .f32⟩
  | .hbm, ⟨11, _⟩ => ⟨S2x2x4x8192x64, .f32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i1⟩
  | .hbm, ⟨19, _⟩ => ⟨S2x2x4x8192x8192, .f32⟩
  | .hbm, ⟨20, _⟩ => ⟨S_, .f32⟩
  | .hbm, ⟨21, _⟩ => ⟨S_, .f32⟩
  | .hbm, ⟨22, _⟩ => ⟨S2x2x4x8192x8192, .i1⟩
  | .hbm, ⟨23, _⟩ => ⟨S2x2x4x8192x8192, .f32⟩
  | .hbm, ⟨24, _⟩ => ⟨S2x2x4x8192x8192, .f32⟩
  | .hbm, ⟨25, _⟩ => ⟨S2x2x4x8192x256, .f32⟩
  | .hbm, ⟨26, _⟩ => ⟨S2x4x1x1, .f32⟩
  | .hbm, ⟨27, _⟩ => ⟨S2x2x4x8192x1, .f32⟩
  | .hbm, ⟨28, _⟩ => ⟨S2x2x4x8192x8449, .f32⟩
  | .hbm, ⟨29, _⟩ => ⟨S_, .f32⟩
  | .hbm, ⟨30, _⟩ => ⟨S2x2x4x8192, .f32⟩
  | .hbm, ⟨31, _⟩ => ⟨S_, .f32⟩
  | .hbm, ⟨32, _⟩ => ⟨S2x2x4x8192, .f32⟩
  | .hbm, ⟨33, _⟩ => ⟨S2x2x4x8192, .f32⟩
  | .hbm, ⟨34, _⟩ => ⟨S2x2x4x8192x1, .f32⟩
  | .hbm, ⟨35, _⟩ => ⟨S2x2x4x8192x8449, .f32⟩
  | .hbm, ⟨36, _⟩ => ⟨S2x2x4x8192x8449, .f32⟩
  | .hbm, ⟨37, _⟩ => ⟨S2x2x4x8192x8449, .f32⟩
  | .hbm, ⟨38, _⟩ => ⟨S_, .f32⟩
  | .hbm, ⟨39, _⟩ => ⟨S2x2x4x8192, .f32⟩
  | .hbm, ⟨40, _⟩ => ⟨S2x2x4x8192x1, .f32⟩
  | .hbm, ⟨41, _⟩ => ⟨S2x2x4x8192x8449, .f32⟩
  | .hbm, ⟨42, _⟩ => ⟨S2x2x4x8192x8449, .f32⟩
  | .hbm, ⟨43, _⟩ => ⟨S2x2x4x8192x8192, .f32⟩
  | .hbm, ⟨44, _⟩ => ⟨S2x2x64x4x8192, .f32⟩
  | .hbm, ⟨45, _⟩ => ⟨S2x8192x2x4x64, .f32⟩
  | .hbm, ⟨46, _⟩ => ⟨S2x2x4x8192x256, .f32⟩
  | .hbm, ⟨47, _⟩ => ⟨S2x2x64x4x8192, .f32⟩
  | .hbm, ⟨48, _⟩ => ⟨S2x8192x2x4x64, .f32⟩
  | .hbm, ⟨49, _⟩ => ⟨S2x8192x2x4x64, .f32⟩
  | .hbm, ⟨50, _⟩ => ⟨S2x8192x512, .f32⟩
  | .hbm, ⟨51, _⟩ => ⟨S2x8192x512, .bf16⟩
  | _, _ => ⟨S2x8x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Proof.Softmax.lean ====
/- The running softmax over the keys, on the extended reals: the state after some blocks of keys is kept relative to
   SOME real shift `M` (the running maximum, though nothing here needs it to be one); a step that raises the shift
   rescales what it keeps; and the quotient at the end does not depend on the shift. -/
module

public import Idealize.ShloMosaic.Lib.Pointwise

@[expose] public section

set_option maxRecDepth 16384

noncomputable section

namespace Cert.Flash

open Idealize.ShloMosaic Finset

/-- The exponential of a difference of reals, as a real. -/
theorem exp_sub_coe (x y : ℝ) : Ideal.exp ((x : EReal) - (y : EReal)) = ((Real.exp (x - y) : ℝ) : EReal) := by
  rw [← EReal.coe_sub]; rfl

/-- A finite sum of reals, taken among the extended reals. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [sum_insert ha, sum_insert ha, ih, EReal.coe_add]

/-- A nonnegative real distributes over a finite sum of extended reals. -/
theorem coe_mul_sum {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [sum_insert ha, sum_insert ha, ← ih,
      EReal.left_distrib_of_nonneg_of_ne_top (by exact_mod_cast hc) (EReal.coe_ne_top c)]

/-- The maximum of finitely many reals, at least one, is a real. -/
theorem fold_max_real {ι : Type} [Fintype ι] [Nonempty ι] (g : ι → EReal) (h : ∀ i, ∃ x : ℝ, g i = x) :
    ∃ R : ℝ, (univ : Finset ι).fold max ⊥ g = R := by
  obtain ⟨i, -, hi⟩ := Finset.exists_mem_eq_sup (univ : Finset ι) univ_nonempty g
  obtain ⟨x, hx⟩ := h i
  exact ⟨x, hi.trans hx⟩

/-- What a row's running maximum `m`, lane sums `l` and accumulator `a` hold after `n` blocks of 2816 keys with scores
    `s` and values `v`: the sums of `exp (s k - M)` and of `exp (s k - M) * v k`, for one real `M`, kept in every lane. -/
def Inv (s : ℕ → ℝ) (v : ℕ → Fin 64 → EReal) (n : ℕ) (m l : Fin 128 → EReal) (a : Fin 64 → EReal) : Prop :=
  ∃ M : ℝ, (∀ i, m i = M) ∧ (∀ i : Fin 128, l i = ∑ c ∈ range (22 * n), ((Real.exp (s (128 * c + i) - M) : ℝ) : EReal))
    ∧ ∀ d, a d = ∑ k ∈ range (2816 * n), ((Real.exp (s k - M) : ℝ) : EReal) * v k d

/-- A lane sum after a step: the old one `z` rescaled from the maximum `x` to `y`, and the lane's 22 new weights. -/
def stepL (f : ℕ → ℝ) (i : Fin 128) (x y z : EReal) : EReal :=
  Ideal.exp (x - y) * z + ∑ c ∈ range 22, Ideal.exp (((f (128 * c + i) : ℝ) : EReal) - y)

/-- An accumulator entry after a step: the old one `z` rescaled from the maximum `x`, and the weighted new values; each key is
    weighted with the maximum of its lane. -/
def stepA (f : ℕ → ℝ) (v : ℕ → EReal) (d : Fin 64) (x : EReal) (y : Fin 128 → EReal) (z : EReal) : EReal :=
  Ideal.exp (x - y ⟨d, by omega⟩) * z
    + ∑ k : Fin 2816, Ideal.exp (((f k : ℝ) : EReal) - y ⟨k % 128, by omega⟩) * v k

/-- The sums over the new block, once the new maximum is known to be the real `M`. -/
theorem block_sums (s : ℕ → ℝ) (v : ℕ → Fin 64 → EReal) (n : ℕ) (M : ℝ) (m' : Fin 128 → EReal) (hm : ∀ i, m' i = M) :
    (∀ i : Fin 128, ∑ c ∈ range 22, Ideal.exp (((s (2816 * n + (128 * c + i)) : ℝ) : EReal) - m' i)
        = ∑ c ∈ range 22, ((Real.exp (s (128 * (22 * n + c) + i) - M) : ℝ) : EReal))
    ∧ ∀ d, ∑ k : Fin 2816, Ideal.exp (((s (2816 * n + k) : ℝ) : EReal) - m' ⟨k % 128, by omega⟩) * v (2816 * n + k) d
        = ∑ k ∈ range 2816, ((Real.exp (s (2816 * n + k) - M) : ℝ) : EReal) * v (2816 * n + k) d := by
  constructor
  · intro i
    refine sum_congr rfl fun c _ => ?_
    rw [hm, exp_sub_coe, show 2816 * n + (128 * c + (i : ℕ)) = 128 * (22 * n + c) + i by ring]
  · intro d
    rw [sum_range]
    exact sum_congr rfl fun k _ => by rw [hm, exp_sub_coe]

/-- The first block: the kept values are `⊥`, `0`, `0`. -/
theorem Inv.first (s : ℕ → ℝ) (v : ℕ → Fin 64 → EReal) (m l m' l' : Fin 128 → EReal) (a a' : Fin 64 → EReal) (R : ℝ)
    (hm0 : ∀ i, m i = ⊥) (hl0 : ∀ i, l i = 0) (ha0 : ∀ d, a d = 0) (hm : ∀ i, m' i = max (m i) R)
    (hl : ∀ i : Fin 128, l' i = stepL (fun k => s (2816 * 0 + k)) i (m i) (m' i) (l i))
    (ha : ∀ d : Fin 64, a' d = stepA (fun k => s (2816 * 0 + k)) (fun k => v (2816 * 0 + k) d) d (m ⟨d, by omega⟩) m' (a d)) :
    Inv s v 1 m' l' a' := by
  have hM : ∀ i, m' i = R := fun i => by rw [hm, hm0]; exact max_eq_right bot_le
  simp only [stepL, stepA] at hl ha
  obtain ⟨e1, e2⟩ := block_sums s v 0 R m' hM
  refine ⟨R, hM, fun i => ?_, fun d => ?_⟩
  · rw [hl, hl0, e1, mul_zero, zero_add]
    simp only [mul_zero, zero_add, mul_one]
  · rw [ha, ha0, e2, mul_zero, zero_add]
    simp only [mul_zero, zero_add, mul_one]

/-- A further block. -/
theorem Inv.step {s : ℕ → ℝ} {v : ℕ → Fin 64 → EReal} {n : ℕ} {m l m' l' : Fin 128 → EReal} {a a' : Fin 64 → EReal}
    (h : Inv s v n m l a) (R : ℝ) (hm : ∀ i, m' i = max (m i) R)
    (hl : ∀ i : Fin 128, l' i = stepL (fun k => s (2816 * n + k)) i (m i) (m' i) (l i))
    (ha : ∀ d : Fin 64, a' d = stepA (fun k => s (2816 * n + k)) (fun k => v (2816 * n + k) d) d (m ⟨d, by omega⟩) m' (a d)) :
    Inv s v (n + 1) m' l' a' := by
  obtain ⟨M, h1, h2, h3⟩ := h
  have hM : ∀ i, m' i = ((max M R : ℝ) : EReal) := fun i => by rw [hm, h1]; exact (EReal.coe_strictMono.monotone.map_max (a := M) (b := R)).symm
  simp only [stepL, stepA] at hl ha
  obtain ⟨e1, e2⟩ := block_sums s v n (max M R) m' hM
  have shift : ∀ x : ℝ, Real.exp (M - max M R) * Real.exp (x - M) = Real.exp (x - max M R) := fun x => by
    rw [← Real.exp_add]; congr 1; ring
  refine ⟨max M R, hM, fun i => ?_, fun d => ?_⟩
  · rw [hl, e1, h1, hM, exp_sub_coe, h2, mul_add, sum_range_add, coe_mul_sum _ _ (Real.exp_nonneg _)]
    refine congrArg₂ (· + ·) (sum_congr rfl fun c _ => ?_) rfl
    rw [← EReal.coe_mul, shift]
  · rw [ha, e2, h1, hM, exp_sub_coe, h3, mul_add, sum_range_add, coe_mul_sum _ _ (Real.exp_nonneg _)]
    refine congrArg₂ (· + ·) (sum_congr rfl fun k _ => ?_) rfl
    rw [← mul_assoc, ← EReal.coe_mul, shift]

/-- A quotient of weighted sums does not depend on the shift, nor on whether the division is by value or by weight. -/
theorem quot_shift {ι : Type} [Fintype ι] [Nonempty ι] (s : ι → ℝ) (v : ι → EReal) (M M' : ℝ) :
    Ideal.div (∑ k, ((Real.exp (s k - M) : ℝ) : EReal) * v k) ((∑ k, Real.exp (s k - M) : ℝ) : EReal)
      = ∑ k, v k * Ideal.div (Ideal.exp (((s k : ℝ) : EReal) - M')) (∑ j, Ideal.exp (((s j : ℝ) : EReal) - M')) := by
  have hl : ∑ j, Ideal.exp (((s j : ℝ) : EReal) - M') = ((∑ k, Real.exp (s k - M') : ℝ) : EReal) := by
    rw [← coe_sum]; exact sum_congr rfl fun j _ => exp_sub_coe _ _
  have hpos : ∀ x : ℝ, 0 < ∑ k, Real.exp (s k - x) := fun x => sum_pos (fun k _ => Real.exp_pos _) univ_nonempty
  have hsh : ∀ x : ℝ, Real.exp (x - M) = Real.exp (M' - M) * Real.exp (x - M') := fun x => by
    rw [← Real.exp_add]; congr 1; ring
  rw [hl, Ideal.div_coe (hpos M).ne', mul_comm, coe_mul_sum _ _ (one_div_nonneg.mpr (hpos M).le)]
  refine sum_congr rfl fun k _ => ?_
  rw [exp_sub_coe, Ideal.div_coe (hpos M').ne', ← mul_assoc, ← EReal.coe_mul, ← EReal.coe_mul, mul_comm]
  congr 2
  have e : ∑ k, Real.exp (s k - M) = Real.exp (M' - M) * ∑ k, Real.exp (s k - M') := by
    rw [mul_sum]; exact sum_congr rfl fun j _ => hsh _
  have hL := (hpos M').ne'
  have hc := (Real.exp_pos (M' - M)).ne'
  rw [e, hsh (s k)]
  generalize Real.exp (M' - M) = c at hc
  generalize ∑ k, Real.exp (s k - M') = L at hL
  generalize Real.exp (s k - M') = y
  field_simp

/-- The kernel's quotient after three blocks is the softmax average of the values over the 8448 keys, the weights taken
    with any real shift `M'`. -/
theorem Inv.quot {s : ℕ → ℝ} {v : ℕ → Fin 64 → EReal} {m l : Fin 128 → EReal} {a : Fin 64 → EReal} (h : Inv s v 3 m l a)
    (M' : ℝ) (d : Fin 64) :
    Ideal.div (a d) (∑ i, l i) = ∑ k : Fin 8448, v k d * Ideal.div (Ideal.exp (((s k : ℝ) : EReal) - M'))
      (∑ j : Fin 8448, Ideal.exp (((s j : ℝ) : EReal) - M')) := by
  obtain ⟨M, -, h2, h3⟩ := h
  have hl : ∑ i, l i = ((∑ k : Fin 8448, Real.exp (s k - M) : ℝ) : EReal) := by
    rw [← coe_sum, Fin.sum_univ_tiles 66 128 rfl, sum_comm]
    refine sum_congr rfl fun i _ => ?_
    rw [h2, sum_range]
    exact sum_congr rfl fun c _ => by rw [mul_comm (128 : ℕ) (c : ℕ)]
  have ha : a d = ∑ k : Fin 8448, ((Real.exp (s k - M) : ℝ) : EReal) * v k d :=
    (h3 d).trans (sum_range (n := 8448) fun k => ((Real.exp (s k - M) : ℝ) : EReal) * v k d)
  haveI : Nonempty (Fin 8448) := ⟨⟨0, by norm_num⟩⟩
  rw [hl, ha]
  exact quot_shift (fun k : Fin 8448 => s k) (fun k => v k d) M M'

end Cert.Flash

end
-- ==== Proof.Head.lean ====
/- One step of the attention on one head's 256 rows, read at an entry: the row maximum, the lane sums and the
   accumulator that the step leaves, from the scores, the values and what the step before left. -/
module

public import proofs.«01_k».proof.Proof.Gen.KernelIdeal.Skeleton
public import Idealize.ShloMosaic.Lib.Pointwise
public import Idealize.ShloMosaic.Lib.Pipeline.Value
public import proofs.«01_k».proof.Proof.Softmax

@[expose] public section

set_option maxRecDepth 16384

noncomputable section

namespace Cert.Flash

open Idealize.ShloMosaic Idealize.ShloMosaic.TcCoe Cert.KernelIdeal Cert.KernelIdeal.Gen

/-- The scores of one head's 256 query rows against the 2816 keys of the block. -/
def sN (k : Vec Ideal S1x1x2816x64 .bf16) (q : Vec Ideal S1x1x256x64 .bf16) : FVec Ideal S256x2816 .f32 :=
  k0_pay10 k q

/-- `exp (t - u)` on a tile of 256 by 128. -/
def expT (t u : FVec Ideal S256x128 .f32) : FVec Ideal S256x128 .f32 := exp (subf t u)

/-- The running row maximum after the step, in every lane. -/
def mN (s : FVec Ideal S256x2816 .f32) (mo : FVec Ideal S256x128 .f32) : FVec Ideal S256x128 .f32 :=
  k0_pay86 (F := Ideal) s
    (k0_pay64 s) (k0_pay65 s) (k0_pay66 s) (k0_pay67 s) (k0_pay68 s) (k0_pay69 s) (k0_pay70 s)
    (k0_pay71 s) (k0_pay72 s) (k0_pay73 s) (k0_pay74 s) (k0_pay75 s) (k0_pay76 s) mo

/-- The lane sums after the step. -/
def lN (s : FVec Ideal S256x2816 .f32) (mo lo : FVec Ideal S256x128 .f32) : FVec Ideal S256x128 .f32 :=
  k0_pay111 (F := Ideal)
    (k0_pay74 s) (k0_pay75 s) (k0_pay76 s) (k0_pay77 s) (k0_pay78 s) (k0_pay79 s) (k0_pay80 s)
    (k0_pay81 s) (k0_pay82 s) (k0_pay83 s) (k0_pay84 s) (k0_pay85 s) (mN s mo)
    (expT mo (mN s mo)) (expT (k0_pay64 s) (mN s mo)) (expT (k0_pay65 s) (mN s mo))
    (expT (k0_pay66 s) (mN s mo)) (expT (k0_pay67 s) (mN s mo)) (expT (k0_pay68 s) (mN s mo))
    (expT (k0_pay69 s) (mN s mo)) (expT (k0_pay70 s) (mN s mo)) (expT (k0_pay71 s) (mN s mo))
    (expT (k0_pay72 s) (mN s mo)) (subf (k0_pay73 s) (mN s mo)) lo

/-- The weights of the block's keys, tile by tile. -/
def pN (s : FVec Ideal S256x2816 .f32) (mo : FVec Ideal S256x128 .f32) : FVec Ideal S256x2816 .bf16 :=
  k0_pay1 (F := Ideal)
    (expT (k0_pay81 s) (mN s mo)) (expT (k0_pay82 s) (mN s mo)) (expT (k0_pay83 s) (mN s mo))
    (expT (k0_pay84 s) (mN s mo)) (expT (k0_pay85 s) (mN s mo))
    (truncf .bf16 (expT (k0_pay64 s) (mN s mo)) bitsLt_bf16_f32)
    (truncf .bf16 (expT (k0_pay65 s) (mN s mo)) bitsLt_bf16_f32)
    (truncf .bf16 (expT (k0_pay66 s) (mN s mo)) bitsLt_bf16_f32)
    (truncf .bf16 (expT (k0_pay67 s) (mN s mo)) bitsLt_bf16_f32)
    (truncf .bf16 (expT (k0_pay68 s) (mN s mo)) bitsLt_bf16_f32)
    (truncf .bf16 (expT (k0_pay69 s) (mN s mo)) bitsLt_bf16_f32)
    (truncf .bf16 (expT (k0_pay70 s) (mN s mo)) bitsLt_bf16_f32)
    (truncf .bf16 (expT (k0_pay71 s) (mN s mo)) bitsLt_bf16_f32)
    (truncf .bf16 (expT (k0_pay72 s) (mN s mo)) bitsLt_bf16_f32)
    (truncf .bf16 (expT (k0_pay73 s) (mN s mo)) bitsLt_bf16_f32)
    (truncf .bf16 (expT (k0_pay74 s) (mN s mo)) bitsLt_bf16_f32)
    (truncf .bf16 (expT (k0_pay75 s) (mN s mo)) bitsLt_bf16_f32)
    (truncf .bf16 (expT (k0_pay76 s) (mN s mo)) bitsLt_bf16_f32)
    (truncf .bf16 (expT (k0_pay77 s) (mN s mo)) bitsLt_bf16_f32)
    (truncf .bf16 (expT (k0_pay78 s) (mN s mo)) bitsLt_bf16_f32)
    (truncf .bf16 (expT (k0_pay79 s) (mN s mo)) bitsLt_bf16_f32)
    (truncf .bf16 (expT (k0_pay80 s) (mN s mo)) bitsLt_bf16_f32)

/-- The accumulator after the step. -/
def aN (v : Vec Ideal S1x1x2816x64 .bf16) (s : FVec Ideal S256x2816 .f32) (mo : FVec Ideal S256x128 .f32)
    (ao : FVec Ideal S256x64 .f32) : FVec Ideal S256x64 .f32 :=
  k0_pay2 (F := Ideal) (k0_pay9 v) (expT mo (mN s mo)) (pN s mo) ao

/-- A score is the inner product of its query row and its key row. -/
theorem sN_at (k : Vec Ideal S1x1x2816x64 .bf16) (q : Vec Ideal S1x1x256x64 .bf16) (r : Fin 256) (j : Fin 2816) :
    sN k q (ix2 r j) = ∑ d : Fin 64, (q (ix4 0 0 r d) : EReal) * k (ix4 0 0 j d) := by
  pointwise [sN, k0_pay10, k0_pay8]

/-- A weight is the exponential of the difference of the two tiles, entry by entry. -/
theorem expT_at (t u : FVec Ideal S256x128 .f32) (r : Fin 256) (l : Fin 128) :
    expT t u (ix2 r l) = Ideal.exp ((t (ix2 r l) : EReal) - u (ix2 r l)) := by
  pointwise [expT]

/-- The 22 tiles of weights side by side, read at a key: tile `k / 128`, lane `k % 128`. -/
theorem cat_at (e : Fin 22 → FVec Ideal S256x128 .f32) (r : Fin 256) (k : Fin 2816) :
    k0_pay1 (F := Ideal) (e 17) (e 18) (e 19) (e 20) (e 21) (truncf .bf16 (e 0) bitsLt_bf16_f32) (truncf .bf16 (e 1) bitsLt_bf16_f32) (truncf .bf16 (e 2) bitsLt_bf16_f32) (truncf .bf16 (e 3) bitsLt_bf16_f32) (truncf .bf16 (e 4) bitsLt_bf16_f32) (truncf .bf16 (e 5) bitsLt_bf16_f32) (truncf .bf16 (e 6) bitsLt_bf16_f32) (truncf .bf16 (e 7) bitsLt_bf16_f32) (truncf .bf16 (e 8) bitsLt_bf16_f32) (truncf .bf16 (e 9) bitsLt_bf16_f32) (truncf .bf16 (e 10) bitsLt_bf16_f32) (truncf .bf16 (e 11) bitsLt_bf16_f32) (truncf .bf16 (e 12) bitsLt_bf16_f32) (truncf .bf16 (e 13) bitsLt_bf16_f32) (truncf .bf16 (e 14) bitsLt_bf16_f32) (truncf .bf16 (e 15) bitsLt_bf16_f32) (truncf .bf16 (e 16) bitsLt_bf16_f32) (ix2 r k)
      = e ⟨k / 128, by omega⟩ (ix2 r ⟨k % 128, by omega⟩) := by
  refine concatenate_ofFn_apply (t := S256x2816) (s₁ := S256x128) (1 : Fin 2) (N := 22)
    (fun n => truncf (F := Ideal) .bf16 (e n) bitsLt_bf16_f32) concatenates_S256x128_S256x128_S256x128_S256x128_S256x128_S256x128_S256x128_S256x128_S256x128_S256x128_S256x128_S256x128_S256x128_S256x128_S256x128_S256x128_S256x128_S256x128_S256x128_S256x128_S256x128_S256x128_S256x2816_d1 rfl 128 rfl (ix2 r k) ⟨k / 128, by omega⟩ rfl (ix2 r ⟨k % 128, by omega⟩) rfl ?_
  intro b hb
  fin_cases b
  · rfl
  · exact absurd rfl hb

/-- The new row maximum is the larger of the old one and of one real, the same in every lane, when the scores are real. -/
theorem mN_at (s : FVec Ideal S256x2816 .f32) (r : Fin 256) (f : ℕ → ℝ)
    (hs : ∀ j : Fin 2816, s (ix2 r j) = ((f j : ℝ) : EReal)) :
    ∃ R : ℝ, ∀ (mo : FVec Ideal S256x128 .f32) (l : Fin 128), mN s mo (ix2 r l) = max (mo (ix2 r l) : EReal) R := by
  have hmax : ∀ x y : EReal, (∃ a : ℝ, x = a) → (∃ b : ℝ, y = b) → ∃ c : ℝ, max x y = c := by
    rintro _ _ ⟨a, rfl⟩ ⟨b, rfl⟩
    exact ⟨max a b, (EReal.coe_strictMono.monotone.map_max (a := a) (b := b)).symm⟩
  have hbot : Ideal.ofBits .f32 0xFF800000#32 = (⊥ : EReal) := by simp [Ideal.ofBits, Ideal.ieee]
  let F : ℕ → Fin 128 → EReal := fun c x => ((f (c + x) : ℝ) : EReal)
  let F' : Fin 128 → EReal := fun x => ((f x : ℝ) : EReal)
  obtain ⟨R, hR⟩ := fold_max_real (ι := Fin 128) (fun x =>
    max (max (max (max (max (max (max (max (max (max (max (max (max (max (max (max (max (max (max (max (max (F' x) (F 128 x)) (F 256 x)) (F 384 x)) (F 512 x)) (F 640 x)) (F 768 x)) (F 896 x)) (F 1024 x)) (F 1152 x)) (F 1280 x)) (F 1408 x)) (F 1536 x)) (F 1664 x)) (F 1792 x)) (F 1920 x)) (F 2048 x)) (F 2176 x)) (F 2304 x)) (F 2432 x)) (F 2560 x)) (F 2688 x)) fun x => by
      repeat' apply hmax
      all_goals exact ⟨_, rfl⟩
  refine ⟨R, fun mo l => ?_⟩
  pointwise [mN, k0_pay86, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, hs]
  rw [hbot, ← hR]

/-- The lane sums after a step. -/
theorem lN_at (s : FVec Ideal S256x2816 .f32) (mo lo : FVec Ideal S256x128 .f32) (r : Fin 256) (f : ℕ → ℝ)
    (hs : ∀ j : Fin 2816, s (ix2 r j) = ((f j : ℝ) : EReal)) (l : Fin 128) :
    lN s mo lo (ix2 r l) = stepL f l (mo (ix2 r l)) (mN s mo (ix2 r l)) (lo (ix2 r l)) := by
  rw [stepL]
  pointwise [lN, k0_pay111, expT, k0_pay98, k0_pay99, k0_pay100, k0_pay101, k0_pay102, k0_pay103, k0_pay104, k0_pay105, k0_pay106, k0_pay107, k0_pay108, k0_pay109, k0_pay110, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, hs]
  simp only [Finset.sum_range_succ, Finset.sum_range_zero, zero_add, Nat.reduceMul, mul_zero]

/-- The weight of a key. -/
theorem pN_at (s : FVec Ideal S256x2816 .f32) (mo : FVec Ideal S256x128 .f32) (r : Fin 256) (k : Fin 2816) :
    pN s mo (ix2 r k) = Ideal.exp ((s (ix2 r k) : EReal) - mN s mo (ix2 r ⟨k % 128, by omega⟩)) := by
  refine (cat_at ![expT (k0_pay64 s) (mN s mo), expT (k0_pay65 s) (mN s mo), expT (k0_pay66 s) (mN s mo), expT (k0_pay67 s) (mN s mo), expT (k0_pay68 s) (mN s mo), expT (k0_pay69 s) (mN s mo), expT (k0_pay70 s) (mN s mo), expT (k0_pay71 s) (mN s mo), expT (k0_pay72 s) (mN s mo), expT (k0_pay73 s) (mN s mo), expT (k0_pay74 s) (mN s mo), expT (k0_pay75 s) (mN s mo), expT (k0_pay76 s) (mN s mo), expT (k0_pay77 s) (mN s mo), expT (k0_pay78 s) (mN s mo), expT (k0_pay79 s) (mN s mo), expT (k0_pay80 s) (mN s mo), expT (k0_pay81 s) (mN s mo), expT (k0_pay82 s) (mN s mo), expT (k0_pay83 s) (mN s mo), expT (k0_pay84 s) (mN s mo), expT (k0_pay85 s) (mN s mo)] r k).trans ?_
  obtain ⟨k, hk⟩ := k
  obtain ⟨c, l, hl, rfl⟩ : ∃ c l, l < 128 ∧ k = 128 * c + l := ⟨k / 128, k % 128, by omega, by omega⟩
  have hc : c < 22 := by omega
  have e1 : (⟨(128 * c + l) / 128, by omega⟩ : Fin 22) = ⟨c, hc⟩ := Fin.ext (by simp; omega)
  have e2 : (⟨(128 * c + l) % 128, by omega⟩ : Fin 128) = ⟨l, hl⟩ := Fin.ext (by simp; omega)
  simp only [e1, e2]
  interval_cases c
  all_goals
    refine (expT_at _ _ r ⟨l, hl⟩).trans ?_
    refine congrArg (fun x : EReal => Ideal.exp (x - _)) ?_
    first | (pointwise [k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]; done) | (pointwise [k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]; simp only [Nat.mul_zero, Nat.zero_add])

/-- The accumulator after a step. -/
theorem aN_at (v : Vec Ideal S1x1x2816x64 .bf16) (s : FVec Ideal S256x2816 .f32) (mo : FVec Ideal S256x128 .f32)
    (ao : FVec Ideal S256x64 .f32) (r : Fin 256) (f : ℕ → ℝ)
    (hs : ∀ j : Fin 2816, s (ix2 r j) = ((f j : ℝ) : EReal)) (d : Fin 64)
    (w : ℕ → EReal) (hv : ∀ k : Fin 2816, v (ix4 0 0 k d) = w k) :
    aN v s mo ao (ix2 r d)
      = stepA f w d (mo (ix2 r ⟨d, by omega⟩)) (fun l => mN s mo (ix2 r l)) (ao (ix2 r d)) := by
  rw [stepA]
  simp only [← hv]
  pointwise [aN, k0_pay2, k0_pay9, expT, pN_at, hs]

end Cert.Flash

end
-- ==== Proof.Rows.lean ====
/- What a grid point leaves in the three scratch buffers, head by head: the step of `Head.lean` on what the point before
   left, and at the first block of keys on the initial fill. -/
module
public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Head
@[expose] public section
set_option maxRecDepth 16384
noncomputable section
namespace Cert.Flash
open Idealize.ShloMosaic Idealize.ShloMosaic.TcCoe Idealize.ShloMosaic.Tactic Cert.KernelIdeal Cert.KernelIdeal.Gen
open Idealize.SL.Sem
variable (m : (ℓ : Loc nD τ sig) → Buf (Elt Ideal) ℓ)

/-- A store below others that already cover an index does not show at that index. -/
theorem canon_drop {S : Shape} {e : EltTy} (q : View.Piece (Elt Ideal) S e) (y : S.Idx) :
    ∀ (L : List (View.Piece (Elt Ideal) S e)), (∃ p ∈ L, y ∈ p.1.set) → View.canon (L ++ [q]) y = View.canon L y
  | [], h => by obtain ⟨p, hp, _⟩ := h; exact absurd hp List.not_mem_nil
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop q y L ?_
      obtain ⟨r, hr, hyr⟩ := h
      rcases List.mem_cons.mp hr with rfl | hr'
      · exact absurd hyr hm
      · exact ⟨r, hr', hyr⟩

/-- The 256 query rows of one of the four heads of a block. -/
def qN (g : Fin 4) (Q : Vec Ideal S1x4x256x64 .bf16) : Vec Ideal S1x1x256x64 .bf16 := fun i => Q (ix4 0 g (i 2) (i 3))

/-- One head's 256 rows of a buffer of 1024 rows of 128 lanes. -/
def rowsL (g : Fin 4) (M : Vec Ideal S1024x128 .f32) : FVec Ideal S256x128 .f32 :=
  fun i => M (ix2 ⟨256 * g + i 0, by have := (i 0).isLt; simp at this; omega⟩ (i 1))

/-- One head's 256 rows of the buffer of 1024 rows of 64 columns. -/
def rowsA (g : Fin 4) (M : Vec Ideal S1024x64 .f32) : FVec Ideal S256x64 .f32 :=
  fun i => M (ix2 ⟨256 * g + i 0, by have := (i 0).isLt; simp at this; omega⟩ (i 1))

/-- The row maxima that the first block of keys leaves, head by head. -/
theorem row_maxima_first (c : Dev nD) (t : Fin cfg0.N) (h0 : t.val % 3 = 0) (h1 : ¬t.val % 3 = 2) (g : Fin 4) :
    rowsL g (outsAt0 m c t.val t.isLt).2.1 = mN (sN (iblk m c 2 t) (qN g (iblk m c 1 t))) (rowsL g (k0_pay5 (F := Ideal))) := by
  funext i
  have hi0 : (i 0).val < 256 := (i 0).isLt
  have hg : g.val < 4 := g.isLt
  suffices H : ∀ y : S1024x128.Idx, (y 0).val = 256 * g + (i 0).val → (y 1).val = (i 1).val →
      (outsAt0 m c t.val t.isLt).2.1 y = mN (sN (iblk m c 2 t) (qN g (iblk m c 1 t))) (rowsL g (k0_pay5 (F := Ideal))) i from H _ rfl rfl
  intro y hy0 hy1
  rw [outsAt0_A m c t h0 h1]
  frame_open
  simp (disch := decide) only [↓ View.readCov_skip, ↓ View.readCov_cons_toLoadRect, ↓ View.readCov_fill]
  frame_out
  obtain ⟨zm, hzm⟩ : ∃ z : Vec Ideal S1024x128 .f32, z = k0_pay5 (F := Ideal) := ⟨_, rfl⟩
  rw [← hzm]
  refine (canon_drop _ y [_, _, _, _] (View.cover_of_tiled_head _ _ _ (by rfl) _)).trans ?_
  canon_tiles x h
  all_goals try simp only [k0_pay3, k0_pay63, k0_pay116, k0_pay175, shapeCast_id]
  case piece3 =>
    obtain rfl : g = 0 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 0, 0, 0] ![1, 1, 256, 64] inb_S1x4x256x64_S1x1x256x64_0_0_0_0))) (View.ld zm (Rect.unit ![0, 0] ![256, 128] inb_S1024x128_S256x128_0_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]
  case piece2 =>
    obtain rfl : g = 1 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 1, 0, 0] ![1, 1, 256, 64] inb_S1x4x256x64_S1x1x256x64_0_1_0_0))) (View.ld zm (Rect.unit ![256, 0] ![256, 128] inb_S1024x128_S256x128_256_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]
  case piece1 =>
    obtain rfl : g = 2 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 2, 0, 0] ![1, 1, 256, 64] inb_S1x4x256x64_S1x1x256x64_0_2_0_0))) (View.ld zm (Rect.unit ![512, 0] ![256, 128] inb_S1024x128_S256x128_512_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]
  case piece0 =>
    obtain rfl : g = 3 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 3, 0, 0] ![1, 1, 256, 64] inb_S1x4x256x64_S1x1x256x64_0_3_0_0))) (View.ld zm (Rect.unit ![768, 0] ![256, 128] inb_S1024x128_S256x128_768_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]

/-- The lane sums that the first block of keys leaves, head by head. -/
theorem lane_sums_first (c : Dev nD) (t : Fin cfg0.N) (h0 : t.val % 3 = 0) (h1 : ¬t.val % 3 = 2) (g : Fin 4) :
    rowsL g (outsAt0 m c t.val t.isLt).2.2.1 = lN (sN (iblk m c 2 t) (qN g (iblk m c 1 t))) (rowsL g (k0_pay5 (F := Ideal))) (rowsL g (k0_pay6 (F := Ideal))) := by
  funext i
  have hi0 : (i 0).val < 256 := (i 0).isLt
  have hg : g.val < 4 := g.isLt
  suffices H : ∀ y : S1024x128.Idx, (y 0).val = 256 * g + (i 0).val → (y 1).val = (i 1).val →
      (outsAt0 m c t.val t.isLt).2.2.1 y = lN (sN (iblk m c 2 t) (qN g (iblk m c 1 t))) (rowsL g (k0_pay5 (F := Ideal))) (rowsL g (k0_pay6 (F := Ideal))) i from H _ rfl rfl
  intro y hy0 hy1
  rw [outsAt0_A m c t h0 h1]
  frame_open
  simp (disch := decide) only [↓ View.readCov_skip, ↓ View.readCov_cons_toLoadRect, ↓ View.readCov_fill]
  frame_out
  obtain ⟨zm, hzm⟩ : ∃ z : Vec Ideal S1024x128 .f32, z = k0_pay5 (F := Ideal) := ⟨_, rfl⟩
  rw [← hzm]
  obtain ⟨zl, hzl⟩ : ∃ z : Vec Ideal S1024x128 .f32, z = k0_pay6 (F := Ideal) := ⟨_, rfl⟩
  rw [← hzl]
  refine (canon_drop _ y [_, _, _, _] (View.cover_of_tiled_head _ _ _ (by rfl) _)).trans ?_
  canon_tiles x h
  all_goals try simp only [k0_pay3, k0_pay63, k0_pay116, k0_pay175, shapeCast_id]
  case piece3 =>
    obtain rfl : g = 0 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 0, 0, 0] ![1, 1, 256, 64] inb_S1x4x256x64_S1x1x256x64_0_0_0_0))) (View.ld zm (Rect.unit ![0, 0] ![256, 128] inb_S1024x128_S256x128_0_0)) (View.ld zl (Rect.unit ![0, 0] ![256, 128] inb_S1024x128_S256x128_0_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]
  case piece2 =>
    obtain rfl : g = 1 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 1, 0, 0] ![1, 1, 256, 64] inb_S1x4x256x64_S1x1x256x64_0_1_0_0))) (View.ld zm (Rect.unit ![256, 0] ![256, 128] inb_S1024x128_S256x128_256_0)) (View.ld zl (Rect.unit ![256, 0] ![256, 128] inb_S1024x128_S256x128_256_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]
  case piece1 =>
    obtain rfl : g = 2 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 2, 0, 0] ![1, 1, 256, 64] inb_S1x4x256x64_S1x1x256x64_0_2_0_0))) (View.ld zm (Rect.unit ![512, 0] ![256, 128] inb_S1024x128_S256x128_512_0)) (View.ld zl (Rect.unit ![512, 0] ![256, 128] inb_S1024x128_S256x128_512_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]
  case piece0 =>
    obtain rfl : g = 3 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 3, 0, 0] ![1, 1, 256, 64] inb_S1x4x256x64_S1x1x256x64_0_3_0_0))) (View.ld zm (Rect.unit ![768, 0] ![256, 128] inb_S1024x128_S256x128_768_0)) (View.ld zl (Rect.unit ![768, 0] ![256, 128] inb_S1024x128_S256x128_768_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]

/-- The accumulator that the first block of keys leaves, head by head. -/
theorem accumulator_first (c : Dev nD) (t : Fin cfg0.N) (h0 : t.val % 3 = 0) (h1 : ¬t.val % 3 = 2) (g : Fin 4) :
    rowsA g (outsAt0 m c t.val t.isLt).2.2.2 = aN (iblk m c 3 t) (sN (iblk m c 2 t) (qN g (iblk m c 1 t))) (rowsL g (k0_pay5 (F := Ideal))) (rowsA g (k0_pay7 (F := Ideal))) := by
  funext i
  have hi0 : (i 0).val < 256 := (i 0).isLt
  have hg : g.val < 4 := g.isLt
  suffices H : ∀ y : S1024x64.Idx, (y 0).val = 256 * g + (i 0).val → (y 1).val = (i 1).val →
      (outsAt0 m c t.val t.isLt).2.2.2 y = aN (iblk m c 3 t) (sN (iblk m c 2 t) (qN g (iblk m c 1 t))) (rowsL g (k0_pay5 (F := Ideal))) (rowsA g (k0_pay7 (F := Ideal))) i from H _ rfl rfl
  intro y hy0 hy1
  rw [outsAt0_A m c t h0 h1]
  frame_open
  simp (disch := decide) only [↓ View.readCov_skip, ↓ View.readCov_cons_toLoadRect, ↓ View.readCov_fill]
  frame_out
  obtain ⟨zm, hzm⟩ : ∃ z : Vec Ideal S1024x128 .f32, z = k0_pay5 (F := Ideal) := ⟨_, rfl⟩
  rw [← hzm]
  obtain ⟨za, hza⟩ : ∃ z : Vec Ideal S1024x64 .f32, z = k0_pay7 (F := Ideal) := ⟨_, rfl⟩
  rw [← hza]
  refine (canon_drop _ y [_, _, _, _] (View.cover_of_tiled_head _ _ _ (by rfl) _)).trans ?_
  canon_tiles x h
  all_goals try simp only [k0_pay3, k0_pay63, k0_pay116, k0_pay175, shapeCast_id]
  case piece3 =>
    obtain rfl : g = 0 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 0, 0, 0] ![1, 1, 256, 64] inb_S1x4x256x64_S1x1x256x64_0_0_0_0))) (View.ld zm (Rect.unit ![0, 0] ![256, 128] inb_S1024x128_S256x128_0_0)) (View.ld za (Rect.unit ![0, 0] ![256, 64] inb_S1024x64_S256x64_0_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]
  case piece2 =>
    obtain rfl : g = 1 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 1, 0, 0] ![1, 1, 256, 64] inb_S1x4x256x64_S1x1x256x64_0_1_0_0))) (View.ld zm (Rect.unit ![256, 0] ![256, 128] inb_S1024x128_S256x128_256_0)) (View.ld za (Rect.unit ![256, 0] ![256, 64] inb_S1024x64_S256x64_256_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]
  case piece1 =>
    obtain rfl : g = 2 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 2, 0, 0] ![1, 1, 256, 64] inb_S1x4x256x64_S1x1x256x64_0_2_0_0))) (View.ld zm (Rect.unit ![512, 0] ![256, 128] inb_S1024x128_S256x128_512_0)) (View.ld za (Rect.unit ![512, 0] ![256, 64] inb_S1024x64_S256x64_512_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]
  case piece0 =>
    obtain rfl : g = 3 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 3, 0, 0] ![1, 1, 256, 64] inb_S1x4x256x64_S1x1x256x64_0_3_0_0))) (View.ld zm (Rect.unit ![768, 0] ![256, 128] inb_S1024x128_S256x128_768_0)) (View.ld za (Rect.unit ![768, 0] ![256, 64] inb_S1024x64_S256x64_768_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]

/-- The row maxima that the middle block of keys leaves, head by head. -/
theorem row_maxima_middle (c : Dev nD) (t : Fin cfg0.N) (h0 : ¬t.val % 3 = 0) (h1 : ¬t.val % 3 = 2) (g : Fin 4) :
    rowsL g (outsAt0 m c t.val t.isLt).2.1 = mN (sN (iblk m c 2 t) (qN g (iblk m c 1 t))) (rowsL g (outsAt0 m c (t.val - 1) (Nat.lt_of_le_of_lt (Nat.sub_le _ _) t.isLt)).2.1) := by
  funext i
  have hi0 : (i 0).val < 256 := (i 0).isLt
  have hg : g.val < 4 := g.isLt
  suffices H : ∀ y : S1024x128.Idx, (y 0).val = 256 * g + (i 0).val → (y 1).val = (i 1).val →
      (outsAt0 m c t.val t.isLt).2.1 y = mN (sN (iblk m c 2 t) (qN g (iblk m c 1 t))) (rowsL g (outsAt0 m c (t.val - 1) (Nat.lt_of_le_of_lt (Nat.sub_le _ _) t.isLt)).2.1) i from H _ rfl rfl
  intro y hy0 hy1
  rw [outsAt0_B m c t h0 h1]
  frame_out
  generalize outsAt0 m c (t.val - 1) _ = prev
  canon_tiles x h
  all_goals try simp only [↓ read_unread_whole, k0_pay3, k0_pay63, k0_pay116, k0_pay175, shapeCast_id]
  case piece3 =>
    obtain rfl : g = 0 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 0, 0, 0] ![1, 1, 256, 64] inb_S1x4x256x64_S1x1x256x64_0_0_0_0))) (View.ld prev.2.1 (Rect.unit ![0, 0] ![256, 128] inb_S1024x128_S256x128_0_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]
  case piece2 =>
    obtain rfl : g = 1 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 1, 0, 0] ![1, 1, 256, 64] inb_S1x4x256x64_S1x1x256x64_0_1_0_0))) (View.ld prev.2.1 (Rect.unit ![256, 0] ![256, 128] inb_S1024x128_S256x128_256_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]
  case piece1 =>
    obtain rfl : g = 2 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 2, 0, 0] ![1, 1, 256, 64] inb_S1x4x256x64_S1x1x256x64_0_2_0_0))) (View.ld prev.2.1 (Rect.unit ![512, 0] ![256, 128] inb_S1024x128_S256x128_512_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]
  case piece0 =>
    obtain rfl : g = 3 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 3, 0, 0] ![1, 1, 256, 64] inb_S1x4x256x64_S1x1x256x64_0_3_0_0))) (View.ld prev.2.1 (Rect.unit ![768, 0] ![256, 128] inb_S1024x128_S256x128_768_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]

/-- The lane sums that the middle block of keys leaves, head by head. -/
theorem lane_sums_middle (c : Dev nD) (t : Fin cfg0.N) (h0 : ¬t.val % 3 = 0) (h1 : ¬t.val % 3 = 2) (g : Fin 4) :
    rowsL g (outsAt0 m c t.val t.isLt).2.2.1 = lN (sN (iblk m c 2 t) (qN g (iblk m c 1 t))) (rowsL g (outsAt0 m c (t.val - 1) (Nat.lt_of_le_of_lt (Nat.sub_le _ _) t.isLt)).2.1) (rowsL g (outsAt0 m c (t.val - 1) (Nat.lt_of_le_of_lt (Nat.sub_le _ _) t.isLt)).2.2.1) := by
  funext i
  have hi0 : (i 0).val < 256 := (i 0).isLt
  have hg : g.val < 4 := g.isLt
  suffices H : ∀ y : S1024x128.Idx, (y 0).val = 256 * g + (i 0).val → (y 1).val = (i 1).val →
      (outsAt0 m c t.val t.isLt).2.2.1 y = lN (sN (iblk m c 2 t) (qN g (iblk m c 1 t))) (rowsL g (outsAt0 m c (t.val - 1) (Nat.lt_of_le_of_lt (Nat.sub_le _ _) t.isLt)).2.1) (rowsL g (outsAt0 m c (t.val - 1) (Nat.lt_of_le_of_lt (Nat.sub_le _ _) t.isLt)).2.2.1) i from H _ rfl rfl
  intro y hy0 hy1
  rw [outsAt0_B m c t h0 h1]
  frame_out
  generalize outsAt0 m c (t.val - 1) _ = prev
  canon_tiles x h
  all_goals try simp only [↓ read_unread_whole, k0_pay3, k0_pay63, k0_pay116, k0_pay175, shapeCast_id]
  case piece3 =>
    obtain rfl : g = 0 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 0, 0, 0] ![1, 1, 256, 64] inb_S1x4x256x64_S1x1x256x64_0_0_0_0))) (View.ld prev.2.1 (Rect.unit ![0, 0] ![256, 128] inb_S1024x128_S256x128_0_0)) (View.ld prev.2.2.1 (Rect.unit ![0, 0] ![256, 128] inb_S1024x128_S256x128_0_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]
  case piece2 =>
    obtain rfl : g = 1 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 1, 0, 0] ![1, 1, 256, 64] inb_S1x4x256x64_S1x1x256x64_0_1_0_0))) (View.ld prev.2.1 (Rect.unit ![256, 0] ![256, 128] inb_S1024x128_S256x128_256_0)) (View.ld prev.2.2.1 (Rect.unit ![256, 0] ![256, 128] inb_S1024x128_S256x128_256_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]
  case piece1 =>
    obtain rfl : g = 2 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 2, 0, 0] ![1, 1, 256, 64] inb_S1x4x256x64_S1x1x256x64_0_2_0_0))) (View.ld prev.2.1 (Rect.unit ![512, 0] ![256, 128] inb_S1024x128_S256x128_512_0)) (View.ld prev.2.2.1 (Rect.unit ![512, 0] ![256, 128] inb_S1024x128_S256x128_512_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]
  case piece0 =>
    obtain rfl : g = 3 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 3, 0, 0] ![1, 1, 256, 64] inb_S1x4x256x64_S1x1x256x64_0_3_0_0))) (View.ld prev.2.1 (Rect.unit ![768, 0] ![256, 128] inb_S1024x128_S256x128_768_0)) (View.ld prev.2.2.1 (Rect.unit ![768, 0] ![256, 128] inb_S1024x128_S256x128_768_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]

/-- The accumulator that the middle block of keys leaves, head by head. -/
theorem accumulator_middle (c : Dev nD) (t : Fin cfg0.N) (h0 : ¬t.val % 3 = 0) (h1 : ¬t.val % 3 = 2) (g : Fin 4) :
    rowsA g (outsAt0 m c t.val t.isLt).2.2.2 = aN (iblk m c 3 t) (sN (iblk m c 2 t) (qN g (iblk m c 1 t))) (rowsL g (outsAt0 m c (t.val - 1) (Nat.lt_of_le_of_lt (Nat.sub_le _ _) t.isLt)).2.1) (rowsA g (outsAt0 m c (t.val - 1) (Nat.lt_of_le_of_lt (Nat.sub_le _ _) t.isLt)).2.2.2) := by
  funext i
  have hi0 : (i 0).val < 256 := (i 0).isLt
  have hg : g.val < 4 := g.isLt
  suffices H : ∀ y : S1024x64.Idx, (y 0).val = 256 * g + (i 0).val → (y 1).val = (i 1).val →
      (outsAt0 m c t.val t.isLt).2.2.2 y = aN (iblk m c 3 t) (sN (iblk m c 2 t) (qN g (iblk m c 1 t))) (rowsL g (outsAt0 m c (t.val - 1) (Nat.lt_of_le_of_lt (Nat.sub_le _ _) t.isLt)).2.1) (rowsA g (outsAt0 m c (t.val - 1) (Nat.lt_of_le_of_lt (Nat.sub_le _ _) t.isLt)).2.2.2) i from H _ rfl rfl
  intro y hy0 hy1
  rw [outsAt0_B m c t h0 h1]
  frame_out
  generalize outsAt0 m c (t.val - 1) _ = prev
  canon_tiles x h
  all_goals try simp only [↓ read_unread_whole, k0_pay3, k0_pay63, k0_pay116, k0_pay175, shapeCast_id]
  case piece3 =>
    obtain rfl : g = 0 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 0, 0, 0] ![1, 1, 256, 64] inb_S1x4x256x64_S1x1x256x64_0_0_0_0))) (View.ld prev.2.1 (Rect.unit ![0, 0] ![256, 128] inb_S1024x128_S256x128_0_0)) (View.ld prev.2.2.2 (Rect.unit ![0, 0] ![256, 64] inb_S1024x64_S256x64_0_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]
  case piece2 =>
    obtain rfl : g = 1 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 1, 0, 0] ![1, 1, 256, 64] inb_S1x4x256x64_S1x1x256x64_0_1_0_0))) (View.ld prev.2.1 (Rect.unit ![256, 0] ![256, 128] inb_S1024x128_S256x128_256_0)) (View.ld prev.2.2.2 (Rect.unit ![256, 0] ![256, 64] inb_S1024x64_S256x64_256_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]
  case piece1 =>
    obtain rfl : g = 2 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 2, 0, 0] ![1, 1, 256, 64] inb_S1x4x256x64_S1x1x256x64_0_2_0_0))) (View.ld prev.2.1 (Rect.unit ![512, 0] ![256, 128] inb_S1024x128_S256x128_512_0)) (View.ld prev.2.2.2 (Rect.unit ![512, 0] ![256, 64] inb_S1024x64_S256x64_512_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]
  case piece0 =>
    obtain rfl : g = 3 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 3, 0, 0] ![1, 1, 256, 64] inb_S1x4x256x64_S1x1x256x64_0_3_0_0))) (View.ld prev.2.1 (Rect.unit ![768, 0] ![256, 128] inb_S1024x128_S256x128_768_0)) (View.ld prev.2.2.2 (Rect.unit ![768, 0] ![256, 64] inb_S1024x64_S256x64_768_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]

/-- The row maxima that the last block of keys leaves, head by head. -/
theorem row_maxima_last (c : Dev nD) (t : Fin cfg0.N) (h0 : ¬t.val % 3 = 0) (h1 : t.val % 3 = 2) (g : Fin 4) :
    rowsL g (outsAt0 m c t.val t.isLt).2.1 = mN (sN (iblk m c 2 t) (qN g (iblk m c 1 t))) (rowsL g (outsAt0 m c (t.val - 1) (Nat.lt_of_le_of_lt (Nat.sub_le _ _) t.isLt)).2.1) := by
  funext i
  have hi0 : (i 0).val < 256 := (i 0).isLt
  have hg : g.val < 4 := g.isLt
  suffices H : ∀ y : S1024x128.Idx, (y 0).val = 256 * g + (i 0).val → (y 1).val = (i 1).val →
      (outsAt0 m c t.val t.isLt).2.1 y = mN (sN (iblk m c 2 t) (qN g (iblk m c 1 t))) (rowsL g (outsAt0 m c (t.val - 1) (Nat.lt_of_le_of_lt (Nat.sub_le _ _) t.isLt)).2.1) i from H _ rfl rfl
  intro y hy0 hy1
  rw [outsAt0_C m c t h0 h1]
  frame_out
  generalize outsAt0 m c (t.val - 1) _ = prev
  canon_tiles x h
  all_goals try simp only [↓ read_unread_whole, k0_pay3, k0_pay63, k0_pay116, k0_pay175, shapeCast_id]
  case piece3 =>
    obtain rfl : g = 0 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 0, 0, 0] ![1, 1, 256, 64] inb_S1x4x256x64_S1x1x256x64_0_0_0_0))) (View.ld prev.2.1 (Rect.unit ![0, 0] ![256, 128] inb_S1024x128_S256x128_0_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]
  case piece2 =>
    obtain rfl : g = 1 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 1, 0, 0] ![1, 1, 256, 64] inb_S1x4x256x64_S1x1x256x64_0_1_0_0))) (View.ld prev.2.1 (Rect.unit ![256, 0] ![256, 128] inb_S1024x128_S256x128_256_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]
  case piece1 =>
    obtain rfl : g = 2 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 2, 0, 0] ![1, 1, 256, 64] inb_S1x4x256x64_S1x1x256x64_0_2_0_0))) (View.ld prev.2.1 (Rect.unit ![512, 0] ![256, 128] inb_S1024x128_S256x128_512_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]
  case piece0 =>
    obtain rfl : g = 3 := Fin.ext (by simp; omega)
    obtain rfl : x = i := by
      funext a
      fin_cases a
      · exact Fin.ext (by simp at *; omega)
      · exact Fin.ext (by simp at *; omega)
    show mN (sN (iblk m c 2 t) (View.ld (iblk m c 1 t) (Rect.unit ![0, 3, 0, 0] ![1, 1, 256, 64] inb_S1x4x256x64_S1x1x256x64_0_3_0_0))) (View.ld prev.2.1 (Rect.unit ![768, 0] ![256, 128] inb_S1024x128_S256x128_768_0)) x = _
    have key : ∀ (q q' : Vec Ideal S1x1x256x64 .bf16) (u u' : FVec Ideal S256x128 .f32), q = q' → u = u' →
        mN (sN (iblk m c 2 t) q) u x = mN (sN (iblk m c 2 t) q') u' x := by
      rintro _ _ _ _ rfl rfl; rfl
    refine key _ _ _ _ (funext fun j => ?_) (funext fun j => ?_)
    · pointwise [qN]
    · pointwise [rowsL]

/-- The lane sums that the last block of keys leaves, head by head. -/
theorem lane_sums_last (c : Dev nD) (t : Fin cfg0.N) (h0 : ¬t.val % 3 = 0) (h1 : t.val % 3 = 2) (g : Fin 4) :
    rowsL g (outsAt0 m c t.val t.isLt).2.2.1 = lN (sN (iblk m c 2 t) (qN g (iblk m c 1 t))) (rowsL g (outsAt0 m c (t.val - 1) (Nat.lt_of_le_of_lt (Nat.sub_le _ _) t.isLt)).2.1) (rowsL g (outsAt0 m c (t.val - 1) (Nat.lt_of_le_of_lt (Nat.sub_le _ _) t.isLt)).2.2.1) := by
  funext i
  have hi0 : (i 0).val < 256 := (i 0).isLt
  have hg : g.val < 4 := g.isLt
  suffices H : ∀ y : S1024x128.Idx, (y 0).val = 256 * g + (i 0).val → (y 1).val = (i 1).val →
      (outsAt0 m c t.val t.isLt).2.2.1 y = lN (sN (iblk m c 2 t) (qN g (iblk m c 1 t))) (rowsL g (outsAt0 m c (t.val - 1) (Nat.lt_of_le_of_lt (Nat.sub_le _ _) t.isLt)).2.1) (rowsL g (outsAt0 m c (t.val - 1) (Nat.lt_of_le_of_lt (Nat.sub_le _ _) t.isLt)).2.2.1) i from H _ rfl rfl
  intro y hy0 hy1
  rw [outsAt0_C m c t h0 h1]
  frame_out
  generalize outsAt0 m c (t.val - 1) _ = prev
  canon_tiles x h
  all_goals try simp only [↓ read_unread_whole, k0_pay3, k0_pay63, k0_pay116, k0_pay175, shapeCast_id]
  case piece3 =>
    obtain rfl : g = 0 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 0, 0, 0] ![1, 1, 256, 64] inb_S1x4x256x64_S1x1x256x64_0_0_0_0))) (View.ld prev.2.1 (Rect.unit ![0, 0] ![256, 128] inb_S1024x128_S256x128_0_0)) (View.ld prev.2.2.1 (Rect.unit ![0, 0] ![256, 128] inb_S1024x128_S256x128_0_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]
  case piece2 =>
    obtain rfl : g = 1 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 1, 0, 0] ![1, 1, 256, 64] inb_S1x4x256x64_S1x1x256x64_0_1_0_0))) (View.ld prev.2.1 (Rect.unit ![256, 0] ![256, 128] inb_S1024x128_S256x128_256_0)) (View.ld prev.2.2.1 (Rect.unit ![256, 0] ![256, 128] inb_S1024x128_S256x128_256_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]
  case piece1 =>
    obtain rfl : g = 2 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 2, 0, 0] ![1, 1, 256, 64] inb_S1x4x256x64_S1x1x256x64_0_2_0_0))) (View.ld prev.2.1 (Rect.unit ![512, 0] ![256, 128] inb_S1024x128_S256x128_512_0)) (View.ld prev.2.2.1 (Rect.unit ![512, 0] ![256, 128] inb_S1024x128_S256x128_512_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]
  case piece0 =>
    obtain rfl : g = 3 := Fin.ext (by simp; omega)
    obtain rfl : x = i := by
      funext a
      fin_cases a
      · exact Fin.ext (by simp at *; omega)
      · exact Fin.ext (by simp at *; omega)
    show lN (sN (iblk m c 2 t) (View.ld (iblk m c 1 t) (Rect.unit ![0, 3, 0, 0] ![1, 1, 256, 64] inb_S1x4x256x64_S1x1x256x64_0_3_0_0))) (View.ld prev.2.1 (Rect.unit ![768, 0] ![256, 128] inb_S1024x128_S256x128_768_0)) (View.ld prev.2.2.1 (Rect.unit ![768, 0] ![256, 128] inb_S1024x128_S256x128_768_0)) x = _
    have key : ∀ (q q' : Vec Ideal S1x1x256x64 .bf16) (u u' : FVec Ideal S256x128 .f32) (w w' : FVec Ideal S256x128 .f32), q = q' → u = u' → w = w' →
        lN (sN (iblk m c 2 t) q) u w x = lN (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsL]

/-- The accumulator that the last block of keys leaves, head by head. -/
theorem accumulator_last (c : Dev nD) (t : Fin cfg0.N) (h0 : ¬t.val % 3 = 0) (h1 : t.val % 3 = 2) (g : Fin 4) :
    rowsA g (outsAt0 m c t.val t.isLt).2.2.2 = aN (iblk m c 3 t) (sN (iblk m c 2 t) (qN g (iblk m c 1 t))) (rowsL g (outsAt0 m c (t.val - 1) (Nat.lt_of_le_of_lt (Nat.sub_le _ _) t.isLt)).2.1) (rowsA g (outsAt0 m c (t.val - 1) (Nat.lt_of_le_of_lt (Nat.sub_le _ _) t.isLt)).2.2.2) := by
  funext i
  have hi0 : (i 0).val < 256 := (i 0).isLt
  have hg : g.val < 4 := g.isLt
  suffices H : ∀ y : S1024x64.Idx, (y 0).val = 256 * g + (i 0).val → (y 1).val = (i 1).val →
      (outsAt0 m c t.val t.isLt).2.2.2 y = aN (iblk m c 3 t) (sN (iblk m c 2 t) (qN g (iblk m c 1 t))) (rowsL g (outsAt0 m c (t.val - 1) (Nat.lt_of_le_of_lt (Nat.sub_le _ _) t.isLt)).2.1) (rowsA g (outsAt0 m c (t.val - 1) (Nat.lt_of_le_of_lt (Nat.sub_le _ _) t.isLt)).2.2.2) i from H _ rfl rfl
  intro y hy0 hy1
  rw [outsAt0_C m c t h0 h1]
  frame_out
  generalize outsAt0 m c (t.val - 1) _ = prev
  canon_tiles x h
  all_goals try simp only [↓ read_unread_whole, k0_pay3, k0_pay63, k0_pay116, k0_pay175, shapeCast_id]
  case piece3 =>
    obtain rfl : g = 0 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 0, 0, 0] ![1, 1, 256, 64] inb_S1x4x256x64_S1x1x256x64_0_0_0_0))) (View.ld prev.2.1 (Rect.unit ![0, 0] ![256, 128] inb_S1024x128_S256x128_0_0)) (View.ld prev.2.2.2 (Rect.unit ![0, 0] ![256, 64] inb_S1024x64_S256x64_0_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]
  case piece2 =>
    obtain rfl : g = 1 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 1, 0, 0] ![1, 1, 256, 64] inb_S1x4x256x64_S1x1x256x64_0_1_0_0))) (View.ld prev.2.1 (Rect.unit ![256, 0] ![256, 128] inb_S1024x128_S256x128_256_0)) (View.ld prev.2.2.2 (Rect.unit ![256, 0] ![256, 64] inb_S1024x64_S256x64_256_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]
  case piece1 =>
    obtain rfl : g = 2 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 2, 0, 0] ![1, 1, 256, 64] inb_S1x4x256x64_S1x1x256x64_0_2_0_0))) (View.ld prev.2.1 (Rect.unit ![512, 0] ![256, 128] inb_S1024x128_S256x128_512_0)) (View.ld prev.2.2.2 (Rect.unit ![512, 0] ![256, 64] inb_S1024x64_S256x64_512_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]
  case piece0 =>
    obtain rfl : g = 3 := Fin.ext (by simp; omega)
    obtain rfl : x = i := by
      funext a
      fin_cases a
      · exact Fin.ext (by simp at *; omega)
      · exact Fin.ext (by simp at *; omega)
    show aN (iblk m c 3 t) (sN (iblk m c 2 t) (View.ld (iblk m c 1 t) (Rect.unit ![0, 3, 0, 0] ![1, 1, 256, 64] inb_S1x4x256x64_S1x1x256x64_0_3_0_0))) (View.ld prev.2.1 (Rect.unit ![768, 0] ![256, 128] inb_S1024x128_S256x128_768_0)) (View.ld prev.2.2.2 (Rect.unit ![768, 0] ![256, 64] inb_S1024x64_S256x64_768_0)) x = _
    have key : ∀ (q q' : Vec Ideal S1x1x256x64 .bf16) (u u' : FVec Ideal S256x128 .f32) (w w' : FVec Ideal S256x64 .f32), q = q' → u = u' → w = w' →
        aN (iblk m c 3 t) (sN (iblk m c 2 t) q) u w x = aN (iblk m c 3 t) (sN (iblk m c 2 t) q') u' w' x := by
      rintro _ _ _ _ _ _ rfl rfl rfl; rfl
    refine key _ _ _ _ _ _ (funext fun j => ?_) (funext fun j => ?_) (funext fun j => ?_)
    · pointwise [qN]
    · pointwise [rowsL]
    · pointwise [rowsA]

end Cert.Flash
end
-- ==== Proof.OutBlock.lean ====
/- The output block that the last block of keys writes, from the lane sums and the accumulator of the four heads. -/
module
public import proofs.«01_k».proof.Proof.Rows
@[expose] public section
set_option maxRecDepth 16384
noncomputable section
namespace Cert.Flash
open Idealize.ShloMosaic Idealize.ShloMosaic.TcCoe Idealize.ShloMosaic.Tactic Cert.KernelIdeal Cert.KernelIdeal.Gen
open Idealize.SL.Sem
variable (m : (ℓ : Loc nD τ sig) → Buf (Elt Ideal) ℓ)
/-- The output block from the four heads' lane sums and accumulators: head `g`'s quotient stands in columns `64 g ..`. -/
theorem pay4_at (L : Fin 4 → FVec Ideal S256x128 .f32) (A : Fin 4 → FVec Ideal S256x64 .f32) (g : Fin 4) (r : Fin 256) (d : Fin 64) :
    k0_pay4 (F := Ideal) (L 0) (A 0) (L 1) (A 1) (L 2) (A 2) (L 3) (A 3) (ix3 0 r ⟨64 * g + d, by omega⟩)
      = Ideal.div (A g (ix2 r d)) (∑ l : Fin 128, L g (ix2 r l)) := by
  fin_cases g
  all_goals
    dsimp only
    pointwise [k0_pay4]
  · rw [dif_neg (by omega), dif_neg (by omega), dif_pos (by omega)]
    refine congrArg (fun z => Ideal.div (A 2 (ix2 r z)) _) (Fin.ext ?_)
    show 128 + d.val - 64 - 64 = d.val
    omega
  · rw [dif_neg (by omega), dif_neg (by omega), dif_neg (by omega)]
    refine congrArg (fun z => Ideal.div (A 3 (ix2 r z)) _) (Fin.ext ?_)
    show 192 + d.val - 64 - 64 - 64 = d.val
    omega

/-- What the last block of keys writes to the output block: each head's accumulator over the sum of its lane sums. -/
theorem out_last (c : Dev nD) (t : Fin cfg0.N) (h0 : ¬t.val % 3 = 0) (h1 : t.val % 3 = 2) (g : Fin 4) (r : Fin 256) (d : Fin 64) :
    (outsAt0 m c t.val t.isLt).1 (ix3 0 r ⟨64 * g + d, by omega⟩)
      = Ideal.div (rowsA g (outsAt0 m c t.val t.isLt).2.2.2 (ix2 r d))
          (∑ l : Fin 128, rowsL g (outsAt0 m c t.val t.isLt).2.2.1 (ix2 r l)) := by
  rw [lane_sums_last m c t h0 h1, accumulator_last m c t h0 h1]
  rw [outsAt0_C m c t h0 h1]
  frame_open
  simp (disch := decide) only [↓ View.readCov_skip, ↓ View.readCov_cons_toLoadRect, ↓ View.readCov_fill]
  frame_out
  generalize outsAt0 m c (t.val - 1) _ = prev
  simp only [↓ read_unread_whole]
  show k0_pay4 (F := Ideal)
      (lN (sN (iblk m c 2 t) (View.ld (iblk m c 1 t) (Rect.unit ![0, 0, 0, 0] ![1, 1, 256, 64] inb_S1x4x256x64_S1x1x256x64_0_0_0_0))) (View.ld prev.2.1 (Rect.unit ![0, 0] ![256, 128] inb_S1024x128_S256x128_0_0)) (View.ld prev.2.2.1 (Rect.unit ![0, 0] ![256, 128] inb_S1024x128_S256x128_0_0)))
      (aN (iblk m c 3 t) (sN (iblk m c 2 t) (View.ld (iblk m c 1 t) (Rect.unit ![0, 0, 0, 0] ![1, 1, 256, 64] inb_S1x4x256x64_S1x1x256x64_0_0_0_0))) (View.ld prev.2.1 (Rect.unit ![0, 0] ![256, 128] inb_S1024x128_S256x128_0_0)) (View.ld prev.2.2.2 (Rect.unit ![0, 0] ![256, 64] inb_S1024x64_S256x64_0_0)))
      (lN (sN (iblk m c 2 t) (View.ld (iblk m c 1 t) (Rect.unit ![0, 1, 0, 0] ![1, 1, 256, 64] inb_S1x4x256x64_S1x1x256x64_0_1_0_0))) (View.ld prev.2.1 (Rect.unit ![256, 0] ![256, 128] inb_S1024x128_S256x128_256_0)) (View.ld prev.2.2.1 (Rect.unit ![256, 0] ![256, 128] inb_S1024x128_S256x128_256_0)))
      (aN (iblk m c 3 t) (sN (iblk m c 2 t) (View.ld (iblk m c 1 t) (Rect.unit ![0, 1, 0, 0] ![1, 1, 256, 64] inb_S1x4x256x64_S1x1x256x64_0_1_0_0))) (View.ld prev.2.1 (Rect.unit ![256, 0] ![256, 128] inb_S1024x128_S256x128_256_0)) (View.ld prev.2.2.2 (Rect.unit ![256, 0] ![256, 64] inb_S1024x64_S256x64_256_0)))
      (lN (sN (iblk m c 2 t) (View.ld (iblk m c 1 t) (Rect.unit ![0, 2, 0, 0] ![1, 1, 256, 64] inb_S1x4x256x64_S1x1x256x64_0_2_0_0))) (View.ld prev.2.1 (Rect.unit ![512, 0] ![256, 128] inb_S1024x128_S256x128_512_0)) (View.ld prev.2.2.1 (Rect.unit ![512, 0] ![256, 128] inb_S1024x128_S256x128_512_0)))
      (aN (iblk m c 3 t) (sN (iblk m c 2 t) (View.ld (iblk m c 1 t) (Rect.unit ![0, 2, 0, 0] ![1, 1, 256, 64] inb_S1x4x256x64_S1x1x256x64_0_2_0_0))) (View.ld prev.2.1 (Rect.unit ![512, 0] ![256, 128] inb_S1024x128_S256x128_512_0)) (View.ld prev.2.2.2 (Rect.unit ![512, 0] ![256, 64] inb_S1024x64_S256x64_512_0)))
      (lN (sN (iblk m c 2 t) (View.ld (iblk m c 1 t) (Rect.unit ![0, 3, 0, 0] ![1, 1, 256, 64] inb_S1x4x256x64_S1x1x256x64_0_3_0_0))) (View.ld prev.2.1 (Rect.unit ![768, 0] ![256, 128] inb_S1024x128_S256x128_768_0)) (View.ld prev.2.2.1 (Rect.unit ![768, 0] ![256, 128] inb_S1024x128_S256x128_768_0)))
      (aN (iblk m c 3 t) (sN (iblk m c 2 t) (View.ld (iblk m c 1 t) (Rect.unit ![0, 3, 0, 0] ![1, 1, 256, 64] inb_S1x4x256x64_S1x1x256x64_0_3_0_0))) (View.ld prev.2.1 (Rect.unit ![768, 0] ![256, 128] inb_S1024x128_S256x128_768_0)) (View.ld prev.2.2.2 (Rect.unit ![768, 0] ![256, 64] inb_S1024x64_S256x64_768_0))) (ix3 0 r ⟨64 * g + d, by omega⟩) = _
  have e0 : (View.ld (iblk m c 1 t) (Rect.unit ![0, 0, 0, 0] ![1, 1, 256, 64] inb_S1x4x256x64_S1x1x256x64_0_0_0_0)) = qN 0 (iblk m c 1 t) := by funext j; pointwise [qN]
  have m0 : (View.ld prev.2.1 (Rect.unit ![0, 0] ![256, 128] inb_S1024x128_S256x128_0_0)) = rowsL 0 prev.2.1 := by funext j; pointwise [rowsL]
  have l0 : (View.ld prev.2.2.1 (Rect.unit ![0, 0] ![256, 128] inb_S1024x128_S256x128_0_0)) = rowsL 0 prev.2.2.1 := by funext j; pointwise [rowsL]
  have a0 : (View.ld prev.2.2.2 (Rect.unit ![0, 0] ![256, 64] inb_S1024x64_S256x64_0_0)) = rowsA 0 prev.2.2.2 := by funext j; pointwise [rowsA]
  have e1 : (View.ld (iblk m c 1 t) (Rect.unit ![0, 1, 0, 0] ![1, 1, 256, 64] inb_S1x4x256x64_S1x1x256x64_0_1_0_0)) = qN 1 (iblk m c 1 t) := by funext j; pointwise [qN]
  have m1 : (View.ld prev.2.1 (Rect.unit ![256, 0] ![256, 128] inb_S1024x128_S256x128_256_0)) = rowsL 1 prev.2.1 := by funext j; pointwise [rowsL]
  have l1 : (View.ld prev.2.2.1 (Rect.unit ![256, 0] ![256, 128] inb_S1024x128_S256x128_256_0)) = rowsL 1 prev.2.2.1 := by funext j; pointwise [rowsL]
  have a1 : (View.ld prev.2.2.2 (Rect.unit ![256, 0] ![256, 64] inb_S1024x64_S256x64_256_0)) = rowsA 1 prev.2.2.2 := by funext j; pointwise [rowsA]
  have e2 : (View.ld (iblk m c 1 t) (Rect.unit ![0, 2, 0, 0] ![1, 1, 256, 64] inb_S1x4x256x64_S1x1x256x64_0_2_0_0)) = qN 2 (iblk m c 1 t) := by funext j; pointwise [qN]
  have m2 : (View.ld prev.2.1 (Rect.unit ![512, 0] ![256, 128] inb_S1024x128_S256x128_512_0)) = rowsL 2 prev.2.1 := by funext j; pointwise [rowsL]
  have l2 : (View.ld prev.2.2.1 (Rect.unit ![512, 0] ![256, 128] inb_S1024x128_S256x128_512_0)) = rowsL 2 prev.2.2.1 := by funext j; pointwise [rowsL]
  have a2 : (View.ld prev.2.2.2 (Rect.unit ![512, 0] ![256, 64] inb_S1024x64_S256x64_512_0)) = rowsA 2 prev.2.2.2 := by funext j; pointwise [rowsA]
  have e3 : (View.ld (iblk m c 1 t) (Rect.unit ![0, 3, 0, 0] ![1, 1, 256, 64] inb_S1x4x256x64_S1x1x256x64_0_3_0_0)) = qN 3 (iblk m c 1 t) := by funext j; pointwise [qN]
  have m3 : (View.ld prev.2.1 (Rect.unit ![768, 0] ![256, 128] inb_S1024x128_S256x128_768_0)) = rowsL 3 prev.2.1 := by funext j; pointwise [rowsL]
  have l3 : (View.ld prev.2.2.1 (Rect.unit ![768, 0] ![256, 128] inb_S1024x128_S256x128_768_0)) = rowsL 3 prev.2.2.1 := by funext j; pointwise [rowsL]
  have a3 : (View.ld prev.2.2.2 (Rect.unit ![768, 0] ![256, 64] inb_S1024x64_S256x64_768_0)) = rowsA 3 prev.2.2.2 := by funext j; pointwise [rowsA]
  rw [e0, e1, e2, e3, m0, m1, m2, m3, l0, l1, l2, l3, a0, a1, a2, a3]
  refine (pay4_at (fun g => lN (sN (iblk m c 2 t) (qN g (iblk m c 1 t))) (rowsL g prev.2.1) (rowsL g prev.2.2.1))
    (fun g => aN (iblk m c 3 t) (sN (iblk m c 2 t) (qN g (iblk m c 1 t))) (rowsL g prev.2.1) (rowsA g prev.2.2.2)) g r d)
end Cert.Flash
end
-- ==== Proof.Blocks.lean ====
/- The blocks that a grid point reads, as places in the arrays of the queries, the keys and the values. -/
module
public import proofs.«01_k».proof.Proof.OutBlock
@[expose] public section
set_option maxRecDepth 16384
noncomputable section
namespace Cert.Flash
open Idealize.ShloMosaic Idealize.ShloMosaic.TcCoe Idealize.ShloMosaic.Tactic Cert.KernelIdeal Cert.KernelIdeal.Gen
open Idealize.SL.Sem
variable (m : (ℓ : Loc nD τ sig) → Buf (Elt Ideal) ℓ)
/-- There are 384 grid points. -/
theorem pt_lt (t : Fin cfg0.N) : t.val < 384 := lt_of_lt_of_eq t.isLt (show cfg0.N = 384 from N_0)

/-- The block each window stages at a grid point. -/
theorem idx : ∀ t : Fin cfg0.N, win0_1.index t = ![t.val / 192, t.val / 96 % 2, t.val / 3 % 32, 0]
    ∧ win0_2.index t = ![t.val / 192, t.val / 96 % 2, t.val % 3, 0]
    ∧ win0_3.index t = ![t.val / 192, t.val / 96 % 2, t.val % 3, 0]
    ∧ win0_4.index t = ![t.val / 192, t.val / 3 % 32, t.val / 96 % 2] :=
  (by decide +kernel : ∀ t : Fin grid0.N, _)

/-- The block of queries at a point, in the array of the queries. -/
theorem q_at (c : Dev nD) (t : Fin cfg0.N) (g : Fin 4) (r : Fin 256) (d : Fin 64) :
    iblk m c 1 t (ix4 0 g r d) = m ((c : Thread nD τ).loc main_arg0)
      (ix4 ⟨t.val / 192, by have := pt_lt t; omega⟩ ⟨4 * (t.val / 96 % 2) + g, by omega⟩
        ⟨256 * (t.val / 3 % 32) + r, by omega⟩ d) := by
  blk_ext [iblk, V, idx t]

/-- The block of keys at a point, in the array of the keys. -/
theorem k_at (c : Dev nD) (t : Fin cfg0.N) (j : Fin 2816) (d : Fin 64) :
    iblk m c 2 t (ix4 0 0 j d) = m ((c : Thread nD τ).loc main_arg1)
      (ix4 ⟨t.val / 192, by have := pt_lt t; omega⟩ ⟨t.val / 96 % 2, by omega⟩
        ⟨2816 * (t.val % 3) + j, by omega⟩ d) := by
  blk_ext [iblk, V, idx t]

/-- The block of values at a point, in the array of the values. -/
theorem v_at (c : Dev nD) (t : Fin cfg0.N) (j : Fin 2816) (d : Fin 64) :
    iblk m c 3 t (ix4 0 0 j d) = m ((c : Thread nD τ).loc main_arg2)
      (ix4 ⟨t.val / 192, by have := pt_lt t; omega⟩ ⟨t.val / 96 % 2, by omega⟩
        ⟨2816 * (t.val % 3) + j, by omega⟩ d) := by
  blk_ext [iblk, V, idx t]
end Cert.Flash
end
-- ==== Proof.Fold.lean ====
/- The three blocks of keys one after another: what the last of them writes is the softmax of all 8448 scores times the values. -/
module
public import proofs.«01_k».proof.Proof.Blocks
@[expose] public section
set_option maxRecDepth 16384
noncomputable section
namespace Cert.Flash
open Idealize.ShloMosaic Idealize.ShloMosaic.TcCoe Idealize.ShloMosaic.Tactic Cert.KernelIdeal Cert.KernelIdeal.Gen
open Idealize.SL.Sem
variable (m : (ℓ : Loc nD τ sig) → Buf (Elt Ideal) ℓ)
/-- The score of query row `i` of head `h` against key `k`, as a real; the heads `4 n ..` share the keys `n`. -/
def scO (Q : Vec Ideal S2x8x8192x64 .bf16) (K : Vec Ideal S2x2x8448x64 .bf16) (b : Fin 2) (h : Fin 8) (i : Fin 8192) (k : ℕ) : ℝ :=
  if hk : k < 8448 then (∑ d : Fin 64, (Q (ix4 b h i d) : EReal) * K (ix4 b ⟨h / 4, by omega⟩ ⟨k, hk⟩ d)).toReal else 0

/-- Column `d` of the value of key `k`. -/
def vO (V : Vec Ideal S2x2x8448x64 .bf16) (b : Fin 2) (n : Fin 2) (k : ℕ) (d : Fin 64) : EReal :=
  if hk : k < 8448 then V (ix4 b n ⟨k, hk⟩ d) else 0

/-- Scores of real queries and real keys are real. -/
theorem scO_coe (Q : Vec Ideal S2x8x8192x64 .bf16) (K : Vec Ideal S2x2x8448x64 .bf16)
    (hQ : ∀ i, ∃ x : ℝ, (Q i : EReal) = x) (hK : ∀ i, ∃ x : ℝ, (K i : EReal) = x)
    (b : Fin 2) (h : Fin 8) (i : Fin 8192) (k : ℕ) (hk : k < 8448) (n : Fin 2) (hn : n.val = h.val / 4) :
    ((scO Q K b h i k : ℝ) : EReal) = ∑ d : Fin 64, (Q (ix4 b h i d) : EReal) * K (ix4 b n ⟨k, hk⟩ d) := by
  have en : n = ⟨h / 4, by omega⟩ := Fin.ext hn
  rw [en]
  choose q hq using hQ
  choose κ hκ using hK
  have e : (∑ d : Fin 64, (Q (ix4 b h i d) : EReal) * K (ix4 b ⟨h / 4, by omega⟩ ⟨k, hk⟩ d))
      = ((∑ d : Fin 64, q (ix4 b h i d) * κ (ix4 b ⟨h / 4, by omega⟩ ⟨k, hk⟩ d) : ℝ) : EReal) := by
    rw [← coe_sum]
    exact Finset.sum_congr rfl fun d _ => by rw [hq, hκ, EReal.coe_mul]
  rw [scO, dif_pos hk, e, EReal.toReal_coe]

/-- One step on one row, from the scores and the values of block `n` of the keys. -/
theorem step_inv {sc : ℕ → ℝ} {v : ℕ → Fin 64 → EReal} {n : ℕ} (vv : Vec Ideal S1x1x2816x64 .bf16) (s : FVec Ideal S256x2816 .f32)
    (mo lo : FVec Ideal S256x128 .f32) (ao : FVec Ideal S256x64 .f32) (r : Fin 256)
    (hs : ∀ j : Fin 2816, s (ix2 r j) = ((sc (2816 * n + j) : ℝ) : EReal))
    (hv : ∀ (j : Fin 2816) (d : Fin 64), vv (ix4 0 0 j d) = v (2816 * n + j) d)
    (h : Inv sc v n (fun l => mo (ix2 r l)) (fun l => lo (ix2 r l)) (fun d => ao (ix2 r d))) :
    Inv sc v (n + 1) (fun l => mN s mo (ix2 r l)) (fun l => lN s mo lo (ix2 r l)) (fun d => aN vv s mo ao (ix2 r d)) := by
  obtain ⟨R, hR⟩ := mN_at s r (fun j => sc (2816 * n + j)) hs
  refine Inv.step h R (fun l => hR mo l) (fun l => lN_at s mo lo r _ hs l)
    (fun d => aN_at vv s mo ao r _ hs d _ fun k => hv k d)

/-- The first step on one row, from the initial fill. -/
theorem first_inv {sc : ℕ → ℝ} {v : ℕ → Fin 64 → EReal} (vv : Vec Ideal S1x1x2816x64 .bf16) (s : FVec Ideal S256x2816 .f32)
    (mo lo : FVec Ideal S256x128 .f32) (ao : FVec Ideal S256x64 .f32) (r : Fin 256)
    (hs : ∀ j : Fin 2816, s (ix2 r j) = ((sc (2816 * 0 + j) : ℝ) : EReal))
    (hv : ∀ (j : Fin 2816) (d : Fin 64), vv (ix4 0 0 j d) = v (2816 * 0 + j) d)
    (hm : ∀ l, mo (ix2 r l) = (⊥ : EReal)) (hl : ∀ l, lo (ix2 r l) = (0 : EReal)) (ha : ∀ d, ao (ix2 r d) = (0 : EReal)) :
    Inv sc v 1 (fun l => mN s mo (ix2 r l)) (fun l => lN s mo lo (ix2 r l)) (fun d => aN vv s mo ao (ix2 r d)) := by
  obtain ⟨R, hR⟩ := mN_at s r (fun j => sc (2816 * 0 + j)) hs
  refine Inv.first sc v _ _ _ _ (fun d => ao (ix2 r d)) _ R hm hl ha (fun l => hR mo l) (fun l => lN_at s mo lo r _ hs l)
    (fun d => aN_at vv s mo ao r _ hs d _ fun k => hv k d)

/-- Softmax of the scores (shifted by `M`) times the values, at a query row and a column. -/
def softO (Q : Vec Ideal S2x8x8192x64 .bf16) (K V : Vec Ideal S2x2x8448x64 .bf16) (b : Fin 2) (h : Fin 8) (i : Fin 8192)
    (d : Fin 64) (M : ℝ) : EReal :=
  ∑ k : Fin 8448, (V (ix4 b ⟨h / 4, by omega⟩ k d) : EReal) * Ideal.div (Ideal.exp (((scO Q K b h i k : ℝ) : EReal) - M))
    (∑ j : Fin 8448, Ideal.exp (((scO Q K b h i j : ℝ) : EReal) - M))

/-- The queries as launched. -/
def qA (c : Dev nD) : Vec Ideal S2x8x8192x64 .bf16 := m ((c : Thread nD τ).loc main_arg0)

/-- The keys as launched. -/
def kA (c : Dev nD) : Vec Ideal S2x2x8448x64 .bf16 := m ((c : Thread nD τ).loc main_arg1)

/-- The values as launched. -/
def vA (c : Dev nD) : Vec Ideal S2x2x8448x64 .bf16 := m ((c : Thread nD τ).loc main_arg2)

section Fold

variable (c : Dev nD)
  (hQ : ∀ i : S2x8x8192x64.Idx, ∃ x : ℝ, (qA m c i : EReal) = x)
  (hK : ∀ i : S2x2x8448x64.Idx, ∃ x : ℝ, (kA m c i : EReal) = x)

include hQ hK in
/-- A score of the block of keys `n` at the row block `p`. -/
theorem score_at (t : Fin cfg0.N) (p n : ℕ) (ht : t.val = 3 * p + n) (hn : n < 3) (hp : p < 128)
    (g : Fin 4) (r : Fin 256) (j : Fin 2816) :
    sN (iblk m c 2 t) (qN g (iblk m c 1 t)) (ix2 r j)
      = ((scO (qA m c) (kA m c) ⟨p / 64, by omega⟩
          ⟨4 * (p / 32 % 2) + g, by omega⟩ ⟨256 * (p % 32) + r, by omega⟩ (2816 * n + j) : ℝ) : EReal) := by
  rw [sN_at, scO_coe _ _ hQ hK _ _ _ _ (by omega) ⟨p / 32 % 2, by omega⟩ (by simp; omega)]
  refine Finset.sum_congr rfl fun d _ => ?_
  refine congrArg₂ (· * ·) ((q_at m c t g r d).trans ?_) ((k_at m c t j d).trans ?_)
  · refine congrArg (qA m c) ?_
    congr 1 <;> exact Fin.ext (by simp; omega)
  · refine congrArg (kA m c) ?_
    congr 1 <;> exact Fin.ext (by simp; omega)

/-- A value of the block of keys `n` at the row block `p`. -/
theorem value_at (t : Fin cfg0.N) (p n : ℕ) (ht : t.val = 3 * p + n) (hn : n < 3) (hp : p < 128) (j : Fin 2816) (d : Fin 64) :
    iblk m c 3 t (ix4 0 0 j d)
      = vO (vA m c) ⟨p / 64, by omega⟩ ⟨p / 32 % 2, by omega⟩ (2816 * n + j) d := by
  rw [vO, dif_pos (by omega)]
  refine (v_at m c t j d).trans (congrArg (vA m c) ?_)
  congr 1 <;> exact Fin.ext (by simp; omega)

include hQ hK in
/-- After the first block of keys. -/
theorem inv_first (t : Fin cfg0.N) (p : ℕ) (ht : t.val = 3 * p + 0) (hp : p < 128) (g : Fin 4) (r : Fin 256) :
    Inv (scO (qA m c) (kA m c) ⟨p / 64, by omega⟩ ⟨4 * (p / 32 % 2) + g, by omega⟩ ⟨256 * (p % 32) + r, by omega⟩)
      (vO (vA m c) ⟨p / 64, by omega⟩ ⟨p / 32 % 2, by omega⟩) 1
      (fun l => rowsL g (outsAt0 m c t.val t.isLt).2.1 (ix2 r l))
      (fun l => rowsL g (outsAt0 m c t.val t.isLt).2.2.1 (ix2 r l))
      (fun d => rowsA g (outsAt0 m c t.val t.isLt).2.2.2 (ix2 r d)) := by
  have h0 : t.val % 3 = 0 := by omega
  have h1 : ¬t.val % 3 = 2 := by omega
  have hs := score_at m c hQ hK t p 0 ht (by omega) hp g r
  rw [row_maxima_first m c t h0 h1, lane_sums_first m c t h0 h1, accumulator_first m c t h0 h1]
  refine first_inv _ _ _ _ _ r hs (value_at m c t p 0 ht (by omega) hp) (fun l => ?_) (fun l => ?_) (fun d => ?_)
  · pointwise [rowsL, k0_pay5]
    simp [Ideal.ofBits, Ideal.ieee]
  · pointwise [rowsL, k0_pay6]
  · pointwise [rowsA, k0_pay7]

include hQ hK in
/-- After the middle block of keys, from what held after the one before. -/
theorem inv_middle (t t' : Fin cfg0.N) (p : ℕ) (ht : t.val = 3 * p + 1) (ht' : t'.val = t.val - 1) (hp : p < 128) (g : Fin 4) (r : Fin 256)
    (h : Inv (scO (qA m c) (kA m c) ⟨p / 64, by omega⟩ ⟨4 * (p / 32 % 2) + g, by omega⟩ ⟨256 * (p % 32) + r, by omega⟩)
      (vO (vA m c) ⟨p / 64, by omega⟩ ⟨p / 32 % 2, by omega⟩) 1
      (fun l => rowsL g (outsAt0 m c t'.val t'.isLt).2.1 (ix2 r l))
      (fun l => rowsL g (outsAt0 m c t'.val t'.isLt).2.2.1 (ix2 r l))
      (fun d => rowsA g (outsAt0 m c t'.val t'.isLt).2.2.2 (ix2 r d))) :
    Inv (scO (qA m c) (kA m c) ⟨p / 64, by omega⟩ ⟨4 * (p / 32 % 2) + g, by omega⟩ ⟨256 * (p % 32) + r, by omega⟩)
      (vO (vA m c) ⟨p / 64, by omega⟩ ⟨p / 32 % 2, by omega⟩) 2
      (fun l => rowsL g (outsAt0 m c t.val t.isLt).2.1 (ix2 r l))
      (fun l => rowsL g (outsAt0 m c t.val t.isLt).2.2.1 (ix2 r l))
      (fun d => rowsA g (outsAt0 m c t.val t.isLt).2.2.2 (ix2 r d)) := by
  have h0 : ¬t.val % 3 = 0 := by omega
  have h1 : ¬t.val % 3 = 2 := by omega
  obtain rfl : t' = ⟨t.val - 1, Nat.lt_of_le_of_lt (Nat.sub_le _ _) t.isLt⟩ := Fin.ext ht'
  have hs := score_at m c hQ hK t p 1 ht (by omega) hp g r
  rw [row_maxima_middle m c t h0 h1, lane_sums_middle m c t h0 h1, accumulator_middle m c t h0 h1]
  exact step_inv _ _ _ _ _ r hs (value_at m c t p 1 ht (by omega) hp) h

include hQ hK in
/-- After the last block of keys, from what held after the one before. -/
theorem inv_last (t t' : Fin cfg0.N) (p : ℕ) (ht : t.val = 3 * p + 2) (ht' : t'.val = t.val - 1) (hp : p < 128) (g : Fin 4) (r : Fin 256)
    (h : Inv (scO (qA m c) (kA m c) ⟨p / 64, by omega⟩ ⟨4 * (p / 32 % 2) + g, by omega⟩ ⟨256 * (p % 32) + r, by omega⟩)
      (vO (vA m c) ⟨p / 64, by omega⟩ ⟨p / 32 % 2, by omega⟩) 2
      (fun l => rowsL g (outsAt0 m c t'.val t'.isLt).2.1 (ix2 r l))
      (fun l => rowsL g (outsAt0 m c t'.val t'.isLt).2.2.1 (ix2 r l))
      (fun d => rowsA g (outsAt0 m c t'.val t'.isLt).2.2.2 (ix2 r d))) :
    Inv (scO (qA m c) (kA m c) ⟨p / 64, by omega⟩ ⟨4 * (p / 32 % 2) + g, by omega⟩ ⟨256 * (p % 32) + r, by omega⟩)
      (vO (vA m c) ⟨p / 64, by omega⟩ ⟨p / 32 % 2, by omega⟩) 3
      (fun l => rowsL g (outsAt0 m c t.val t.isLt).2.1 (ix2 r l))
      (fun l => rowsL g (outsAt0 m c t.val t.isLt).2.2.1 (ix2 r l))
      (fun d => rowsA g (outsAt0 m c t.val t.isLt).2.2.2 (ix2 r d)) := by
  have h0 : ¬t.val % 3 = 0 := by omega
  have h1 : t.val % 3 = 2 := by omega
  obtain rfl : t' = ⟨t.val - 1, Nat.lt_of_le_of_lt (Nat.sub_le _ _) t.isLt⟩ := Fin.ext ht'
  have hs := score_at m c hQ hK t p 2 ht (by omega) hp g r
  rw [row_maxima_last m c t h0 h1, lane_sums_last m c t h0 h1, accumulator_last m c t h0 h1]
  exact step_inv _ _ _ _ _ r hs (value_at m c t p 2 ht (by omega) hp) h

include hQ hK in
/-- What the last block of keys writes to the output block: the softmax of the scores, shifted by any real, times the values. -/
theorem out_at (t : Fin cfg0.N) (p : ℕ) (ht : t.val = 3 * p + 2) (hp : p < 128) (g : Fin 4) (r : Fin 256) (d : Fin 64) (M : ℝ) :
    (outsAt0 m c t.val t.isLt).1 (ix3 0 r ⟨64 * g + d, by omega⟩)
      = softO (qA m c) (kA m c) (vA m c) ⟨p / 64, by omega⟩ ⟨4 * (p / 32 % 2) + g, by omega⟩ ⟨256 * (p % 32) + r, by omega⟩ d M := by
  have hN : cfg0.N = 384 := N_0
  rw [out_last m c t (by omega) (by omega) g r d]
  have i1 := inv_first m c hQ hK ⟨3 * p, by omega⟩ p rfl hp g r
  have i2 := inv_middle m c hQ hK ⟨3 * p + 1, by omega⟩ ⟨3 * p, by omega⟩ p rfl rfl hp g r i1
  have i3 := inv_last m c hQ hK t ⟨3 * p + 1, by omega⟩ p ht (by simp; omega) hp g r i2
  refine (Inv.quot i3 M d).trans ?_
  rw [softO]
  have e : ∀ k : Fin 8448, vO (vA m c) ⟨p / 64, by omega⟩ ⟨p / 32 % 2, by omega⟩ k d
      = vA m c (ix4 ⟨p / 64, by omega⟩ ⟨(4 * (p / 32 % 2) + g) / 4, by omega⟩ k d) := fun k => by
    rw [vO, dif_pos k.isLt]
    have eg : (⟨p / 32 % 2, by omega⟩ : Fin 2) = ⟨(4 * (p / 32 % 2) + g) / 4, by omega⟩ := Fin.ext (by simp; omega)
    rw [eg]
  exact Finset.sum_congr rfl fun k _ => by rw [e k]

end Fold
end Cert.Flash
end
-- ==== Proof.Array.lean ====
module
public import proofs.«01_k».proof.Proof.Fold
@[expose] public section
set_option maxRecDepth 16384
noncomputable section
namespace Cert.Flash
open Idealize.ShloMosaic Idealize.ShloMosaic.TcCoe Idealize.ShloMosaic.Tactic Cert.KernelIdeal Cert.KernelIdeal.Gen
open Idealize.SL.Sem
variable (m : (ℓ : Loc nD τ sig) → Buf (Elt Ideal) ℓ)
/-- The attention, at an index of the result: row `i` of batch `b`, column `64 h + d`; the scores of a row are shifted by any real. -/
def attO (Q : Vec Ideal S2x8x8192x64 .bf16) (K V : Vec Ideal S2x2x8448x64 .bf16) (M : Fin 2 → Fin 8 → Fin 8192 → ℝ) :
    Vec Ideal S2x8192x512 .bf16 :=
  fun i => softO Q K V (i 0) ⟨(i 2).val / 64, by have := (i 2).isLt; simp at this; omega⟩ (i 1) ⟨(i 2).val % 64, by omega⟩
    (M (i 0) ⟨(i 2).val / 64, by have := (i 2).isLt; simp at this; omega⟩ (i 1))

/-- The result array of the kernel. -/
theorem kernel_arr (c : Dev nD)
    (hQ : ∀ i : S2x8x8192x64.Idx, ∃ x : ℝ, (qA m c i : EReal) = x)
    (hK : ∀ i : S2x2x8448x64.Idx, ∃ x : ℝ, (kA m c i : EReal) = x) (M : Fin 2 → Fin 8 → Fin 8192 → ℝ) :
    (dats m 0 c).arrAt 4 cfg0.N = attO (qA m c) (kA m c) (vA m c) M := by
  refine (dats m 0 c).arrAt_eq_of_covers 4 _ (by decide +kernel) fun t hf y => ?_
  blk_simp
  rw [after0_4]
  have ht := (flush0_4 t).mp hf
  have hlt := pt_lt t
  obtain ⟨i, hi⟩ : ∃ i : S2x8192x512.Idx, i = (win0_4.blk t).view.emb y := ⟨_, rfl⟩
  have y1 : (y 1).val < 256 := (y 1).isLt
  have y2 : (y 2).val < 256 := (y 2).isLt
  have i0 : (i 0).val = t.val / 192 := by rw [hi]; blk_simp [idx t]; try omega
  have i1 : (i 1).val = 256 * (t.val / 3 % 32) + (y 1).val := by rw [hi]; blk_simp [idx t]; try omega
  have i2 : (i 2).val = 256 * (t.val / 96 % 2) + (y 2).val := by rw [hi]; blk_simp [idx t]; try omega
  rw [← hi]
  have ey : y = ix3 0 ⟨(y 1).val, y1⟩ ⟨64 * ((y 2).val / 64) + (y 2).val % 64, by omega⟩ := by
    funext a
    fin_cases a
    · exact Subsingleton.elim (α := Fin 1) _ _
    · rfl
    · exact Fin.ext (by simp; omega)
  rw [ey]
  refine (out_at m c hQ hK t (t.val / 3) (by omega) (by omega) ⟨(y 2).val / 64, by omega⟩ ⟨(y 1).val, y1⟩ ⟨(y 2).val % 64, by omega⟩
    (M (i 0) ⟨(i 2).val / 64, by omega⟩ (i 1))).trans ?_
  rw [attO]
  have e0 : (⟨t.val / 3 / 64, by omega⟩ : Fin 2) = i 0 := Fin.ext (by rw [i0]; simp; omega)
  have e1 : (⟨256 * (t.val / 3 % 32) + (y 1).val, by omega⟩ : Fin 8192) = i 1 := Fin.ext i1.symm
  have eh : (⟨4 * (t.val / 3 / 32 % 2) + (y 2).val / 64, by omega⟩ : Fin 8) = ⟨(i 2).val / 64, by omega⟩ := Fin.ext (by simp; omega)
  have ed : (⟨(y 2).val % 64, by omega⟩ : Fin 64) = ⟨(i 2).val % 64, by omega⟩ := Fin.ext (by simp; omega)
  show softO _ _ _ ⟨t.val / 3 / 64, by omega⟩ ⟨4 * (t.val / 3 / 32 % 2) + (y 2).val / 64, by omega⟩
    ⟨256 * (t.val / 3 % 32) + (y 1).val, by omega⟩ _ _ = _
  rw [e0, e1, eh, ed]
end Cert.Flash
end
-- ==== Proof.Reference.lean ====
module
public import proofs.«01_k».proof.Proof.Array
public import proofs.«01_k».proof.Proof.Gen.ReferenceIdeal.Read

@[expose] public section

set_option maxRecDepth 16384

noncomputable section

namespace Cert.Flash

open Idealize.ShloMosaic Idealize.ShloMosaic.TcCoe Idealize.ShloMosaic.Tactic Cert.ReferenceIdeal Cert.ReferenceIdeal.Gen Cert.ReferenceIdeal.Read
open Idealize.SL.Sem

/-- A row maximum of real scores is a real. -/
theorem ref_max (Q : Vec Ideal S2x8x8192x64 .bf16) (K : Vec Ideal S2x2x8448x64 .bf16) (i : S2x2x4x8192.Idx)
    (h : ∀ i, ∃ x : ℝ, (val_main_v4 (F := Ideal) Q K i : EReal) = x) :
    ∃ x : ℝ, (val_main_v7 (F := Ideal) Q K i : EReal) = x := by
  rw [val_main_v7_apply, val_main_v6_apply]
  unfold val_main_v5
  revert h
  generalize val_main_v4 (F := Ideal) Q K = y
  intro h
  have eb : ∀ j, (val_main_cst (F := Ideal) j : EReal) = ⊥ := fun j => by
    rw [val_main_cst_apply]
    exact (show Ideal.ofBits .f32 0xFF800000#32 = ⊥ by simp [Ideal.ofBits, Ideal.ieee])
  have eb' : ∀ j, (val_main_cst_0 (F := Ideal) j : EReal) = ⊥ := fun j => by
    rw [val_main_cst_0_apply]
    exact (show Ideal.ofBits .f32 0xFF800000#32 = ⊥ by simp [Ideal.ofBits, Ideal.ieee])
  rw [eb']
  pointwise
  rw [eb]
  obtain ⟨R, hR⟩ := fold_max_real (fun k : Fin 8448 => (y (ix5 (i 0) (i 1) (i 2) (i 3) k) : EReal)) fun k => h _
  refine ⟨R, ?_⟩
  rw [← hR]
  exact max_eq_right bot_le

/-- The reference's scores are the rows' scores. -/
theorem ref_score (Q : Vec Ideal S2x8x8192x64 .bf16) (K : Vec Ideal S2x2x8448x64 .bf16)
    (hQ : ∀ i, ∃ x : ℝ, (Q i : EReal) = x) (hK : ∀ i, ∃ x : ℝ, (K i : EReal) = x)
    (b : Fin 2) (h : Fin 8) (i : Fin 8192) (k : Fin 8448) (j : S2x2x4x8192x8448.Idx)
    (hj : j = ix5 b ⟨h / 4, by omega⟩ ⟨h % 4, by omega⟩ i k) :
    (val_main_v4 (F := Ideal) Q K j : EReal) = ((scO Q K b h i k : ℝ) : EReal) := by
  rw [val_main_v4_apply, scO_coe Q K hQ hK b h i k k.isLt ⟨h / 4, by omega⟩ rfl]
  refine Finset.sum_congr rfl fun d _ => ?_
  rw [val_main_v3_apply, hj]
  refine congrArg₂ (· * ·) (congrArg Q ?_) (congrArg K ?_)
  · funext a
    fin_cases a <;> exact Fin.ext (by simp [ix5, ix4] <;> omega)
  · funext a
    fin_cases a <;> exact Fin.ext (by simp [ix5, ix4])

/-- The reference, as an array of softmax averages for some real shift of every row. -/
theorem ref_arr (Q : Vec Ideal S2x8x8192x64 .bf16) (K V : Vec Ideal S2x2x8448x64 .bf16)
    (hQ : ∀ i, ∃ x : ℝ, (Q i : EReal) = x) (hK : ∀ i, ∃ x : ℝ, (K i : EReal) = x) :
    ∃ M : Fin 2 → Fin 8 → Fin 8192 → ℝ, val_main_v19 (F := Ideal) Q K V = attO Q K V M := by
  have hs : ∀ j, ∃ x : ℝ, (val_main_v4 (F := Ideal) Q K j : EReal) = x := fun j =>
    ⟨_, ref_score Q K hQ hK (j 0) ⟨4 * (j 1).val + (j 2).val, by
      have h1 : (j 1).val < 2 := (j 1).isLt
      have h2 : (j 2).val < 4 := (j 2).isLt
      omega⟩ (j 3) (j 4) j (by
        have h2 : (j 2).val < 4 := (j 2).isLt
        funext a
        fin_cases a <;> first | rfl | exact Fin.ext (by simp [ix5] <;> omega))⟩
  choose R hR using fun i => ref_max Q K i hs
  obtain ⟨M, hM⟩ : ∃ M : Fin 2 → Fin 8 → Fin 8192 → ℝ, ∀ (b : Fin 2) (h : Fin 8) (i : Fin 8192), R (ix4 b ⟨h / 4, by omega⟩ ⟨h % 4, by omega⟩ i) = M b h i :=
    ⟨_, fun _ _ _ => rfl⟩
  refine ⟨M, ?_⟩
  suffices H : ∀ (b : Fin 2) (r : Fin 8192) (h : Fin 8) (d : Fin 64),
      (val_main_v19 (F := Ideal) Q K V (ix3 b r ⟨64 * h + d, by omega⟩) : EReal) = softO Q K V b h r d (M b h r) by
    funext i
    have l2 : (i 2).val < 512 := (i 2).isLt
    refine (congrArg (val_main_v19 (F := Ideal) Q K V) ?_).trans
      (H (i 0) (i 1) ⟨(i 2).val / 64, by omega⟩ ⟨(i 2).val % 64, by omega⟩)
    funext a
    fin_cases a <;> first | rfl | exact Fin.ext (by simp [ix3] <;> omega)
  intro b r h d
  have ee : ∀ (j : S2x2x4x8192x8448.Idx) (k : Fin 8448), j = ix5 b ⟨h / 4, by omega⟩ ⟨h % 4, by omega⟩ r k →
      (val_main_v11 (F := Ideal) Q K j : EReal) = Ideal.exp (((scO Q K b h r k : ℝ) : EReal)
        - (M b h r : ℝ)) := by
    intro j k hj
    rw [val_main_v11_apply, val_main_v10_apply, val_main_v9_apply, val_main_v8_apply, hR, ref_score Q K hQ hK b h r k j hj]
    have e : idx_main_v8 (idx_main_v9 j) = ix4 b ⟨h / 4, by omega⟩ ⟨h % 4, by omega⟩ r := by
      rw [hj]
      funext a
      fin_cases a <;> rfl
    rw [e, hM]
    rfl
  rw [val_main_v19_apply, val_main_v18_apply, val_main_v17_apply]
  refine (val_main_v16_apply Q K V _).trans ?_
  rw [softO]
  refine Finset.sum_congr rfl fun k _ => ?_
  rw [val_main_v15_apply, val_main_v14_apply, val_main_v13_apply, val_main_v12_apply]
  refine congrArg₂ (· * ·) (congrArg V ?_) (congrArg₂ Ideal.div ?_ ?_)
  · funext a
    fin_cases a <;> exact Fin.ext (by simp [ix4] <;> omega)
  · refine ee _ k ?_
    funext a
    fin_cases a <;> exact Fin.ext (by simp [ix5] <;> omega)
  · rw [val_main_cst_1_apply]
    refine (congrArg₂ (· + ·) (show Ideal.ofBits .f32 0x00000000#32 = 0 by simp [Ideal.ofBits, Ideal.ieee]) (Finset.sum_congr rfl fun j _ => ee _ j ?_)).trans (zero_add _)
    funext a
    fin_cases a <;> exact Fin.ext (by simp [ix5] <;> omega)

end Cert.Flash

end
-- ==== Proof.Finite.lean ====
module
public import proofs.«01_k».proof.Pre_finite_q_k
public import proofs.«01_k».proof.Defs
public import proofs.«01_k».proof.Proof.Fold

@[expose] public section

set_option maxRecDepth 16384

noncomputable section

namespace Cert.Flash

open Idealize.ShloMosaic Cert.Pre_finite_q_k.Facts

/-- A conjunction of bits that ends true started true, and each of its bits was true. -/
theorem foldl_and {α : Type} (l : List α) (f : α → BitVec 1) (b : BitVec 1)
    (h : l.foldl (fun r n => IntOp.andi r (f n)) b = 1#1) : b = 1#1 ∧ ∀ n ∈ l, f n = 1#1 := by
  induction l generalizing b with
  | nil => exact ⟨h, by simp⟩
  | cons a l ih =>
    obtain ⟨h1, h2⟩ := ih _ h
    have e : ∀ x y : BitVec 1, IntOp.andi x y = 1#1 → x = 1#1 ∧ y = 1#1 := by decide
    obtain ⟨hb, ha⟩ := e _ _ h1
    refine ⟨hb, fun n hn => ?_⟩
    rcases List.mem_cons.1 hn with rfl | hn
    · exact ha
    · exact h2 n hn

/-- A conjunction over a whole array that is true says that every bit is. -/
theorem reduce_and {s t u : Shape} {axes : List (Fin s.rank)} (x : IVec s 1) (v : IVec u 1) (h : s.ReducesTo axes t)
    (hu : 0 < u.numel) (j : t.Idx) (hj : ∀ i : t.Idx, i = j) (e : Host.reduce IntOp.andi x v h hu j = 1#1) (i : s.Idx) :
    x i = 1#1 := by
  have := (foldl_and _ (fun n => x (s.rowMajor.symm n)) _ e).2 (s.rowMajor i) (by simp [hj])
  simpa using this

/-- An extended real whose absolute value is below infinity is a real. -/
theorem real_of_abs (x : EReal) (h : Ideal.cmp .olt (max x (-x)) ⊤ = 1#1) : ∃ r : ℝ, x = r := by
  induction x with
  | bot => simp [Ideal.cmp] at h
  | top => simp [Ideal.cmp] at h
  | coe r => exact ⟨r, rfl⟩

/-- The shape facts the precondition's function takes. -/
theorem facts : Cert.Pre_finite_q_k.Facts := by
  constructor <;> decide

/-- The pattern of the infinity the entries are compared with. -/
theorem inf_bits : Ideal.ofBits .bf16 0x7F80#16 = ⊤ := by simp [Ideal.ofBits, Ideal.ieee]

/-- The precondition says that every query entry and every key entry is a real. -/
theorem real_entries [Cert.Pre_finite_q_k.Facts] (Q : Vec Ideal Cert.Pre_finite_q_k.S2x8x8192x64 .bf16)
    (K V : Vec Ideal Cert.Pre_finite_q_k.S2x2x8448x64 .bf16)
    (h : (Cert.Pre_finite_q_k.fn (F := Ideal) Q K V).1 = (fun _ => 1#1) ∧ (Cert.Pre_finite_q_k.fn (F := Ideal) Q K V).2 = (fun _ => 1#1)) :
    (∀ i, ∃ x : ℝ, (Q i : EReal) = x) ∧ ∀ i, ∃ x : ℝ, (K i : EReal) = x := by
  have j0 : Cert.Pre_finite_q_k.S_.Idx := fun a => a.elim0
  have hj : ∀ i : Cert.Pre_finite_q_k.S_.Idx, i = j0 := fun i => funext fun a => a.elim0
  simp only [Cert.Pre_finite_q_k.fn] at h
  obtain ⟨h1, h2⟩ := h
  have e1 := congrFun h1 j0
  have e2 := congrFun h2 j0
  constructor
  · intro i
    refine real_of_abs _ ?_
    rw [← inf_bits]
    exact reduce_and _ _ _ _ j0 hj e1 i
  · intro i
    refine real_of_abs _ ?_
    rw [← inf_bits]
    exact reduce_and _ _ _ _ j0 hj e2 i

end Cert.Flash

end
-- ==== Proof.WindowSoftmax.lean ====
/- The softmax average of scores some of which are masked: it depends neither on the shift nor on where the division stands. -/
module
public import proofs.«01_k».proof.Proof.Softmax
@[expose] public section
set_option maxRecDepth 16384
noncomputable section
namespace Cert.Window
open Idealize.ShloMosaic Finset Cert.Flash

/-- The weight of a score under a real shift: zero for a masked one. -/
def wt (x : EReal) (M : ℝ) : ℝ := if x = ⊥ then 0 else Real.exp (x.toReal - M)

/-- A weight is not negative. -/
theorem wt_nonneg (x : EReal) (M : ℝ) : 0 ≤ wt x M := by
  unfold wt; split
  · exact le_rfl
  · exact (Real.exp_pos _).le

/-- The exponential of a score below `⊤` less the shift is its weight. -/
theorem exp_wt (x : EReal) (M : ℝ) (h : x ≠ ⊤) : Ideal.exp (x - (M : EReal)) = ((wt x M : ℝ) : EReal) := by
  induction x with
  | bot => rw [EReal.bot_sub, wt, if_pos rfl]; rfl
  | top => exact absurd rfl h
  | coe x => rw [exp_sub_coe, wt, if_neg (EReal.coe_ne_bot x), EReal.toReal_coe]

/-- Changing the shift scales every weight alike. -/
theorem wt_shift (x : EReal) (M M' : ℝ) : wt x M = Real.exp (M' - M) * wt x M' := by
  unfold wt
  split
  · rw [mul_zero]
  · rw [← Real.exp_add]; congr 1; ring

/-- The softmax average over scores of which some may be masked does not depend on the shift, nor on whether
    the division is by value or by weight. -/
theorem quot_masked {ι : Type} [Fintype ι] (s : ι → EReal) (v : ι → EReal) (M M' : ℝ) (h : ∀ k, s k ≠ ⊤)
    (k0 : ι) (h0 : s k0 ≠ ⊥) :
    Ideal.div (∑ k, Ideal.exp (s k - M) * v k) (∑ k, Ideal.exp (s k - M))
      = ∑ k, v k * Ideal.div (Ideal.exp (s k - M')) (∑ j, Ideal.exp (s j - M')) := by
  have hl : ∀ x : ℝ, ∑ j, Ideal.exp (s j - x) = ((∑ k, wt (s k) x : ℝ) : EReal) := fun x => by
    rw [← coe_sum]; exact sum_congr rfl fun j _ => exp_wt _ _ (h j)
  have hpos : ∀ x : ℝ, 0 < ∑ k, wt (s k) x := fun x =>
    sum_pos' (fun k _ => wt_nonneg _ _) ⟨k0, mem_univ _, by rw [wt, if_neg h0]; exact Real.exp_pos _⟩
  rw [hl, hl, Ideal.div_coe (hpos M).ne', mul_comm, coe_mul_sum _ _ (one_div_nonneg.mpr (hpos M).le)]
  refine sum_congr rfl fun k _ => ?_
  rw [exp_wt _ _ (h k), exp_wt _ _ (h k), Ideal.div_coe (hpos M').ne', ← mul_assoc, ← EReal.coe_mul, ← EReal.coe_mul, mul_comm]
  congr 2
  have e : ∑ k, wt (s k) M = Real.exp (M' - M) * ∑ k, wt (s k) M' := by
    rw [mul_sum]; exact sum_congr rfl fun j _ => wt_shift _ _ _
  have hL := (hpos M').ne'
  have hc := (Real.exp_pos (M' - M)).ne'
  rw [e, wt_shift (s k) M M']
  generalize Real.exp (M' - M) = c at hc
  generalize ∑ k, wt (s k) M' = L at hL
  generalize wt (s k) M' = y
  field_simp

/-- The maximum of finitely many scores below `⊤`, of which one is a real, is a real. -/
theorem fold_max_masked {ι : Type} [Fintype ι] (g : ι → EReal) (h : ∀ i, g i ≠ ⊤) (i0 : ι) (h0 : g i0 ≠ ⊥) :
    ∃ R : ℝ, (univ : Finset ι).fold max ⊥ g = R := by
  obtain ⟨i, -, hi⟩ := Finset.exists_mem_eq_sup (univ : Finset ι) ⟨i0, mem_univ _⟩ g
  have e : (univ : Finset ι).fold max ⊥ g = g i := hi
  have hb : g i ≠ ⊥ := fun hb => h0 (le_bot_iff.mp (hb ▸ hi ▸ Finset.le_sup (f := g) (mem_univ i0)))
  exact ⟨(g i).toReal, by rw [e, EReal.coe_toReal (h i) hb]⟩

end Cert.Window
end
-- ==== Proof.WindowMask.lean ====
/- What the kernel's and the reference's masks, computed on words, say of the positions. -/
module
public import Idealize.ShloMosaic.Lib.Pointwise
@[expose] public section
set_option maxRecDepth 16384
noncomputable section
namespace Cert.Window
open Idealize.ShloMosaic

/-- A small natural number, as a word, reads back signed as itself. -/
theorem toInt_small (n : ℕ) (h : n < 1073741824) : (BitVec.ofNat 32 n).toInt = (n : ℤ) := by
  have e : (BitVec.ofNat 32 n).toNat = n := by rw [BitVec.toNat_ofNat]; omega
  rw [BitVec.toInt_eq_toNat_of_lt (by rw [e]; omega), e]

/-- A small difference reads back as itself. -/
theorem toInt_sub_small (x y : BitVec 32) (a b : ℤ) (hx : x.toInt = a) (hy : y.toInt = b) (h : -1073741824 < a - b) (h' : a - b < 1073741824) :
    (IntOp.subi x y).toInt = a - b := by
  rw [IntOp.subi, BitVec.toInt_sub, hx, hy, Int.bmod_eq_of_le_mul_two] <;> simp <;> omega

/-- A small sum reads back as itself. -/
theorem toInt_add_small (x y : BitVec 32) (a b : ℤ) (hx : x.toInt = a) (hy : y.toInt = b) (h : -1073741824 < a + b) (h' : a + b < 1073741824) :
    (IntOp.addi x y).toInt = a + b := by
  rw [IntOp.addi, BitVec.toInt_add, hx, hy, Int.bmod_eq_of_le_mul_two] <;> simp <;> omega

/-- The absolute value of a small word reads back as the absolute value. -/
theorem toInt_abs_small (x : BitVec 32) (a : ℤ) (hx : x.toInt = a) (h : -1073741824 < a) (h' : a < 1073741824) :
    (IntOp.absi x).toInt = |a| := by
  rw [IntOp.absi, BitVec.msb_eq_toInt, hx]
  by_cases ha : a < 0
  · rw [if_pos (by simpa using ha), BitVec.toInt_neg, hx, Int.bmod_eq_of_le_mul_two, abs_of_neg ha] <;> simp <;> omega
  · rw [if_neg (by simpa using ha), hx, abs_of_nonneg (by omega)]

/-- A one-bit word made of a truth value is set exactly when it is true. -/
theorem ofBool_one (b : Bool) : BitVec.ofBool b = 1#1 ↔ b = true := by cases b <;> decide

/-- A conjunction of bits is set when both are. -/
theorem and_one (x y : BitVec 1) : IntOp.andi x y = 1#1 ↔ x = 1#1 ∧ y = 1#1 := by revert x y; decide

/-- A disjunction of bits is set when one is. -/
theorem or_one (x y : BitVec 1) : IntOp.ori x y = 1#1 ↔ x = 1#1 ∨ y = 1#1 := by revert x y; decide

/-- The bit of a signed `≤`. -/
theorem sle_one (x y : BitVec 32) (a b : ℤ) (hx : x.toInt = a) (hy : y.toInt = b) : IntOp.cmpi .sle x y = 1#1 ↔ a ≤ b := by
  rw [IntOp.cmpi, ofBool_one, BitVec.sle_iff_toInt_le, hx, hy]

/-- The bit of a signed `≥`. -/
theorem sge_one (x y : BitVec 32) (a b : ℤ) (hx : x.toInt = a) (hy : y.toInt = b) : IntOp.cmpi .sge x y = 1#1 ↔ b ≤ a := by
  rw [IntOp.cmpi, ofBool_one, BitVec.sle_iff_toInt_le, hx, hy]

/-- The bit of a signed `<`. -/
theorem slt_one (x y : BitVec 32) (a b : ℤ) (hx : x.toInt = a) (hy : y.toInt = b) : IntOp.cmpi .slt x y = 1#1 ↔ a < b := by
  rw [IntOp.cmpi, ofBool_one, BitVec.slt_iff_toInt_lt, hx, hy]

/-- The offset of the block before: none, unless the block is the first. -/
theorem off_first : ∀ b : Fin 64, Scalar.select (Scalar.cmpi .sgt (BitVec.ofNat 32 b.val) 0#32) 0#32 1280#32
    = BitVec.ofNat 32 (if b.val = 0 then 1280 else 0) := by decide

/-- The offset of the block after: none, unless the block is the last. -/
theorem off_last : ∀ b : Fin 64, Scalar.select (Scalar.cmpi .slt (BitVec.ofNat 32 b.val) 63#32) 0#32 1280#32
    = BitVec.ofNat 32 (if b.val = 63 then 1280 else 0) := by decide

/-- Which of the 640 columns a row of a block sees. -/
theorem mask_bits (b : Fin 64) (r : Fin 128) (k : Fin 640) :
    IntOp.andi
      (IntOp.ori (IntOp.cmpi CmpIPredicate.sge (BitVec.ofNat 32 k) 128#32)
        (IntOp.cmpi CmpIPredicate.sge (BitVec.ofNat 32 k)
          (IntOp.addi (BitVec.ofNat 32 r)
            (Scalar.select (Scalar.cmpi CmpIPredicate.sgt (BitVec.ofNat 32 b) 0#32) 0#32 1280#32))))
      (IntOp.ori
        (IntOp.ori (IntOp.cmpi CmpIPredicate.slt (BitVec.ofNat 32 k) 256#32)
          (IntOp.cmpi CmpIPredicate.sge (BitVec.ofNat 32 k) 384#32))
        (IntOp.cmpi CmpIPredicate.sle (IntOp.subi (BitVec.ofNat 32 k) 256#32)
          (IntOp.subi (BitVec.ofNat 32 r)
            (Scalar.select (Scalar.cmpi CmpIPredicate.slt (BitVec.ofNat 32 b) 63#32) 0#32 1280#32)))) = 1#1
    ↔ (128 ≤ k.val ∨ b.val ≠ 0 ∧ r.val ≤ k.val) ∧ (k.val < 256 ∨ 384 ≤ k.val ∨ b.val ≠ 63 ∧ k.val ≤ r.val + 256) := by
  rw [off_first, off_last]
  have hk : (BitVec.ofNat 32 k.val).toInt = k.val := toInt_small _ (by omega)
  have hr : (BitVec.ofNat 32 r.val).toInt = r.val := toInt_small _ (by omega)
  have e : ∀ n : ℕ, n < 1073741824 → (BitVec.ofNat 32 n).toInt = (n : ℤ) := toInt_small
  obtain ⟨u, hu, hu'⟩ : ∃ u : ℕ, u = (if b.val = 0 then 1280 else 0) ∧ u < 1281 := ⟨_, rfl, by split <;> omega⟩
  obtain ⟨w, hw, hw'⟩ : ∃ w : ℕ, w = (if b.val = 63 then 1280 else 0) ∧ w < 1281 := ⟨_, rfl, by split <;> omega⟩
  rw [← hu, ← hw, and_one, or_one, or_one, or_one, sge_one _ _ _ _ hk (e 128 (by omega)),
    sge_one _ _ _ _ hk (toInt_add_small _ _ _ _ hr (e u (by omega)) (by omega) (by omega)),
    slt_one _ _ _ _ hk (e 256 (by omega)), sge_one _ _ _ _ hk (e 384 (by omega)),
    sle_one _ _ _ _ (toInt_sub_small _ _ _ _ hk (e 256 (by omega)) (by omega) (by omega))
      (toInt_sub_small _ _ _ _ hr (e w (by omega)) (by omega) (by omega))]
  split at hu <;> split at hw <;> omega

/-- Two positions are at most 128 apart. -/
theorem near_bits (i j : Fin 8192) :
    IntOp.cmpi CmpIPredicate.sle (IntOp.absi (IntOp.subi (BitVec.ofNat 32 i) (BitVec.ofNat 32 j))) 128#32 = 1#1
      ↔ i.val ≤ j.val + 128 ∧ j.val ≤ i.val + 128 := by
  rw [sle_one _ _ _ _ (toInt_abs_small _ _ (toInt_sub_small _ _ _ _ (toInt_small i (by omega)) (toInt_small j (by omega)) (by omega) (by omega))
    (by omega) (by omega)) (toInt_small 128 (by omega)), abs_le]
  omega

end Cert.Window
end
-- ==== Proof.WindowHead.lean ====
/- The body of the windowed attention: one head's attention over the 640 keys its block sees, and the eight heads side by side. -/
module
public import proofs.«01_k».proof.Proof.Gen.WindowedIdeal.Value
public import Idealize.ShloMosaic.Lib.Pipeline.ValueKit
public import Idealize.ShloMosaic.Lib.Pipeline.ReadBack
public import Idealize.ShloMosaic.Lib.Pointwise
public import proofs.«01_k».proof.Proof.WindowSoftmax
public import proofs.«01_k».proof.Proof.WindowMask
@[expose] public section
set_option maxRecDepth 16384
noncomputable section
namespace Cert.Window
open Idealize.ShloMosaic Idealize.ShloMosaic.TcCoe Idealize.ShloMosaic.Tactic Cert.WindowedIdeal Cert.WindowedIdeal.Gen
open Idealize.SL.Sem

/-- The 640 keys (or values) of one group of heads: the block before, the block itself, the block after, the context. -/
def rowsN (p : Fin 2) (A B C : Vec Ideal S1x2x128x64 .bf16) (X : Vec Ideal S1x2x256x64 .bf16) : FVec Ideal S640x64 .bf16 :=
  fun i =>
    if h : (i 0).val < 128 then A (ix4 0 p ⟨i 0, h⟩ (i 1))
    else if h : (i 0).val < 256 then B (ix4 0 p ⟨(i 0).val - 128, by omega⟩ (i 1))
    else if h : (i 0).val < 384 then C (ix4 0 p ⟨(i 0).val - 256, by omega⟩ (i 1))
    else X (ix4 0 p ⟨(i 0).val - 384, by have : (i 0).val < 640 := (i 0).isLt; omega⟩ (i 1))

/-- One group's rows of a block. -/
def grpN (p : Fin 2) (A : Vec Ideal S1x2x128x64 .bf16) : Vec Ideal S1x1x128x64 .bf16 := fun i => A (ix4 0 p (i 2) (i 3))

/-- One group's rows of the context. -/
def ctxN (p : Fin 2) (X : Vec Ideal S1x2x256x64 .bf16) : Vec Ideal S1x1x256x64 .bf16 := fun i => X (ix4 0 p (i 2) (i 3))

/-- One head's query rows. -/
def qryN (h : Fin 8) (Q : Vec Ideal S1x8x128x64 .bf16) : Vec Ideal S1x1x128x64 .bf16 := fun i => Q (ix4 0 h (i 2) (i 3))

/-- The concatenation the body makes of the three blocks and the context. -/
theorem rows_eq (p : Fin 2) (A B C : Vec Ideal S1x2x128x64 .bf16) (X : Vec Ideal S1x2x256x64 .bf16) :
    k0_pay2 (F := Ideal) (grpN p A) (grpN p B) (grpN p C) (ctxN p X) = rowsN p A B C X := by
  funext i
  obtain ⟨k, d, rfl⟩ : ∃ (k : Fin 640) (d : Fin 64), i = ix2 k d := ⟨i 0, i 1, by funext a; fin_cases a <;> rfl⟩
  pointwise [k0_pay2, rowsN, grpN, ctxN]
  by_cases h1 : k.val < 128
  · rw [dif_pos h1, dif_pos h1]
  · rw [dif_neg h1, dif_neg h1]
    by_cases h2 : k.val < 256
    · rw [dif_pos (by omega), dif_pos h2]
    · rw [dif_neg (by omega), dif_neg h2]
      by_cases h3 : k.val < 384
      · rw [dif_pos (by omega), dif_pos h3]
        exact congrArg (fun z => C (ix4 0 p z d)) (Fin.ext (by show k.val - 128 - 128 = k.val - 256; omega))
      · rw [dif_neg (by omega), dif_neg h3]
        exact congrArg (fun z => X (ix4 0 p z d)) (Fin.ext (by show k.val - 128 - 128 - 128 = k.val - 384; omega))

/-- The mask of block `b`'s rows over the 640 keys. -/
def maskN (b : ℕ) : IVec S128x640 1 :=
  k0_pay9 (iota .tc S128x640 32 [0] iota_S128x640_d0_w32) (iota .tc S128x640 32 [1] iota_S128x640_d1_w32)
    (Scalar.select (Scalar.cmpi .slt (BitVec.ofNat 32 b) 63#32) 0#32 1280#32) k0_pay7 (k0_pay8 (BitVec.ofNat 32 b))

/-- Row `r` of block `b` sees column `k`. -/
def sees (b r k : ℕ) : Prop := (128 ≤ k ∨ b ≠ 0 ∧ r ≤ k) ∧ (k < 256 ∨ 384 ≤ k ∨ b ≠ 63 ∧ k ≤ r + 256)

/-- It can be decided. -/
instance (b r k : ℕ) : Decidable (sees b r k) := by unfold sees; infer_instance

/-- The mask, read at an entry. -/
theorem mask_at (b : Fin 64) (r : Fin 128) (k : Fin 640) : maskN b (ix2 r k) = 1#1 ↔ sees b r k := by
  pointwise [maskN, k0_pay9, k0_pay7, k0_pay8]
  exact mask_bits b r k

/-- One head's attention over its 640 keys. -/
def headN (K V : FVec Ideal S640x64 .bf16) (M : IVec S128x640 1) (q : Vec Ideal S1x1x128x64 .bf16) (s : EReal) : FVec Ideal S128x64 .f32 :=
  k0_pay18 (F := Ideal) V M (k0_pay10 K q) s

/-- One head's attention: for one real shift, the weighted sum of the values over the sum of the weights, the sink's among them. -/
theorem head_at (K V : FVec Ideal S640x64 .bf16) (M : IVec S128x640 1) (q : Vec Ideal S1x1x128x64 .bf16) (s : EReal)
    (r : Fin 128) (S : Fin 640 → EReal)
    (hS : ∀ k, S k = if M (ix2 r k) = 1#1 then ∑ d : Fin 64, (q (ix4 0 0 r d) : EReal) * K (ix2 k d) else ⊥)
    (h : ∀ k, S k ≠ ⊤) (k0 : Fin 640) (h0 : S k0 ≠ ⊥) (hs : s ≠ ⊤) :
    ∃ R : ℝ, ∀ d : Fin 64, headN K V M q s (ix2 r d) = Ideal.div (∑ k, Ideal.exp (S k - R) * V (ix2 k d))
      (∑ k, Ideal.exp (S k - R) + Ideal.exp (s - R)) := by
  have hbot : Ideal.ofBits .f32 0xFF800000#32 = (⊥ : EReal) := by simp [Ideal.ofBits, Ideal.ieee]
  obtain ⟨R, hR⟩ := fold_max_masked S h k0 h0
  obtain ⟨R', hR'⟩ : ∃ R' : ℝ, max (R : EReal) s = R' := by
    induction s with
    | bot => exact ⟨R, max_eq_left bot_le⟩
    | top => exact absurd rfl hs
    | coe x => exact ⟨max R x, (EReal.coe_strictMono.monotone.map_max (a := R) (b := x)).symm⟩
  refine ⟨R', fun d => ?_⟩
  have e : ∀ k, Scalar.select (M (ix2 r k)) (∑ d : Fin 64, (q (ix4 0 0 r d) : EReal) * K (ix2 k d)) ⊥ = S k := fun k => (hS k).symm
  pointwise [headN, k0_pay18, k0_pay10]
  rw [hbot]
  simp only [e]
  rw [hR, hR']

/-- The eight heads side by side. -/
def catN (o : Fin 8 → FVec Ideal S128x64 .f32) : FVec Ideal S1x128x512 .bf16 :=
  shapeCast S1x128x512 (truncf .bf16 (concatenate S128x512 1 [⟨S128x64, o 0⟩, ⟨S128x64, o 1⟩, ⟨S128x64, o 2⟩, ⟨S128x64, o 3⟩, ⟨S128x64, o 4⟩, ⟨S128x64, o 5⟩, ⟨S128x64, o 6⟩, ⟨S128x64, o 7⟩] concatenates_S128x64_S128x64_S128x64_S128x64_S128x64_S128x64_S128x64_S128x64_S128x512_d1) bitsLt_bf16_f32) shapeCasts_S128x512_S1x128x512

/-- Head `h` stands in columns `64 h ..`. -/
theorem cat_at (o : Fin 8 → FVec Ideal S128x64 .f32) (r : Fin 128) (h : Fin 8) (d : Fin 64) :
    catN o (ix3 0 r ⟨64 * h + d, by omega⟩) = o h (ix2 r d) := by
  have e : catN o (ix3 0 r ⟨64 * h + d, by omega⟩) = concatenate S128x512 1 (List.ofFn fun n : Fin 8 => (⟨S128x64, o n⟩ : (s : Shape) × (s.Idx → EReal))) concatenates_S128x64_S128x64_S128x64_S128x64_S128x64_S128x64_S128x64_S128x64_S128x512_d1 (ix2 r ⟨64 * h + d, by omega⟩) := by
    refine shapeCast_apply _ shapeCasts_S128x512_S1x128x512 (ix3 0 r ⟨64 * h + d, by omega⟩) (ix2 r ⟨64 * h + d, by omega⟩) ?_
    rw [Shape.rowMajor_val_two, Shape.rowMajor_val_three]
    simp [ix2, ix3]
  refine e.trans ?_
  refine concatenate_ofFn_apply (t := S128x512) (s₁ := S128x64) (1 : Fin 2) (N := 8) o concatenates_S128x64_S128x64_S128x64_S128x64_S128x64_S128x64_S128x64_S128x64_S128x512_d1 rfl 64 rfl (ix2 r ⟨64 * h + d, by omega⟩) h ?_ (ix2 r d) ?_ ?_
  · show (64 * h.val + d.val) / 64 = h.val
    omega
  · show d.val = (64 * h.val + d.val) % 64
    omega
  · intro b hb
    fin_cases b
    · rfl
    · exact absurd rfl hb

/-- The body's value is the eight heads side by side, four on each group's keys and values. -/
theorem body_eq (K V : Fin 2 → FVec Ideal S640x64 .bf16) (M : IVec S128x640 1) (q : Fin 8 → Vec Ideal S1x1x128x64 .bf16) (s : Fin 8 → EReal)
    (s0 s1 s2 s3 s4 s5 s6 s7 : EReal) (h0 : s0 = s 0) (h1 : s1 = s 1) (h2 : s2 = s 2) (h3 : s3 = s 3) (h4 : s4 = s 4) (h5 : s5 = s 5) (h6 : s6 = s 6) (h7 : s7 = s 7) :
    k0_pay1 (F := Ideal) (V 1) M (k0_pay17 (K 1) (q 7)) (k0_pay18 (V 0) M (k0_pay10 (K 0) (q 0)) s0)
      (k0_pay23 (V 0) s1 (k0_pay20 M (k0_pay11 (K 0) (q 1)) s1) (k0_pay21 M (k0_pay11 (K 0) (q 1)) s1) (k0_pay22 M (k0_pay11 (K 0) (q 1)) s1))
      (k0_pay24 (V 0) M (k0_pay12 (K 0) (q 2)) s2) (k0_pay25 (V 0) M (k0_pay13 (K 0) (q 3)) s3)
      (k0_pay26 (V 1) M (k0_pay14 (K 1) (q 4)) s4) (k0_pay27 (V 1) M (k0_pay15 (K 1) (q 5)) s5)
      (k0_pay28 M (k0_pay16 (K 1) (q 6))) s6 (k0_pay29 M (k0_pay16 (K 1) (q 6)) s6) s7
    = catN ![headN (K 0) (V 0) M (q 0) (s 0), headN (K 0) (V 0) M (q 1) (s 1), headN (K 0) (V 0) M (q 2) (s 2), headN (K 0) (V 0) M (q 3) (s 3),
        headN (K 1) (V 1) M (q 4) (s 4), headN (K 1) (V 1) M (q 5) (s 5), headN (K 1) (V 1) M (q 6) (s 6), headN (K 1) (V 1) M (q 7) (s 7)] := by
  subst h0 h1 h2 h3 h4 h5 h6 h7
  rfl

/-- A grid point's output block, head by head. -/
theorem block_at (m : (ℓ : Loc nD τ sig) → Buf (Elt Ideal) ℓ) (c : Dev nD) (t : Fin cfg0.N) (r : Fin 128) (h : Fin 8) (d : Fin 64) :
    outsAt0 m c t (ix3 0 r ⟨64 * h + d, by omega⟩)
      = headN (rowsN ⟨h / 4, by omega⟩ (iblk m c 2 t) (iblk m c 3 t) (iblk m c 4 t) (iblk m c 8 t))
          (rowsN ⟨h / 4, by omega⟩ (iblk m c 5 t) (iblk m c 6 t) (iblk m c 7 t) (iblk m c 9 t))
          (maskN (grid0.coords t 1).val) (qryN h (iblk m c 1 t)) (iblk m c 0 t (ix1 h)) (ix2 r d) := by
  refine Eq.trans ?_ (cat_at (fun h => headN (rowsN ⟨h / 4, by omega⟩ (iblk m c 2 t) (iblk m c 3 t) (iblk m c 4 t) (iblk m c 8 t))
          (rowsN ⟨h / 4, by omega⟩ (iblk m c 5 t) (iblk m c 6 t) (iblk m c 7 t) (iblk m c 9 t))
          (maskN (grid0.coords t 1).val) (qryN h (iblk m c 1 t)) (iblk m c 0 t (ix1 h))) r h d)
  unfold outsAt0
  frame_open
  frame_out
  generalize (ix3 0 r ⟨64 * h + d, by omega⟩ : S1x128x512.Idx) = y
  have g0 : ∀ A : Vec Ideal S1x2x128x64 .bf16, View.ld A (Rect.unit ![0, 0, 0, 0] ![1, 1, 128, 64] inb_S1x2x128x64_S1x1x128x64_0_0_0_0) = grpN 0 A := by
    intro A; funext j; pointwise [grpN]
  have g1 : ∀ A : Vec Ideal S1x2x128x64 .bf16, View.ld A (Rect.unit ![0, 1, 0, 0] ![1, 1, 128, 64] inb_S1x2x128x64_S1x1x128x64_0_1_0_0) = grpN 1 A := by
    intro A; funext j; pointwise [grpN]
  have c0 : ∀ A : Vec Ideal S1x2x256x64 .bf16, View.ld A (Rect.unit ![0, 0, 0, 0] ![1, 1, 256, 64] inb_S1x2x256x64_S1x1x256x64_0_0_0_0) = ctxN 0 A := by
    intro A; funext j; pointwise [ctxN]
  have c1 : ∀ A : Vec Ideal S1x2x256x64 .bf16, View.ld A (Rect.unit ![0, 1, 0, 0] ![1, 1, 256, 64] inb_S1x2x256x64_S1x1x256x64_0_1_0_0) = ctxN 1 A := by
    intro A; funext j; pointwise [ctxN]
  have q0 : ∀ (h : Fin 8) (A : Vec Ideal S1x8x128x64 .bf16) (hb), View.ld A (Rect.unit ![0, h.val, 0, 0] ![1, 1, 128, 64] hb) = qryN h A := by
    intro h A hb; funext j
    show A _ = A _
    refine congrArg A ?_
    funext a
    fin_cases a
    all_goals refine Fin.ext ?_
    · have : (j 0).val < 1 := (j 0).isLt
      show 0 + 1 * (j 0).val = 0
      omega
    · have : (j 1).val < 1 := (j 1).isLt
      show h.val + 1 * (j 1).val = h.val
      omega
    · show 0 + 1 * (j 2).val = (j 2).val
      omega
    · show 0 + 1 * (j 3).val = (j 3).val
      omega
  have e3 : ∀ a b c d, k0_pay3 (F := Ideal) a b c d = k0_pay2 a b c d := fun _ _ _ _ => rfl
  have e5 : ∀ a b c d, k0_pay5 (F := Ideal) (k0_pay4 a) b c d = k0_pay2 a b c d := fun _ _ _ _ => rfl
  have e6 : ∀ a b c d, k0_pay6 (F := Ideal) a b c d = k0_pay2 a b c d := fun _ _ _ _ => rfl
  simp only [g0, g1, c0, c1, e3, e5, e6, rows_eq]
  have q1 : ∀ A : Vec Ideal S1x8x128x64 .bf16, View.ld A (Rect.unit ![0, 0, 0, 0] ![1, 1, 128, 64] inb_S1x8x128x64_S1x1x128x64_0_0_0_0) = qryN 0 A := fun A => q0 0 A _
  have q2 : ∀ A : Vec Ideal S1x8x128x64 .bf16, View.ld A (Rect.unit ![0, 1, 0, 0] ![1, 1, 128, 64] inb_S1x8x128x64_S1x1x128x64_0_1_0_0) = qryN 1 A := fun A => q0 1 A _
  have q3 : ∀ A : Vec Ideal S1x8x128x64 .bf16, View.ld A (Rect.unit ![0, 2, 0, 0] ![1, 1, 128, 64] inb_S1x8x128x64_S1x1x128x64_0_2_0_0) = qryN 2 A := fun A => q0 2 A _
  have q4 : ∀ A : Vec Ideal S1x8x128x64 .bf16, View.ld A (Rect.unit ![0, 3, 0, 0] ![1, 1, 128, 64] inb_S1x8x128x64_S1x1x128x64_0_3_0_0) = qryN 3 A := fun A => q0 3 A _
  have q5 : ∀ A : Vec Ideal S1x8x128x64 .bf16, View.ld A (Rect.unit ![0, 4, 0, 0] ![1, 1, 128, 64] inb_S1x8x128x64_S1x1x128x64_0_4_0_0) = qryN 4 A := fun A => q0 4 A _
  have q6 : ∀ A : Vec Ideal S1x8x128x64 .bf16, View.ld A (Rect.unit ![0, 5, 0, 0] ![1, 1, 128, 64] inb_S1x8x128x64_S1x1x128x64_0_5_0_0) = qryN 5 A := fun A => q0 5 A _
  have q7 : ∀ A : Vec Ideal S1x8x128x64 .bf16, View.ld A (Rect.unit ![0, 6, 0, 0] ![1, 1, 128, 64] inb_S1x8x128x64_S1x1x128x64_0_6_0_0) = qryN 6 A := fun A => q0 6 A _
  have q8 : ∀ A : Vec Ideal S1x8x128x64 .bf16, View.ld A (Rect.unit ![0, 7, 0, 0] ![1, 1, 128, 64] inb_S1x8x128x64_S1x1x128x64_0_7_0_0) = qryN 7 A := fun A => q0 7 A _
  simp only [q1, q2, q3, q4, q5, q6, q7, q8]
  have em : k0_pay9 (iota .tc S128x640 32 [0] iota_S128x640_d0_w32) (iota .tc S128x640 32 [1] iota_S128x640_d1_w32)
      (Scalar.select (Scalar.cmpi .slt (BitVec.ofNat 32 (grid0.coords t 1).val) 63#32) 0#32 1280#32) k0_pay7 (k0_pay8 (BitVec.ofNat 32 (grid0.coords t 1).val))
      = maskN (grid0.coords t 1).val := rfl
  simp only [em]
  have hsnk : ∀ (h : Fin 8) (A : Vec Ideal S8 .f32) (hb) (x : (Rect.unit (s := S8) ![h.val] ![1] hb).shape.Idx), View.ld A (Rect.unit ![h.val] ![1] hb) x = A (ix1 h) := by
    intro h A hb x
    show A _ = A _
    refine congrArg A ?_
    funext a
    fin_cases a
    refine Fin.ext ?_
    have : (x 0).val < 1 := (x 0).isLt
    show h.val + 1 * (x 0).val = h.val
    omega
  generalize iblk m c 0 t = A0
  generalize iblk m c 1 t = A1
  generalize iblk m c 2 t = A2
  generalize iblk m c 3 t = A3
  generalize iblk m c 4 t = A4
  generalize iblk m c 5 t = A5
  generalize iblk m c 6 t = A6
  generalize iblk m c 7 t = A7
  generalize iblk m c 8 t = A8
  generalize iblk m c 9 t = A9
  generalize maskN (grid0.coords t 1).val = M
  refine (congrFun (body_eq (fun p => rowsN p A2 A3 A4 A8) (fun p => rowsN p A5 A6 A7 A9) M
    (fun h => qryN h A1) (fun h => A0 (ix1 h)) _ _ _ _ _ _ _ _ (hsnk 0 A0 _ _) (hsnk 1 A0 _ _) (hsnk 2 A0 _ _) (hsnk 3 A0 _ _)
    (hsnk 4 A0 _ _) (hsnk 5 A0 _ _) (hsnk 6 A0 _ _) (hsnk 7 A0 _ _)) y).trans ?_
  refine congrArg (fun o => catN o y) (funext fun h => ?_)
  fin_cases h <;> rfl

end Cert.Window
end
-- ==== Proof.WindowRow.lean ====
/- A row's attention over all keys and the context, and the kernel's over the 640 columns of its block. -/
module
public import proofs.«01_k».proof.Proof.WindowHead
@[expose] public section
set_option maxRecDepth 16384
noncomputable section
namespace Cert.Window
open Idealize.ShloMosaic Idealize.ShloMosaic.TcCoe Idealize.ShloMosaic.Tactic

/-- Key `j` lies in the window of row `i`. -/
def near (i j : ℕ) : Prop := i ≤ j + 128 ∧ j ≤ i + 128

/-- It can be decided. -/
instance (i j : ℕ) : Decidable (near i j) := by unfold near; infer_instance

/-- A sum over a row's 640 columns is a sum over all keys and all context keys, when what the row does not see counts zero on both sides. -/
theorem local_sum (b : Fin 64) (r : Fin 128) (F : Fin 640 → EReal) (G : Fin 8192 → EReal) (X : Fin 256 → EReal)
    (hx : ∀ x : Fin 256, F ⟨384 + x, by omega⟩ = X x)
    (hz : ∀ k : Fin 640, ¬ sees b r k → F k = 0)
    (hg : ∀ j : Fin 8192, ¬ near (128 * b + r) j → G j = 0)
    (he : ∀ (k : Fin 640) (j : Fin 8192), k.val < 384 → sees b r k → j.val + 128 = 128 * b + k → F k = G j) :
    ∑ k, F k = ∑ j, G j + ∑ x, X x := by
  have hsplit : ∑ k : Fin 640, F k = ∑ c : Fin 384, F ⟨c, by omega⟩ + ∑ x : Fin 256, F ⟨384 + x, by omega⟩ :=
    Fin.sum_univ_add (a := 384) (b := 256) F
  rw [hsplit]
  refine congrArg₂ (· + ·) ?_ (Finset.sum_congr rfl fun x _ => hx x)
  · have hs : ∀ c : Fin 384, F ⟨c, by omega⟩ ≠ 0 → sees b r c := fun c hc => by
      by_contra h
      exact hc (hz ⟨c, by omega⟩ h)
    have hb : ∀ c : Fin 384, sees b r c → 128 ≤ 128 * b.val + c.val ∧ 128 * b.val + c.val - 128 < 8192 := by
      intro c hc
      unfold sees at hc
      omega
    refine Finset.sum_bij_ne_zero (fun c _ hc => (⟨128 * b + c - 128, (hb c (hs c hc)).2⟩ : Fin 8192)) (fun _ _ _ => Finset.mem_univ _) ?_ ?_ ?_
    · intro c _ hc c' _ hc' e
      have h1 := (hb c (hs c hc)).1
      have h2 := (hb c' (hs c' hc')).1
      have h3 : 128 * b.val + c.val - 128 = 128 * b.val + c'.val - 128 := congrArg Fin.val e
      exact Fin.ext (by omega)
    · intro j _ hj
      have hn : near (128 * b + r) j := by
        by_contra h
        exact hj (hg j h)
      unfold near at hn
      have hc : j.val + 128 - 128 * b.val < 384 := by omega
      have hse : sees b r (j.val + 128 - 128 * b.val) := by
        unfold sees
        omega
      have hF : F ⟨j.val + 128 - 128 * b.val, by omega⟩ = G j := he ⟨_, by omega⟩ j hc hse (by show j.val + 128 = 128 * b.val + (j.val + 128 - 128 * b.val); omega)
      exact ⟨⟨j.val + 128 - 128 * b.val, hc⟩, Finset.mem_univ _, by rw [hF]; exact hj, Fin.ext (by show 128 * b.val + (j.val + 128 - 128 * b.val) - 128 = j.val; omega)⟩
    · intro c _ hc
      have h1 := (hb c (hs c hc)).1
      exact he ⟨c, by omega⟩ _ c.isLt (hs c hc) (by show 128 * b.val + c.val - 128 + 128 = 128 * b.val + c.val; omega)

/-- The sum of a row's weights at shift `M`: the keys', the context's, the sink's. -/
def den (a : Fin 8192 → EReal) (x : Fin 256 → EReal) (s : EReal) (M : ℝ) : EReal :=
  ∑ j, Ideal.exp (a j - M) + ∑ l, Ideal.exp (x l - M) + Ideal.exp (s - M)

/-- A row's attention at shift `M`: each value times its weight over the sum of the weights. -/
def att (a : Fin 8192 → EReal) (x : Fin 256 → EReal) (s : EReal) (v : Fin 8192 → EReal) (vx : Fin 256 → EReal) (M : ℝ) : EReal :=
  ∑ j, v j * Ideal.div (Ideal.exp (a j - M)) (den a x s M) + ∑ l, vx l * Ideal.div (Ideal.exp (x l - M)) (den a x s M)

/-- One quotient of two sums at one shift is the attention at any other. -/
theorem quot_att (a : Fin 8192 → EReal) (x : Fin 256 → EReal) (s : EReal) (v : Fin 8192 → EReal) (vx : Fin 256 → EReal) (R M : ℝ)
    (ha : ∀ j, a j ≠ ⊤) (hx : ∀ l, x l ≠ ⊤) (hs : s ≠ ⊤) (l0 : Fin 256) (h0 : x l0 ≠ ⊥) :
    Ideal.div (∑ j, Ideal.exp (a j - R) * v j + ∑ l, Ideal.exp (x l - R) * vx l) (den a x s R) = att a x s v vx M := by
  have h := quot_masked (ι := (Fin 8192 ⊕ Fin 256) ⊕ Unit) (Sum.elim (Sum.elim a x) fun _ => s) (Sum.elim (Sum.elim v vx) fun _ => 0) R M
    (by rintro ((j | l) | _); exacts [ha j, hx l, hs]) (Sum.inl (Sum.inr l0)) h0
  simp only [Fintype.sum_sum_type, Sum.elim_inl, Sum.elim_inr, Finset.univ_unique, Finset.sum_singleton, mul_zero, zero_mul, add_zero] at h
  exact h

/-- One head's row is the attention of that row, at any shift. -/
theorem head_att (b : Fin 64) (r : Fin 128) (K V : FVec Ideal Cert.WindowedIdeal.S640x64 .bf16) (q : Vec Ideal Cert.WindowedIdeal.S1x1x128x64 .bf16) (s : EReal)
    (Q : Fin 64 → EReal) (k : Fin 8192 → Fin 64 → EReal) (kx : Fin 256 → Fin 64 → EReal) (v : Fin 8192 → Fin 64 → EReal) (vx : Fin 256 → Fin 64 → EReal)
    (hq : ∀ d, q (ix4 0 0 r d) = Q d)
    (hk : ∀ (c : Fin 640) (j : Fin 8192), c.val < 384 → sees b r c → j.val + 128 = 128 * b + c → ∀ d, K (ix2 c d) = k j d ∧ V (ix2 c d) = v j d)
    (hx : ∀ (l : Fin 256) d, K (ix2 ⟨384 + l, by omega⟩ d) = kx l d ∧ V (ix2 ⟨384 + l, by omega⟩ d) = vx l d)
    (fk : ∀ j, ∃ y : ℝ, ∑ d, Q d * k j d = y) (fx : ∀ l, ∃ y : ℝ, ∑ d, Q d * kx l d = y) (hs : s ≠ ⊤) (M : ℝ) (d : Fin 64) :
    headN K V (maskN b) q s (ix2 r d)
      = att (fun j => if near (128 * b + r) j then ∑ d, Q d * k j d else ⊥) (fun l => ∑ d, Q d * kx l d) s (fun j => v j d) (fun l => vx l d) M := by
  classical
  have hS : ∀ (c : Fin 640) (j : Fin 8192), c.val < 384 → sees b r c → j.val + 128 = 128 * b + c →
      ∑ d : Fin 64, (q (ix4 0 0 r d) : EReal) * K (ix2 c d) = ∑ d, Q d * k j d := fun c j h1 h2 h3 =>
    Finset.sum_congr rfl fun d _ => by rw [hq d, (hk c j h1 h2 h3 d).1]
  have hX : ∀ l : Fin 256, ∑ d : Fin 64, (q (ix4 0 0 r d) : EReal) * K (ix2 ⟨384 + l, by omega⟩ d) = ∑ d, Q d * kx l d := fun l =>
    Finset.sum_congr rfl fun d _ => by rw [hq d, (hx l d).1]
  have hsx : ∀ l : Fin 256, sees b r (384 + l.val) := fun l => by unfold sees; omega
  have hsn : ∀ (c : Fin 640) (j : Fin 8192), c.val < 384 → sees b r c → j.val + 128 = 128 * b + c → near (128 * b + r) j := by
    intro c j h1 h2 h3
    unfold sees at h2
    unfold near
    omega
  obtain ⟨S, eS⟩ : ∃ S : Fin 640 → EReal, ∀ c, S c = if sees b r c then ∑ d : Fin 64, (q (ix4 0 0 r d) : EReal) * K (ix2 c d) else ⊥ := ⟨_, fun _ => rfl⟩
  have hSx : ∀ l : Fin 256, S ⟨384 + l, by omega⟩ = ∑ d, Q d * kx l d := fun l => by
    rw [eS, if_pos (hsx l), hX]
  have hSk : ∀ (c : Fin 640) (j : Fin 8192), c.val < 384 → sees b r c → j.val + 128 = 128 * b + c → S c = ∑ d, Q d * k j d := fun c j h1 h2 h3 => by
    rw [eS, if_pos h2, hS c j h1 h2 h3]
  have hSt : ∀ c, S c ≠ ⊤ := by
    intro c
    by_cases h : sees b r c
    · by_cases h1 : c.val < 384
      · have hb := h
        unfold sees at hb
        obtain ⟨y, hy⟩ := fk ⟨128 * b + c - 128, by omega⟩
        rw [hSk c ⟨128 * b + c - 128, by omega⟩ h1 h (by show 128 * b.val + c.val - 128 + 128 = 128 * b.val + c.val; omega), hy]
        exact EReal.coe_ne_top y
      · obtain ⟨y, hy⟩ := fx ⟨c - 384, by omega⟩
        have : c = ⟨384 + (c.val - 384), by omega⟩ := Fin.ext (by show c.val = 384 + (c.val - 384); omega)
        rw [this, hSx ⟨c - 384, by omega⟩, hy]
        exact EReal.coe_ne_top y
    · rw [eS, if_neg h]
      exact bot_ne_top
  obtain ⟨y0, hy0⟩ := fx 0
  obtain ⟨R, hR⟩ := head_at K V (maskN b) q s r S (fun c => by rw [eS]; exact if_congr (mask_at b r c).symm rfl rfl) hSt ⟨384, by omega⟩
    (by rw [show (⟨384, by omega⟩ : Fin 640) = ⟨384 + (0 : Fin 256).val, by omega⟩ from rfl, hSx 0, hy0]; exact EReal.coe_ne_bot y0) hs
  rw [hR d]
  have ez : ∀ R : ℝ, Ideal.exp ((⊥ : EReal) - R) = 0 := fun R => by
    rw [sub_eq_add_neg, EReal.bot_add]
    rfl
  have h1 : ∑ c, Ideal.exp (S c - R) * V (ix2 c d)
      = ∑ j : Fin 8192, Ideal.exp ((if near (128 * b + r) j then ∑ d, Q d * k j d else ⊥) - R) * v j d
        + ∑ l, Ideal.exp (∑ d, Q d * kx l d - R) * vx l d := by
    refine local_sum b r _ _ _ (fun l => by rw [hSx, (hx l d).2]) (fun c hc => ?_) (fun j hj => ?_) fun c j h1 h2 h3 => ?_
    · rw [eS, if_neg hc, ez, zero_mul]
    · rw [if_neg hj, ez, zero_mul]
    · rw [hSk c j h1 h2 h3, if_pos (hsn c j h1 h2 h3), (hk c j h1 h2 h3 d).2]
  have h2 : ∑ c, Ideal.exp (S c - R)
      = ∑ j : Fin 8192, Ideal.exp ((if near (128 * b + r) j then ∑ d, Q d * k j d else ⊥) - R)
        + ∑ l, Ideal.exp (∑ d, Q d * kx l d - R) := by
    refine local_sum b r _ _ _ (fun l => by rw [hSx]) (fun c hc => ?_) (fun j hj => ?_) fun c j h1 h2 h3 => ?_
    · rw [eS, if_neg hc, ez]
    · rw [if_neg hj, ez]
    · rw [hSk c j h1 h2 h3, if_pos (hsn c j h1 h2 h3)]
  rw [h1, h2]
  refine quot_att _ _ s (fun j => v j d) (fun l => vx l d) R M (fun j => ?_) (fun l => ?_) hs 0 ?_
  · show (if near (128 * b + r) j then ∑ d, Q d * k j d else ⊥) ≠ ⊤
    obtain ⟨y, hy⟩ := fk j
    by_cases h : near (128 * b + r) j
    · rw [if_pos h, hy]; exact EReal.coe_ne_top y
    · rw [if_neg h]; exact bot_ne_top
  · show (∑ d, Q d * kx l d) ≠ ⊤
    obtain ⟨y, hy⟩ := fx l
    rw [hy]; exact EReal.coe_ne_top y
  · show (∑ d, Q d * kx 0 d) ≠ ⊥
    rw [hy0]; exact EReal.coe_ne_bot y0

end Cert.Window
end
-- ==== Proof.WindowArray.lean ====
/- The result array of the windowed attention, block by block. -/
module
public import proofs.«01_k».proof.Proof.WindowRow
@[expose] public section
set_option maxRecDepth 16384
noncomputable section
namespace Cert.Window
open Idealize.ShloMosaic Idealize.ShloMosaic.TcCoe Idealize.ShloMosaic.Tactic Cert.WindowedIdeal Cert.WindowedIdeal.Gen
open Idealize.SL.Sem

/-- The block each window stages at a grid point. -/
theorem idx : ∀ t : Fin cfg0.N, win0_0.index t = ![0]
    ∧ win0_1.index t = ![t.val / 64, 0, t.val % 64, 0]
    ∧ win0_2.index t = ![t.val / 64, 0, t.val % 64 - 1, 0]
    ∧ win0_3.index t = ![t.val / 64, 0, t.val % 64, 0]
    ∧ win0_4.index t = ![t.val / 64, 0, min (t.val % 64 + 1) 63, 0]
    ∧ win0_5.index t = ![t.val / 64, 0, t.val % 64 - 1, 0]
    ∧ win0_6.index t = ![t.val / 64, 0, t.val % 64, 0]
    ∧ win0_7.index t = ![t.val / 64, 0, min (t.val % 64 + 1) 63, 0]
    ∧ win0_8.index t = ![t.val / 64, 0, 0, 0] ∧ win0_9.index t = ![t.val / 64, 0, 0, 0]
    ∧ win0_10.index t = ![t.val / 64, t.val % 64, 0] ∧ (grid0.coords t 1).val = t.val % 64 :=
  (by decide +kernel : ∀ t : Fin grid0.N, _)

/-- The score of row `i` of head `h` with key `j`. -/
def scW (Q : Vec Ideal S2x8x8192x64 .bf16) (K : Vec Ideal S2x2x8192x64 .bf16) (b : Fin 2) (h : Fin 8) (i j : Fin 8192) : EReal :=
  ∑ e : Fin 64, (Q (ix4 b h i e) : EReal) * K (ix4 b ⟨h / 4, by omega⟩ j e)

/-- The score of row `i` of head `h` with context key `l`. -/
def scX (Q : Vec Ideal S2x8x8192x64 .bf16) (KX : Vec Ideal S2x2x256x64 .bf16) (b : Fin 2) (h : Fin 8) (i : Fin 8192) (l : Fin 256) : EReal :=
  ∑ e : Fin 64, (Q (ix4 b h i e) : EReal) * KX (ix4 b ⟨h / 4, by omega⟩ l e)

/-- One entry of the attention: row `i` of head `h`, at the shift `M`. -/
def rowW (Q : Vec Ideal S2x8x8192x64 .bf16) (K V : Vec Ideal S2x2x8192x64 .bf16) (KX VX : Vec Ideal S2x2x256x64 .bf16) (s : Vec Ideal S8 .f32)
    (b : Fin 2) (h : Fin 8) (i : Fin 8192) (d : Fin 64) (M : ℝ) : EReal :=
  att (fun j => if near i j then scW Q K b h i j else ⊥) (scX Q KX b h i) (s (ix1 h))
    (fun j => V (ix4 b ⟨h / 4, by omega⟩ j d)) (fun l => VX (ix4 b ⟨h / 4, by omega⟩ l d)) M

/-- The attention, as an array, each row at its shift. -/
def arrW (Q : Vec Ideal S2x8x8192x64 .bf16) (K V : Vec Ideal S2x2x8192x64 .bf16) (KX VX : Vec Ideal S2x2x256x64 .bf16) (s : Vec Ideal S8 .f32)
    (M : Fin 2 → Fin 8 → Fin 8192 → ℝ) : S2x8192x512.Idx → EReal := fun i =>
  rowW Q K V KX VX s (i 0) ⟨(i 2).val / 64, by have : (i 2).val < 512 := (i 2).isLt; omega⟩ (i 1) ⟨(i 2).val % 64, by omega⟩
    (M (i 0) ⟨(i 2).val / 64, by have : (i 2).val < 512 := (i 2).isLt; omega⟩ (i 1))

/-- A sum of products of reals is a real. -/
theorem real_dot (x y : Fin 64 → EReal) (hx : ∀ e, ∃ r : ℝ, x e = r) (hy : ∀ e, ∃ r : ℝ, y e = r) : ∃ r : ℝ, ∑ e, x e * y e = r := by
  choose a ha using hx
  choose b hb using hy
  refine ⟨∑ e, a e * b e, ?_⟩
  rw [← Cert.Flash.coe_sum]
  exact Finset.sum_congr rfl fun e _ => by rw [ha, hb, EReal.coe_mul]

variable (m : (ℓ : Loc nD τ sig) → Buf (Elt Ideal) ℓ)

set_option maxHeartbeats 2000000 in
/-- The result array of the kernel, at any shifts. -/
theorem kernel_arr (c : Dev nD) (M : Fin 2 → Fin 8 → Fin 8192 → ℝ)
    (Q : Vec Ideal S2x8x8192x64 .bf16) (K V : Vec Ideal S2x2x8192x64 .bf16) (KX VX : Vec Ideal S2x2x256x64 .bf16) (s : Vec Ideal S8 .f32)
    (eQ : m ((c : Thread nD τ).loc main_arg0) = Q) (eK : m ((c : Thread nD τ).loc main_arg1) = K) (eV : m ((c : Thread nD τ).loc main_arg2) = V)
    (eKX : m ((c : Thread nD τ).loc main_arg3) = KX) (eVX : m ((c : Thread nD τ).loc main_arg4) = VX) (es : m ((c : Thread nD τ).loc main_arg5) = s)
    (hQ : ∀ i, ∃ x : ℝ, (Q i : EReal) = x) (hK : ∀ i, ∃ x : ℝ, (K i : EReal) = x) (hX : ∀ i, ∃ x : ℝ, (KX i : EReal) = x)
    (hs : ∀ i, (s i : EReal) ≠ ⊤) :
    (dats m 0 c).arrAt 10 cfg0.N = arrW Q K V KX VX s M := by
  replace eQ := (V_main_arg0 m c).trans eQ
  replace eK := (V_main_arg1 m c).trans eK
  replace eV := (V_main_arg2 m c).trans eV
  replace eKX := (V_main_arg3 m c).trans eKX
  replace eVX := (V_main_arg4 m c).trans eVX
  replace es := (V_main_arg5 m c).trans es
  refine (dats m 0 c).arrAt_eq_of_covers 10 _ (by decide +kernel) fun t _ y => ?_
  blk_simp
  rw [after0_10]
  have ht : t.val < 128 := lt_of_lt_of_eq t.isLt (show cfg0.N = 128 from N_0)
  obtain ⟨i, hi⟩ : ∃ i : S2x8192x512.Idx, i = (win0_10.blk t).view.emb y := ⟨_, rfl⟩
  have i0 : (i 0).val = t.val / 64 := by rw [hi]; blk_simp [idx t]; try omega
  have i1 : (i 1).val = 128 * (t.val % 64) + (y 1).val := by rw [hi]; blk_simp [idx t]; try omega
  have i2 : (i 2).val = (y 2).val := by rw [hi]; blk_simp [idx t]; try omega
  rw [← hi]
  have y2 : (y 2).val < 512 := (y 2).isLt
  obtain ⟨r, hr⟩ : ∃ r : Fin 128, r.val = (y 1).val := ⟨⟨(y 1).val, (y 1).isLt⟩, rfl⟩
  obtain ⟨h, hh⟩ : ∃ h : Fin 8, h.val = (y 2).val / 64 := ⟨⟨(y 2).val / 64, by omega⟩, rfl⟩
  obtain ⟨d, hd⟩ : ∃ d : Fin 64, d.val = (y 2).val % 64 := ⟨⟨(y 2).val % 64, by omega⟩, rfl⟩
  have ey : y = (ix3 0 r ⟨64 * h + d, by omega⟩ : S1x128x512.Idx) := by
    funext a
    fin_cases a
    · exact Subsingleton.elim (α := Fin 1) _ _
    · exact Fin.ext hr.symm
    · exact Fin.ext (by show (y 2).val = 64 * h.val + d.val; omega)
  rw [← hr] at i1
  obtain ⟨b, hb⟩ : ∃ b : Fin 64, b.val = t.val % 64 := ⟨⟨t.val % 64, by omega⟩, rfl⟩
  have e1 : (i 1) = (⟨128 * b + r, by omega⟩ : Fin 8192) := Fin.ext (i1.trans (by show 128 * (t.val % 64) + r.val = 128 * b.val + r.val; rw [hb]))
  have e2 : (⟨(i 2).val / 64, by omega⟩ : Fin 8) = h := Fin.ext (by show (i 2).val / 64 = h.val; omega)
  have e3 : (⟨(i 2).val % 64, by omega⟩ : Fin 64) = d := Fin.ext (by show (i 2).val % 64 = d.val; omega)
  have ec : (grid0.coords t 1).val = b.val := by rw [hb]; exact (idx t).2.2.2.2.2.2.2.2.2.2.2
  obtain ⟨n, hn⟩ : ∃ n : Fin 2, n.val = t.val / 64 := ⟨⟨t.val / 64, by omega⟩, rfl⟩
  have e0 : (i 0) = n := Fin.ext (i0.trans hn.symm)
  rw [ey, block_at, ec]
  unfold arrW
  rw [e2, e3, e1, e0]
  have e5 : (iblk m c 0 t (ix1 h) : EReal) = s (ix1 h) := by
    rw [← es]
    blk_ext [iblk, idx t]
  rw [e5]
  refine head_att b r _ _ _ _ (fun e => Q (ix4 n h ⟨128 * b + r, by omega⟩ e)) (fun j e => K (ix4 n ⟨h / 4, by omega⟩ j e))
    (fun l e => KX (ix4 n ⟨h / 4, by omega⟩ l e)) (fun j e => V (ix4 n ⟨h / 4, by omega⟩ j e)) (fun l e => VX (ix4 n ⟨h / 4, by omega⟩ l e))
    (fun e => ?_) (fun k j hk hsee hj e => ⟨?_, ?_⟩) (fun l e => ⟨?_, ?_⟩)
    (fun j => real_dot _ _ (fun e => hQ _) fun e => hK _) (fun l => real_dot _ _ (fun e => hQ _) fun e => hX _) (hs _) _ d
  · show (iblk m c 1 t (ix4 0 h r e) : EReal) = _
    rw [← eQ]
    blk_ext [iblk, idx t, hn, hb]
  · unfold sees at hsee
    unfold rowsN
    by_cases h1 : k.val < 128
    · refine (dif_pos h1).trans ?_
      rw [← eK]
      blk_ext [iblk, idx t, hn, hb]
    · refine (dif_neg h1).trans ?_
      by_cases h2 : k.val < 256
      · refine (dif_pos h2).trans ?_
        rw [← eK]
        blk_ext [iblk, idx t, hn, hb]
      · refine (dif_neg h2).trans ((dif_pos hk).trans ?_)
        rw [← eK]
        blk_ext [iblk, idx t, hn, hb]
  · unfold sees at hsee
    unfold rowsN
    by_cases h1 : k.val < 128
    · refine (dif_pos h1).trans ?_
      rw [← eV]
      blk_ext [iblk, idx t, hn, hb]
    · refine (dif_neg h1).trans ?_
      by_cases h2 : k.val < 256
      · refine (dif_pos h2).trans ?_
        rw [← eV]
        blk_ext [iblk, idx t, hn, hb]
      · refine (dif_neg h2).trans ((dif_pos hk).trans ?_)
        rw [← eV]
        blk_ext [iblk, idx t, hn, hb]
  · unfold rowsN
    refine (dif_neg (show ¬ 384 + l.val < 128 by omega)).trans ((dif_neg (show ¬ 384 + l.val < 256 by omega)).trans ((dif_neg (show ¬ 384 + l.val < 384 by omega)).trans ?_))
    rw [← eKX]
    blk_ext [iblk, idx t, hn]
  · unfold rowsN
    refine (dif_neg (show ¬ 384 + l.val < 128 by omega)).trans ((dif_neg (show ¬ 384 + l.val < 256 by omega)).trans ((dif_neg (show ¬ 384 + l.val < 384 by omega)).trans ?_))
    rw [← eVX]
    blk_ext [iblk, idx t, hn]

end Cert.Window
end
-- ==== Proof.WindowReference.lean ====
/- The reference of the windowed attention, read entry by entry. -/
module
public import proofs.«01_k».proof.Proof.WindowArray
public import proofs.«01_k».proof.Proof.Gen.WindowedRefIdeal.Read
@[expose] public section
set_option maxRecDepth 16384
noncomputable section
namespace Cert.Window
open Idealize.ShloMosaic Idealize.ShloMosaic.TcCoe Idealize.ShloMosaic.Tactic Cert.WindowedRefIdeal Cert.WindowedRefIdeal.Gen Cert.WindowedRefIdeal.Read
open Idealize.SL.Sem

/-- The pattern of the score of a masked key. -/
theorem bot_bits : Ideal.ofBits .f32 0xFF800000#32 = (⊥ : EReal) := by simp [Ideal.ofBits, Ideal.ieee]

/-- The reference's mask is the window. -/
theorem ref_mask (i : S2x2x4x8192x8192.Idx) : val_main_call0_v1 (F := Ideal) i = 1#1 ↔ near (i 3).val (i 4).val := by
  rw [val_main_call0_v1_apply, val_main_v11_apply, val_main_v9_apply, val_main_v8_apply, val_main_v6_apply, val_main_v7_apply, val_main_v10_apply, val_main_c_apply]
  exact near_bits (i 3) (i 4)

/-- The reference's scores with the keys. -/
theorem ref_local (Q : Vec Ideal S2x8x8192x64 .bf16) (K : Vec Ideal S2x2x8192x64 .bf16) (b : Fin 2) (h : Fin 8) (i j : Fin 8192) :
    (val_main_v13 (F := Ideal) Q K (ix5 b ⟨h / 4, by omega⟩ ⟨h % 4, by omega⟩ i j) : EReal) = if near i j then scW Q K b h i j else ⊥ := by
  rw [val_main_v13_apply, val_main_call0_v2_apply, val_main_call0_v0_apply, val_main_cst_apply]
  refine if_congr (ref_mask _) ?_ bot_bits
  rw [val_main_v12_apply]
  refine Finset.sum_congr rfl fun e _ => ?_
  rw [val_main_v5_apply]
  refine congrArg₂ (· * ·) (congrArg Q ?_) (congrArg K ?_)
  · funext a
    fin_cases a <;> exact Fin.ext (by simp [ix5, ix4] <;> omega)
  · funext a
    fin_cases a <;> rfl

/-- The reference's scores with the context keys. -/
theorem ref_context (Q : Vec Ideal S2x8x8192x64 .bf16) (KX : Vec Ideal S2x2x256x64 .bf16) (b : Fin 2) (h : Fin 8) (i : Fin 8192) (l : Fin 256) :
    (val_main_v14 (F := Ideal) Q KX (ix5 b ⟨h / 4, by omega⟩ ⟨h % 4, by omega⟩ i l) : EReal) = scX Q KX b h i l := by
  rw [val_main_v14_apply]
  refine Finset.sum_congr rfl fun e _ => ?_
  rw [val_main_v5_apply]
  refine congrArg₂ (· * ·) (congrArg Q ?_) (congrArg KX ?_)
  · funext a
    fin_cases a <;> exact Fin.ext (by simp [ix5, ix4] <;> omega)
  · funext a
    fin_cases a <;> rfl

/-- The reference's sink logit. -/
theorem ref_sink (s : Vec Ideal S8 .f32) (b : Fin 2) (h : Fin 8) (i : Fin 8192) (z : Fin 1) :
    val_main_v16 (F := Ideal) s (ix5 b ⟨h / 4, by omega⟩ ⟨h % 4, by omega⟩ i z) = s (ix1 h) := by
  rw [val_main_v16_apply, val_main_v15_apply]
  refine congrArg s ?_
  funext a
  fin_cases a
  exact Fin.ext (by simp [ix5, ix1] <;> omega)

/-- A row's logits: the keys', then the context's, then the sink's. -/
theorem ref_logits (Q : Vec Ideal S2x8x8192x64 .bf16) (K : Vec Ideal S2x2x8192x64 .bf16) (KX : Vec Ideal S2x2x256x64 .bf16) (s : Vec Ideal S8 .f32)
    (b : Fin 2) (h : Fin 8) (i : Fin 8192) (k : Fin 8449) :
    (val_main_v17 (F := Ideal) Q K KX s (ix5 b ⟨h / 4, by omega⟩ ⟨h % 4, by omega⟩ i k) : EReal)
      = if hk : k.val < 8192 then (if near i k then scW Q K b h i ⟨k, hk⟩ else ⊥)
        else if hl : k.val - 8192 < 256 then scX Q KX b h i ⟨k - 8192, hl⟩ else s (ix1 h) := by
  unfold val_main_v17
  have h1 := ref_local Q K b h i
  have h2 := ref_context Q KX b h i
  have h3 := ref_sink s b h i
  revert h1 h2 h3
  generalize val_main_v13 (F := Ideal) Q K = y1
  generalize val_main_v14 (F := Ideal) Q KX = y2
  generalize val_main_v16 (F := Ideal) s = y3
  intro h1 h2 h3
  pointwise
  by_cases hk : k.val < 8192
  · rw [dif_pos hk, dif_pos hk]
    exact h1 ⟨k, hk⟩
  · rw [dif_neg hk, dif_neg hk]
    by_cases hl : k.val - 8192 < 256
    · rw [dif_pos hl, dif_pos hl]
      exact h2 ⟨k - 8192, hl⟩
    · rw [dif_neg hl, dif_neg hl]
      exact h3 _

/-- A sum over a row's 8449 logits: the keys', the context's and the sink's. -/
theorem logits_sum (f : Fin 8449 → EReal) :
    ∑ k, f k = ∑ j : Fin 8192, f ⟨j, by omega⟩ + ∑ l : Fin 256, f ⟨8192 + l, by omega⟩ + f ⟨8448, by omega⟩ := by
  have e1 : ∑ k : Fin 8449, f k = ∑ k : Fin 8448, f ⟨k, by omega⟩ + f ⟨8448, by omega⟩ := Fin.sum_univ_castSucc (n := 8448) f
  have e2 : ∑ k : Fin 8448, f ⟨k, by omega⟩ = ∑ j : Fin 8192, f ⟨j, by omega⟩ + ∑ l : Fin 256, f ⟨8192 + l, by omega⟩ :=
    Fin.sum_univ_add (a := 8192) (b := 256) fun k : Fin 8448 => f ⟨k, by omega⟩
  rw [e1, e2]

/-- A row's maximum is a real. -/
theorem ref_max (Q : Vec Ideal S2x8x8192x64 .bf16) (K : Vec Ideal S2x2x8192x64 .bf16) (KX : Vec Ideal S2x2x256x64 .bf16) (s : Vec Ideal S8 .f32)
    (i : S2x2x4x8192.Idx) (g : Fin 8449 → EReal) (hg : ∀ k, (val_main_v17 (F := Ideal) Q K KX s (ix5 (i 0) (i 1) (i 2) (i 3) k) : EReal) = g k)
    (ht : ∀ k, g k ≠ ⊤) (k0 : Fin 8449) (h0 : g k0 ≠ ⊥) : ∃ x : ℝ, (val_main_v20 (F := Ideal) Q K KX s i : EReal) = x := by
  rw [val_main_v20_apply, val_main_v19_apply]
  unfold val_main_v18
  revert hg
  generalize val_main_v17 (F := Ideal) Q K KX s = y
  intro hg
  have eb : ∀ j, (val_main_cst_0 (F := Ideal) j : EReal) = ⊥ := fun j => by
    rw [val_main_cst_0_apply]
    exact bot_bits
  have eb' : ∀ j, (val_main_cst_1 (F := Ideal) j : EReal) = ⊥ := fun j => by
    rw [val_main_cst_1_apply]
    exact bot_bits
  rw [eb']
  pointwise
  rw [eb]
  obtain ⟨R, hR⟩ := fold_max_masked g ht k0 h0
  refine ⟨R, ?_⟩
  rw [← hR]
  simp only [hg]
  exact max_eq_right bot_le

/-- The reference, as an array of attention rows for some real shift of every row. -/
theorem ref_arr (Q : Vec Ideal S2x8x8192x64 .bf16) (K V : Vec Ideal S2x2x8192x64 .bf16) (KX VX : Vec Ideal S2x2x256x64 .bf16) (s : Vec Ideal S8 .f32)
    (hQ : ∀ i, ∃ x : ℝ, (Q i : EReal) = x) (hK : ∀ i, ∃ x : ℝ, (K i : EReal) = x) (hX : ∀ i, ∃ x : ℝ, (KX i : EReal) = x)
    (hs : ∀ i, (s i : EReal) ≠ ⊤) :
    ∃ M : Fin 2 → Fin 8 → Fin 8192 → ℝ, val_main_v37 (F := Ideal) Q K V KX VX s = arrW Q K V KX VX s M := by
  have hm : ∀ (b : Fin 2) (h : Fin 8) (i : Fin 8192), ∃ x : ℝ, (val_main_v20 (F := Ideal) Q K KX s (ix4 b ⟨h / 4, by omega⟩ ⟨h % 4, by omega⟩ i) : EReal) = x := by
    intro b h i
    refine ref_max Q K KX s (ix4 b ⟨h / 4, by omega⟩ ⟨h % 4, by omega⟩ i) _ (ref_logits Q K KX s b h i) (fun k => ?_) ⟨8192, by omega⟩ ?_
    · by_cases hk : k.val < 8192
      · rw [dif_pos hk]
        obtain ⟨x, hx⟩ := real_dot (fun e => Q (ix4 b h i e)) (fun e => K (ix4 b ⟨h / 4, by omega⟩ ⟨k, hk⟩ e)) (fun e => hQ _) fun e => hK _
        by_cases hn : near i k
        · rw [if_pos hn]
          exact fun ht => EReal.coe_ne_top x (hx.symm.trans ht)
        · rw [if_neg hn]
          exact bot_ne_top
      · rw [dif_neg hk]
        by_cases hl : k.val - 8192 < 256
        · rw [dif_pos hl]
          obtain ⟨x, hx⟩ := real_dot (fun e => Q (ix4 b h i e)) (fun e => KX (ix4 b ⟨h / 4, by omega⟩ ⟨k - 8192, hl⟩ e)) (fun e => hQ _) fun e => hX _
          exact fun ht => EReal.coe_ne_top x (hx.symm.trans ht)
        · rw [dif_neg hl]
          exact hs _
    · rw [dif_neg (by simp), dif_pos (by simp)]
      obtain ⟨x, hx⟩ := real_dot (fun e => Q (ix4 b h i e)) (fun e => KX (ix4 b ⟨h / 4, by omega⟩ ⟨8192 - 8192, by omega⟩ e)) (fun e => hQ _) fun e => hX _
      exact fun ht => EReal.coe_ne_bot x (hx.symm.trans ht)
  choose M hM using hm
  refine ⟨M, ?_⟩
  suffices H : ∀ (b : Fin 2) (i : Fin 8192) (h : Fin 8) (d : Fin 64),
      (val_main_v37 (F := Ideal) Q K V KX VX s (ix3 b i ⟨64 * h + d, by omega⟩) : EReal) = rowW Q K V KX VX s b h i d (M b h i) by
    funext i
    have l2 : (i 2).val < 512 := (i 2).isLt
    refine (congrArg (val_main_v37 (F := Ideal) Q K V KX VX s) ?_).trans (H (i 0) (i 1) ⟨(i 2).val / 64, by omega⟩ ⟨(i 2).val % 64, by omega⟩)
    funext a
    fin_cases a <;> first | rfl | exact Fin.ext (by simp [ix3] <;> omega)
  intro b i h d
  have ee : ∀ (j : S2x2x4x8192x8449.Idx) (k : Fin 8449), j = ix5 b ⟨h / 4, by omega⟩ ⟨h % 4, by omega⟩ i k →
      (val_main_v24 (F := Ideal) Q K KX s j : EReal) = Ideal.exp ((if hk : k.val < 8192 then (if near i k then scW Q K b h i ⟨k, hk⟩ else ⊥)
        else if hl : k.val - 8192 < 256 then scX Q KX b h i ⟨k - 8192, hl⟩ else s (ix1 h)) - (M b h i : ℝ)) := by
    intro j k hj
    rw [val_main_v24_apply, val_main_v23_apply, val_main_v22_apply, val_main_v21_apply, hj, ref_logits]
    have e : idx_main_v21 (idx_main_v22 (ix5 b ⟨h / 4, by omega⟩ ⟨h % 4, by omega⟩ i k)) = ix4 b ⟨h / 4, by omega⟩ ⟨h % 4, by omega⟩ i := by
      funext a
      fin_cases a <;> rfl
    rw [e, hM]
    rfl
  have e1 : ∀ (j : S2x2x4x8192x8449.Idx) (k : Fin 8192), j = ix5 b ⟨h / 4, by omega⟩ ⟨h % 4, by omega⟩ i ⟨k, by omega⟩ →
      (val_main_v24 (F := Ideal) Q K KX s j : EReal) = Ideal.exp ((if near i k then scW Q K b h i k else ⊥) - (M b h i : ℝ)) := by
    intro j k hj
    rw [ee j _ hj, dif_pos k.isLt]
  have e2 : ∀ (j : S2x2x4x8192x8449.Idx) (l : Fin 256), j = ix5 b ⟨h / 4, by omega⟩ ⟨h % 4, by omega⟩ i ⟨8192 + l, by omega⟩ →
      (val_main_v24 (F := Ideal) Q K KX s j : EReal) = Ideal.exp (scX Q KX b h i l - (M b h i : ℝ)) := by
    intro j l hj
    rw [ee j _ hj, dif_neg (by show ¬ 8192 + l.val < 8192; omega), dif_pos (by show 8192 + l.val - 8192 < 256; omega)]
    exact congrArg (fun z => Ideal.exp (scX Q KX b h i z - (M b h i : ℝ))) (Fin.ext (by show 8192 + l.val - 8192 = l.val; omega))
  have e3 : ∀ (j : S2x2x4x8192x8449.Idx), j = ix5 b ⟨h / 4, by omega⟩ ⟨h % 4, by omega⟩ i ⟨8448, by omega⟩ →
      (val_main_v24 (F := Ideal) Q K KX s j : EReal) = Ideal.exp (s (ix1 h) - (M b h i : ℝ)) := by
    intro j hj
    rw [ee j _ hj, dif_neg (by decide), dif_neg (by decide)]
  have ed : ∀ (j : S2x2x4x8192x8449.Idx) (k : Fin 8449), j = ix5 b ⟨h / 4, by omega⟩ ⟨h % 4, by omega⟩ i k →
      (val_main_v27 (F := Ideal) Q K KX s j : EReal) = den (fun j => if near i j then scW Q K b h i j else ⊥) (scX Q KX b h i) (s (ix1 h)) (M b h i) := by
    intro j k hj
    rw [val_main_v27_apply, val_main_v26_apply, val_main_v25_apply, val_main_cst_2_apply, logits_sum]
    refine (congrArg₂ (· + ·) (show Ideal.ofBits .f32 0x00000000#32 = 0 by simp [Ideal.ofBits, Ideal.ieee]) ?_).trans (zero_add _)
    unfold den
    rw [hj]
    refine congrArg₂ (· + ·) (congrArg₂ (· + ·) (Finset.sum_congr rfl fun k _ => e1 _ k ?_) (Finset.sum_congr rfl fun l _ => e2 _ l ?_)) (e3 _ ?_)
    all_goals funext a; fin_cases a <;> rfl
  have ei : idx_main_v36 (ix3 b i ⟨64 * h + d, by omega⟩) = ix5 b i ⟨h / 4, by omega⟩ ⟨h % 4, by omega⟩ d := by
    funext a
    fin_cases a <;> exact Fin.ext (by simp [ix3, ix5] <;> omega)
  rw [val_main_v37_apply, val_main_v36_apply, ei, val_main_v35_apply, val_main_v31_apply, val_main_v34_apply, val_main_v30_apply, val_main_v33_apply]
  unfold rowW att
  refine congrArg₂ (· + ·) (Finset.sum_congr rfl fun k _ => ?_) (Finset.sum_congr rfl fun l _ => ?_)
  · rw [val_main_v29_apply, val_main_v28_apply]
    refine congrArg₂ (· * ·) (congrArg V ?_) (congrArg₂ Ideal.div (e1 _ k ?_) (ed _ ⟨k, by omega⟩ ?_))
    all_goals funext a; fin_cases a <;> rfl
  · rw [val_main_v32_apply, val_main_v28_apply]
    refine congrArg₂ (· * ·) (congrArg VX ?_) (congrArg₂ Ideal.div (e2 _ l ?_) (ed _ ⟨8192 + l, by omega⟩ ?_))
    all_goals funext a; fin_cases a <;> rfl

end Cert.Window
end
-- ==== Proof.WindowFinite.lean ====
/- What the precondition of the windowed attention says of its arguments. -/
module
public import proofs.«01_k».proof.Pre_finite_windowed
public import proofs.«01_k».proof.Proof.Finite
@[expose] public section
set_option maxRecDepth 16384
noncomputable section
namespace Cert.Window
open Idealize.ShloMosaic Cert.Flash

/-- The shape facts the precondition's function takes. -/
theorem facts : Cert.Pre_finite_windowed.Facts := by
  constructor <;> decide

/-- A value below infinity is not infinity. -/
theorem ne_top_of_lt (x : EReal) (h : Ideal.cmp .olt x ⊤ = 1#1) : x ≠ ⊤ := by
  rintro rfl
  simp [Ideal.cmp] at h

/-- The pattern of the infinity the sinks are compared with. -/
theorem inf_bits : Ideal.ofBits .f32 0x7F800000#32 = ⊤ := by simp [Ideal.ofBits, Ideal.ieee]

/-- The precondition says that every query and every key of both kinds is a real, and that no sink is infinity. -/
theorem real_entries [Cert.Pre_finite_windowed.Facts] (Q : Vec Ideal Cert.Pre_finite_windowed.S2x8x8192x64 .bf16)
    (K V : Vec Ideal Cert.Pre_finite_windowed.S2x2x8192x64 .bf16) (KX VX : Vec Ideal Cert.Pre_finite_windowed.S2x2x256x64 .bf16)
    (s : Vec Ideal Cert.Pre_finite_windowed.S8 .f32)
    (h : (Cert.Pre_finite_windowed.fn (F := Ideal) Q K V KX VX s).1 = (fun _ => 1#1) ∧ (Cert.Pre_finite_windowed.fn (F := Ideal) Q K V KX VX s).2.1 = (fun _ => 1#1)
      ∧ (Cert.Pre_finite_windowed.fn (F := Ideal) Q K V KX VX s).2.2.1 = (fun _ => 1#1) ∧ (Cert.Pre_finite_windowed.fn (F := Ideal) Q K V KX VX s).2.2.2 = (fun _ => 1#1)) :
    (∀ i, ∃ x : ℝ, (Q i : EReal) = x) ∧ (∀ i, ∃ x : ℝ, (K i : EReal) = x) ∧ (∀ i, ∃ x : ℝ, (KX i : EReal) = x) ∧ ∀ i, (s i : EReal) ≠ ⊤ := by
  have j0 : Cert.Pre_finite_windowed.S_.Idx := fun a => a.elim0
  have hj : ∀ i : Cert.Pre_finite_windowed.S_.Idx, i = j0 := fun i => funext fun a => a.elim0
  simp only [Cert.Pre_finite_windowed.fn] at h
  obtain ⟨h1, h2, h3, h4⟩ := h
  refine ⟨fun i => real_of_abs _ ?_, fun i => real_of_abs _ ?_, fun i => real_of_abs _ ?_, fun i => ne_top_of_lt _ ?_⟩
  · rw [← Cert.Flash.inf_bits]
    exact reduce_and _ _ _ _ j0 hj (congrFun h1 j0) i
  · rw [← Cert.Flash.inf_bits]
    exact reduce_and _ _ _ _ j0 hj (congrFun h2 j0) i
  · rw [← Cert.Flash.inf_bits]
    exact reduce_and _ _ _ _ j0 hj (congrFun h3 j0) i
  · rw [← inf_bits]
    exact reduce_and _ _ _ _ j0 hj (congrFun h4 j0) i

end Cert.Window
end
-- ==== Proof.Projection.lean ====
/- The modulated projection as an array: each row of the input, scaled and shifted entry by entry, times the matrix. -/
module
public import Idealize.ShloMosaic.Lib.Pointwise
public import Idealize.ShloMosaic.Lib.Pipeline.Value
public import Idealize.ShloMosaic.Lib.Pipeline.ValueKit
@[expose] public section
noncomputable section
namespace Cert.Projection
open Idealize.ShloMosaic Idealize.ShloMosaic.TcCoe

/-- Row `r` of batch `b`, modulated, times column `j` of the matrix; `A` is the shift and `S` the scale of the batch. -/
def dotRow {n : ℕ} (X : Vec Ideal ⟨3, ![2, 8192, 1024]⟩ .f32) (A S : Vec Ideal ⟨3, ![2, 1, 1024]⟩ .f32)
    (W : Vec Ideal ⟨2, ![1024, n]⟩ .f32) (b : Fin 2) (r : Fin 8192) (j : Fin n) : EReal :=
  ∑ k : Fin 1024, ((X (ix3 b r k) : EReal) * (Ideal.ofBits .f32 0x3F800000#32 + S (ix3 b 0 k)) + A (ix3 b 0 k)) * W (ix2 k j)

/-- The whole projection. -/
def proj {n : ℕ} (X : Vec Ideal ⟨3, ![2, 8192, 1024]⟩ .f32) (A S : Vec Ideal ⟨3, ![2, 1, 1024]⟩ .f32)
    (W : Vec Ideal ⟨2, ![1024, n]⟩ .f32) : Vec Ideal ⟨3, ![2, 8192, n]⟩ .f32 :=
  fun i => dotRow X A S W (i 0) (i 1) (i 2)

/-- A sum whose terms read the four arrays at the row's and the column's places is that entry of the projection. -/
theorem proj_at {n : ℕ} (X : Vec Ideal ⟨3, ![2, 8192, 1024]⟩ .f32) (A S : Vec Ideal ⟨3, ![2, 1, 1024]⟩ .f32)
    (W : Vec Ideal ⟨2, ![1024, n]⟩ .f32) (i : (⟨3, ![2, 8192, n]⟩ : Shape).Idx) (x a s w : Fin 1024 → EReal)
    (hx : ∀ k, x k = X (ix3 (i 0) (i 1) k)) (ha : ∀ k, a k = A (ix3 (i 0) 0 k)) (hs : ∀ k, s k = S (ix3 (i 0) 0 k))
    (hw : ∀ k, w k = W (ix2 k (i 2))) :
    ∑ k : Fin 1024, (x k * (Ideal.ofBits .f32 0x3F800000#32 + s k) + a k) * w k = (proj X A S W i : EReal) := by
  unfold proj dotRow
  refine Finset.sum_congr rfl fun k _ => ?_
  rw [hx, ha, hs, hw]

end Cert.Projection
end
-- ==== Proof.EvenIn.lean ====
/- The input projection of the even layer: kernel and reference are the modulated projection. -/
module
public import proofs.«01_k».proof.Proof.Projection
public import proofs.«01_k».proof.Proof.Gen.EvenInIdeal.Value
public import proofs.«01_k».proof.Proof.Gen.EvenInRefIdeal.Read
@[expose] public section
set_option maxRecDepth 16384
noncomputable section
namespace Cert.EvenInIdeal
open Idealize.ShloMosaic Idealize.ShloMosaic.TcCoe Idealize.ShloMosaic.Tactic Cert.EvenInIdeal Cert.EvenInIdeal.Gen
open Idealize.SL.Sem Cert.Projection
variable (m : (ℓ : Loc nD τ sig) → Buf (Elt Ideal) ℓ)

/-- The block each window stages at a grid point. -/
theorem idx : ∀ t : Fin cfg0.N, win0_0.index t = ![t.val / 16, t.val % 16, 0]
    ∧ win0_1.index t = ![t.val / 16, 0, 0] ∧ win0_2.index t = ![t.val / 16, 0, 0]
    ∧ win0_3.index t = ![0, 0] ∧ win0_4.index t = ![t.val / 16, t.val % 16, 0] :=
  (by decide +kernel : ∀ t : Fin grid0.N, _)

/-- What the body stores, from the four blocks it reads. -/
theorem pay_at (x : Vec Ideal S1x512x1024 .f32) (s a : Vec Ideal S1x1x1024 .f32) (w : Vec Ideal S1024x2304 .bf16)
    (r : Fin 512) (j : Fin 2304) :
    k0_pay1 (F := Ideal) x s a w (ix3 0 r j)
      = ∑ k : Fin 1024, ((x (ix3 0 r k) : EReal) * (Ideal.ofBits .f32 0x3F800000#32 + s (ix3 0 0 k)) + a (ix3 0 0 k)) * w (ix2 k j) := by
  pointwise [k0_pay1]

/-- There are 32 grid points. -/
theorem pt_lt (t : Fin cfg0.N) : t.val < 32 := lt_of_lt_of_eq t.isLt (show cfg0.N = 32 from N_0)

/-- The array of the matrix, as the grid finds it: the argument, rounded, which reads as the argument itself. -/
theorem w_arr (c : Dev nD) : V m c main_v0 = (m ((c : Thread nD τ).loc main_arg3) : S1024x2304.Idx → EReal) := by
  simp only [V, hostOps0]
  rfl

/-- The result array of the kernel. -/
theorem kernel_arr (c : Dev nD) : (dats m 0 c).arrAt 4 cfg0.N = proj (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨i, hi⟩ : ∃ i : S2x8192x2304.Idx, i = (win0_4.blk t).view.emb y := ⟨_, rfl⟩
  have i0 : (i 0).val = t.val / 16 := by rw [hi]; blk_simp [idx t]; try omega
  have i1 : (i 1).val = 512 * (t.val % 16) + (y 1).val := by rw [hi]; blk_simp [idx t]; try omega
  have i2 : (i 2).val = (y 2).val := by rw [hi]; blk_simp [idx t]; try omega
  rw [← hi]
  obtain ⟨r, hr⟩ : ∃ r : Fin 512, r.val = (y 1).val := ⟨⟨(y 1).val, (y 1).isLt⟩, rfl⟩
  obtain ⟨j, hj⟩ : ∃ j : Fin 2304, j.val = (y 2).val := ⟨⟨(y 2).val, (y 2).isLt⟩, rfl⟩
  rw [← hr] at i1
  rw [← hj] at i2
  have ey : y = (ix3 0 r j : S1x512x2304.Idx) := by
    funext a
    fin_cases a
    · exact Subsingleton.elim (α := Fin 1) _ _
    · exact Fin.ext hr.symm
    · exact Fin.ext hj.symm
  have eo : ∀ x a s w, out0_4 (F := Ideal) x a s w = k0_pay1 x s a w := by
    intro x a s w
    unfold out0_4
    simp (disch := decide) only [View.canon_cons_unit_lit, View.ld_unit_lit]
  rw [ey, eo]
  refine (pay_at _ _ _ _ r j).trans ?_
  refine proj_at _ _ _ _ i _ _ _ _ (fun k => ?_) (fun k => ?_) (fun k => ?_) (fun k => ?_)
  · rw [← V_main_arg0 m c]
    blk_ext [iblk, idx t, i0, i1]
  · rw [← V_main_arg1 m c]
    blk_ext [iblk, idx t, i0]
  · rw [← V_main_arg2 m c]
    blk_ext [iblk, idx t, i0]
  · refine Eq.trans ?_ (congrFun (w_arr m c) _)
    blk_ext [iblk, idx t, i2]

/-- The reference is the same array. -/
theorem ref_arr (X : Vec Ideal S2x8192x1024 .f32) (A S : Vec Ideal S2x1x1024 .f32) (W : Vec Ideal S1024x2304 .f32) :
    Cert.EvenInRefIdeal.Read.val_main_v6 (F := Ideal) X A S W = proj X A S W := by
  funext i
  open Cert.EvenInRefIdeal.Read in
  simp only [val_main_v6_apply, val_main_v5_apply, val_main_v4_apply, val_main_v3_apply, val_main_v2_apply, val_main_v1_apply, val_main_v0_apply, val_main_cst_apply]
  refine proj_at X A S W i _ _ _ _ (fun k => congrArg X ?_) (fun k => congrArg A ?_) (fun k => congrArg S ?_) (fun k => congrArg W ?_)
  all_goals funext a; fin_cases a <;> rfl

end Cert.EvenInIdeal
end
-- ==== Proof.OddIn.lean ====
/- The input projection of the odd layer, without the gates: kernel and reference are the modulated projection. -/
module
public import proofs.«01_k».proof.Proof.Projection
public import proofs.«01_k».proof.Proof.Gen.OddInIdeal.Value
public import proofs.«01_k».proof.Proof.Gen.OddInRefIdeal.Read
@[expose] public section
set_option maxRecDepth 16384
noncomputable section
namespace Cert.OddInIdeal
open Idealize.ShloMosaic Idealize.ShloMosaic.TcCoe Idealize.ShloMosaic.Tactic Cert.OddInIdeal Cert.OddInIdeal.Gen
open Idealize.SL.Sem Cert.Projection
variable (m : (ℓ : Loc nD τ sig) → Buf (Elt Ideal) ℓ)

/-- The block each window stages at a grid point. -/
theorem idx : ∀ t : Fin cfg0.N, win0_0.index t = ![t.val / 16, t.val % 16, 0]
    ∧ win0_1.index t = ![t.val / 16, 0, 0] ∧ win0_2.index t = ![t.val / 16, 0, 0]
    ∧ win0_3.index t = ![0, 0] ∧ win0_4.index t = ![t.val / 16, t.val % 16, 0] :=
  (by decide +kernel : ∀ t : Fin grid0.N, _)

/-- What the body stores, from the four blocks it reads. -/
theorem pay_at (x : Vec Ideal S1x512x1024 .f32) (s a : Vec Ideal S1x1x1024 .f32) (w : Vec Ideal S1024x2816 .bf16)
    (r : Fin 512) (j : Fin 2816) :
    k0_pay1 (F := Ideal) x s a w (ix3 0 r j)
      = ∑ k : Fin 1024, ((x (ix3 0 r k) : EReal) * (Ideal.ofBits .f32 0x3F800000#32 + s (ix3 0 0 k)) + a (ix3 0 0 k)) * w (ix2 k j) := by
  pointwise [k0_pay1]

/-- There are 32 grid points. -/
theorem pt_lt (t : Fin cfg0.N) : t.val < 32 := lt_of_lt_of_eq t.isLt (show cfg0.N = 32 from N_0)

/-- The array of the matrix, as the grid finds it: the argument, rounded, which reads as the argument itself. -/
theorem w_arr (c : Dev nD) : V m c main_v0 = (m ((c : Thread nD τ).loc main_arg3) : S1024x2816.Idx → EReal) := by
  simp only [V, hostOps0]
  rfl

/-- The result array of the kernel. -/
theorem kernel_arr (c : Dev nD) : (dats m 0 c).arrAt 4 cfg0.N = proj (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨i, hi⟩ : ∃ i : S2x8192x2816.Idx, i = (win0_4.blk t).view.emb y := ⟨_, rfl⟩
  have i0 : (i 0).val = t.val / 16 := by rw [hi]; blk_simp [idx t]; try omega
  have i1 : (i 1).val = 512 * (t.val % 16) + (y 1).val := by rw [hi]; blk_simp [idx t]; try omega
  have i2 : (i 2).val = (y 2).val := by rw [hi]; blk_simp [idx t]; try omega
  rw [← hi]
  obtain ⟨r, hr⟩ : ∃ r : Fin 512, r.val = (y 1).val := ⟨⟨(y 1).val, (y 1).isLt⟩, rfl⟩
  obtain ⟨j, hj⟩ : ∃ j : Fin 2816, j.val = (y 2).val := ⟨⟨(y 2).val, (y 2).isLt⟩, rfl⟩
  rw [← hr] at i1
  rw [← hj] at i2
  have ey : y = (ix3 0 r j : S1x512x2816.Idx) := by
    funext a
    fin_cases a
    · exact Subsingleton.elim (α := Fin 1) _ _
    · exact Fin.ext hr.symm
    · exact Fin.ext hj.symm
  have eo : ∀ x a s w, out0_4 (F := Ideal) x a s w = k0_pay1 x s a w := by
    intro x a s w
    unfold out0_4
    simp (disch := decide) only [View.canon_cons_unit_lit, View.ld_unit_lit]
  rw [ey, eo]
  refine (pay_at _ _ _ _ r j).trans ?_
  refine proj_at _ _ _ _ i _ _ _ _ (fun k => ?_) (fun k => ?_) (fun k => ?_) (fun k => ?_)
  · rw [← V_main_arg0 m c]
    blk_ext [iblk, idx t, i0, i1]
  · rw [← V_main_arg1 m c]
    blk_ext [iblk, idx t, i0]
  · rw [← V_main_arg2 m c]
    blk_ext [iblk, idx t, i0]
  · refine Eq.trans ?_ (congrFun (w_arr m c) _)
    blk_ext [iblk, idx t, i2]

/-- The reference is the same array. -/
theorem ref_arr (X : Vec Ideal S2x8192x1024 .f32) (A S : Vec Ideal S2x1x1024 .f32) (W : Vec Ideal S1024x2816 .f32) :
    Cert.OddInRefIdeal.Read.val_main_v6 (F := Ideal) X A S W = proj X A S W := by
  funext i
  open Cert.OddInRefIdeal.Read in
  simp only [val_main_v6_apply, val_main_v5_apply, val_main_v4_apply, val_main_v3_apply, val_main_v2_apply, val_main_v1_apply, val_main_v0_apply, val_main_cst_apply]
  refine proj_at X A S W i _ _ _ _ (fun k => congrArg X ?_) (fun k => congrArg A ?_) (fun k => congrArg S ?_) (fun k => congrArg W ?_)
  all_goals funext a; fin_cases a <;> rfl

end Cert.OddInIdeal
end
-- ==== Proof.Query.lean ====
/- The projection to the queries of the experts: kernel and reference are the modulated projection. -/
module
public import proofs.«01_k».proof.Proof.Projection
public import proofs.«01_k».proof.Proof.Gen.QueryIdeal.Value
public import proofs.«01_k».proof.Proof.Gen.QueryRefIdeal.Read
@[expose] public section
set_option maxRecDepth 16384
noncomputable section
namespace Cert.QueryIdeal
open Idealize.ShloMosaic Idealize.ShloMosaic.TcCoe Idealize.ShloMosaic.Tactic Cert.QueryIdeal Cert.QueryIdeal.Gen
open Idealize.SL.Sem Cert.Projection
variable (m : (ℓ : Loc nD τ sig) → Buf (Elt Ideal) ℓ)

/-- The block each window stages at a grid point. -/
theorem idx : ∀ t : Fin cfg0.N, win0_0.index t = ![t.val / 16, t.val % 16, 0]
    ∧ win0_1.index t = ![t.val / 16, 0, 0] ∧ win0_2.index t = ![t.val / 16, 0, 0]
    ∧ win0_3.index t = ![0, 0] ∧ win0_4.index t = ![t.val / 16, t.val % 16, 0] :=
  (by decide +kernel : ∀ t : Fin grid0.N, _)

/-- What the body stores, from the four blocks it reads. -/
theorem pay_at (x : Vec Ideal S1x512x1024 .f32) (s a : Vec Ideal S1x1x1024 .f32) (w : Vec Ideal S1024x2048 .bf16)
    (r : Fin 512) (j : Fin 2048) :
    k0_pay1 (F := Ideal) x s a w (ix3 0 r j)
      = ∑ k : Fin 1024, ((x (ix3 0 r k) : EReal) * (Ideal.ofBits .f32 0x3F800000#32 + s (ix3 0 0 k)) + a (ix3 0 0 k)) * w (ix2 k j) := by
  pointwise [k0_pay1]

/-- There are 32 grid points. -/
theorem pt_lt (t : Fin cfg0.N) : t.val < 32 := lt_of_lt_of_eq t.isLt (show cfg0.N = 32 from N_0)

/-- The array of the matrix, as the grid finds it: the argument, rounded, which reads as the argument itself. -/
theorem w_arr (c : Dev nD) : V m c main_v0 = (m ((c : Thread nD τ).loc main_arg3) : S1024x2048.Idx → EReal) := by
  simp only [V, hostOps0]
  rfl

/-- The result array of the kernel. -/
theorem kernel_arr (c : Dev nD) : (dats m 0 c).arrAt 4 cfg0.N = proj (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨i, hi⟩ : ∃ i : S2x8192x2048.Idx, i = (win0_4.blk t).view.emb y := ⟨_, rfl⟩
  have i0 : (i 0).val = t.val / 16 := by rw [hi]; blk_simp [idx t]; try omega
  have i1 : (i 1).val = 512 * (t.val % 16) + (y 1).val := by rw [hi]; blk_simp [idx t]; try omega
  have i2 : (i 2).val = (y 2).val := by rw [hi]; blk_simp [idx t]; try omega
  rw [← hi]
  obtain ⟨r, hr⟩ : ∃ r : Fin 512, r.val = (y 1).val := ⟨⟨(y 1).val, (y 1).isLt⟩, rfl⟩
  obtain ⟨j, hj⟩ : ∃ j : Fin 2048, j.val = (y 2).val := ⟨⟨(y 2).val, (y 2).isLt⟩, rfl⟩
  rw [← hr] at i1
  rw [← hj] at i2
  have ey : y = (ix3 0 r j : S1x512x2048.Idx) := by
    funext a
    fin_cases a
    · exact Subsingleton.elim (α := Fin 1) _ _
    · exact Fin.ext hr.symm
    · exact Fin.ext hj.symm
  have eo : ∀ x a s w, out0_4 (F := Ideal) x a s w = k0_pay1 x s a w := by
    intro x a s w
    unfold out0_4
    simp (disch := decide) only [View.canon_cons_unit_lit, View.ld_unit_lit]
  rw [ey, eo]
  refine (pay_at _ _ _ _ r j).trans ?_
  refine proj_at _ _ _ _ i _ _ _ _ (fun k => ?_) (fun k => ?_) (fun k => ?_) (fun k => ?_)
  · rw [← V_main_arg0 m c]
    blk_ext [iblk, idx t, i0, i1]
  · rw [← V_main_arg1 m c]
    blk_ext [iblk, idx t, i0]
  · rw [← V_main_arg2 m c]
    blk_ext [iblk, idx t, i0]
  · refine Eq.trans ?_ (congrFun (w_arr m c) _)
    blk_ext [iblk, idx t, i2]

/-- The reference is the same array. -/
theorem ref_arr (X : Vec Ideal S2x8192x1024 .f32) (A S : Vec Ideal S2x1x1024 .f32) (W : Vec Ideal S1024x2048 .f32) :
    Cert.QueryRefIdeal.Read.val_main_v6 (F := Ideal) X A S W = proj X A S W := by
  funext i
  open Cert.QueryRefIdeal.Read in
  simp only [val_main_v6_apply, val_main_v5_apply, val_main_v4_apply, val_main_v3_apply, val_main_v2_apply, val_main_v1_apply, val_main_v0_apply, val_main_cst_apply]
  refine proj_at X A S W i _ _ _ _ (fun k => congrArg X ?_) (fun k => congrArg A ?_) (fun k => congrArg S ?_) (fun k => congrArg W ?_)
  all_goals funext a; fin_cases a <;> rfl

end Cert.QueryIdeal
end
-- ==== Proof.LayerNorm.lean ====
/- The projection out of the mixers, the gated residual and the layer norm, row by row. -/
module
public import Idealize.ShloMosaic.Lib.Pointwise
public import Idealize.ShloMosaic.Lib.Pipeline.Value
public import Idealize.ShloMosaic.Lib.Pipeline.ValueKit
@[expose] public section
noncomputable section
namespace Cert.LayerNorm
open Idealize.ShloMosaic Idealize.ShloMosaic.TcCoe

/-- The mean of a row of 1024 entries. -/
def mean (R : Fin 1024 → EReal) : EReal := Ideal.div (∑ k : Fin 1024, R k) (Ideal.ofBits .f32 0x44800000#32)

/-- A row less its mean. -/
def centred (R : Fin 1024 → EReal) (j : Fin 1024) : EReal := R j - mean R

/-- One over the root of the row's variance and the small constant. -/
def invDev (R : Fin 1024 → EReal) : EReal :=
  Ideal.rsqrt (mean (fun k => centred R k * centred R k) + Ideal.ofBits .f32 0x358637BD#32)

/-- The layer norm of a row at one entry, with its gain and its bias. -/
def norm (R : Fin 1024 → EReal) (g b : EReal) (j : Fin 1024) : EReal := centred R j * invDev R * g + b

/-- The residual row: the constant times the input and the gate times the projection. -/
def resid (x g o : Fin 1024 → EReal) (j : Fin 1024) : EReal := Ideal.ofBits .f32 0x3FB504F3#32 * x j + g j * o j

/-- The two mixers' rows times the upper and the lower half of the matrix. -/
def mixed (P Q : (⟨3, ![2, 8192, 512]⟩ : Shape).Idx → EReal) (W : (⟨2, ![1024, 1024]⟩ : Shape).Idx → EReal)
    (b : Fin 2) (r : Fin 8192) (j : Fin 1024) : EReal :=
  (∑ k : Fin 512, P (ix3 b r k) * W (ix2 ⟨k, by omega⟩ j)) + ∑ k : Fin 512, Q (ix3 b r k) * W (ix2 ⟨512 + k, by omega⟩ j)

/-- The residual row of an input row. -/
def residRow (P Q : (⟨3, ![2, 8192, 512]⟩ : Shape).Idx → EReal) (W : (⟨2, ![1024, 1024]⟩ : Shape).Idx → EReal)
    (X : (⟨3, ![2, 8192, 1024]⟩ : Shape).Idx → EReal) (G : (⟨3, ![2, 1, 1024]⟩ : Shape).Idx → EReal)
    (b : Fin 2) (r : Fin 8192) : Fin 1024 → EReal :=
  resid (fun j => X (ix3 b r j)) (fun j => G (ix3 b 0 j)) (mixed P Q W b r)

/-- The whole result. -/
def merged (P Q : (⟨3, ![2, 8192, 512]⟩ : Shape).Idx → EReal) (W : (⟨2, ![1024, 1024]⟩ : Shape).Idx → EReal)
    (X : (⟨3, ![2, 8192, 1024]⟩ : Shape).Idx → EReal) (G : (⟨3, ![2, 1, 1024]⟩ : Shape).Idx → EReal)
    (g b : (⟨1, ![1024]⟩ : Shape).Idx → EReal) : (⟨3, ![2, 8192, 1024]⟩ : Shape).Idx → EReal :=
  fun i => norm (residRow P Q W X G (i 0) (i 1)) (g (ix1 (i 2))) (b (ix1 (i 2))) (i 2)

/-- The word of zero is zero. -/
theorem zero_word : Ideal.ofBits .f32 0x00000000#32 = 0 := by simp [Ideal.ofBits, Ideal.ieee]

/-- A sum over both mixers' columns, side by side, is the sum of the two halves. -/
theorem sum_halves (f : Fin 1024 → EReal) :
    ∑ k : Fin 1024, f k = (∑ k : Fin 512, f ⟨k, by omega⟩) + ∑ k : Fin 512, f ⟨512 + k, by omega⟩ :=
  Fin.sum_univ_add (a := 512) (b := 512) f

end Cert.LayerNorm
end
-- ==== Proof.OddOut.lean ====
/- The output of the odd layer's mixers: kernel and reference are one array. -/
module
public import proofs.«01_k».proof.Proof.LayerNorm
public import proofs.«01_k».proof.Proof.Gen.OddOutIdeal.Value
public import proofs.«01_k».proof.Proof.Gen.OddOutRefIdeal.Read
@[expose] public section
set_option maxRecDepth 16384
noncomputable section
namespace Cert.OddOutIdeal
open Idealize.ShloMosaic Idealize.ShloMosaic.TcCoe Idealize.ShloMosaic.Tactic Cert.OddOutIdeal Cert.OddOutIdeal.Gen
open Idealize.SL.Sem Cert.LayerNorm
variable (m : (ℓ : Loc nD τ sig) → Buf (Elt Ideal) ℓ)

/-- The residual row that a block's arrays give. -/
def row (a : Vec Ideal S1x512x512 .bf16) (wa : Vec Ideal S512x1024 .bf16) (b : Vec Ideal S1x512x512 .bf16)
    (wb : Vec Ideal S512x1024 .bf16) (x : Vec Ideal S1x512x1024 .f32) (g : Vec Ideal S1x1x1024 .f32) (r : Fin 512) : Fin 1024 → EReal :=
  resid (fun j => x (ix3 0 r j)) (fun j => g (ix3 0 0 j))
    (fun j => (∑ k : Fin 512, (a (ix3 0 r k) : EReal) * wa (ix2 k j)) + ∑ k : Fin 512, (b (ix3 0 r k) : EReal) * wb (ix2 k j))

/-- The kernel's residual row less its mean. -/
theorem pay2_at (a : Vec Ideal S1x512x512 .bf16) (wa : Vec Ideal S512x1024 .bf16) (b : Vec Ideal S1x512x512 .bf16)
    (wb : Vec Ideal S512x1024 .bf16) (x : Vec Ideal S1x512x1024 .f32) (g : Vec Ideal S1x1x1024 .f32) (r : Fin 512) (j : Fin 1024) :
    (k0_pay2 (F := Ideal) a wa b wb x g (ix2 r j) : EReal) = centred (row a wa b wb x g r) j := by
  pointwise [k0_pay2]
  unfold centred mean row resid
  rfl

/-- The kernel's one over the root of a row's variance. -/
theorem pay3_at (a : Vec Ideal S1x512x512 .bf16) (wa : Vec Ideal S512x1024 .bf16) (b : Vec Ideal S1x512x512 .bf16)
    (wb : Vec Ideal S512x1024 .bf16) (x : Vec Ideal S1x512x1024 .f32) (g : Vec Ideal S1x1x1024 .f32) (r : Fin 512) :
    (k0_pay3 (F := Ideal) a wa b wb x g (ix2 r 0) : EReal) = invDev (row a wa b wb x g r) := by
  have h := fun j => pay2_at a wa b wb x g r j
  unfold k0_pay3
  revert h
  generalize k0_pay2 (F := Ideal) a wa b wb x g = y
  intro h
  pointwise
  simp only [h]
  rfl

/-- What the kernel stores of both. -/
theorem pay1_at (d : FVec Ideal S512x1024 .f32) (s : FVec Ideal S512x1 .f32) (g b : Vec Ideal S1x1024 .f32) (r : Fin 512) (j : Fin 1024) :
    (k0_pay1 (F := Ideal) d s g b (ix3 0 r j) : EReal) = d (ix2 r j) * s (ix2 r 0) * g (ix2 0 j) + b (ix2 0 j) := by
  pointwise [k0_pay1]

/-- The block each window stages at a grid point. -/
theorem idx : ∀ t : Fin cfg0.N, win0_0.index t = ![t.val / 16, t.val % 16, 0] ∧ win0_1.index t = ![t.val / 16, t.val % 16, 0]
    ∧ win0_2.index t = ![0, 0] ∧ win0_3.index t = ![t.val / 16, t.val % 16, 0] ∧ win0_4.index t = ![t.val / 16, 0, 0]
    ∧ win0_5.index t = ![0, 0] ∧ win0_6.index t = ![0, 0] ∧ win0_7.index t = ![t.val / 16, t.val % 16, 0] :=
  (by decide +kernel : ∀ t : Fin grid0.N, _)

/-- There are 32 grid points. -/
theorem pt_lt (t : Fin cfg0.N) : t.val < 32 := lt_of_lt_of_eq t.isLt (show cfg0.N = 32 from N_0)

/-- The array of the matrix, as the grid finds it: the argument, rounded, which reads as the argument itself. -/
theorem w_arr (c : Dev nD) : V m c main_v0 = (m ((c : Thread nD τ).loc main_arg2) : S1024x1024.Idx → EReal) := by
  simp only [V, hostOps0]
  rfl

/-- The gains, as the grid finds them: the argument as one row. -/
theorem g_arr (c : Dev nD) (j : Fin 1024) : (V m c main_v1 (ix2 0 j : S1x1024.Idx) : EReal) = m ((c : Thread nD τ).loc main_arg5) (ix1 j : S1024.Idx) := by
  have e : V m c main_v1 = shapeCast S1x1024 (m ((c : Thread nD τ).loc main_arg5) : Vec Ideal S1024 .f32) shapeCasts_S1024_S1x1024 := by
    simp only [V, hostOps0]
    rfl
  rw [e]
  pointwise

/-- The biases, as the grid finds them. -/
theorem b_arr (c : Dev nD) (j : Fin 1024) : (V m c main_v2 (ix2 0 j : S1x1024.Idx) : EReal) = m ((c : Thread nD τ).loc main_arg6) (ix1 j : S1024.Idx) := by
  have e : V m c main_v2 = shapeCast S1x1024 (m ((c : Thread nD τ).loc main_arg6) : Vec Ideal S1024 .f32) shapeCasts_S1024_S1x1024 := by
    simp only [V, hostOps0]
    rfl
  rw [e]
  pointwise

/-- Where the first half of the matrix lies. -/
theorem top_idx (k : Fin 512) (l : Fin 1024) : r0_1.idx (ix2 k l : S512x1024.Idx) = (ix2 ⟨k.val, by omega⟩ l : S1024x1024.Idx) := by
  funext a
  fin_cases a <;> exact Fin.ext (by simp [r0_1, ix2])

/-- Where the second half of the matrix lies. -/
theorem bottom_idx (k : Fin 512) (l : Fin 1024) : r0_2.idx (ix2 k l : S512x1024.Idx) = (ix2 ⟨512 + k.val, by omega⟩ l : S1024x1024.Idx) := by
  funext a
  fin_cases a <;> exact Fin.ext (by simp [r0_2, ix2])

/-- A block's result at an index of the array: the row of the whole result, of arrays whose blocks the kernel finds. -/
theorem out_at (a b : Vec Ideal S1x512x512 .bf16) (w : Vec Ideal S1024x1024 .bf16) (x : Vec Ideal S1x512x1024 .f32)
    (g : Vec Ideal S1x1x1024 .f32) (lg lb : Vec Ideal S1x1024 .f32)
    (P Q : S2x8192x512.Idx → EReal) (W : S1024x1024.Idx → EReal) (X : S2x8192x1024.Idx → EReal) (G : S2x1x1024.Idx → EReal)
    (LG LB : S1024.Idx → EReal) (i : S2x8192x1024.Idx) (r : Fin 512) (j : Fin 1024) (ej : i 2 = j)
    (h0 : ∀ k, (a (ix3 0 r k) : EReal) = P (ix3 (i 0) (i 1) k)) (h1 : ∀ k, (b (ix3 0 r k) : EReal) = Q (ix3 (i 0) (i 1) k))
    (h2 : ∀ q, (w q : EReal) = W q) (h3 : ∀ l, (x (ix3 0 r l) : EReal) = X (ix3 (i 0) (i 1) l))
    (h4 : ∀ l, (g (ix3 0 0 l) : EReal) = G (ix3 (i 0) 0 l)) (h5 : (lg (ix2 0 j) : EReal) = LG (ix1 j))
    (h6 : (lb (ix2 0 j) : EReal) = LB (ix1 j)) :
    (out0_7 (F := Ideal) a b w x g lg lb (ix3 0 r j) : EReal) = merged P Q W X G LG LB i := by
  have eo : out0_7 (F := Ideal) a b w x g lg lb
      = k0_pay1 (k0_pay2 a (View.ld w r0_1) b (View.ld w r0_2) x g) (k0_pay3 a (View.ld w r0_1) b (View.ld w r0_2) x g) lg lb := by
    unfold out0_7
    simp (disch := decide) only [View.canon_cons_unit_lit, View.ld_unit_lit]
  have er : row a (View.ld w r0_1) b (View.ld w r0_2) x g r = residRow P Q W X G (i 0) (i 1) := by
    funext l
    have t2 : ∀ k : Fin 512, (View.ld w r0_1 (ix2 k l) : EReal) = W (ix2 ⟨k, by omega⟩ l) := fun k =>
      (congrArg w (top_idx k l)).trans (h2 _)
    have b2 : ∀ k : Fin 512, (View.ld w r0_2 (ix2 k l) : EReal) = W (ix2 ⟨512 + k, by omega⟩ l) := fun k =>
      (congrArg w (bottom_idx k l)).trans (h2 _)
    unfold row residRow resid mixed
    simp only [h0, h1, t2, b2, h3, h4]
  rw [eo]
  refine (pay1_at _ _ _ _ r j).trans ?_
  rw [pay2_at, pay3_at]
  refine (congrArg (fun R => centred R j * invDev R * (lg (ix2 0 j) : EReal) + (lb (ix2 0 j) : EReal)) er).trans ?_
  rw [h5, h6]
  unfold merged LayerNorm.norm
  rw [ej]

/-- The result array of the kernel. -/
theorem kernel_arr (c : Dev nD) : (dats m 0 c).arrAt 7 cfg0.N = merged (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  obtain ⟨i, hi⟩ : ∃ i : S2x8192x1024.Idx, i = (win0_7.blk t).view.emb y := ⟨_, rfl⟩
  have i0 : (i 0).val = t.val / 16 := by rw [hi]; blk_simp [idx t]; try omega
  have i1 : (i 1).val = 512 * (t.val % 16) + (y 1).val := by rw [hi]; blk_simp [idx t]; try omega
  have i2 : (i 2).val = (y 2).val := by rw [hi]; blk_simp [idx t]; try omega
  rw [← hi]
  obtain ⟨r, hr⟩ : ∃ r : Fin 512, r.val = (y 1).val := ⟨⟨(y 1).val, (y 1).isLt⟩, rfl⟩
  obtain ⟨j, hj⟩ : ∃ j : Fin 1024, j.val = (y 2).val := ⟨⟨(y 2).val, (y 2).isLt⟩, rfl⟩
  rw [← hr] at i1
  have ej : i 2 = j := Fin.ext (i2.trans hj.symm)
  have ey : y = (ix3 0 r j : S1x512x1024.Idx) := by
    funext a
    fin_cases a
    · exact Subsingleton.elim (α := Fin 1) _ _
    · exact Fin.ext hr.symm
    · exact Fin.ext hj.symm
  rw [ey]
  refine out_at _ _ _ _ _ _ _ _ _ _ _ _ _ _ i r j ej (fun k => ?_) (fun k => ?_) (fun q => ?_) (fun l => ?_) (fun l => ?_) ?_ ?_
  · rw [← V_main_arg0 m c]; blk_ext [iblk, idx t, i0, i1]
  · rw [← V_main_arg1 m c]; blk_ext [iblk, idx t, i0, i1]
  · refine Eq.trans ?_ (congrFun (w_arr m c) q); blk_ext [iblk, idx t]
  · rw [← V_main_arg3 m c]; blk_ext [iblk, idx t, i0, i1]
  · rw [← V_main_arg4 m c]; blk_ext [iblk, idx t, i0]
  · rw [← g_arr m c]; blk_ext [iblk, idx t]
  · rw [← b_arr m c]; blk_ext [iblk, idx t]

section Reference
open Cert.OddOutRefIdeal.Read

variable (P Q : Vec Ideal S2x8192x512 .bf16) (W : Vec Ideal S1024x1024 .f32) (X : Vec Ideal S2x8192x1024 .f32)
  (G : Vec Ideal S2x1x1024 .f32) (g b : Vec Ideal S1024 .f32)

/-- The reference's product of both mixers' columns with the whole matrix. -/
theorem ref_mixed (i : S2x8192x1024.Idx) : (val_main_v3 (F := Ideal) P Q W i : EReal) = mixed P Q W (i 0) (i 1) (i 2) := by
  refine (val_main_v3_apply P Q W i).trans ((sum_halves _).trans ?_)
  unfold mixed
  congr 1 <;> refine Finset.sum_congr rfl fun k _ => ?_
  · congr 1
    · unfold val_main_v2
      refine (concatenate_pair_apply_left (t := S2x8192x1024) (s₁ := S2x8192x512) 2 _ _ _ _ rfl (ix3 (i 0) (i 1) k) (fun a => by fin_cases a <;> rfl)).trans ?_
      rfl
    · exact congrArg W (by funext a; fin_cases a <;> rfl)
  · congr 1
    · unfold val_main_v2
      refine (concatenate_pair_apply_right (t := S2x8192x1024) (s₁ := S2x8192x512) (s₂ := S2x8192x512) 2 _ _ _ _ rfl rfl (ix3 (i 0) (i 1) k)
        (fun a ha => by fin_cases a <;> first | rfl | exact absurd rfl ha) (Nat.add_comm _ _)).trans ?_
      rfl
    · exact congrArg W (by funext a; fin_cases a <;> rfl)

/-- The reference's residual row. -/
theorem ref_resid (i : S2x8192x1024.Idx) : (val_main_v8 (F := Ideal) P Q W X G i : EReal) = residRow P Q W X G (i 0) (i 1) (i 2) := by
  simp only [val_main_v8_apply, val_main_v7_apply, val_main_v6_apply, val_main_v5_apply, val_main_v4_apply, val_main_cst_apply, ref_mixed]
  unfold residRow resid
  have ex : i = (ix3 (i 0) (i 1) (i 2) : S2x8192x1024.Idx) := by funext a; fin_cases a <;> rfl
  have eg : idx_main_v6 i = (ix3 (i 0) 0 (i 2) : S2x1x1024.Idx) := by funext a; fin_cases a <;> rfl
  rw [eg]
  exact congrArg (fun q => Ideal.ofBits .f32 0x3FB504F3#32 * (X q : EReal) + G (ix3 (i 0) 0 (i 2)) * mixed P Q W (i 0) (i 1) (i 2)) ex

/-- The reference's mean of a row. -/
theorem ref_mean (i : Cert.OddOutRefIdeal.S2x8192x1.Idx) : (val_main_v12 (F := Ideal) P Q W X G i : EReal) = mean (residRow P Q W X G (i 0) (i 1)) := by
  simp only [val_main_v12_apply, val_main_v11_apply, val_main_v10_apply, val_main_v9_apply, val_main_cst_0_apply, val_main_cst_1_apply, ref_resid]
  refine (congrArg (fun z => Ideal.div (z + _) _) zero_word).trans ?_
  rw [zero_add]
  rfl

/-- The reference's row less its mean. -/
theorem ref_centred (i : S2x8192x1024.Idx) : (val_main_v14 (F := Ideal) P Q W X G i : EReal) = centred (residRow P Q W X G (i 0) (i 1)) (i 2) := by
  simp only [val_main_v14_apply, val_main_v13_apply, ref_resid, ref_mean]
  rfl

/-- The reference's one over the root of the variance. -/
theorem ref_invDev (i : Cert.OddOutRefIdeal.S2x8192x1.Idx) : (val_main_v24 (F := Ideal) P Q W X G i : EReal) = invDev (residRow P Q W X G (i 0) (i 1)) := by
  simp only [val_main_v24_apply, val_main_v23_apply, val_main_v22_apply, val_main_v19_apply, val_main_v18_apply, val_main_v17_apply, val_main_v16_apply,
    val_main_v15_apply, val_main_cst_2_apply, val_main_cst_3_apply, val_main_cst_4_apply, ref_centred]
  refine (congrArg (fun z => Ideal.rsqrt (Ideal.div (z + _) _ + _)) zero_word).trans ?_
  rw [zero_add]
  rfl

/-- The reference's array. -/
theorem ref_arr : val_main_v32 (F := Ideal) P Q W X G g b = merged P Q W X G g b := by
  funext i
  simp only [val_main_v32_apply, val_main_v31_apply, val_main_v30_apply, val_main_v29_apply, val_main_v28_apply, val_main_v27_apply,
    val_main_v26_apply, val_main_v25_apply, val_main_v21_apply, val_main_v20_apply, ref_resid, ref_mean, ref_invDev]
  unfold merged LayerNorm.norm
  have eg : idx_main_v27 (idx_main_v28 i) = (ix1 (i 2) : S1024.Idx) := by funext a; fin_cases a; rfl
  have eb : idx_main_v30 (idx_main_v31 i) = (ix1 (i 2) : S1024.Idx) := by funext a; fin_cases a; rfl
  rw [eg, eb]
  rfl

end Reference

end Cert.OddOutIdeal
end
-- ==== Proof.EvenOut.lean ====
/- The output of the even layer's mixers: kernel and reference are one array. -/
module
public import proofs.«01_k».proof.Proof.OddOut
public import proofs.«01_k».proof.Proof.Gen.EvenOutIdeal.Value
public import proofs.«01_k».proof.Proof.Gen.EvenOutRefIdeal.Read
@[expose] public section
set_option maxRecDepth 16384
noncomputable section
namespace Cert.EvenOutIdeal
open Idealize.ShloMosaic Idealize.ShloMosaic.TcCoe Idealize.ShloMosaic.Tactic Cert.EvenOutIdeal Cert.EvenOutIdeal.Gen
open Idealize.SL.Sem Cert.LayerNorm
variable (m : (ℓ : Loc nD τ sig) → Buf (Elt Ideal) ℓ)

/-- The block each window stages at a grid point. -/
theorem idx : ∀ t : Fin cfg0.N, win0_0.index t = ![t.val / 16, t.val % 16, 0] ∧ win0_1.index t = ![t.val / 16, t.val % 16, 0]
    ∧ win0_2.index t = ![0, 0] ∧ win0_3.index t = ![t.val / 16, t.val % 16, 0] ∧ win0_4.index t = ![t.val / 16, 0, 0]
    ∧ win0_5.index t = ![0, 0] ∧ win0_6.index t = ![0, 0] ∧ win0_7.index t = ![t.val / 16, t.val % 16, 0] :=
  (by decide +kernel : ∀ t : Fin grid0.N, _)

/-- There are 32 grid points. -/
theorem pt_lt (t : Fin cfg0.N) : t.val < 32 := lt_of_lt_of_eq t.isLt (show cfg0.N = 32 from N_0)

/-- The array of the matrix, as the grid finds it: the argument, rounded, which reads as the argument itself. -/
theorem w_arr (c : Dev nD) : V m c main_v0 = (m ((c : Thread nD τ).loc main_arg2) : S1024x1024.Idx → EReal) := by
  simp only [V, hostOps0]
  rfl

/-- The gains, as the grid finds them: the argument as one row. -/
theorem g_arr (c : Dev nD) (j : Fin 1024) : (V m c main_v1 (ix2 0 j : S1x1024.Idx) : EReal) = m ((c : Thread nD τ).loc main_arg5) (ix1 j : S1024.Idx) := by
  have e : V m c main_v1 = shapeCast S1x1024 (m ((c : Thread nD τ).loc main_arg5) : Vec Ideal S1024 .f32) shapeCasts_S1024_S1x1024 := by
    simp only [V, hostOps0]
    rfl
  rw [e]
  pointwise

/-- The biases, as the grid finds them. -/
theorem b_arr (c : Dev nD) (j : Fin 1024) : (V m c main_v2 (ix2 0 j : S1x1024.Idx) : EReal) = m ((c : Thread nD τ).loc main_arg6) (ix1 j : S1024.Idx) := by
  have e : V m c main_v2 = shapeCast S1x1024 (m ((c : Thread nD τ).loc main_arg6) : Vec Ideal S1024 .f32) shapeCasts_S1024_S1x1024 := by
    simp only [V, hostOps0]
    rfl
  rw [e]
  pointwise

/-- The second mixer's rows are rounded by the kernel here, which reads as the rows themselves: a block's result is the
odd layer's. -/
theorem out_eq (a : Vec Ideal S1x512x512 .bf16) (b : Vec Ideal S1x512x512 .f32) (w : Vec Ideal S1024x1024 .bf16)
    (x : Vec Ideal S1x512x1024 .f32) (g : Vec Ideal S1x1x1024 .f32) (lg lb : Vec Ideal S1x1024 .f32) :
    (out0_7 (F := Ideal) a b w x g lg lb : S1x512x1024.Idx → EReal) = Cert.OddOutIdeal.Gen.out0_7 (F := Ideal) a b w x g lg lb := rfl

/-- The result array of the kernel. -/
theorem kernel_arr (c : Dev nD) : (dats m 0 c).arrAt 7 cfg0.N = merged (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  obtain ⟨i, hi⟩ : ∃ i : S2x8192x1024.Idx, i = (win0_7.blk t).view.emb y := ⟨_, rfl⟩
  have i0 : (i 0).val = t.val / 16 := by rw [hi]; blk_simp [idx t]; try omega
  have i1 : (i 1).val = 512 * (t.val % 16) + (y 1).val := by rw [hi]; blk_simp [idx t]; try omega
  have i2 : (i 2).val = (y 2).val := by rw [hi]; blk_simp [idx t]; try omega
  rw [← hi]
  obtain ⟨r, hr⟩ : ∃ r : Fin 512, r.val = (y 1).val := ⟨⟨(y 1).val, (y 1).isLt⟩, rfl⟩
  obtain ⟨j, hj⟩ : ∃ j : Fin 1024, j.val = (y 2).val := ⟨⟨(y 2).val, (y 2).isLt⟩, rfl⟩
  rw [← hr] at i1
  have ej : i 2 = j := Fin.ext (i2.trans hj.symm)
  have ey : y = (ix3 0 r j : S1x512x1024.Idx) := by
    funext a
    fin_cases a
    · exact Subsingleton.elim (α := Fin 1) _ _
    · exact Fin.ext hr.symm
    · exact Fin.ext hj.symm
  rw [ey]
  rw [out_eq]
  refine Cert.OddOutIdeal.out_at _ _ _ _ _ _ _ _ _ _ _ _ _ _ i r j ej (fun k => ?_) (fun k => ?_) (fun q => ?_) (fun l => ?_) (fun l => ?_) ?_ ?_
  · rw [← V_main_arg0 m c]; blk_ext [iblk, idx t, i0, i1]
  · rw [← V_main_arg1 m c]; blk_ext [iblk, idx t, i0, i1]
  · refine Eq.trans ?_ (congrFun (w_arr m c) q); blk_ext [iblk, idx t]
  · rw [← V_main_arg3 m c]; blk_ext [iblk, idx t, i0, i1]
  · rw [← V_main_arg4 m c]; blk_ext [iblk, idx t, i0]
  · rw [← g_arr m c]; blk_ext [iblk, idx t]
  · rw [← b_arr m c]; blk_ext [iblk, idx t]

/-- The reference's array: the odd layer's reference of the same arrays. -/
theorem ref_arr (P : Vec Ideal S2x8192x512 .bf16) (Q : Vec Ideal S2x8192x512 .f32) (W : Vec Ideal S1024x1024 .f32)
    (X : Vec Ideal S2x8192x1024 .f32) (G : Vec Ideal S2x1x1024 .f32) (g b : Vec Ideal S1024 .f32) :
    Cert.EvenOutRefIdeal.Read.val_main_v31 (F := Ideal) P Q W X G g b = merged P Q W X G g b :=
  Eq.trans (b := Cert.OddOutRefIdeal.Read.val_main_v32 (F := Ideal) P Q W X G g b) rfl (Cert.OddOutIdeal.ref_arr P Q W X G g b)

end Cert.EvenOutIdeal
end
-- ==== Proof.ExpertState.lean ====
/- What a grid point of the experts leaves in its two scratch buffers and in the output block. -/
module
public import proofs.«01_k».proof.Proof.Gen.ExpertsIdeal.Value
public import Idealize.ShloMosaic.Lib.Pipeline.ValueKit
public import Idealize.ShloMosaic.Lib.Pipeline.ReadBack
public import Idealize.ShloMosaic.Lib.Pointwise
@[expose] public section
set_option maxRecDepth 16384
noncomputable section
namespace Cert.ExpertsIdeal
open Idealize.ShloMosaic Idealize.ShloMosaic.TcCoe Idealize.ShloMosaic.Tactic Cert.ExpertsIdeal Cert.ExpertsIdeal.Gen
open Idealize.SL.Sem
variable (m : (ℓ : Loc nD τ sig) → Buf (Elt Ideal) ℓ)

/-- The first block of experts leaves the modulated rows. -/
theorem rows_first (c : Dev nD) (t : Fin cfg0.N) (h0 : t.val % 8 = 0) (h1 : ¬t.val % 8 = 7) :
    (outsAt0 m c t.val t.isLt).2.1 = k0_pay1 (F := Ideal) (iblk m c 0 t) (iblk m c 2 t) (iblk m c 1 t) := by
  rw [outsAt0_A m c t h0 h1]
  frame_open
  simp (disch := decide) only [↓ View.readCov_skip, ↓ View.readCov_cons_toLoadRect, ↓ View.readCov_fill]
  frame_out

/-- The first block of experts adds its own sum to zeros. -/
theorem acc_first (c : Dev nD) (t : Fin cfg0.N) (h0 : t.val % 8 = 0) (h1 : ¬t.val % 8 = 7) :
    (outsAt0 m c t.val t.isLt).2.2 = k0_pay3 (F := Ideal) (k0_pay1 (F := Ideal) (iblk m c 0 t) (iblk m c 2 t) (iblk m c 1 t))
      (iblk m c 4 t) (iblk m c 3 t) (k0_pay2 (F := Ideal)) (iblk m c 5 t) := by
  rw [outsAt0_A m c t h0 h1]
  frame_open
  simp (disch := decide) only [↓ View.readCov_skip, ↓ View.readCov_cons_toLoadRect, ↓ View.readCov_fill]
  frame_out

/-- A later block of experts leaves the rows as they are. -/
theorem rows_next (c : Dev nD) (t t' : Fin cfg0.N) (ht : t'.val = t.val - 1) (h0 : ¬t.val % 8 = 0) :
    (outsAt0 m c t.val t.isLt).2.1 = (outsAt0 m c t'.val t'.isLt).2.1 := by
  obtain ⟨n, hn⟩ := t'
  obtain rfl : n = t.val - 1 := ht
  by_cases h1 : t.val % 8 = 7
  · rw [outsAt0_C m c t h0 h1]
    rfl
  · rw [outsAt0_B m c t h0 h1]
    rfl

/-- A later block of experts adds its own sum to what the one before left. -/
theorem acc_next (c : Dev nD) (t t' : Fin cfg0.N) (ht : t'.val = t.val - 1) (h0 : ¬t.val % 8 = 0) :
    (outsAt0 m c t.val t.isLt).2.2 = k0_pay3 (F := Ideal) (outsAt0 m c t'.val t'.isLt).2.1
      (iblk m c 4 t) (iblk m c 3 t) (outsAt0 m c t'.val t'.isLt).2.2 (iblk m c 5 t) := by
  obtain ⟨n, hn⟩ := t'
  obtain rfl : n = t.val - 1 := ht
  by_cases h1 : t.val % 8 = 7
  · rw [outsAt0_C m c t h0 h1]
    frame_open
    simp (disch := decide) only [↓ View.readCov_skip, ↓ View.readCov_cons_toLoadRect, ↓ View.readCov_fill]
    frame_out
    simp only [↓ read_unread_whole]
  · rw [outsAt0_B m c t h0 h1]
    frame_open
    simp (disch := decide) only [↓ View.readCov_skip, ↓ View.readCov_cons_toLoadRect, ↓ View.readCov_fill]
    frame_out
    simp only [↓ read_unread_whole]

/-- The last block of experts writes the residual row, normalized, of the sum it leaves. -/
theorem out_last (c : Dev nD) (t : Fin cfg0.N) (h0 : ¬t.val % 8 = 0) (h1 : t.val % 8 = 7) :
    (outsAt0 m c t.val t.isLt).1 = k0_pay4 (F := Ideal) (iblk m c 0 t) (iblk m c 6 t) (outsAt0 m c t.val t.isLt).2.2
      (iblk m c 7 t) (iblk m c 8 t) := by
  rw [outsAt0_C m c t h0 h1]
  frame_open
  simp (disch := decide) only [↓ View.readCov_skip, ↓ View.readCov_cons_toLoadRect, ↓ View.readCov_fill]
  frame_out
end Cert.ExpertsIdeal
end
-- ==== Proof.Experts.lean ====
/- The experts of a row, the gated residual and the layer norm: kernel and reference are one array. -/
module
public import proofs.«01_k».proof.Proof.LayerNorm
public import proofs.«01_k».proof.Proof.ExpertState
public import proofs.«01_k».proof.Proof.Gen.ExpertsRefIdeal.Read
@[expose] public section
set_option maxRecDepth 16384
noncomputable section
namespace Cert.ExpertsIdeal
open Idealize.ShloMosaic Idealize.ShloMosaic.TcCoe Idealize.ShloMosaic.Tactic Cert.ExpertsIdeal Cert.ExpertsIdeal.Gen
open Idealize.SL.Sem Cert.LayerNorm
variable (m : (ℓ : Loc nD τ sig) → Buf (Elt Ideal) ℓ)

/-- The activation of an expert's score. -/
def act (h : EReal) : EReal :=
  Ideal.ofBits .f32 0x3F000000#32 * h * (Ideal.ofBits .f32 0x3F800000#32 + Ideal.erf (h * Ideal.ofBits .f32 0x3F3504F3#32))

/-- A modulated row at one entry; `A` is the shift and `S` the scale of the batch. -/
def modRow (X : S2x8192x1024.Idx → EReal) (A S : S2x1x1024.Idx → EReal) (b : Fin 2) (r : Fin 8192) (l : Fin 1024) : EReal :=
  X (ix3 b r l) * (Ideal.ofBits .f32 0x3F800000#32 + S (ix3 b 0 l)) + A (ix3 b 0 l)

/-- What expert `e` gives to column `j` of a row: the activation of its score, times the row's gate, times the expert's own row;
    the gates lie as 128 rows of 128 for each row of the input. -/
def expertPart (X : S2x8192x1024.Idx → EReal) (A S : S2x1x1024.Idx → EReal) (W : S16384x128x128.Idx → EReal) (U V : S16384x1024.Idx → EReal)
    (b : Fin 2) (r : Fin 8192) (j : Fin 1024) (e : ℕ) : EReal :=
  if h : e < 16384 then
    act (∑ l : Fin 1024, modRow X A S b r l * U (ix2 ⟨e, h⟩ l))
      * W (ix3 ⟨8192 * b + r, by omega⟩ ⟨e / 128, by omega⟩ ⟨e % 128, by omega⟩) * V (ix2 ⟨e, h⟩ j)
  else 0

/-- All the experts of a row. -/
def experts (X : S2x8192x1024.Idx → EReal) (A S : S2x1x1024.Idx → EReal) (W : S16384x128x128.Idx → EReal) (U V : S16384x1024.Idx → EReal)
    (b : Fin 2) (r : Fin 8192) (j : Fin 1024) : EReal := ∑ e ∈ Finset.range 16384, expertPart X A S W U V b r j e

/-- The residual row of the experts. -/
def residRow (X : S2x8192x1024.Idx → EReal) (A S : S2x1x1024.Idx → EReal) (W : S16384x128x128.Idx → EReal) (U V : S16384x1024.Idx → EReal)
    (G : S2x1x1024.Idx → EReal) (b : Fin 2) (r : Fin 8192) : Fin 1024 → EReal :=
  resid (fun l => X (ix3 b r l)) (fun l => G (ix3 b 0 l)) (experts X A S W U V b r)

/-- The whole result. -/
def mixedExperts (X : S2x8192x1024.Idx → EReal) (A S : S2x1x1024.Idx → EReal) (W : S16384x128x128.Idx → EReal)
    (U V : S16384x1024.Idx → EReal) (G : S2x1x1024.Idx → EReal) (lg lb : S1024.Idx → EReal) : S2x8192x1024.Idx → EReal :=
  fun i => LayerNorm.norm (residRow X A S W U V G (i 0) (i 1)) (lg (ix1 (i 2))) (lb (ix1 (i 2))) (i 2)

/-- The kernel's modulated rows. -/
theorem pay1_at (x : Vec Ideal S1x512x1024 .f32) (s a : Vec Ideal S1x1x1024 .f32) (r : Fin 512) (l : Fin 1024) :
    (k0_pay1 (F := Ideal) x s a (ix2 r l) : EReal)
      = (x (ix3 0 r l) : EReal) * (Ideal.ofBits .f32 0x3F800000#32 + s (ix3 0 0 l)) + a (ix3 0 0 l) := by
  pointwise [k0_pay1]

/-- The kernel's first accumulator is zero. -/
theorem pay2_at (r : Fin 512) (j : Fin 1024) : (k0_pay2 (F := Ideal) (ix2 r j) : EReal) = 0 := by
  pointwise [k0_pay2]

/-- The kernel's sum over one block of experts. -/
theorem pay3_at (xm : Vec Ideal S512x1024 .bf16) (u : Vec Ideal S2048x1024 .bf16) (w : Vec Ideal S1x512x16x128 .bf16)
    (acc : Vec Ideal S512x1024 .f32) (v : Vec Ideal S2048x1024 .bf16) (r : Fin 512) (j : Fin 1024) :
    (k0_pay3 (F := Ideal) xm u w acc v (ix2 r j) : EReal) = acc (ix2 r j)
      + ∑ k : Fin 2048, act (∑ l : Fin 1024, (xm (ix2 r l) : EReal) * u (ix2 k l))
        * w (ix4 0 r ⟨k.val / 128, by omega⟩ ⟨k.val % 128, by omega⟩) * v (ix2 k j) := by
  unfold act
  pointwise [k0_pay3]
  rfl

/-- The kernel's residual row, normalized. -/
theorem pay4_at (x : Vec Ideal S1x512x1024 .f32) (g : Vec Ideal S1x1x1024 .f32) (acc : Vec Ideal S512x1024 .f32)
    (lg lb : Vec Ideal S1x1024 .f32) (r : Fin 512) (j : Fin 1024) :
    (k0_pay4 (F := Ideal) x g acc lg lb (ix3 0 r j) : EReal)
      = LayerNorm.norm (resid (fun l => x (ix3 0 r l)) (fun l => g (ix3 0 0 l)) (fun l => acc (ix2 r l))) (lg (ix2 0 j)) (lb (ix2 0 j)) j := by
  unfold LayerNorm.norm invDev centred mean resid
  pointwise [k0_pay4]

/-- The block each window stages at a grid point. -/
theorem idx : ∀ t : Fin cfg0.N, win0_0.index t = ![t.val / 128, t.val / 8 % 16, 0] ∧ win0_1.index t = ![t.val / 128, 0, 0]
    ∧ win0_2.index t = ![t.val / 128, 0, 0] ∧ win0_3.index t = ![t.val / 128, t.val / 8 % 16, t.val % 8, 0]
    ∧ win0_4.index t = ![t.val % 8, 0] ∧ win0_5.index t = ![t.val % 8, 0] ∧ win0_6.index t = ![t.val / 128, 0, 0]
    ∧ win0_7.index t = ![0, 0] ∧ win0_8.index t = ![0, 0] ∧ win0_9.index t = ![t.val / 128, t.val / 8 % 16, 0] :=
  (by decide +kernel : ∀ t : Fin grid0.N, _)

/-- There are 256 grid points. -/
theorem pt_lt (t : Fin cfg0.N) : t.val < 256 := lt_of_lt_of_eq t.isLt (show cfg0.N = 256 from N_0)

/-- The gates, as the grid finds them: the argument, its rows counted per batch. -/
theorem w_arr (c : Dev nD) (b : Fin 2) (r : Fin 8192) (p q : Fin 128) :
    (V m c main_v0 (ix4 b r p q : S2x8192x128x128.Idx) : EReal)
      = m ((c : Thread nD τ).loc main_arg3) (ix3 ⟨8192 * b + r, by omega⟩ p q : S16384x128x128.Idx) := by
  have e : V m c main_v0 = shapeCast S2x8192x128x128 (m ((c : Thread nD τ).loc main_arg3) : Vec Ideal S16384x128x128 .bf16)
      shapeCasts_S16384x128x128_S2x8192x128x128 := by
    simp only [V, hostOps0]
    rfl
  rw [e]
  refine shapeCast_apply _ _ _ _ ?_
  show (S16384x128x128.rowMajor (ix3 ⟨8192 * b + r, by omega⟩ p q)).val = _
  rw [Shape.rowMajor_val_three, Shape.rowMajor_val_four]
  simp
  ring

/-- The gains, as the grid finds them: the argument as one row. -/
theorem g_arr (c : Dev nD) (j : Fin 1024) : (V m c main_v1 (ix2 0 j : S1x1024.Idx) : EReal) = m ((c : Thread nD τ).loc main_arg7) (ix1 j : S1024.Idx) := by
  have e : V m c main_v1 = shapeCast S1x1024 (m ((c : Thread nD τ).loc main_arg7) : Vec Ideal S1024 .f32) shapeCasts_S1024_S1x1024 := by
    simp only [V, hostOps0]
    rfl
  rw [e]
  pointwise

/-- The biases, as the grid finds them. -/
theorem b_arr (c : Dev nD) (j : Fin 1024) : (V m c main_v2 (ix2 0 j : S1x1024.Idx) : EReal) = m ((c : Thread nD τ).loc main_arg8) (ix1 j : S1024.Idx) := by
  have e : V m c main_v2 = shapeCast S1x1024 (m ((c : Thread nD τ).loc main_arg8) : Vec Ideal S1024 .f32) shapeCasts_S1024_S1x1024 := by
    simp only [V, hostOps0]
    rfl
  rw [e]
  pointwise

section Fold

variable (c : Dev nD)

/-- The modulated rows of a block of the input, at a grid point. -/
theorem modRow_at (t : Fin cfg0.N) (b : Fin 2) (hb : b.val = t.val / 128) (R : Fin 8192) (r : Fin 512)
    (hR : R.val = 512 * (t.val / 8 % 16) + r.val) (l : Fin 1024) :
    (k0_pay1 (F := Ideal) (iblk m c 0 t) (iblk m c 2 t) (iblk m c 1 t) (ix2 r l) : EReal)
      = modRow (m ((c : Thread nD τ).loc main_arg0)) (m ((c : Thread nD τ).loc main_arg1)) (m ((c : Thread nD τ).loc main_arg2)) b R l := by
  refine (pay1_at _ _ _ r l).trans ?_
  unfold modRow
  congr 1
  · congr 1
    · rw [← V_main_arg0 m c]; blk_ext [iblk, idx t, hb, hR]
    · congr 1
      rw [← V_main_arg2 m c]; blk_ext [iblk, idx t, hb]
  · rw [← V_main_arg1 m c]; blk_ext [iblk, idx t, hb]

/-- One block of experts, at a grid point: its terms follow those of the blocks before. -/
theorem block_at (t : Fin cfg0.N) (b : Fin 2) (hb : b.val = t.val / 128) (R : Fin 8192) (r : Fin 512)
    (hR : R.val = 512 * (t.val / 8 % 16) + r.val) (j : Fin 1024) (xm : Vec Ideal S512x1024 .bf16) (acc : Vec Ideal S512x1024 .f32)
    (hx : ∀ l, (xm (ix2 r l) : EReal)
      = modRow (m ((c : Thread nD τ).loc main_arg0)) (m ((c : Thread nD τ).loc main_arg1)) (m ((c : Thread nD τ).loc main_arg2)) b R l)
    (ha : (acc (ix2 r j) : EReal) = ∑ e ∈ Finset.range (2048 * (t.val % 8)),
      expertPart (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b R j e) :
    (k0_pay3 (F := Ideal) xm (iblk m c 4 t) (iblk m c 3 t) acc (iblk m c 5 t) (ix2 r j) : EReal)
      = ∑ e ∈ Finset.range (2048 * (t.val % 8 + 1)),
        expertPart (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b R j e := by
  refine (pay3_at _ _ _ _ _ r j).trans ?_
  rw [Nat.mul_add, Nat.mul_one, Finset.sum_range_add, ha, Finset.sum_range (n := 2048)]
  congr 1
  refine Finset.sum_congr rfl fun k _ => ?_
  have hk : 2048 * (t.val % 8) + k.val < 16384 := by omega
  rw [expertPart, dif_pos hk]
  have eu : ∀ l : Fin 1024, ((iblk m c 4 t (ix2 k l : S2048x1024.Idx)) : EReal)
      = m ((c : Thread nD τ).loc main_arg4) (ix2 ⟨2048 * (t.val % 8) + k.val, hk⟩ l : S16384x1024.Idx) := fun l => by
    rw [← V_main_arg4 m c]; blk_ext [iblk, idx t]
  have ev : ((iblk m c 5 t (ix2 k j : S2048x1024.Idx)) : EReal)
      = m ((c : Thread nD τ).loc main_arg5) (ix2 ⟨2048 * (t.val % 8) + k.val, hk⟩ j : S16384x1024.Idx) := by
    rw [← V_main_arg5 m c]; blk_ext [iblk, idx t]
  have ew : ((iblk m c 3 t (ix4 0 r ⟨k.val / 128, by omega⟩ ⟨k.val % 128, by omega⟩ : S1x512x16x128.Idx)) : EReal)
      = m ((c : Thread nD τ).loc main_arg3) (ix3 ⟨8192 * b + R, by omega⟩ ⟨(2048 * (t.val % 8) + k.val) / 128, by omega⟩
        ⟨(2048 * (t.val % 8) + k.val) % 128, by omega⟩ : S16384x128x128.Idx) := by
    rw [← w_arr m c]; blk_ext [iblk, idx t, hb, hR]
  simp only [hx, eu, ev, ew]

/-- After a grid point the scratch holds the modulated rows and the sum over the blocks of experts so far. -/
theorem scratch_at (n : ℕ) (hn : n < cfg0.N) (b : Fin 2) (hb : b.val = n / 128) (R : Fin 8192) (r : Fin 512)
    (hR : R.val = 512 * (n / 8 % 16) + r.val) :
    (∀ l, ((outsAt0 m c n hn).2.1 (ix2 r l) : EReal)
      = modRow (m ((c : Thread nD τ).loc main_arg0)) (m ((c : Thread nD τ).loc main_arg1)) (m ((c : Thread nD τ).loc main_arg2)) b R l)
    ∧ ∀ j, ((outsAt0 m c n hn).2.2 (ix2 r j) : EReal) = ∑ e ∈ Finset.range (2048 * (n % 8 + 1)),
      expertPart (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b R j e := by
  by_cases h0 : n % 8 = 0
  · have h1 : ¬n % 8 = 7 := by omega
    have ex := fun l => modRow_at m c ⟨n, hn⟩ b hb R r hR l
    refine ⟨fun l => (congrFun (rows_first m c ⟨n, hn⟩ h0 h1) _).trans (ex l), fun j =>
      (congrFun (acc_first m c ⟨n, hn⟩ h0 h1) _).trans (block_at m c ⟨n, hn⟩ b hb R r hR j _ _ ex ?_)⟩
    rw [pay2_at]
    simp [h0]
  · have hp : n - 1 < cfg0.N := by omega
    obtain ⟨ex, ea⟩ := scratch_at (n - 1) hp b (by omega) R r (by omega)
    refine ⟨fun l => (congrFun (rows_next m c ⟨n, hn⟩ ⟨n - 1, hp⟩ rfl h0) _).trans (ex l), fun j =>
      (congrFun (acc_next m c ⟨n, hn⟩ ⟨n - 1, hp⟩ rfl h0) _).trans (block_at m c ⟨n, hn⟩ b hb R r hR j _ _ ex ?_)⟩
    have e8 : (n - 1) % 8 + 1 = n % 8 := by omega
    exact (ea j).trans (by rw [e8])
termination_by n
decreasing_by omega

/-- The result array of the kernel. -/
theorem kernel_arr : (dats m 0 c).arrAt 9 cfg0.N = mixedExperts (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) := by
  refine (dats m 0 c).arrAt_eq_of_covers 9 _ (by decide +kernel) fun t hf y => ?_
  blk_simp
  rw [after0_9]
  have ht := (flush0_9 t).mp hf
  have hlt := pt_lt t
  obtain ⟨i, hi⟩ : ∃ i : S2x8192x1024.Idx, i = (win0_9.blk t).view.emb y := ⟨_, rfl⟩
  have i0 : (i 0).val = t.val / 128 := by rw [hi]; blk_simp [idx t]; try omega
  have i1 : (i 1).val = 512 * (t.val / 8 % 16) + (y 1).val := by rw [hi]; blk_simp [idx t]; try omega
  have i2 : (i 2).val = (y 2).val := by rw [hi]; blk_simp [idx t]; try omega
  rw [← hi]
  obtain ⟨r, hr⟩ : ∃ r : Fin 512, r.val = (y 1).val := ⟨⟨(y 1).val, (y 1).isLt⟩, rfl⟩
  obtain ⟨j, hj⟩ : ∃ j : Fin 1024, j.val = (y 2).val := ⟨⟨(y 2).val, (y 2).isLt⟩, rfl⟩
  rw [← hr] at i1
  have ej : i 2 = j := Fin.ext (i2.trans hj.symm)
  have ey : y = (ix3 0 r j : S1x512x1024.Idx) := by
    funext a
    fin_cases a
    · exact Subsingleton.elim (α := Fin 1) _ _
    · exact Fin.ext hr.symm
    · exact Fin.ext hj.symm
  rw [ey]
  refine (congrFun (out_last m c t (by omega) ht) _).trans ((pay4_at _ _ _ _ _ r j).trans ?_)
  obtain ⟨-, ea⟩ := scratch_at m c t.val t.isLt (i 0) i0 (i 1) r i1
  have ex : ∀ l : Fin 1024, ((iblk m c 0 t (ix3 0 r l : S1x512x1024.Idx)) : EReal)
      = m ((c : Thread nD τ).loc main_arg0) (ix3 (i 0) (i 1) l : S2x8192x1024.Idx) := fun l => by
    rw [← V_main_arg0 m c]; blk_ext [iblk, idx t, i0, i1]
  have eg : ∀ l : Fin 1024, ((iblk m c 6 t (ix3 0 0 l : S1x1x1024.Idx)) : EReal)
      = m ((c : Thread nD τ).loc main_arg6) (ix3 (i 0) 0 l : S2x1x1024.Idx) := fun l => by
    rw [← V_main_arg6 m c]; blk_ext [iblk, idx t, i0]
  have el : ((iblk m c 7 t (ix2 0 j : S1x1024.Idx)) : EReal) = m ((c : Thread nD τ).loc main_arg7) (ix1 j : S1024.Idx) := by
    rw [← g_arr m c]; blk_ext [iblk, idx t]
  have eb : ((iblk m c 8 t (ix2 0 j : S1x1024.Idx)) : EReal) = m ((c : Thread nD τ).loc main_arg8) (ix1 j : S1024.Idx) := by
    rw [← b_arr m c]; blk_ext [iblk, idx t]
  have e8 : 2048 * (t.val % 8 + 1) = 16384 := by omega
  rw [e8] at ea
  simp only [ex, eg, el, eb, ea]
  unfold mixedExperts residRow experts
  rw [ej]

end Fold

section Reference
open Cert.ExpertsRefIdeal.Read

variable (X : Vec Ideal S2x8192x1024 .f32) (A S : Vec Ideal S2x1x1024 .f32) (W : Vec Ideal S16384x128x128 .bf16)
  (U V : Vec Ideal S16384x1024 .bf16) (G : Vec Ideal S2x1x1024 .f32) (g b : Vec Ideal S1024 .f32)

/-- The reference's modulated rows. -/
theorem ref_modRow (i : S2x8192x1024.Idx) : (val_main_v8 (F := Ideal) X A S i : EReal) = modRow X A S (i 0) (i 1) (i 2) := by
  simp only [val_main_v8_apply, val_main_v7_apply, val_main_v6_apply, val_main_v5_apply, val_main_v4_apply, val_main_v3_apply, val_main_cst_apply]
  unfold modRow
  have ex : i = (ix3 (i 0) (i 1) (i 2) : S2x8192x1024.Idx) := by funext a; fin_cases a <;> rfl
  have es : idx_main_v5 i = (ix3 (i 0) 0 (i 2) : S2x1x1024.Idx) := by funext a; fin_cases a <;> rfl
  have ea : idx_main_v7 i = (ix3 (i 0) 0 (i 2) : S2x1x1024.Idx) := by funext a; fin_cases a <;> rfl
  rw [es, ea]
  exact congrArg (fun q => (X q : EReal) * (Ideal.ofBits .f32 0x3F800000#32 + S (ix3 (i 0) 0 (i 2))) + A (ix3 (i 0) 0 (i 2))) ex

/-- The reference's score of an expert. -/
theorem ref_score (i : Cert.ExpertsRefIdeal.S2x8192x16384.Idx) : (val_main_v10 (F := Ideal) X A S U i : EReal)
    = ∑ l : Fin 1024, modRow X A S (i 0) (i 1) l * (U (ix2 (i 2) l : S16384x1024.Idx) : EReal) := by
  refine (val_main_v10_apply X A S U i).trans (Finset.sum_congr rfl fun l _ => ?_)
  rw [ref_modRow, val_main_v9_apply, val_main_v1_apply]
  have eu : idx_main_v9 (ridx_main_v10 i l) = (ix2 (i 2) l : S16384x1024.Idx) := by funext a; fin_cases a <;> rfl
  rw [eu]
  rfl

/-- The reference's gated activation of an expert. -/
theorem ref_gated (i : Cert.ExpertsRefIdeal.S2x8192x16384.Idx) : (val_main_v20 (F := Ideal) X A S W U i : EReal)
    = act (∑ l : Fin 1024, modRow X A S (i 0) (i 1) l * (U (ix2 (i 2) l : S16384x1024.Idx) : EReal))
      * W (ix3 ⟨8192 * (i 0).val + (i 1).val, by have := (i 0).isLt; have := (i 1).isLt; simp at *; omega⟩
        ⟨(i 2).val / 128, by have := (i 2).isLt; simp at this; omega⟩ ⟨(i 2).val % 128, by omega⟩ : S16384x128x128.Idx) := by
  simp only [val_main_v20_apply, val_main_v19_apply, val_main_v18_apply, val_main_v17_apply, val_main_v16_apply, val_main_v15_apply,
    val_main_v14_apply, val_main_v13_apply, val_main_v12_apply, val_main_v11_apply, val_main_v0_apply, val_main_cst_0_apply,
    val_main_cst_1_apply, val_main_cst_2_apply, ref_score]
  have h0 : (i 0).val < 2 := (i 0).isLt
  have h1 : (i 1).val < 8192 := (i 1).isLt
  have h2 : (i 2).val < 16384 := (i 2).isLt
  have ew : idx_main_v19 i = (ix3 ⟨8192 * (i 0).val + (i 1).val, by omega⟩ ⟨(i 2).val / 128, by omega⟩ ⟨(i 2).val % 128, by omega⟩ : S16384x128x128.Idx) := by
    funext a
    fin_cases a <;> refine Fin.ext ?_ <;> simp [idx_main_v19] <;> omega
  rw [ew]
  exact mul_comm _ _

/-- The reference's sum over all the experts. -/
theorem ref_experts (i : S2x8192x1024.Idx) : (val_main_v21 (F := Ideal) X A S W U V i : EReal) = experts X A S W U V (i 0) (i 1) (i 2) := by
  refine (val_main_v21_apply X A S W U V i).trans ?_
  unfold experts
  rw [Finset.sum_range]
  refine Finset.sum_congr rfl fun k _ => ?_
  unfold expertPart
  rw [dif_pos k.isLt, ref_gated, val_main_v2_apply]
  have ev : ridx_main_v21 i k = (ix2 k (i 2) : S16384x1024.Idx) := by funext a; fin_cases a <;> rfl
  rw [ev]
  rfl

/-- The reference's residual row. -/
theorem ref_resid (i : S2x8192x1024.Idx) : (val_main_v26 (F := Ideal) X A S W U V G i : EReal) = residRow X A S W U V G (i 0) (i 1) (i 2) := by
  simp only [val_main_v26_apply, val_main_v25_apply, val_main_v24_apply, val_main_v23_apply, val_main_v22_apply, val_main_cst_3_apply, ref_experts]
  unfold residRow resid
  have ex : i = (ix3 (i 0) (i 1) (i 2) : S2x8192x1024.Idx) := by funext a; fin_cases a <;> rfl
  have eg : idx_main_v24 i = (ix3 (i 0) 0 (i 2) : S2x1x1024.Idx) := by funext a; fin_cases a <;> rfl
  rw [eg]
  exact congrArg (fun q => Ideal.ofBits .f32 0x3FB504F3#32 * (X q : EReal) + G (ix3 (i 0) 0 (i 2)) * experts X A S W U V (i 0) (i 1) (i 2)) ex

/-- The reference's mean of a row. -/
theorem ref_mean (i : Cert.ExpertsRefIdeal.S2x8192x1.Idx) :
    (val_main_v30 (F := Ideal) X A S W U V G i : EReal) = mean (residRow X A S W U V G (i 0) (i 1)) := by
  simp only [val_main_v30_apply, val_main_v29_apply, val_main_v28_apply, val_main_v27_apply, val_main_cst_4_apply, val_main_cst_5_apply, ref_resid]
  refine (congrArg (fun z => Ideal.div (z + _) _) zero_word).trans ?_
  rw [zero_add]
  rfl

/-- The reference's row less its mean. -/
theorem ref_centred (i : S2x8192x1024.Idx) :
    (val_main_v32 (F := Ideal) X A S W U V G i : EReal) = centred (residRow X A S W U V G (i 0) (i 1)) (i 2) := by
  simp only [val_main_v32_apply, val_main_v31_apply, ref_resid, ref_mean]
  rfl

/-- The reference's one over the root of the variance. -/
theorem ref_invDev (i : Cert.ExpertsRefIdeal.S2x8192x1.Idx) :
    (val_main_v42 (F := Ideal) X A S W U V G i : EReal) = invDev (residRow X A S W U V G (i 0) (i 1)) := by
  simp only [val_main_v42_apply, val_main_v41_apply, val_main_v40_apply, val_main_v37_apply, val_main_v36_apply, val_main_v35_apply, val_main_v34_apply,
    val_main_v33_apply, val_main_cst_6_apply, val_main_cst_7_apply, val_main_cst_8_apply, ref_centred]
  refine (congrArg (fun z => Ideal.rsqrt (Ideal.div (z + _) _ + _)) zero_word).trans ?_
  rw [zero_add]
  rfl

/-- The reference's array. -/
theorem ref_arr : val_main_v50 (F := Ideal) X A S W U V G g b = mixedExperts X A S W U V G g b := by
  funext i
  simp only [val_main_v50_apply, val_main_v49_apply, val_main_v48_apply, val_main_v47_apply, val_main_v46_apply, val_main_v45_apply,
    val_main_v44_apply, val_main_v43_apply, val_main_v39_apply, val_main_v38_apply, ref_resid, ref_mean, ref_invDev]
  unfold mixedExperts LayerNorm.norm
  have eg : idx_main_v45 (idx_main_v46 i) = (ix1 (i 2) : S1024.Idx) := by funext a; fin_cases a; rfl
  have eb : idx_main_v48 (idx_main_v49 i) = (ix1 (i 2) : S1024.Idx) := by funext a; fin_cases a; rfl
  rw [eg, eb]
  rfl

end Reference

end Cert.ExpertsIdeal
end
-- ==== Proof.ScanStep.lean ====
/- One chunk of the recurrence over the reals: what a head's state and a chunk's arrays give, and the terms of the
   kernel's body that compute it. -/
module
public import proofs.«01_k».proof.Proof.Gen.ScanIdeal.Value
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Recur
open Idealize.ShloMosaic Idealize.ShloMosaic.TcCoe Idealize.ShloMosaic.Tactic Cert.ScanIdeal Cert.ScanIdeal.Gen

/-- The values of a chunk without what the state already predicts of them. -/
def fresh (u w : Fin 64 → Fin 128 → EReal) (S : Fin 128 → Fin 128 → EReal) (i : Fin 64) (e : Fin 128) : EReal :=
  u i e - ∑ d : Fin 128, w i d * S d e

/-- A chunk's output: the state read at the queries, and the chunk's own values weighted. -/
def seen (q : Fin 64 → Fin 128 → EReal) (a : Fin 64 → Fin 64 → EReal) (v : Fin 64 → Fin 128 → EReal)
    (S : Fin 128 → Fin 128 → EReal) (i : Fin 64) (e : Fin 128) : EReal :=
  (∑ d : Fin 128, q i d * S d e) + ∑ j : Fin 64, a i j * v j e

/-- The state after a chunk: the state before, decayed, and the chunk's values at its keys. -/
def grown (k : Fin 64 → Fin 128 → EReal) (g : Fin 128 → EReal) (v : Fin 64 → Fin 128 → EReal)
    (S : Fin 128 → Fin 128 → EReal) (d e : Fin 128) : EReal :=
  S d e * g e + ∑ i : Fin 64, k i d * v i e

/-- The kernel's values of a chunk, as it computes them from a head's state and two of its blocks. -/
def freshK (s : Vec Ideal S1x128x128 .f32) (u : Vec Ideal S1x1x64x128 .f32) (w : Vec Ideal S1x1x64x128 .bf16) :
    FVec Ideal S64x128 .bf16 := k0_pay12 (k0_pay4 s) u w

/-- The kernel's output of a chunk. -/
def seenK (s : Vec Ideal S1x128x128 .f32) (u : Vec Ideal S1x1x64x128 .f32) (w q : Vec Ideal S1x1x64x128 .bf16)
    (a : Vec Ideal S1x1x1x1x64x64 .bf16) : FVec Ideal S1x64x128 .f32 := k0_pay22 (k0_pay4 s) (freshK s u w) q a

/-- The kernel's state after a chunk. -/
def grownK (s : Vec Ideal S1x128x128 .f32) (u : Vec Ideal S1x1x64x128 .f32) (w k : Vec Ideal S1x1x64x128 .bf16)
    (g : Vec Ideal S1x1x1x1x128 .f32) : FVec Ideal S1x128x128 .f32 := k0_pay33 (k0_pay32 (freshK s u w) s g k)

/-- The kernel's values of a chunk are the mathematical ones: the two roundings are the identity over the reals. -/
theorem freshK_at (s : Vec Ideal S1x128x128 .f32) (u : Vec Ideal S1x1x64x128 .f32) (w : Vec Ideal S1x1x64x128 .bf16)
    (S : Fin 128 → Fin 128 → EReal) (U W : Fin 64 → Fin 128 → EReal) (hs : ∀ d e, s (ix3 0 d e) = S d e)
    (hu : ∀ i e, u (ix4 0 0 i e) = U i e) (hw : ∀ i e, w (ix4 0 0 i e) = W i e) (i : Fin 64) (e : Fin 128) :
    freshK s u w (ix2 i e) = fresh U W S i e := by
  unfold freshK fresh
  simp only [← hs, ← hu, ← hw]
  pointwise [k0_pay12, k0_pay4]

/-- The kernel's output of a chunk is the mathematical one. -/
theorem seenK_at (s : Vec Ideal S1x128x128 .f32) (u : Vec Ideal S1x1x64x128 .f32) (w q : Vec Ideal S1x1x64x128 .bf16)
    (a : Vec Ideal S1x1x1x1x64x64 .bf16) (S : Fin 128 → Fin 128 → EReal) (U W Q : Fin 64 → Fin 128 → EReal)
    (A : Fin 64 → Fin 64 → EReal) (hs : ∀ d e, s (ix3 0 d e) = S d e) (hu : ∀ i e, u (ix4 0 0 i e) = U i e)
    (hw : ∀ i e, w (ix4 0 0 i e) = W i e) (hq : ∀ i e, q (ix4 0 0 i e) = Q i e)
    (ha : ∀ i j, a (ix6 0 0 0 0 i j) = A i j) (x : S1x64x128.Idx) :
    seenK s u w q a x = seen Q A (fresh U W S) S (x 1) (x 2) := by
  obtain ⟨z, i, e, rfl⟩ : ∃ (z : Fin 1) (i : Fin 64) (e : Fin 128), x = (ix3 z i e : S1x64x128.Idx) := ⟨x 0, x 1, x 2, eq_ix3 x⟩
  show _ = seen Q A (fresh U W S) S i e
  unfold seenK seen
  simp only [← freshK_at s u w S U W hs hu hw]
  simp only [← hs, ← hq, ← ha]
  generalize freshK s u w = v
  pointwise [k0_pay22, k0_pay4]

/-- The kernel's state after a chunk is the mathematical one. -/
theorem grownK_at (s : Vec Ideal S1x128x128 .f32) (u : Vec Ideal S1x1x64x128 .f32) (w k : Vec Ideal S1x1x64x128 .bf16)
    (g : Vec Ideal S1x1x1x1x128 .f32) (S : Fin 128 → Fin 128 → EReal) (U W K : Fin 64 → Fin 128 → EReal)
    (G : Fin 128 → EReal) (hs : ∀ d e, s (ix3 0 d e) = S d e) (hu : ∀ i e, u (ix4 0 0 i e) = U i e)
    (hw : ∀ i e, w (ix4 0 0 i e) = W i e) (hk : ∀ i e, k (ix4 0 0 i e) = K i e)
    (hg : ∀ e, g (ix5 0 0 0 0 e) = G e) (x : S1x128x128.Idx) :
    grownK s u w k g x = grown K G (fresh U W S) S (x 1) (x 2) := by
  obtain ⟨z, d, e, rfl⟩ : ∃ (z : Fin 1) (d e : Fin 128), x = (ix3 z d e : S1x128x128.Idx) := ⟨x 0, x 1, x 2, eq_ix3 x⟩
  show _ = grown K G (fresh U W S) S d e
  unfold grownK grown
  simp only [← freshK_at s u w S U W hs hu hw]
  simp only [← hs, ← hk, ← hg]
  generalize freshK s u w = v
  pointwise [k0_pay33, k0_pay32]
end Cert.Recur
end
-- ==== Proof.ScanState.lean ====
/- What a grid point of the recurrence leaves in the scratch that holds the eight states, and in its two output blocks. -/
module
public import proofs.«01_k».proof.Proof.ScanStep
public import proofs.«01_k».proof.Proof.Rows
@[expose] public section
set_option maxRecDepth 16384
noncomputable section
namespace Cert.Recur
open Idealize.ShloMosaic Idealize.ShloMosaic.TcCoe Idealize.ShloMosaic.Tactic Cert.ScanIdeal Cert.ScanIdeal.Gen
open Idealize.SL.Sem Cert.Flash
variable (m : (ℓ : Loc nD τ sig) → Buf (Elt Ideal) ℓ)

/-- One head's lanes of a block of 64 rows: of the first direction's block for the first four of the eight states, of the
    second's for the others. -/
def lanes (X Y : S1x1x64x512.Idx → EReal) (r : Fin 8) (i : Fin 64) (e : Fin 128) : EReal :=
  (if r.val < 4 then X else Y) (ix4 0 0 i ⟨128 * (r.val % 4) + e.val, by omega⟩)

/-- One head's weights within a chunk. -/
def inner (X Y : S1x1x1x4x64x64.Idx → EReal) (r : Fin 8) (i j : Fin 64) : EReal :=
  (if r.val < 4 then X else Y) (ix6 0 0 0 ⟨r.val % 4, by omega⟩ i j)

/-- One head's decay. -/
def decay (X Y : S1x1x1x4x128.Idx → EReal) (r : Fin 8) (e : Fin 128) : EReal :=
  (if r.val < 4 then X else Y) (ix5 0 0 0 ⟨r.val % 4, by omega⟩ e)

/-- The values of a chunk that a grid point computes for one of the eight states. -/
abbrev ptFresh (c : Dev nD) (t : Fin cfg0.N) (S : Fin 128 → Fin 128 → EReal) (r : Fin 8) : Fin 64 → Fin 128 → EReal :=
  fresh (lanes (iblk m c 0 t) (iblk m c 6 t) r) (lanes (iblk m c 1 t) (iblk m c 7 t) r) S

/-- A grid point that is not the first of its batch grows each of the eight states by a chunk. -/
theorem state_next (c : Dev nD) (t t' : Fin cfg0.N) (ht : t'.val = t.val - 1) (h0 : ¬t.val % 132 = 0) (r : Fin 8)
    (d e : Fin 128) (y : S8x128x128.Idx) (y0 : (y 0).val = r.val) (y1 : (y 1).val = d.val) (y2 : (y 2).val = e.val) :
    (outsAt0 m c t.val t.isLt).2.2 y
      = grown (lanes (iblk m c 3 t) (iblk m c 9 t) r) (decay (iblk m c 5 t) (iblk m c 11 t) r)
          (ptFresh m c t (fun d e => (outsAt0 m c t'.val t'.isLt).2.2 (ix3 r d e)) r)
          (fun d e => (outsAt0 m c t'.val t'.isLt).2.2 (ix3 r d e)) d e := by
  obtain ⟨n, hn⟩ := t'
  obtain rfl : n = t.val - 1 := ht
  rw [outsAt0_B m c t h0]
  generalize (outsAt0 m c (t.val - 1) hn).2.2 = S
  frame_open
  simp (disch := decide) only [↓ View.readCov_skip, ↓ View.readCov_cons_toLoadRect, ↓ View.readCov_fill]
  frame_out
  simp only [↓ read_unread_whole]
  canon_tiles x h
  all_goals
    obtain ⟨rv, hrv⟩ := r
    rw [show (x 0).val = 0 by omega, y0] at h0
    simp only [Nat.add_zero, Nat.zero_add] at h0
    subst h0
    obtain rfl : d = (x 1 : Fin 128) := Fin.ext (y1.symm.trans h1)
    obtain rfl : e = (x 2 : Fin 128) := Fin.ext (y2.symm.trans h2)
    refine grownK_at _ _ _ _ _ _ _ _ _ _ ?_ ?_ ?_ ?_ ?_ x
    all_goals intros; pointwise [lanes, decay]

/-- The first grid point of a batch grows each of the eight states from zeros. -/
theorem state_first (c : Dev nD) (t : Fin cfg0.N) (h0 : t.val % 132 = 0) (r : Fin 8)
    (d e : Fin 128) (y : S8x128x128.Idx) (y0 : (y 0).val = r.val) (y1 : (y 1).val = d.val) (y2 : (y 2).val = e.val) :
    (outsAt0 m c t.val t.isLt).2.2 y
      = grown (lanes (iblk m c 3 t) (iblk m c 9 t) r) (decay (iblk m c 5 t) (iblk m c 11 t) r)
          (ptFresh m c t (fun _ _ => 0) r) (fun _ _ => 0) d e := by
  rw [outsAt0_A m c t h0]
  frame_open
  simp (disch := decide) only [↓ View.readCov_skip, ↓ View.readCov_cons_toLoadRect, ↓ View.readCov_fill]
  frame_out
  refine (canon_drop _ y [_, _, _, _, _, _, _, _] (View.cover_of_tiled_head _ _ _ (by rfl) _)).trans ?_
  canon_tiles x h
  all_goals
    obtain ⟨rv, hrv⟩ := r
    rw [show (x 0).val = 0 by omega, y0] at h0
    simp only [Nat.add_zero, Nat.zero_add] at h0
    subst h0
    obtain rfl : d = (x 1 : Fin 128) := Fin.ext (y1.symm.trans h1)
    obtain rfl : e = (x 2 : Fin 128) := Fin.ext (y2.symm.trans h2)
    refine grownK_at _ _ _ _ _ _ _ _ _ _ ?_ ?_ ?_ ?_ ?_ x
    all_goals intros; pointwise [lanes, decay, k0_pay3]

/-- What a grid point that is not the first of its batch leaves in the first direction's output block. -/
theorem front_next (c : Dev nD) (t t' : Fin cfg0.N) (ht : t'.val = t.val - 1) (h0 : ¬t.val % 132 = 0) (r : Fin 8)
    (hr : r.val < 4) (i : Fin 64) (e : Fin 128) (y : S1x64x512.Idx) (y1 : (y 1).val = i.val)
    (y2 : (y 2).val = 128 * r.val + e.val) :
    (outsAt0 m c t.val t.isLt).1 y
      = seen (lanes (iblk m c 2 t) (iblk m c 8 t) r) (inner (iblk m c 4 t) (iblk m c 10 t) r)
          (ptFresh m c t (fun d e => (outsAt0 m c t'.val t'.isLt).2.2 (ix3 r d e)) r)
          (fun d e => (outsAt0 m c t'.val t'.isLt).2.2 (ix3 r d e)) i e := by
  obtain ⟨n, hn⟩ := t'
  obtain rfl : n = t.val - 1 := ht
  rw [outsAt0_B m c t h0]
  generalize (outsAt0 m c (t.val - 1) hn).2.2 = S
  frame_open
  simp (disch := decide) only [↓ View.readCov_skip, ↓ View.readCov_cons_toLoadRect, ↓ View.readCov_fill]
  frame_out
  simp only [↓ read_unread_whole]
  canon_tiles x h
  all_goals
    obtain ⟨rv, hrv⟩ := r
    have e0 := e.isLt
    simp only at hr y2
    obtain rfl : i = (x 1 : Fin 64) := Fin.ext (y1.symm.trans h1)
    obtain rfl : e = (x 2 : Fin 128) := Fin.ext (by show e.val = (x 2).val; omega)
    rw [h2] at y2
    rcases (by omega : rv = 0 ∨ rv = 1 ∨ rv = 2 ∨ rv = 3) with rfl | rfl | rfl | rfl <;> first | omega | skip
    refine seenK_at _ _ _ _ _ _ _ _ _ _ ?_ ?_ ?_ ?_ ?_ x
    all_goals intros; pointwise [lanes, inner]
/-- What the first grid point of a batch leaves in the first direction's output block. -/
theorem front_first (c : Dev nD) (t : Fin cfg0.N) (h0 : t.val % 132 = 0) (r : Fin 8)
    (hr : r.val < 4) (i : Fin 64) (e : Fin 128) (y : S1x64x512.Idx) (y1 : (y 1).val = i.val)
    (y2 : (y 2).val = 128 * r.val + e.val) :
    (outsAt0 m c t.val t.isLt).1 y
      = seen (lanes (iblk m c 2 t) (iblk m c 8 t) r) (inner (iblk m c 4 t) (iblk m c 10 t) r)
          (ptFresh m c t (fun _ _ => 0) r)
          (fun _ _ => 0) i e := by
  rw [outsAt0_A m c t h0]
  frame_open
  simp (disch := decide) only [↓ View.readCov_skip, ↓ View.readCov_cons_toLoadRect, ↓ View.readCov_fill]
  frame_out
  canon_tiles x h
  all_goals
    obtain ⟨rv, hrv⟩ := r
    have e0 := e.isLt
    simp only at hr y2
    obtain rfl : i = (x 1 : Fin 64) := Fin.ext (y1.symm.trans h1)
    obtain rfl : e = (x 2 : Fin 128) := Fin.ext (by show e.val = (x 2).val; omega)
    rw [h2] at y2
    rcases (by omega : rv = 0 ∨ rv = 1 ∨ rv = 2 ∨ rv = 3) with rfl | rfl | rfl | rfl <;> first | omega | skip
    refine seenK_at _ _ _ _ _ _ _ _ _ _ ?_ ?_ ?_ ?_ ?_ x
    all_goals intros; pointwise [lanes, inner, k0_pay3]
/-- What a grid point that is not the first of its batch leaves in the second direction's output block. -/
theorem back_next (c : Dev nD) (t t' : Fin cfg0.N) (ht : t'.val = t.val - 1) (h0 : ¬t.val % 132 = 0) (r : Fin 8)
    (hr : 4 ≤ r.val) (i : Fin 64) (e : Fin 128) (y : S1x64x512.Idx) (y1 : (y 1).val = i.val)
    (y2 : (y 2).val = 128 * (r.val - 4) + e.val) :
    (outsAt0 m c t.val t.isLt).2.1 y
      = seen (lanes (iblk m c 2 t) (iblk m c 8 t) r) (inner (iblk m c 4 t) (iblk m c 10 t) r)
          (ptFresh m c t (fun d e => (outsAt0 m c t'.val t'.isLt).2.2 (ix3 r d e)) r)
          (fun d e => (outsAt0 m c t'.val t'.isLt).2.2 (ix3 r d e)) i e := by
  obtain ⟨n, hn⟩ := t'
  obtain rfl : n = t.val - 1 := ht
  rw [outsAt0_B m c t h0]
  generalize (outsAt0 m c (t.val - 1) hn).2.2 = S
  frame_open
  simp (disch := decide) only [↓ View.readCov_skip, ↓ View.readCov_cons_toLoadRect, ↓ View.readCov_fill]
  frame_out
  simp only [↓ read_unread_whole]
  canon_tiles x h
  all_goals
    obtain ⟨rv, hrv⟩ := r
    have e0 := e.isLt
    simp only at hr y2
    obtain rfl : i = (x 1 : Fin 64) := Fin.ext (y1.symm.trans h1)
    obtain rfl : e = (x 2 : Fin 128) := Fin.ext (by show e.val = (x 2).val; omega)
    rw [h2] at y2
    rcases (by omega : rv = 4 ∨ rv = 5 ∨ rv = 6 ∨ rv = 7) with rfl | rfl | rfl | rfl <;> first | omega | skip
    refine seenK_at _ _ _ _ _ _ _ _ _ _ ?_ ?_ ?_ ?_ ?_ x
    all_goals intros; pointwise [lanes, inner]
/-- What the first grid point of a batch leaves in the second direction's output block. -/
theorem back_first (c : Dev nD) (t : Fin cfg0.N) (h0 : t.val % 132 = 0) (r : Fin 8)
    (hr : 4 ≤ r.val) (i : Fin 64) (e : Fin 128) (y : S1x64x512.Idx) (y1 : (y 1).val = i.val)
    (y2 : (y 2).val = 128 * (r.val - 4) + e.val) :
    (outsAt0 m c t.val t.isLt).2.1 y
      = seen (lanes (iblk m c 2 t) (iblk m c 8 t) r) (inner (iblk m c 4 t) (iblk m c 10 t) r)
          (ptFresh m c t (fun _ _ => 0) r)
          (fun _ _ => 0) i e := by
  rw [outsAt0_A m c t h0]
  frame_open
  simp (disch := decide) only [↓ View.readCov_skip, ↓ View.readCov_cons_toLoadRect, ↓ View.readCov_fill]
  frame_out
  canon_tiles x h
  all_goals
    obtain ⟨rv, hrv⟩ := r
    have e0 := e.isLt
    simp only at hr y2
    obtain rfl : i = (x 1 : Fin 64) := Fin.ext (y1.symm.trans h1)
    obtain rfl : e = (x 2 : Fin 128) := Fin.ext (by show e.val = (x 2).val; omega)
    rw [h2] at y2
    rcases (by omega : rv = 4 ∨ rv = 5 ∨ rv = 6 ∨ rv = 7) with rfl | rfl | rfl | rfl <;> first | omega | skip
    refine seenK_at _ _ _ _ _ _ _ _ _ _ ?_ ?_ ?_ ?_ ?_ x
    all_goals intros; pointwise [lanes, inner, k0_pay3]
end Cert.Recur
end
-- ==== Proof.ScanArray.lean ====
/- The recurrence over whole sequences: the state before each chunk and the two result arrays, as functions of the six
   argument arrays. -/
module
public import proofs.«01_k».proof.Proof.ScanStep
@[expose] public section
set_option maxRecDepth 16384
noncomputable section
namespace Cert.Recur
open Idealize.ShloMosaic Cert.ScanIdeal

/-- The six argument arrays: the chunks' values, what the state predicts them from, queries, keys, the weights within a
    chunk and the decay of the state over a chunk. -/
structure Arrays where
  U : S2x2x8448x512.Idx → EReal
  W : S2x2x8448x512.Idx → EReal
  Q : S2x2x8448x512.Idx → EReal
  K : S2x2x8448x512.Idx → EReal
  A : S2x2x132x4x64x64.Idx → EReal
  G : S2x2x132x4x128.Idx → EReal

/-- The chunk that step `n` of one of the eight heads takes: the four heads of the first direction take the chunks in
    order, those of the second the 4 context chunks backwards and then the other 128 backwards. -/
def pos (r : Fin 8) (n : ℕ) : Fin 132 :=
  ⟨(if r.val < 4 then n else if n < 4 then 3 - n else 135 - n) % 132, Nat.mod_lt _ (by decide)⟩

/-- The chunk of a step below 132. -/
theorem pos_val (r : Fin 8) (n : ℕ) (hn : n < 132) :
    (pos r n).val = if r.val < 4 then n else if n < 4 then 3 - n else 135 - n := by
  unfold pos
  refine Nat.mod_eq_of_lt ?_
  split_ifs <;> omega

/-- The order is its own inverse. -/
theorem pos_pos (r : Fin 8) (n : ℕ) (hn : n < 132) : (pos r (pos r n).val).val = n := by
  rw [pos_val r _ (pos r n).isLt, pos_val r n hn]
  split_ifs <;> omega

/-- A chunk's 64 rows of one head. -/
def rowsAt (X : S2x2x8448x512.Idx → EReal) (r : Fin 8) (b : Fin 2) (n : Fin 132) (i : Fin 64) (e : Fin 128) : EReal :=
  X (ix4 ⟨r.val / 4, by omega⟩ b ⟨64 * n.val + i.val, by omega⟩ ⟨128 * (r.val % 4) + e.val, by omega⟩)

/-- A chunk's weights of one head. -/
def innerAt (X : S2x2x132x4x64x64.Idx → EReal) (r : Fin 8) (b : Fin 2) (n : Fin 132) (i j : Fin 64) : EReal :=
  X (ix6 ⟨r.val / 4, by omega⟩ b n ⟨r.val % 4, by omega⟩ i j)

/-- A chunk's decay of one head. -/
def decayAt (X : S2x2x132x4x128.Idx → EReal) (r : Fin 8) (b : Fin 2) (n : Fin 132) (e : Fin 128) : EReal :=
  X (ix5 ⟨r.val / 4, by omega⟩ b n ⟨r.val % 4, by omega⟩ e)

/-- The values of step `n`, over the state before it. -/
def freshAt (a : Arrays) (r : Fin 8) (b : Fin 2) (n : ℕ) (S : Fin 128 → Fin 128 → EReal) : Fin 64 → Fin 128 → EReal :=
  fresh (rowsAt a.U r b (pos r n)) (rowsAt a.W r b (pos r n)) S

/-- The state before step `n`. -/
def stateAt (a : Arrays) (r : Fin 8) (b : Fin 2) : ℕ → Fin 128 → Fin 128 → EReal
  | 0 => fun _ _ => 0
  | n + 1 => grown (rowsAt a.K r b (pos r n)) (decayAt a.G r b (pos r n)) (freshAt a r b n (stateAt a r b n)) (stateAt a r b n)

/-- The output of step `n`. -/
def outAt (a : Arrays) (r : Fin 8) (b : Fin 2) (n : ℕ) : Fin 64 → Fin 128 → EReal :=
  seen (rowsAt a.Q r b (pos r n)) (innerAt a.A r b (pos r n)) (freshAt a r b n (stateAt a r b n)) (stateAt a r b n)

/-- The result array of a direction. -/
def result (a : Arrays) (z : Fin 2) (y : S2x8448x512.Idx) : EReal :=
  outAt a ⟨4 * z.val + (y 2).val / 128, by have h : (y 2).val < 512 := (y 2).isLt; omega⟩ (y 0)
    (pos ⟨4 * z.val + (y 2).val / 128, by have h : (y 2).val < 512 := (y 2).isLt; omega⟩ ((y 1).val / 64)).val
    ⟨(y 1).val % 64, by omega⟩ ⟨(y 2).val % 128, by omega⟩

/-- The result array at an entry whose coordinates are known. -/
theorem result_at (a : Arrays) (z : Fin 2) (y : S2x8448x512.Idx) (r : Fin 8) (b : Fin 2) (n : ℕ) (i : Fin 64) (e : Fin 128)
    (hn : n < 132) (hr : r.val / 4 = z.val) (y0 : (y 0).val = b.val) (y1 : (y 1).val = 64 * (pos r n).val + i.val)
    (y2 : (y 2).val = 128 * (r.val % 4) + e.val) : result a z y = outAt a r b n i e := by
  unfold result
  have key : ∀ (r' : Fin 8) (b' : Fin 2) (n' : ℕ) (i' : Fin 64) (e' : Fin 128), r' = r → b' = b → n' = n → i' = i → e' = e →
      outAt a r' b' n' i' e' = outAt a r b n i e := by
    rintro _ _ _ _ _ rfl rfl rfl rfl rfl; rfl
  have er : (⟨4 * z.val + (y 2).val / 128, by have h : (y 2).val < 512 := (y 2).isLt; omega⟩ : Fin 8) = r :=
    Fin.ext (by show 4 * z.val + (y 2).val / 128 = r.val; omega)
  refine key _ _ _ _ _ er (Fin.ext y0) ?_ (Fin.ext ?_) (Fin.ext ?_)
  · rw [er, show (y 1).val / 64 = (pos r n).val by omega, pos_pos r n hn]
  · show (y 1).val % 64 = i.val
    omega
  · show (y 2).val % 128 = e.val
    omega
end Cert.Recur
end
-- ==== Proof.ScanKernel.lean ====
/- The two result arrays of the kernel. -/
module
public import proofs.«01_k».proof.Proof.ScanState
public import proofs.«01_k».proof.Proof.ScanArray
@[expose] public section
set_option maxRecDepth 16384
noncomputable section
namespace Cert.Recur
open Idealize.ShloMosaic Idealize.ShloMosaic.TcCoe Idealize.ShloMosaic.Tactic Cert.ScanIdeal Cert.ScanIdeal.Gen
open Idealize.SL.Sem
variable (m : (ℓ : Loc nD τ sig) → Buf (Elt Ideal) ℓ)

/-- The argument arrays of a core. -/
def args (c : Dev nD) : Arrays where
  U := m ((c : Thread nD τ).loc main_arg0)
  W := m ((c : Thread nD τ).loc main_arg1)
  Q := m ((c : Thread nD τ).loc main_arg2)
  K := m ((c : Thread nD τ).loc main_arg3)
  A := m ((c : Thread nD τ).loc main_arg4)
  G := m ((c : Thread nD τ).loc main_arg5)

/-- The chunk of the second direction at a grid point. -/
abbrev turn (n : ℕ) : ℕ := if n < 4 then 3 - n else 135 - n

/-- The block each window stages at a grid point. -/
theorem idx : ∀ t : Fin cfg0.N, win0_0.index t = ![0, t.val / 132, t.val % 132, 0]
    ∧ win0_1.index t = ![0, t.val / 132, t.val % 132, 0] ∧ win0_2.index t = ![0, t.val / 132, t.val % 132, 0]
    ∧ win0_3.index t = ![0, t.val / 132, t.val % 132, 0] ∧ win0_4.index t = ![0, t.val / 132, t.val % 132, 0, 0, 0]
    ∧ win0_5.index t = ![0, t.val / 132, t.val % 132, 0, 0] ∧ win0_6.index t = ![1, t.val / 132, turn (t.val % 132), 0]
    ∧ win0_7.index t = ![1, t.val / 132, turn (t.val % 132), 0] ∧ win0_8.index t = ![1, t.val / 132, turn (t.val % 132), 0]
    ∧ win0_9.index t = ![1, t.val / 132, turn (t.val % 132), 0]
    ∧ win0_10.index t = ![1, t.val / 132, turn (t.val % 132), 0, 0, 0]
    ∧ win0_11.index t = ![1, t.val / 132, turn (t.val % 132), 0, 0] ∧ win0_12.index t = ![t.val / 132, t.val % 132, 0]
    ∧ win0_13.index t = ![t.val / 132, turn (t.val % 132), 0] :=
  (by decide +kernel : ∀ t : Fin grid0.N, _)

/-- There are 264 grid points. -/
theorem pt_lt (t : Fin cfg0.N) : t.val < 264 := lt_of_lt_of_eq t.isLt (show cfg0.N = 264 from N_0)

/-- The chunk of a step, for a head of either direction. -/
theorem pos_of (r : Fin 8) (n : ℕ) (hn : n < 132) : (pos r n).val = if r.val < 4 then n else turn n := pos_val r n hn

/-- The blocks of the chunks' values are the chunk's rows. -/
theorem lanes_U (c : Dev nD) (t : Fin cfg0.N) (r : Fin 8) (b : Fin 2) (hb : b.val = t.val / 132) :
    lanes (iblk m c 0 t) (iblk m c 6 t) r = rowsAt (args m c).U r b (pos r (t.val % 132)) := by
  funext i e
  have hp := pos_of r (t.val % 132) (Nat.mod_lt _ (by decide))
  show _ = (m ((c : Thread nD τ).loc main_arg0)) _
  rw [← V_main_arg0 m c]
  unfold lanes
  split_ifs at hp ⊢ with hr
  · blk_ext [iblk, idx t, hp, hb]
  · blk_ext [iblk, idx t, hp, hb]
/-- The blocks of what the state predicts them from are the chunk's rows. -/
theorem lanes_W (c : Dev nD) (t : Fin cfg0.N) (r : Fin 8) (b : Fin 2) (hb : b.val = t.val / 132) :
    lanes (iblk m c 1 t) (iblk m c 7 t) r = rowsAt (args m c).W r b (pos r (t.val % 132)) := by
  funext i e
  have hp := pos_of r (t.val % 132) (Nat.mod_lt _ (by decide))
  show _ = (m ((c : Thread nD τ).loc main_arg1)) _
  rw [← V_main_arg1 m c]
  unfold lanes
  split_ifs at hp ⊢ with hr
  · blk_ext [iblk, idx t, hp, hb]
  · blk_ext [iblk, idx t, hp, hb]
/-- The blocks of the queries are the chunk's rows. -/
theorem lanes_Q (c : Dev nD) (t : Fin cfg0.N) (r : Fin 8) (b : Fin 2) (hb : b.val = t.val / 132) :
    lanes (iblk m c 2 t) (iblk m c 8 t) r = rowsAt (args m c).Q r b (pos r (t.val % 132)) := by
  funext i e
  have hp := pos_of r (t.val % 132) (Nat.mod_lt _ (by decide))
  show _ = (m ((c : Thread nD τ).loc main_arg2)) _
  rw [← V_main_arg2 m c]
  unfold lanes
  split_ifs at hp ⊢ with hr
  · blk_ext [iblk, idx t, hp, hb]
  · blk_ext [iblk, idx t, hp, hb]
/-- The blocks of the keys are the chunk's rows. -/
theorem lanes_K (c : Dev nD) (t : Fin cfg0.N) (r : Fin 8) (b : Fin 2) (hb : b.val = t.val / 132) :
    lanes (iblk m c 3 t) (iblk m c 9 t) r = rowsAt (args m c).K r b (pos r (t.val % 132)) := by
  funext i e
  have hp := pos_of r (t.val % 132) (Nat.mod_lt _ (by decide))
  show _ = (m ((c : Thread nD τ).loc main_arg3)) _
  rw [← V_main_arg3 m c]
  unfold lanes
  split_ifs at hp ⊢ with hr
  · blk_ext [iblk, idx t, hp, hb]
  · blk_ext [iblk, idx t, hp, hb]
/-- The blocks of the weights are the chunk's. -/
theorem inner_A (c : Dev nD) (t : Fin cfg0.N) (r : Fin 8) (b : Fin 2) (hb : b.val = t.val / 132) :
    inner (iblk m c 4 t) (iblk m c 10 t) r = innerAt (args m c).A r b (pos r (t.val % 132)) := by
  funext i e
  have hp := pos_of r (t.val % 132) (Nat.mod_lt _ (by decide))
  show _ = (m ((c : Thread nD τ).loc main_arg4)) _
  rw [← V_main_arg4 m c]
  unfold inner
  split_ifs at hp ⊢ with hr
  · blk_ext [iblk, idx t, hp, hb]
  · blk_ext [iblk, idx t, hp, hb]
/-- The blocks of the decay are the chunk's. -/
theorem decay_G (c : Dev nD) (t : Fin cfg0.N) (r : Fin 8) (b : Fin 2) (hb : b.val = t.val / 132) :
    decay (iblk m c 5 t) (iblk m c 11 t) r = decayAt (args m c).G r b (pos r (t.val % 132)) := by
  funext e
  have hp := pos_of r (t.val % 132) (Nat.mod_lt _ (by decide))
  show _ = (m ((c : Thread nD τ).loc main_arg5)) _
  rw [← V_main_arg5 m c]
  unfold decay
  split_ifs at hp ⊢ with hr
  · blk_ext [iblk, idx t, hp, hb]
  · blk_ext [iblk, idx t, hp, hb]
/-- The scratch after a grid point: the eight states after the point's step. -/
theorem scratch (c : Dev nD) (b : Fin 2) : ∀ (n : ℕ) (hn : n < 132) (t : Fin cfg0.N) (_ : t.val = 132 * b.val + n) (r : Fin 8)
    (d e : Fin 128), (outsAt0 m c t.val t.isLt).2.2 (ix3 r d e) = stateAt (args m c) r b (n + 1) d e := by
  have fill : ∀ (n : ℕ) (_ : n < 132) (t : Fin cfg0.N) (_ : t.val = 132 * b.val + n) (r : Fin 8) (S : Fin 128 → Fin 128 → EReal)
      (d e : Fin 128), S = stateAt (args m c) r b n →
      grown (lanes (iblk m c 3 t) (iblk m c 9 t) r) (decay (iblk m c 5 t) (iblk m c 11 t) r) (ptFresh m c t S r) S d e
        = stateAt (args m c) r b (n + 1) d e := by
    intro n hn t ht r S d e hS
    have hb : b.val = t.val / 132 := by omega
    rw [lanes_K m c t r b hb, decay_G m c t r b hb]
    unfold ptFresh
    rw [lanes_U m c t r b hb, lanes_W m c t r b hb, hS, show t.val % 132 = n by omega]
    rfl
  intro n
  induction n with
  | zero =>
    intro hn t ht r d e
    rw [state_first m c t (by omega) r d e _ rfl rfl rfl]
    exact fill 0 hn t ht r _ d e rfl
  | succ n ih =>
    intro hn t ht r d e
    have hlt := t.isLt
    rw [state_next m c t ⟨t.val - 1, by omega⟩ rfl (by omega) r d e _ rfl rfl rfl]
    refine fill (n + 1) hn t ht r _ d e ?_
    funext d e
    exact ih (by omega) ⟨t.val - 1, by omega⟩ (by show t.val - 1 = _; omega) r d e

/-- An output block after a grid point, from the states before the point. -/
theorem seen_pt (c : Dev nD) (b : Fin 2) (n : ℕ) (t : Fin cfg0.N) (ht : t.val = 132 * b.val + n) (hn : n < 132) (r : Fin 8)
    (S : Fin 128 → Fin 128 → EReal) (hS : S = stateAt (args m c) r b n) (i : Fin 64) (e : Fin 128) :
    seen (lanes (iblk m c 2 t) (iblk m c 8 t) r) (inner (iblk m c 4 t) (iblk m c 10 t) r) (ptFresh m c t S r) S i e
      = outAt (args m c) r b n i e := by
  have hb : b.val = t.val / 132 := by omega
  rw [lanes_Q m c t r b hb, inner_A m c t r b hb]
  unfold ptFresh
  rw [lanes_U m c t r b hb, lanes_W m c t r b hb, hS, show t.val % 132 = n by omega]
  rfl

/-- The first direction's output block after a grid point. -/
theorem front (c : Dev nD) (b : Fin 2) (n : ℕ) (t : Fin cfg0.N) (ht : t.val = 132 * b.val + n) (hn : n < 132) (r : Fin 8)
    (hr : r.val < 4) (i : Fin 64) (e : Fin 128) (y : S1x64x512.Idx) (y1 : (y 1).val = i.val)
    (y2 : (y 2).val = 128 * r.val + e.val) : (outsAt0 m c t.val t.isLt).1 y = outAt (args m c) r b n i e := by
  have hlt := t.isLt
  rcases n with _ | n
  · rw [front_first m c t (by omega) r hr i e y y1 y2]
    exact seen_pt m c b 0 t ht hn r _ rfl i e
  · rw [front_next m c t ⟨t.val - 1, by omega⟩ rfl (by omega) r hr i e y y1 y2]
    refine seen_pt m c b (n + 1) t ht hn r _ ?_ i e
    funext d e
    exact scratch m c b n (by omega) ⟨t.val - 1, by omega⟩ (by show t.val - 1 = _; omega) r d e

/-- The second direction's output block after a grid point. -/
theorem back (c : Dev nD) (b : Fin 2) (n : ℕ) (t : Fin cfg0.N) (ht : t.val = 132 * b.val + n) (hn : n < 132) (r : Fin 8)
    (hr : 4 ≤ r.val) (i : Fin 64) (e : Fin 128) (y : S1x64x512.Idx) (y1 : (y 1).val = i.val)
    (y2 : (y 2).val = 128 * (r.val - 4) + e.val) : (outsAt0 m c t.val t.isLt).2.1 y = outAt (args m c) r b n i e := by
  have hlt := t.isLt
  rcases n with _ | n
  · rw [back_first m c t (by omega) r hr i e y y1 y2]
    exact seen_pt m c b 0 t ht hn r _ rfl i e
  · rw [back_next m c t ⟨t.val - 1, by omega⟩ rfl (by omega) r hr i e y y1 y2]
    refine seen_pt m c b (n + 1) t ht hn r _ ?_ i e
    funext d e
    exact scratch m c b n (by omega) ⟨t.val - 1, by omega⟩ (by show t.val - 1 = _; omega) r d e

/-- The first result array of the kernel. -/
theorem front_arr (c : Dev nD) : (dats m 0 c).arrAt 12 cfg0.N = result (args m c) 0 := by
  refine (dats m 0 c).arrAt_eq_of_covers 12 _ ?_ fun t _ y => ?_
  · decide +kernel
  blk_simp
  rw [after0_12]
  have h264 := pt_lt t
  obtain ⟨i, hi⟩ : ∃ i : S2x8448x512.Idx, i = (win0_12.blk t).view.emb y := ⟨_, rfl⟩
  have i0 : (i 0).val = t.val / 132 := by rw [hi]; blk_simp [idx t]; try omega
  have i1 : (i 1).val = 64 * (t.val % 132) + (y 1).val := by rw [hi]; blk_simp [idx t]; try omega
  have i2 : (i 2).val = (y 2).val := by rw [hi]; blk_simp [idx t]; try omega
  rw [← hi]
  have y1 : (y 1).val < 64 := (y 1).isLt
  have y2 : (y 2).val < 512 := (y 2).isLt
  have e2 : (y 2).val = 128 * ((y 2).val / 128) + (y 2).val % 128 := by omega
  have hn : t.val % 132 < 132 := Nat.mod_lt _ (by decide)
  rw [front m c ⟨t.val / 132, by omega⟩ (t.val % 132) t (by show _ = 132 * (t.val / 132) + _; omega) hn
    ⟨(y 2).val / 128, by omega⟩ (by show (y 2).val / 128 < 4; omega) ⟨(y 1).val, y1⟩ ⟨(y 2).val % 128, by omega⟩ y rfl e2]
  refine (result_at _ 0 i _ _ _ _ _ hn ?_ i0 ?_ ?_).symm
  · show (y 2).val / 128 / 4 = 0
    omega
  · rw [pos_of _ _ hn, if_pos (by show (y 2).val / 128 < 4; omega)]
    exact i1
  · show (i 2).val = 128 * ((y 2).val / 128 % 4) + (y 2).val % 128
    omega

/-- The second result array of the kernel. -/
theorem back_arr (c : Dev nD) : (dats m 0 c).arrAt 13 cfg0.N = result (args m c) 1 := by
  refine (dats m 0 c).arrAt_eq_of_covers 13 _ ?_ fun t _ y => ?_
  · decide +kernel
  blk_simp
  rw [after0_13]
  have h264 := pt_lt t
  obtain ⟨i, hi⟩ : ∃ i : S2x8448x512.Idx, i = (win0_13.blk t).view.emb y := ⟨_, rfl⟩
  have i0 : (i 0).val = t.val / 132 := by rw [hi]; blk_simp [idx t]; try omega
  have i1 : (i 1).val = 64 * turn (t.val % 132) + (y 1).val := by rw [hi]; blk_simp [idx t]; try omega
  have i2 : (i 2).val = (y 2).val := by rw [hi]; blk_simp [idx t]; try omega
  rw [← hi]
  have y1 : (y 1).val < 64 := (y 1).isLt
  have y2 : (y 2).val < 512 := (y 2).isLt
  have hn : t.val % 132 < 132 := Nat.mod_lt _ (by decide)
  rw [back m c ⟨t.val / 132, by omega⟩ (t.val % 132) t (by show _ = 132 * (t.val / 132) + _; omega) hn
    ⟨4 + (y 2).val / 128, by omega⟩ (by show 4 ≤ 4 + (y 2).val / 128; omega) ⟨(y 1).val, y1⟩ ⟨(y 2).val % 128, by omega⟩ y rfl
    (by show (y 2).val = 128 * (4 + (y 2).val / 128 - 4) + (y 2).val % 128; omega)]
  refine (result_at _ 1 i _ _ _ _ _ hn ?_ i0 ?_ ?_).symm
  · show (4 + (y 2).val / 128) / 4 = 1
    omega
  · rw [pos_of _ _ hn, if_neg (by show ¬ 4 + (y 2).val / 128 < 4; omega)]
    exact i1
  · show (i 2).val = 128 * ((4 + (y 2).val / 128) % 4) + (y 2).val % 128
    omega
end Cert.Recur
end
-- ==== Proof.ScanRead.lean ====
/- What one trip of the reference's loop reads and writes: the chunks of the argument arrays, and the chunk of a result. -/
module
public import proofs.«01_k».proof.Proof.ScanArray
public import proofs.«01_k».proof.Proof.Gen.ScanRefIdeal.Step
public import Idealize.ShloMosaic.Lib.Pointwise
public import Idealize.ShloMosaic.Lib.DynamicIndex
@[expose] public section
set_option maxRecDepth 16384
noncomputable section
namespace Cert.Recur
open Idealize.ShloMosaic Idealize.ShloMosaic.Tactic Cert.ScanRefIdeal Cert.ScanRefIdeal.Gen

/-- The chunk of the first direction starts at row `64 n` for each of the 132 steps. -/
theorem start_front : ∀ n : Fin 132, (IntOp.muli (BitVec.ofNat 32 n.val) 64#32).toInt = ((64 * n.val : ℕ) : Int) := by
  decide +kernel

/-- The number of the second direction's chunk, as a trip computes it. -/
def turned (n : ℕ) : BitVec 32 := Scalar.select (IntOp.cmpi .slt (BitVec.ofNat 32 n) 4#32) (IntOp.subi 3#32 (BitVec.ofNat 32 n))
  (IntOp.subi 135#32 (BitVec.ofNat 32 n))

/-- It is the chunk that a head of the second direction takes. -/
theorem start_turned : ∀ n : Fin 132, (turned n.val).toInt = (((pos 4 n.val).val : ℕ) : Int) := by decide +kernel

/-- The chunk of the second direction starts at 64 times that number. -/
theorem start_back : ∀ n : Fin 132, (IntOp.muli (turned n.val) 64#32).toInt = ((64 * (pos 4 n.val).val : ℕ) : Int) := by
  decide +kernel

/-- The number of a trip, as a word. -/
theorem start_count : ∀ n : Fin 132, (BitVec.ofNat 32 n.val).toInt = ((n.val : ℕ) : Int) := by decide +kernel

/-- The rows that a trip takes of an array: chunk `n` of the first direction and chunk `k` of the second, head by head. -/
theorem rows_read (X : S2x2x8448x512.Idx → EReal) (st st' : Fin 4 → Int) (n k : Fin 132)
    (h : ∀ a, st a = ((![0, 0, 64 * n.val, 0] a : ℕ) : Int)) (h' : ∀ a, st' a = ((![1, 0, 64 * k.val, 0] a : ℕ) : Int))
    (z b : Fin 2) (g : Fin 4) (i : Fin 64) (e : Fin 128) :
    transpose S2x2x4x64x128 [0, 1, 3, 2, 4] (shapeCast S2x2x64x4x128 (concatenate S2x2x64x512 0
        [⟨S1x2x64x512, Host.dynamicSlice S1x2x64x512 X st sliceFits_S2x2x8448x512_S1x2x64x512⟩,
         ⟨S1x2x64x512, Host.dynamicSlice S1x2x64x512 X st' sliceFits_S2x2x8448x512_S1x2x64x512⟩]
        concatenates_S1x2x64x512_S1x2x64x512_S2x2x64x512_d0) shapeCasts_S2x2x64x512_S2x2x64x4x128)
      transposes_S2x2x64x4x128_S2x2x4x64x128_0_1_3_2_4 (ix5 z b g i e)
      = X (ix4 z b ⟨64 * (if z.val < 1 then n else k).val + i.val, by omega⟩ ⟨128 * g.val + e.val, by omega⟩) := by
  have f : S2x2x8448x512.Slices ![0, 0, 64 * n.val, 0] S1x2x64x512 :=
    ⟨rfl, fun a => by fin_cases a <;> first | exact Nat.le_of_ble_eq_true rfl | (show 64 * n.val + 64 ≤ 8448; omega)⟩
  have f' : S2x2x8448x512.Slices ![1, 0, 64 * k.val, 0] S1x2x64x512 :=
    ⟨rfl, fun a => by fin_cases a <;> first | exact Nat.le_of_ble_eq_true rfl | (show 64 * k.val + 64 ≤ 8448; omega)⟩
  rw [Host.dynamicSlice_eq_extractStridedSlice _ X st _ _ f h, Host.dynamicSlice_eq_extractStridedSlice _ X st' _ _ f' h']
  fin_cases z
  · pointwise []
    exact congrArg X (by congr 2; omega)
  · pointwise []
    exact congrArg X (by congr 2; omega)

/-- The weights that a trip takes. -/
theorem inner_read (X : S2x2x132x4x64x64.Idx → EReal) (st st' : Fin 6 → Int) (n k : Fin 132)
    (h : ∀ a, st a = ((![0, 0, n.val, 0, 0, 0] a : ℕ) : Int)) (h' : ∀ a, st' a = ((![1, 0, k.val, 0, 0, 0] a : ℕ) : Int))
    (z b : Fin 2) (g : Fin 4) (i j : Fin 64) :
    shapeCast S2x2x4x64x64 (concatenate S2x2x1x4x64x64 0
        [⟨S1x2x1x4x64x64, Host.dynamicSlice S1x2x1x4x64x64 X st sliceFits_S2x2x132x4x64x64_S1x2x1x4x64x64⟩,
         ⟨S1x2x1x4x64x64, Host.dynamicSlice S1x2x1x4x64x64 X st' sliceFits_S2x2x132x4x64x64_S1x2x1x4x64x64⟩]
        concatenates_S1x2x1x4x64x64_S1x2x1x4x64x64_S2x2x1x4x64x64_d0) shapeCasts_S2x2x1x4x64x64_S2x2x4x64x64 (ix5 z b g i j)
      = X (ix6 z b (if z.val < 1 then n else k) g i j) := by
  have f : S2x2x132x4x64x64.Slices ![0, 0, n.val, 0, 0, 0] S1x2x1x4x64x64 :=
    ⟨rfl, fun a => by fin_cases a <;> first | exact Nat.le_of_ble_eq_true rfl | (show n.val + 1 ≤ 132; omega)⟩
  have f' : S2x2x132x4x64x64.Slices ![1, 0, k.val, 0, 0, 0] S1x2x1x4x64x64 :=
    ⟨rfl, fun a => by fin_cases a <;> first | exact Nat.le_of_ble_eq_true rfl | (show k.val + 1 ≤ 132; omega)⟩
  rw [Host.dynamicSlice_eq_extractStridedSlice _ X st _ _ f h, Host.dynamicSlice_eq_extractStridedSlice _ X st' _ _ f' h']
  fin_cases z
  · pointwise []
  · pointwise []

/-- The decay that a trip takes. -/
theorem decay_read (X : S2x2x132x4x128.Idx → EReal) (st st' : Fin 5 → Int) (n k : Fin 132)
    (h : ∀ a, st a = ((![0, 0, n.val, 0, 0] a : ℕ) : Int)) (h' : ∀ a, st' a = ((![1, 0, k.val, 0, 0] a : ℕ) : Int))
    (z b : Fin 2) (g : Fin 4) (e : Fin 128) :
    shapeCast S2x2x4x1x128 (concatenate S2x2x1x4x128 0
        [⟨S1x2x1x4x128, Host.dynamicSlice S1x2x1x4x128 X st sliceFits_S2x2x132x4x128_S1x2x1x4x128⟩,
         ⟨S1x2x1x4x128, Host.dynamicSlice S1x2x1x4x128 X st' sliceFits_S2x2x132x4x128_S1x2x1x4x128⟩]
        concatenates_S1x2x1x4x128_S1x2x1x4x128_S2x2x1x4x128_d0) shapeCasts_S2x2x1x4x128_S2x2x4x1x128 (ix5 z b g 0 e)
      = X (ix5 z b (if z.val < 1 then n else k) g e) := by
  have f : S2x2x132x4x128.Slices ![0, 0, n.val, 0, 0] S1x2x1x4x128 :=
    ⟨rfl, fun a => by fin_cases a <;> first | exact Nat.le_of_ble_eq_true rfl | (show n.val + 1 ≤ 132; omega)⟩
  have f' : S2x2x132x4x128.Slices ![1, 0, k.val, 0, 0] S1x2x1x4x128 :=
    ⟨rfl, fun a => by fin_cases a <;> first | exact Nat.le_of_ble_eq_true rfl | (show k.val + 1 ≤ 132; omega)⟩
  rw [Host.dynamicSlice_eq_extractStridedSlice _ X st _ _ f h, Host.dynamicSlice_eq_extractStridedSlice _ X st' _ _ f' h']
  fin_cases z
  · pointwise []
  · pointwise []

/-- A chunk written into a result: its own rows are the chunk's, the other rows stay. -/
theorem put_read (o : S2x8448x512.Idx → EReal) (x : S2x1x64x512.Idx → EReal) (st : Fin 4 → Int) (n : Fin 132)
    (h : ∀ a, st a = ((![0, n.val, 0, 0] a : ℕ) : Int)) (b : Fin 2) (l : Fin 8448) (j : Fin 512) :
    shapeCast S2x8448x512 (Host.dynamicUpdateSlice (shapeCast S2x132x64x512 o shapeCasts_S2x8448x512_S2x132x64x512) x st
        updateFits_S2x132x64x512_S2x1x64x512) shapeCasts_S2x132x64x512_S2x8448x512 (ix3 b l j)
      = if l.val / 64 = n.val then x (ix4 b 0 ⟨l.val % 64, by omega⟩ j) else o (ix3 b l j) := by
  have f : S2x132x64x512.Slices ![0, n.val, 0, 0] S2x1x64x512 :=
    ⟨rfl, fun a => by fin_cases a <;> first | exact Nat.le_of_ble_eq_true rfl | (show n.val + 1 ≤ 132; omega)⟩
  have e : ∀ a, (min (max (st a) 0) ((S2x132x64x512.size a - S2x1x64x512.size (a.cast updateFits_S2x132x64x512_S2x1x64x512.1.symm) : Nat) : Int)).toNat
      = (![0, n.val, 0, 0] : Fin 4 → ℕ) a := by
    intro a
    rw [h a]
    fin_cases a
    · rfl
    · show (min (max ((n.val : ℕ) : Int) 0) ((132 - 1 : ℕ) : Int)).toNat = n.val
      omega
    · rfl
    · rfl
  refine (congrArg (fun v => shapeCast S2x8448x512 v shapeCasts_S2x132x64x512_S2x8448x512 (ix3 b l j))
    (Host.dynamicUpdateSlice_eq_updateSlice _ x st _ ![0, n.val, 0, 0] e f)).trans ?_
  show shapeCast S2x8448x512 _ _ _ = _
  pointwise []
  have key : ∀ (w : Fin 1), x (ix4 b w ⟨l.val % 64, by omega⟩ j) = x (ix4 b 0 ⟨l.val % 64, by omega⟩ j) := by
    intro w
    rw [show w = 0 from Subsingleton.elim _ _]
  by_cases hc : l.val / 64 = n.val
  · rw [if_pos hc, dif_pos (by omega)]
    exact key _
  · rw [if_neg hc, dif_neg (by omega)]

/-- The batched product over lanes, rows times state, at an entry. -/
theorem dot_state (p : FVec Ideal S2x2x4x64x128 .f32) (q : FVec Ideal S2x2x4x128x128 .f32) (z b : Fin 2) (g : Fin 4) (i : Fin 64)
    (e : Fin 128) :
    Host.dotGeneral (F := Ideal) dot_S2x2x4x64x128_S2x2x4x128x128_S2x2x4x64x128_4_3_3_4_012_012 none p q (ix5 z b g i e)
      = ∑ d : Fin 128, p (ix5 z b g i d) * q (ix5 z b g d e) := by
  pointwise []

/-- The batched product over rows, weights times rows, at an entry. -/
theorem dot_inner (p : FVec Ideal S2x2x4x64x64 .f32) (q : FVec Ideal S2x2x4x64x128 .f32) (z b : Fin 2) (g : Fin 4) (i : Fin 64)
    (e : Fin 128) :
    Host.dotGeneral (F := Ideal) dot_S2x2x4x64x64_S2x2x4x64x128_S2x2x4x64x128_4_3_3_4_012_012 none p q (ix5 z b g i e)
      = ∑ j : Fin 64, p (ix5 z b g i j) * q (ix5 z b g j e) := by
  pointwise []

/-- The batched product over rows, rows transposed times rows, at an entry. -/
theorem dot_outer (p q : FVec Ideal S2x2x4x64x128 .f32) (z b : Fin 2) (g : Fin 4) (d e : Fin 128) :
    Host.dotGeneral (F := Ideal) dot_S2x2x4x64x128_S2x2x4x64x128_S2x2x4x128x128_3_3_4_4_012_012 none p q (ix5 z b g d e)
      = ∑ i : Fin 64, p (ix5 z b g i d) * q (ix5 z b g i e) := by
  pointwise []
end Cert.Recur
end
-- ==== Proof.ScanReference.lean ====
/- The reference of the recurrence: its loop over the chunks computes the two result arrays. -/
module
public import proofs.«01_k».proof.Proof.ScanRead
public import proofs.«01_k».proof.Proof.Gen.ScanRefIdeal.StepRun
@[expose] public section
set_option maxRecDepth 16384
noncomputable section
namespace Cert.Recur
open Idealize.ShloMosaic Idealize.ShloMosaic.Tactic Cert.ScanRefIdeal Cert.ScanRefIdeal.Gen Cert.ScanRefIdeal.Step

/-- The chunk that a head's direction takes at a step. -/
theorem pick (r : Fin 8) (n : ℕ) (hn : n < 132) : (if r.val / 4 < 1 then (⟨n, hn⟩ : Fin 132) else pos 4 n) = pos r n := by
  have h4 := pos_val 4 n hn
  have hr := pos_val r n hn
  rw [if_neg (by decide)] at h4
  apply Fin.ext
  by_cases h : r.val / 4 < 1
  · rw [if_pos h, hr, if_pos (by omega)]
  · have h' : ¬ r.val < 4 := by omega
    rw [if_neg h, h4, hr, if_neg h']

/-- What holds of the loop's state after `n` trips: the arguments are kept, the state of each head is the mathematical one,
    and the chunks taken so far have their final rows in the results. -/
structure Inv (a : Arrays) (n : ℕ) (s : State Ideal) : Prop where
  U : s.main_v2_0 = a.U
  W : s.main_v2_1 = a.W
  Q : s.main_v2_2 = a.Q
  K : s.main_v2_3 = a.K
  A : s.main_v2_4 = a.A
  G : s.main_v2_5 = a.G
  S : ∀ (r : Fin 8) (b : Fin 2) (d e : Fin 128), s.main_v2_8 (ix5 ⟨r.val / 4, by omega⟩ b ⟨r.val % 4, by omega⟩ d e) = stateAt a r b n d e
  front : ∀ (b : Fin 2) (l : Fin 8448) (j : Fin 512),
    s.main_v2_9 (ix3 b l j) = if (pos 0 (l.val / 64)).val < n then result a 0 (ix3 b l j) else 0
  back : ∀ (b : Fin 2) (l : Fin 8448) (j : Fin 512),
    s.main_v2_10 (ix3 b l j) = if (pos 4 (l.val / 64)).val < n then result a 1 (ix3 b l j) else 0

section
variable (s : State Ideal) (n : ℕ) (hn : n < 132)

/-- Where a trip's chunk of the first direction starts. -/
theorem at_front : ∀ a : Fin 4, (((![b11 n s, b12 n s, b10 n s, b13 n s] : Fin 4 → (⟨S_, .i32⟩ : BufTy).Contents (Elt Ideal))) a
    (Shape.Idx.first h_S_)).toInt = ((![0, 0, 64 * (⟨n, hn⟩ : Fin 132).val, 0] a : ℕ) : Int)
  | 0 => rfl
  | 1 => rfl
  | 2 => start_front ⟨n, hn⟩
  | 3 => rfl

include hn in
/-- Where its chunk of the second direction starts. -/
theorem at_back : ∀ a : Fin 4, (((![b17 n s, b18 n s, b16 n s, b19 n s] : Fin 4 → (⟨S_, .i32⟩ : BufTy).Contents (Elt Ideal))) a
    (Shape.Idx.first h_S_)).toInt = ((![1, 0, 64 * (pos 4 n).val, 0] a : ℕ) : Int)
  | 0 => rfl
  | 1 => rfl
  | 2 => start_back ⟨n, hn⟩
  | 3 => rfl

include hn

/-- A trip's rows of an array, as the head's rows of its chunk. -/
theorem rows_trip (X : S2x2x8448x512.Idx → EReal) (st st' : Fin 4 → Int)
    (h : ∀ a, st a = ((![0, 0, 64 * (⟨n, hn⟩ : Fin 132).val, 0] a : ℕ) : Int))
    (h' : ∀ a, st' a = ((![1, 0, 64 * (pos 4 n).val, 0] a : ℕ) : Int)) (r : Fin 8) (b : Fin 2) (i : Fin 64) (e : Fin 128) :
    transpose S2x2x4x64x128 [0, 1, 3, 2, 4] (shapeCast S2x2x64x4x128 (concatenate S2x2x64x512 0
        [⟨S1x2x64x512, Host.dynamicSlice S1x2x64x512 X st sliceFits_S2x2x8448x512_S1x2x64x512⟩,
         ⟨S1x2x64x512, Host.dynamicSlice S1x2x64x512 X st' sliceFits_S2x2x8448x512_S1x2x64x512⟩]
        concatenates_S1x2x64x512_S1x2x64x512_S2x2x64x512_d0) shapeCasts_S2x2x64x512_S2x2x64x4x128)
      transposes_S2x2x64x4x128_S2x2x4x64x128_0_1_3_2_4 (ix5 ⟨r.val / 4, by omega⟩ b ⟨r.val % 4, by omega⟩ i e)
      = rowsAt X r b (pos r n) i e := by
  rw [← pick r n hn]
  exact rows_read X st st' ⟨n, hn⟩ (pos 4 n) h h' ⟨r.val / 4, by omega⟩ b ⟨r.val % 4, by omega⟩ i e

variable (r : Fin 8) (b : Fin 2)

/-- The values that a trip takes. -/
theorem trip_u (i : Fin 64) (e : Fin 128) : b23 n s (ix5 ⟨r.val / 4, by omega⟩ b ⟨r.val % 4, by omega⟩ i e)
    = rowsAt s.main_v2_0 r b (pos r n) i e :=
  rows_trip n hn s.main_v2_0 _ _ (at_front s n hn) (at_back s n hn) r b i e

/-- The rows that the state predicts them from. -/
theorem trip_w (i : Fin 64) (e : Fin 128) : b39 n s (ix5 ⟨r.val / 4, by omega⟩ b ⟨r.val % 4, by omega⟩ i e)
    = rowsAt s.main_v2_1 r b (pos r n) i e :=
  rows_trip n hn s.main_v2_1 _ _ (at_front s n hn) (at_back s n hn) r b i e

/-- The queries. -/
theorem trip_q (i : Fin 64) (e : Fin 128) : b55 n s (ix5 ⟨r.val / 4, by omega⟩ b ⟨r.val % 4, by omega⟩ i e)
    = rowsAt s.main_v2_2 r b (pos r n) i e :=
  rows_trip n hn s.main_v2_2 _ _ (at_front s n hn) (at_back s n hn) r b i e

/-- The keys. -/
theorem trip_k (i : Fin 64) (e : Fin 128) : b71 n s (ix5 ⟨r.val / 4, by omega⟩ b ⟨r.val % 4, by omega⟩ i e)
    = rowsAt s.main_v2_3 r b (pos r n) i e :=
  rows_trip n hn s.main_v2_3 _ _ (at_front s n hn) (at_back s n hn) r b i e

/-- The weights within the chunk. -/
theorem trip_a (i j : Fin 64) : b101 n s (ix5 ⟨r.val / 4, by omega⟩ b ⟨r.val % 4, by omega⟩ i j)
    = innerAt s.main_v2_4 r b (pos r n) i j := by
  rw [← pick r n hn]
  exact inner_read s.main_v2_4 _ _ ⟨n, hn⟩ (pos 4 n)
    (fun | 0 => rfl | 1 => rfl | 2 => start_count ⟨n, hn⟩ | 3 => rfl | 4 => rfl | 5 => rfl)
    (fun | 0 => rfl | 1 => rfl | 2 => start_turned ⟨n, hn⟩ | 3 => rfl | 4 => rfl | 5 => rfl)
    ⟨r.val / 4, by omega⟩ b ⟨r.val % 4, by omega⟩ i j

/-- The decay, the same for every row of the state. -/
theorem trip_g (d e : Fin 128) : b104 n s (ix5 ⟨r.val / 4, by omega⟩ b ⟨r.val % 4, by omega⟩ d e)
    = decayAt s.main_v2_5 r b (pos r n) e := by
  have h : b97 n s (ix5 ⟨r.val / 4, by omega⟩ b ⟨r.val % 4, by omega⟩ 0 e) = decayAt s.main_v2_5 r b (pos r n) e := by
    rw [← pick r n hn]
    exact decay_read s.main_v2_5 _ _ ⟨n, hn⟩ (pos 4 n)
      (fun | 0 => rfl | 1 => rfl | 2 => start_count ⟨n, hn⟩ | 3 => rfl | 4 => rfl)
      (fun | 0 => rfl | 1 => rfl | 2 => start_turned ⟨n, hn⟩ | 3 => rfl | 4 => rfl)
      ⟨r.val / 4, by omega⟩ b ⟨r.val % 4, by omega⟩ e
  rw [← h]
  unfold b104
  generalize b97 n s = x
  pointwise []

end

section
variable {s : State Ideal} {n : ℕ} {a : Arrays} (hn : n < 132) (r : Fin 8) (b : Fin 2) (I : Inv a n s)
include hn I

/-- A trip's values, less what the state predicts. -/
theorem trip_fresh (i : Fin 64) (e : Fin 128) : b99 n s (ix5 ⟨r.val / 4, by omega⟩ b ⟨r.val % 4, by omega⟩ i e)
    = freshAt a r b n (stateAt a r b n) i e := by
  refine congrArg₂ (fun x y : EReal => x - y) ((trip_u s n hn r b i e).trans (by rw [I.U])) ((dot_state _ _ _ _ _ _ _).trans ?_)
  exact Finset.sum_congr rfl fun d _ => congrArg₂ (fun x y : EReal => x * y) ((trip_w s n hn r b i d).trans (by rw [I.W])) (I.S r b d e)

/-- A trip's output. -/
theorem trip_seen (i : Fin 64) (e : Fin 128) : b103 n s (ix5 ⟨r.val / 4, by omega⟩ b ⟨r.val % 4, by omega⟩ i e)
    = outAt a r b n i e := by
  refine congrArg₂ (fun x y : EReal => x + y) ((dot_state _ _ _ _ _ _ _).trans ?_) ((dot_inner _ _ _ _ _ _ _).trans ?_)
  · exact Finset.sum_congr rfl fun d _ => congrArg₂ (fun x y : EReal => x * y) ((trip_q s n hn r b i d).trans (by rw [I.Q])) (I.S r b d e)
  · exact Finset.sum_congr rfl fun j _ => congrArg₂ (fun x y : EReal => x * y) ((trip_a s n hn r b i j).trans (by rw [I.A]))
      (trip_fresh hn r b I j e)

/-- A trip's new state. -/
theorem trip_grown (d e : Fin 128) : b107 n s (ix5 ⟨r.val / 4, by omega⟩ b ⟨r.val % 4, by omega⟩ d e)
    = stateAt a r b (n + 1) d e := by
  refine congrArg₂ (fun x y : EReal => x + y) ?_ ((dot_outer _ _ _ _ _ _ _).trans ?_)
  · exact congrArg₂ (fun x y : EReal => x * y) (I.S r b d e) ((trip_g s n hn r b d e).trans (by rw [I.G]))
  · exact Finset.sum_congr rfl fun i _ => congrArg₂ (fun x y : EReal => x * y) ((trip_k s n hn r b i d).trans (by rw [I.K]))
      (trip_fresh hn r b I i e)

/-- A trip's output of a head given by its direction and its place there. -/
theorem trip_seen_of (z : Fin 2) (g : Fin 4) (hz : r.val / 4 = z.val) (hg : r.val % 4 = g.val) (i : Fin 64) (e : Fin 128) :
    b103 n s (ix5 z b g i e) = outAt a r b n i e := by
  rw [show z = ⟨r.val / 4, by omega⟩ from Fin.ext hz.symm, show g = ⟨r.val % 4, by omega⟩ from Fin.ext hg.symm]
  exact trip_seen hn r b I i e

omit I in
omit hn in
/-- The rows that a trip writes into the first result are the output's heads side by side. -/
theorem laid_front (b : Fin 2) (i : Fin 64) (j : Fin 512) : b111 n s (ix4 b 0 i j)
    = b103 n s (ix5 0 b ⟨j.val / 128, by omega⟩ i ⟨j.val % 128, by omega⟩) := by
  unfold b111 b110 b109 b108
  generalize b103 n s = x
  pointwise []

omit I in
omit hn in
/-- Likewise into the second. -/
theorem laid_back (b : Fin 2) (i : Fin 64) (j : Fin 512) : b119 n s (ix4 b 0 i j)
    = b103 n s (ix5 1 b ⟨j.val / 128, by omega⟩ i ⟨j.val % 128, by omega⟩) := by
  unfold b119 b118 b109 b108
  generalize b103 n s = x
  pointwise []

omit I in
/-- One more chunk of a result: if the rows of the step's chunk are the step's output and the other rows stay, the chunks taken
    so far have their final rows. -/
theorem chunk_next (z : Fin 2) (p : Fin 8) (hp : p.val / 4 = z.val) (o o' : S2x8448x512.Idx → EReal) (x : S2x1x64x512.Idx → EReal)
    (hx : ∀ (b : Fin 2) (i : Fin 64) (j : Fin 512), x (ix4 b 0 i j)
      = outAt a ⟨4 * z.val + j.val / 128, by omega⟩ b n i ⟨j.val % 128, by omega⟩)
    (ho' : ∀ (b : Fin 2) (l : Fin 8448) (j : Fin 512), o' (ix3 b l j)
      = if l.val / 64 = (pos p n).val then x (ix4 b 0 ⟨l.val % 64, by omega⟩ j) else o (ix3 b l j))
    (ho : ∀ (b : Fin 2) (l : Fin 8448) (j : Fin 512), o (ix3 b l j)
      = if (pos p (l.val / 64)).val < n then result a z (ix3 b l j) else 0) (b : Fin 2) (l : Fin 8448) (j : Fin 512) :
    o' (ix3 b l j) = if (pos p (l.val / 64)).val < n + 1 then result a z (ix3 b l j) else 0 := by
  rw [ho']
  by_cases c : l.val / 64 = (pos p n).val
  · have q : (pos p (l.val / 64)).val = n := by rw [c]; exact pos_pos p n hn
    rw [if_pos c, if_pos (by omega), hx]
    have hq : (pos ⟨4 * z.val + j.val / 128, by omega⟩ n).val = (pos p n).val := by
      rw [pos_val _ _ hn, pos_val _ _ hn]
      have : (4 * z.val + j.val / 128 < 4) ↔ p.val < 4 := by omega
      simp only [this]
    refine (result_at a z (ix3 b l j) _ b n _ _ hn ?_ rfl ?_ ?_).symm
    · show (4 * z.val + j.val / 128) / 4 = z.val
      omega
    · rw [hq, ← c]
      show l.val = 64 * (l.val / 64) + l.val % 64
      omega
    · show j.val = 128 * ((4 * z.val + j.val / 128) % 4) + j.val % 128
      omega
  · have q : (pos p (l.val / 64)).val ≠ n := by
      intro q
      apply c
      rw [← q]
      exact (pos_pos p (l.val / 64) (by omega)).symm
    rw [if_neg c, ho]
    by_cases t : (pos p (l.val / 64)).val < n
    · rw [if_pos t, if_pos (by omega)]
    · rw [if_neg t, if_neg (by omega)]

/-- A trip carries the invariant on. -/
theorem Inv.next : Inv a (n + 1) (step n s) where
  U := I.U
  W := I.W
  Q := I.Q
  K := I.K
  A := I.A
  G := I.G
  S r b d e := trip_grown hn r b I d e
  front := chunk_next hn 0 0 rfl s.main_v2_9 (b117 n s) (b111 n s)
    (fun b i j => (laid_front b i j).trans (trip_seen_of hn _ b I _ _
      (by show (4 * 0 + j.val / 128) / 4 = 0; omega) (by show (4 * 0 + j.val / 128) % 4 = j.val / 128; omega) _ _))
    (fun b l j => by
      have h : (pos 0 n).val = n := (pos_val 0 n hn).trans (if_pos (by decide))
      rw [h]
      exact put_read s.main_v2_9 (b111 n s) _ ⟨n, hn⟩ (fun | 0 => rfl | 1 => start_count ⟨n, hn⟩ | 2 => rfl | 3 => rfl) b l j)
    I.front
  back := chunk_next hn 1 4 rfl s.main_v2_10 (b125 n s) (b119 n s)
    (fun b i j => (laid_back b i j).trans (trip_seen_of hn _ b I _ _
      (by show (4 * 1 + j.val / 128) / 4 = 1; omega) (by show (4 * 1 + j.val / 128) % 4 = j.val / 128; omega) _ _))
    (put_read s.main_v2_10 (b119 n s) _ (pos 4 n) (fun | 0 => rfl | 1 => start_turned ⟨n, hn⟩ | 2 => rfl | 3 => rfl))
    I.back
end

/-- The states that the loop goes through. -/
def states (s₀ : State Ideal) : ℕ → State Ideal
  | 0 => s₀
  | n + 1 => step n (states s₀ n)

/-- The arrays of a state. -/
def arrays (s : State Ideal) : Arrays := ⟨s.main_v2_0, s.main_v2_1, s.main_v2_2, s.main_v2_3, s.main_v2_4, s.main_v2_5⟩

/-- A start with a zero state and zero results satisfies the invariant. -/
theorem Inv.start (s : State Ideal) (h8 : s.main_v2_8 = K_main_v1) (h9 : s.main_v2_9 = K_main_v0) (h10 : s.main_v2_10 = K_main_v0) :
    Inv (arrays s) 0 s where
  U := rfl
  W := rfl
  Q := rfl
  K := rfl
  A := rfl
  G := rfl
  S r b d e := by
    rw [h8]
    show _ = (0 : EReal)
    pointwise [K_main_v1, K_main_cst_0]
  front b l j := by
    rw [h9, if_neg (Nat.not_lt_zero _)]
    pointwise [K_main_v0, K_main_cst]
  back b l j := by
    rw [h10, if_neg (Nat.not_lt_zero _)]
    pointwise [K_main_v0, K_main_cst]

/-- It holds all the way through. -/
theorem Inv.all {s : State Ideal} {a : Arrays} (I : Inv a 0 s) : ∀ n, n ≤ 132 → Inv a n (states s n)
  | 0, _ => I
  | n + 1, h => Inv.next (by omega) (Inv.all I n (by omega))

/-- The first result after the loop. -/
theorem Inv.front_end {s : State Ideal} {a : Arrays} (I : Inv a 0 s) : (states s 132).main_v2_9 = result a 0 := by
  funext y
  obtain ⟨b, l, j, rfl⟩ : ∃ b l j, y = ix3 b l j := ⟨y 0, y 1, y 2, by funext t; fin_cases t <;> rfl⟩
  exact ((Inv.all I 132 le_rfl).front b l j).trans (if_pos (pos 0 _).isLt)

/-- The second result after the loop. -/
theorem Inv.back_end {s : State Ideal} {a : Arrays} (I : Inv a 0 s) : (states s 132).main_v2_10 = result a 1 := by
  funext y
  obtain ⟨b, l, j, rfl⟩ : ∃ b l j, y = ix3 b l j := ⟨y 0, y 1, y 2, by funext t; fin_cases t <;> rfl⟩
  exact ((Inv.all I 132 le_rfl).back b l j).trans (if_pos (pos 4 _).isLt)

end Cert.Recur
end
-- ==== Proof.Gated.lean ====
/- The norm and gate of the two directions' sum: kernel and reference are one array. -/
module
public import proofs.«01_k».proof.Proof.LayerNorm
public import proofs.«01_k».proof.Proof.Gen.GatedIdeal.Value
public import proofs.«01_k».proof.Proof.Gen.GatedRefIdeal.Read
@[expose] public section
set_option maxRecDepth 16384
noncomputable section
namespace Cert.GatedIdeal
open Idealize.ShloMosaic Idealize.ShloMosaic.TcCoe Idealize.ShloMosaic.Tactic Cert.GatedIdeal Cert.GatedIdeal.Gen
open Idealize.SL.Sem
variable (m : (ℓ : Loc nD τ sig) → Buf (Elt Ideal) ℓ)

/-- One lane of a head's row: the row over the root of its mean square, times the gain, times the gate's silu. -/
def lane (o g z : Fin 128 → EReal) (e : Fin 128) : EReal :=
  o e * Ideal.rsqrt (Ideal.div (∑ k : Fin 128, o k * o k) (Ideal.ofBits .f32 0x43000000#32) + Ideal.ofBits .f32 0x358637BD#32) * g e
    * (z e * Ideal.logistic (z e))

/-- The lanes of head `h` of row `r` of a block. -/
def headOf (x : Vec Ideal S1x256x512 .f32) (h : Fin 4) (r : Fin 256) (e : Fin 128) : EReal :=
  x (ix3 0 r ⟨128 * h.val + e.val, by omega⟩)

/-- What the kernel stores for one head of a block. -/
abbrev blockLane (a b z : Vec Ideal S1x256x512 .f32) (g : Vec Ideal S1x128 .f32) (h : Fin 4) (r : Fin 256) : Fin 128 → EReal :=
  lane (fun k => headOf a h r k + headOf b h r k) (fun k => g (ix2 0 k)) (headOf z h r)

/-- The whole result: latent row `r` reads row `256 + r` of the two directions' arrays, and the gate in columns from 1536 on. -/
def gatedArr (P Q : S2x8448x512.Idx → EReal) (X : S2x8192x2816.Idx → EReal) (G : S128.Idx → EReal) (i : S2x8192x512.Idx) : EReal :=
  lane (fun k => P (ix3 (i 0) ⟨256 + (i 1).val, by have : (i 1).val < 8192 := (i 1).isLt; omega⟩ ⟨128 * ((i 2).val / 128) + k.val, by have : (i 2).val < 512 := (i 2).isLt; omega⟩)
      + Q (ix3 (i 0) ⟨256 + (i 1).val, by have : (i 1).val < 8192 := (i 1).isLt; omega⟩ ⟨128 * ((i 2).val / 128) + k.val, by have : (i 2).val < 512 := (i 2).isLt; omega⟩))
    (fun k => G (ix1 k))
    (fun k => X (ix3 (i 0) (i 1) ⟨1536 + (128 * ((i 2).val / 128) + k.val), by have : (i 2).val < 512 := (i 2).isLt; omega⟩))
    ⟨(i 2).val % 128, Nat.mod_lt _ (by decide)⟩

/-- The first head's stored block. -/
theorem head0 (a b z : Vec Ideal S1x256x512 .f32) (g : Vec Ideal S1x128 .f32) (r : Fin 256) (e : Fin 128) :
    (k0_pay4 (F := Ideal) a b z g (ix3 0 r e) : EReal) = blockLane a b z g 0 r e := by
  pointwise [k0_pay4, k0_pay2, k0_pay3, lane, headOf]

/-- The second head's. -/
theorem head1 (a b z : Vec Ideal S1x256x512 .f32) (g : Vec Ideal S1x128 .f32) (r : Fin 256) (e : Fin 128) :
    (k0_pay8 (F := Ideal) (k0_pay5 a b) (k0_pay6 z) (k0_pay7 a b) (Scalar.ofBits .f32 0x358637BD#32) g (ix3 0 r e) : EReal)
      = blockLane a b z g 1 r e := by
  pointwise [k0_pay8, k0_pay7, k0_pay6, k0_pay5, k0_pay2, k0_pay3, lane, headOf]

/-- The third head's. -/
theorem head2 (a b z : Vec Ideal S1x256x512 .f32) (g : Vec Ideal S1x128 .f32) (r : Fin 256) (e : Fin 128) :
    (k0_pay9 (F := Ideal) (k0_pay2 a b) (k0_pay3 z) g (ix3 0 r e) : EReal) = blockLane a b z g 2 r e := by
  pointwise [k0_pay9, k0_pay2, k0_pay3, lane, headOf]

/-- The fourth head's. -/
theorem head3 (a b z : Vec Ideal S1x256x512 .f32) (g : Vec Ideal S1x128 .f32) (r : Fin 256) (e : Fin 128) :
    (k0_pay1 (F := Ideal) (k0_pay10 (k0_pay2 a b)) (k0_pay11 (k0_pay3 z)) (k0_pay12 (k0_pay2 a b)) g (ix3 0 r e) : EReal)
      = blockLane a b z g 3 r e := by
  pointwise [k0_pay1, k0_pay12, k0_pay11, k0_pay10, k0_pay2, k0_pay3, lane, headOf]

/-- The block each window stages at a grid point. -/
theorem idx : ∀ t : Fin cfg0.N, win0_0.index t = ![t.val / 32, 1 + t.val % 32, 0] ∧ win0_1.index t = ![t.val / 32, 1 + t.val % 32, 0]
    ∧ win0_2.index t = ![t.val / 32, t.val % 32, 3] ∧ win0_3.index t = ![0, 0] ∧ win0_4.index t = ![t.val / 32, t.val % 32, 0] :=
  (by decide +kernel : ∀ t : Fin grid0.N, _)

/-- There are 64 grid points. -/
theorem pt_lt (t : Fin cfg0.N) : t.val < 64 := lt_of_lt_of_eq t.isLt (show cfg0.N = 64 from N_0)

/-- The gains, as the grid finds them: the argument as one row. -/
theorem g_arr (c : Dev nD) (j : Fin 128) : (V m c main_v0 (ix2 0 j : S1x128.Idx) : EReal) = m ((c : Thread nD τ).loc main_arg3) (ix1 j : S128.Idx) := by
  have e : V m c main_v0 = shapeCast S1x128 (m ((c : Thread nD τ).loc main_arg3) : Vec Ideal S128 .f32) shapeCasts_S128_S1x128 := by
    simp only [V, hostOps0]
    rfl
  rw [e]
  pointwise

/-- What a grid point leaves in the output block. -/
theorem block_at (c : Dev nD) (t : Fin cfg0.N) (h : Fin 4) (r : Fin 256) (e : Fin 128) (y : S1x256x512.Idx) (y1 : (y 1).val = r.val)
    (y2 : (y 2).val = 128 * h.val + e.val) :
    (outsAt0 m c t y : EReal) = blockLane (iblk m c 0 t) (iblk m c 1 t) (X0_2 m c t) (iblk m c 3 t) h r e := by
  unfold outsAt0
  generalize iblk m c 0 t = a
  generalize iblk m c 1 t = b
  generalize X0_2 m c t = z
  generalize iblk m c 3 t = g
  frame_open
  frame_out
  have hh := h.isLt
  have he := e.isLt
  have key : ∀ (k : FVec Ideal S1x256x128 .bf16) (n : Fin 4) (x : S1x256x128.Idx), n = h → (x 1).val = r.val → (x 2).val = e.val →
      (∀ r e, (k (ix3 0 r e) : EReal) = blockLane a b z g n r e) → (k x : EReal) = blockLane a b z g h r e := by
    intro k n x hn x1 x2 hk
    subst hn
    obtain ⟨q, r', e', rfl⟩ : ∃ (q : Fin 1) (r' : Fin 256) (e' : Fin 128), x = (ix3 q r' e' : S1x256x128.Idx) := ⟨x 0, x 1, x 2, eq_ix3 x⟩
    obtain rfl : r' = r := Fin.ext x1
    obtain rfl : e' = e := Fin.ext x2
    obtain rfl : q = 0 := Subsingleton.elim _ _
    exact hk _ _
  canon_tiles x p
  · exact key _ 3 x (Fin.ext (by show 3 = h.val; omega)) (by omega) (by omega) (head3 a b z g)
  · exact key _ 2 x (Fin.ext (by show 2 = h.val; omega)) (by omega) (by omega) (head2 a b z g)
  · exact key _ 1 x (Fin.ext (by show 1 = h.val; omega)) (by omega) (by omega) (head1 a b z g)
  · exact key _ 0 x (Fin.ext (by show 0 = h.val; omega)) (by omega) (by omega) (head0 a b z g)

/-- The staged block of the gate's columns is the array's, at every index. -/
theorem gate_at (c : Dev nD) (t : Fin cfg0.N) (b : Fin 2) (n : Fin 8192) (r : Fin 256) (l : Fin 512) (hb : b.val = t.val / 32)
    (hn : n.val = 256 * (t.val % 32) + r.val) :
    (X0_2 m c t (ix3 0 r l : S1x256x512.Idx) : EReal) = V m c main_arg2 (ix3 b n ⟨1536 + l.val, by omega⟩ : S2x8192x2816.Idx) := by
  unfold X0_2 Pipeline.Window.fill
  rw [dif_pos (moved0_2 t _)]
  blk_ext [iblk, idx t, hb, hn]

/-- The result array of the kernel. -/
theorem kernel_arr (c : Dev nD) : (dats m 0 c).arrAt 4 cfg0.N = gatedArr (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨i, hi⟩ : ∃ i : S2x8192x512.Idx, i = (win0_4.blk t).view.emb y := ⟨_, rfl⟩
  have i0 : (i 0).val = t.val / 32 := by rw [hi]; blk_simp [idx t]; try omega
  have i1 : (i 1).val = 256 * (t.val % 32) + (y 1).val := by rw [hi]; blk_simp [idx t]; try omega
  have i2 : (i 2).val = (y 2).val := by rw [hi]; blk_simp [idx t]; try omega
  rw [← hi]
  have y1 : (y 1).val < 256 := (y 1).isLt
  have y2 : (y 2).val < 512 := (y 2).isLt
  have h64 := pt_lt t
  refine (block_at m c t ⟨(y 2).val / 128, by omega⟩ ⟨(y 1).val, y1⟩ ⟨(y 2).val % 128, by omega⟩ y rfl (Nat.div_add_mod _ 128).symm).trans ?_
  unfold blockLane gatedArr headOf
  rw [← V_main_arg0 m c, ← V_main_arg1 m c, ← V_main_arg2 m c]
  have eo : ∀ k : Fin 128, (iblk m c 0 t (ix3 0 ⟨(y 1).val, y1⟩ ⟨128 * ((y 2).val / 128) + k.val, by omega⟩ : S1x256x512.Idx) : EReal)
      = V m c main_arg0 (ix3 (i 0) ⟨256 + (i 1).val, by omega⟩ ⟨128 * ((i 2).val / 128) + k.val, by omega⟩ : S2x8448x512.Idx) := fun k => by
    blk_ext [iblk, idx t, i0, i1, i2]
  have eb : ∀ k : Fin 128, (iblk m c 1 t (ix3 0 ⟨(y 1).val, y1⟩ ⟨128 * ((y 2).val / 128) + k.val, by omega⟩ : S1x256x512.Idx) : EReal)
      = V m c main_arg1 (ix3 (i 0) ⟨256 + (i 1).val, by omega⟩ ⟨128 * ((i 2).val / 128) + k.val, by omega⟩ : S2x8448x512.Idx) := fun k => by
    blk_ext [iblk, idx t, i0, i1, i2]
  have eg : ∀ k : Fin 128, (iblk m c 3 t (ix2 0 k : S1x128.Idx) : EReal) = m ((c : Thread nD τ).loc main_arg3) (ix1 k : S128.Idx) := fun k => by
    rw [← g_arr m c]; blk_ext [iblk, idx t]
  have ez : ∀ k : Fin 128, (X0_2 m c t (ix3 0 ⟨(y 1).val, y1⟩ ⟨128 * ((y 2).val / 128) + k.val, by omega⟩ : S1x256x512.Idx) : EReal)
      = V m c main_arg2 (ix3 (i 0) (i 1) ⟨1536 + (128 * ((i 2).val / 128) + k.val), by omega⟩ : S2x8192x2816.Idx) := fun k => by
    refine (gate_at m c t (i 0) (i 1) ⟨(y 1).val, y1⟩ ⟨128 * ((y 2).val / 128) + k.val, by omega⟩ i0 i1).trans ?_
    refine congrArg (fun n => V m c main_arg2 (ix3 (i 0) (i 1) n : S2x8192x2816.Idx)) (Fin.ext ?_)
    show 1536 + (128 * ((y 2).val / 128) + k.val) = 1536 + (128 * ((i 2).val / 128) + k.val)
    rw [i2]
  have ee : (⟨(y 2).val % 128, Nat.mod_lt _ (by decide)⟩ : Fin 128) = ⟨(i 2).val % 128, Nat.mod_lt _ (by decide)⟩ := Fin.ext (by show (y 2).val % 128 = (i 2).val % 128; rw [i2])
  rw [← ee]
  congr 1
  · funext k
    exact congrArg₂ (fun p q : EReal => p + q) (eo k) (eb k)
  · funext k
    exact eg k
  · funext k
    exact ez k

section Reference
open Cert.GatedRefIdeal.Read

variable (P Q : Vec Ideal S2x8448x512 .f32) (X : Vec Ideal S2x8192x2816 .f32) (G : Vec Ideal S128 .f32)

/-- The reference's sum of both directions, by heads. -/
theorem ref_sum (i : Cert.GatedRefIdeal.S2x8192x4x128.Idx) : (val_main_v2 (F := Ideal) P Q i : EReal)
    = P (ix3 (i 0) ⟨256 + (i 1).val, by have : (i 1).val < 8192 := (i 1).isLt; omega⟩ ⟨128 * (i 2).val + (i 3).val, by have : (i 2).val < 4 := (i 2).isLt; have : (i 3).val < 128 := (i 3).isLt; omega⟩)
      + Q (ix3 (i 0) ⟨256 + (i 1).val, by have : (i 1).val < 8192 := (i 1).isLt; omega⟩ ⟨128 * (i 2).val + (i 3).val, by have : (i 2).val < 4 := (i 2).isLt; have : (i 3).val < 128 := (i 3).isLt; omega⟩) := by
  rw [val_main_v2_apply, val_main_v1_apply, val_main_v0_apply]
  have h0 : (i 0).val < 2 := (i 0).isLt
  have h1 : (i 1).val < 8192 := (i 1).isLt
  have h2 : (i 2).val < 4 := (i 2).isLt
  have h3 : (i 3).val < 128 := (i 3).isLt
  have e : idx_main_v1 (idx_main_v2 i) = (ix3 (i 0) ⟨256 + (i 1).val, by omega⟩ ⟨128 * (i 2).val + (i 3).val, by omega⟩ : S2x8448x512.Idx) := by
    funext a
    fin_cases a <;> refine Fin.ext ?_
    · show ((((i 0).val * 8192 + (i 1).val) * 4 + (i 2).val) * 128 + (i 3).val) / 4194304 = (i 0).val
      omega
    · show 256 + ((((i 0).val * 8192 + (i 1).val) * 4 + (i 2).val) * 128 + (i 3).val) / 512 % 8192 = 256 + (i 1).val
      omega
    · show ((((i 0).val * 8192 + (i 1).val) * 4 + (i 2).val) * 128 + (i 3).val) % 512 = 128 * (i 2).val + (i 3).val
      omega
  rw [e]
  rfl

/-- The reference's gate, by heads. -/
theorem ref_gate (i : Cert.GatedRefIdeal.S2x8192x4x128.Idx) : (val_main_v4 (F := Ideal) X i : EReal)
    = X (ix3 (i 0) (i 1) ⟨1536 + (128 * (i 2).val + (i 3).val), by have : (i 2).val < 4 := (i 2).isLt; have : (i 3).val < 128 := (i 3).isLt; omega⟩) := by
  rw [val_main_v4_apply, val_main_v3_apply]
  have h0 : (i 0).val < 2 := (i 0).isLt
  have h1 : (i 1).val < 8192 := (i 1).isLt
  have h2 : (i 2).val < 4 := (i 2).isLt
  have h3 : (i 3).val < 128 := (i 3).isLt
  refine congrArg X ?_
  funext a
  fin_cases a <;> refine Fin.ext ?_
  · show ((((i 0).val * 8192 + (i 1).val) * 4 + (i 2).val) * 128 + (i 3).val) / 4194304 = (i 0).val
    omega
  · show ((((i 0).val * 8192 + (i 1).val) * 4 + (i 2).val) * 128 + (i 3).val) / 512 % 8192 = (i 1).val
    omega
  · show 1536 + ((((i 0).val * 8192 + (i 1).val) * 4 + (i 2).val) * 128 + (i 3).val) % 512 = 1536 + (128 * (i 2).val + (i 3).val)
    omega

/-- The reference's one over the root of a head's mean square. -/
theorem ref_scale (i : Cert.GatedRefIdeal.S2x8192x4x1.Idx) : (val_main_v12 (F := Ideal) P Q i : EReal)
    = Ideal.rsqrt (Ideal.div (∑ k : Fin 128, (val_main_v2 (F := Ideal) P Q (ix4 (i 0) (i 1) (i 2) k) : EReal) * val_main_v2 (F := Ideal) P Q (ix4 (i 0) (i 1) (i 2) k))
        (Ideal.ofBits .f32 0x43000000#32) + Ideal.ofBits .f32 0x358637BD#32) := by
  simp only [val_main_v12_apply, val_main_v11_apply, val_main_v10_apply, val_main_v9_apply, val_main_v8_apply, val_main_v7_apply, val_main_v6_apply,
    val_main_v5_apply, val_main_cst_apply, val_main_cst_0_apply, val_main_cst_1_apply]
  refine (congrArg (fun z => Ideal.rsqrt (Ideal.div (z + _) _ + _)) Cert.LayerNorm.zero_word).trans ?_
  rw [zero_add]
  have e : ∀ k : Fin 128, idx_main_v6 (idx_main_v7 i) k = (ix4 (i 0) (i 1) (i 2) k : Cert.GatedRefIdeal.S2x8192x4x128.Idx) := fun k => by
    funext a; fin_cases a <;> rfl
  simp only [e]
  rfl

/-- The reference's silu of the gate. -/
theorem ref_silu (i : Cert.GatedRefIdeal.S2x8192x4x128.Idx) : (val_main_v18 (F := Ideal) X i : EReal)
    = val_main_v4 (F := Ideal) X i * Ideal.logistic (val_main_v4 (F := Ideal) X i) := by
  rw [val_main_v18_apply, val_main_call0_v5_apply, val_main_call0_v4_apply, val_main_call0_v3_apply, val_main_call0_v2_apply,
    val_main_call0_v1_apply, val_main_call0_v0_apply, val_main_call0_cst_apply, val_main_call0_cst_0_apply]
  generalize val_main_v4 (F := Ideal) X i = z
  show (z : EReal) * Ideal.div (Ideal.ofBits .f32 0x3F800000#32) (Ideal.ofBits .f32 0x3F800000#32 + Ideal.exp (-z)) = _
  rw [Ideal.ofBits_one_f32]
  rfl

/-- The reference's array. -/
theorem ref_arr : val_main_v21 (F := Ideal) P Q X G = gatedArr P Q X G := by
  funext i
  have h0 : (i 0).val < 2 := (i 0).isLt
  have h1 : (i 1).val < 8192 := (i 1).isLt
  have h2 : (i 2).val < 512 := (i 2).isLt
  have e : idx_main_v20 i = (ix4 (i 0) (i 1) ⟨(i 2).val / 128, by omega⟩ ⟨(i 2).val % 128, by omega⟩ : Cert.GatedRefIdeal.S2x8192x4x128.Idx) := by
    funext a
    fin_cases a <;> refine Fin.ext ?_
    · show (((i 0).val * 8192 + (i 1).val) * 512 + (i 2).val) / 4194304 = (i 0).val
      omega
    · show (((i 0).val * 8192 + (i 1).val) * 512 + (i 2).val) / 512 % 8192 = (i 1).val
      omega
    · show (((i 0).val * 8192 + (i 1).val) * 512 + (i 2).val) / 128 % 4 = (i 2).val / 128
      omega
    · show (((i 0).val * 8192 + (i 1).val) * 512 + (i 2).val) % 128 = (i 2).val % 128
      omega
  rw [val_main_v21_apply, val_main_v20_apply, e, val_main_v19_apply, val_main_v17_apply, val_main_v16_apply, val_main_v15_apply,
    val_main_v14_apply, val_main_v13_apply, ref_scale, ref_silu]
  simp only [ref_sum, ref_gate]
  have eg : ∀ j : Cert.GatedRefIdeal.S2x8192x4x128.Idx, idx_main_v15 (idx_main_v16 j) = (ix1 (j 3) : S128.Idx) := fun j => by funext a; fin_cases a; rfl
  rw [eg]
  unfold gatedArr lane
  rfl

end Reference

end Cert.GatedIdeal
end
-- ==== Proof.Dense.lean ====
/- The dense gates of all experts: kernel and reference are one array. -/
module
public import proofs.«01_k».proof.Proof.LayerNorm
public import proofs.«01_k».proof.Proof.Gen.DenseIdeal.Value
public import proofs.«01_k».proof.Proof.Gen.DenseRefIdeal.Read
public import Idealize.ShloMosaic.Lib.PackedFields
@[expose] public section
set_option maxRecDepth 16384
noncomputable section
namespace Cert.DenseIdeal
open Idealize.ShloMosaic Idealize.ShloMosaic.TcCoe Idealize.ShloMosaic.Tactic Cert.DenseIdeal Cert.DenseIdeal.Gen
open Idealize.SL.Sem
variable (m : (ℓ : Loc nD τ sig) → Buf (Elt Ideal) ℓ)

/-- An expert's gate for one token: the sum of the gates at the places that selected the expert. -/
def gateSum (e : Fin 128 → BitVec 32) (g : Fin 128 → EReal) (n : ℕ) : EReal := ∑ s : Fin 128, if e s = BitVec.ofNat 32 n then g s else 0

/-- The whole result: expert `128 p + q` of a token is at row `p`, column `q`. -/
def denseArr (E : S16384x128.Idx → BitVec 32) (G : S16384x128.Idx → EReal) (i : S16384x128x128.Idx) : EReal :=
  gateSum (fun s => E (ix2 (i 0) s)) (fun s => G (ix2 (i 0) s)) (128 * (i 1).val + (i 2).val)

/-- A word is `128 p + q` exactly when its part above the low seven bits is `p` and its low seven bits are `q`. -/
theorem word_split (w : BitVec 32) (p q : Fin 128) :
    (BitVec.ofNat 32 q.val = IntOp.andi w 127#32 ∧ BitVec.ofNat 32 p.val = IntOp.shrsi .vector w 7#32) ↔ w = BitVec.ofNat 32 (128 * p.val + q.val) := by
  have hp := p.isLt
  have hq := q.isLt
  have hs := PackedFields.shrsi_eq_iff (u := .vector) w 7 p.val (by decide) (by omega)
  have ha : (BitVec.ofNat 32 q.val = IntOp.andi w 127#32) ↔ q.val = w.toNat % 128 := by
    rw [← BitVec.toNat_inj]
    show q.val % 2 ^ 32 = (w &&& 127#32).toNat ↔ _
    rw [BitVec.toNat_and, show (127#32).toNat = 2 ^ 7 - 1 from rfl, Nat.and_two_pow_sub_one_eq_mod]
    omega
  rw [ha, eq_comm (a := BitVec.ofNat 32 p.val), hs, ← BitVec.toNat_inj, BitVec.toNat_ofNat]
  omega

/-- A choice by equality of two words. -/
theorem select_eq (a b : BitVec 32) (x y : EReal) : Scalar.select (IntOp.cmpi .eq a b) x y = if a = b then x else y := by
  rw [show IntOp.cmpi .eq a b = BitVec.ofBool (decide (a = b)) by show BitVec.ofBool (a == b) = _; rw [beq_eq_decide]]
  by_cases h : a = b <;> simp [Scalar.select, h]

/-- What one step of the loop stores for a token. -/
theorem pay_at (e : Vec Ideal S1x128 .i32) (g : Vec Ideal S1x128 .f32) (p q : Fin 128) :
    (k0_pay1 (F := Ideal) e g (ix3 0 p q) : EReal) = gateSum (fun s => e (ix2 0 s)) (fun s => g (ix2 0 s)) (128 * p.val + q.val) := by
  pointwise [k0_pay1]
  refine Finset.sum_congr rfl fun s _ => ?_
  refine (select_eq _ _ _ _).trans ?_
  rw [select_eq]
  simp only [← word_split (e (ix2 0 s)) p q]
  by_cases h1 : BitVec.ofNat 32 q.val = IntOp.andi (e (ix2 0 s)) 127#32 <;>
    by_cases h2 : BitVec.ofNat 32 p.val = IntOp.shrsi .vector (e (ix2 0 s)) 7#32 <;> simp [h1, h2]

/-- The block each window stages at a grid point. -/
theorem idx : ∀ t : Fin cfg0.N, win0_0.index t = ![t.val, 0] ∧ win0_1.index t = ![t.val, 0] ∧ win0_2.index t = ![t.val, 0, 0] :=
  (by decide +kernel : ∀ t : Fin grid0.N, _)

/-- What the loop writes in a token's place, at every step that meets it. -/
theorem steps_at (c : Dev nD) (i : grid0.Coords) (a1 : Memref sig .tc .vmem S128x128 .i32) (h1 : a1.IsWhole)
    (a2 : Memref sig .tc .vmem S128x128 .f32) (h2 : a2.IsWhole) (a3 : Memref sig .tc .vmem S128x128x128 .bf16) (h3 : a3.IsWhole)
    (x0 : Vec Ideal S128x128 .i32) (x1 : Vec Ideal S128x128 .f32) (y : S128x128x128.Idx) : ∀ n ≤ k0_t1_loop.trips,
    View.AllAt (pb_k0_t1 (F := Ideal) Variants.none c none i a1 h1 a2 h2 a3 h3 (h1.unread x0) (h2.unread x1) n) y
      (gateSum (fun s => x0 (ix2 (y 0) s)) (fun s => x1 (ix2 (y 0) s)) (128 * (y 1).val + (y 2).val))
  | 0, _ => View.allAt_nil y _
  | n + 1, hn => by
    rw [pb_k0_t1_succ (F := Ideal) Variants.none c none i a1 h1 a2 h2 a3 h3 (h1.unread x0) (h2.unread x1) ⟨n, hn⟩]
    have ih := steps_at c i a1 h1 a2 h2 a3 h3 x0 x1 y n (Nat.le_of_succ_le hn)
    unfold tripL_k0_t1 trip_k0_t1
    dsimp only
    refine View.allAt_cons_unit _ _ _ _ _ (fun x hx => ?_) ih
    have y0 := hx 0
    have y1 := hx 1
    have y2 := hx 2
    rw [k0_off2_eq] at y0 y1 y2
    obtain ⟨z, p, q, rfl⟩ : ∃ (z : Fin 1) (p q : Fin 128), x = (ix3 z p q : S1x128x128.Idx) := ⟨x 0, x 1, x 2, eq_ix3 x⟩
    obtain rfl : z = 0 := Subsingleton.elim _ _
    refine (pay_at _ _ p q).trans ?_
    simp only [View.readAt_eq_ld, h1.read_unread, h2.read_unread]
    have e1 : 128 * p.val + q.val = 128 * (y 1).val + (y 2).val := by
      have : (y 1).val = 0 + p.val := y1
      have : (y 2).val = 0 + q.val := y2
      omega
    have e0 : (y 0).val = n := y0
    rw [e1]
    have en : ∀ s : Fin 128, ∀ a, (ix2 (y 0) s a : Fin _).val = k0_off1 ⟨n, hn⟩ a + (ix2 (0 : Fin 1) s a).val := fun s a => by
      rw [k0_off1_eq]
      fin_cases a
      · exact e0
      · exact (Nat.zero_add _).symm
    exact congrArg₂ (fun a b => gateSum a b _) (funext fun s => View.ld_unit_apply_of x0 _ _ _ _ _ (en s)) (funext fun s => View.ld_unit_apply_of x1 _ _ _ _ _ (en s))

/-- What a grid point leaves in the output block. -/
theorem block_at (c : Dev nD) (t : Fin cfg0.N) (y : S128x128x128.Idx) : (outsAt0 m c t y : EReal)
    = gateSum (fun s => iblk m c 0 t (ix2 (y 0) s : S128x128.Idx)) (fun s => iblk m c 1 t (ix2 (y 0) s : S128x128.Idx)) (128 * (y 1).val + (y 2).val) := by
  unfold outsAt0
  generalize iblk m c 0 t = a
  generalize iblk m c 1 t = b
  unfold out0_A_2
  rw [View.read_writes_eq_canon _ _ _ (fun y => cover0_A_2 c _ _ _ _ _ _ _ a b y)]
  refine View.canon_eq_of_allAt _ y _ (cover0_A_2 c _ _ _ _ _ _ _ a b y) ?_
  unfold kernelRun0_A
  dsimp only
  exact steps_at c _ _ _ _ _ _ _ a b y _ le_rfl

/-- The result array of the kernel. -/
theorem kernel_arr (c : Dev nD) : (dats m 0 c).arrAt 2 cfg0.N = denseArr (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, hi⟩ : ∃ i : S16384x128x128.Idx, i = (win0_2.blk t).view.emb y := ⟨_, rfl⟩
  have i0 : (i 0).val = 128 * t.val + (y 0).val := by rw [hi]; blk_simp [idx t]; try omega
  have i1 : (i 1).val = (y 1).val := by rw [hi]; blk_simp [idx t]; try omega
  have i2 : (i 2).val = (y 2).val := by rw [hi]; blk_simp [idx t]; try omega
  rw [← hi]
  refine (block_at m c t y).trans ?_
  unfold denseArr
  rw [← V_main_arg0 m c, ← V_main_arg1 m c, i1, i2]
  have ee : ∀ s : Fin 128, iblk m c 0 t (ix2 (y 0) s : S128x128.Idx) = V m c main_arg0 (ix2 (i 0) s : S16384x128.Idx) := fun s => by
    blk_ext [iblk, idx t, i0]
  have eg : ∀ s : Fin 128, (iblk m c 1 t (ix2 (y 0) s : S128x128.Idx) : EReal) = V m c main_arg1 (ix2 (i 0) s : S16384x128.Idx) := fun s => by
    blk_ext [iblk, idx t, i0]
  exact congrArg₂ (fun a b => gateSum a b _) (funext ee) (funext eg)

section Reference
open Cert.DenseRefIdeal.Read

/-- The reference's array. -/
theorem ref_arr (E : Vec Ideal S16384x128 .i32) (G : Vec Ideal S16384x128 .f32) : val_main_v10 (F := Ideal) E G = denseArr E G := by
  funext i
  have h0 : (i 0).val < 16384 := (i 0).isLt
  have h1 : (i 1).val < 128 := (i 1).isLt
  have h2 : (i 2).val < 128 := (i 2).isLt
  rw [val_main_v10_apply, val_main_v9_apply]
  have e : idx_main_v9 i = (ix2 (i 0) ⟨128 * (i 1).val + (i 2).val, by omega⟩ : Cert.DenseRefIdeal.S16384x16384.Idx) := by
    funext a
    fin_cases a <;> refine Fin.ext ?_
    · show (((i 0).val * 128 + (i 1).val) * 128 + (i 2).val) / 16384 = (i 0).val
      omega
    · show (((i 0).val * 128 + (i 1).val) * 128 + (i 2).val) % 16384 = 128 * (i 1).val + (i 2).val
      omega
  rw [e]
  refine (val_main_v8_apply E G _).trans ?_
  refine (congrArg (fun z : EReal => z + ∑ k : Fin 128, (val_main_v7 (F := Ideal) E G (idx_main_v8 _ k) : EReal)) Cert.LayerNorm.zero_word).trans ?_
  rw [zero_add]
  unfold denseArr gateSum
  refine Finset.sum_congr rfl fun s _ => ?_
  rw [val_main_v7_apply, val_main_v5_apply, val_main_v4_apply, val_main_v3_apply, val_main_v2_apply, val_main_v1_apply, val_main_v0_apply,
    val_main_call0_v1_apply, val_main_call0_v2_apply, val_main_call0_v0_apply, val_main_v6_apply, val_main_cst_apply]
  refine (select_eq _ _ _ _).trans ?_
  have es : ∀ (n : Fin 16384), idx_main_v0 (idx_main_v3 (idx_main_v8 (ix2 (i 0) n) s)) = (ix2 (i 0) s : Cert.DenseRefIdeal.S16384x128.Idx) := fun n => by
    funext a; fin_cases a <;> rfl
  have et : ∀ (n : Fin 16384), idx_main_v6 (idx_main_call0_v1 (idx_main_v8 (ix2 (i 0) n) s)) = (ix2 (i 0) s : Cert.DenseRefIdeal.S16384x128.Idx) := fun n => by
    funext a; fin_cases a <;> rfl
  rw [es, et]
  exact congrArg (fun z : EReal => if E (ix2 (i 0) s) = BitVec.ofNat 32 (128 * (i 1).val + (i 2).val) then G (ix2 (i 0) s) else z) Cert.LayerNorm.zero_word

end Reference

end Cert.DenseIdeal
end
-- ==== Proof.Rotate.lean ====
/- The rotary embedding of the even layer's queries and keys, and its values: kernel and reference are the same three arrays. -/
module
public import proofs.«01_k».proof.Proof.LayerNorm
public import proofs.«01_k».proof.Proof.Gen.RotateIdeal.Value
public import proofs.«01_k».proof.Proof.Gen.RotateRefIdeal.Read
@[expose] public section
set_option maxRecDepth 16384
noncomputable section
namespace Cert.RotateIdeal
open Idealize.ShloMosaic Idealize.ShloMosaic.TcCoe Idealize.ShloMosaic.Tactic Cert.RotateIdeal Cert.RotateIdeal.Gen
open Idealize.SL.Sem
variable (m : (ℓ : Loc nD τ sig) → Buf (Elt Ideal) ℓ)

/-- Four tables of 16 angles as one row of 64 lanes. -/
def quarters (a b c d : Fin 16 → EReal) (j : Fin 64) : EReal :=
  if h : j.val < 16 then a ⟨j.val, h⟩ else if h : j.val - 16 < 16 then b ⟨j.val - 16, h⟩
  else if h : j.val - 16 - 16 < 16 then c ⟨j.val - 16 - 16, h⟩ else d ⟨j.val - 16 - 16 - 16, by omega⟩

/-- A row with its first two quarters turned by one angle each, and its last two by another. -/
def turn (cr sr cc sc : Fin 16 → EReal) (x : Fin 64 → EReal) : Fin 64 → EReal :=
  quarters (fun f => x ⟨f.val, by omega⟩ * cr f - x ⟨16 + f.val, by omega⟩ * sr f)
    (fun f => x ⟨16 + f.val, by omega⟩ * cr f + x ⟨f.val, by omega⟩ * sr f)
    (fun f => x ⟨32 + f.val, by omega⟩ * cc f - x ⟨48 + f.val, by omega⟩ * sc f)
    (fun f => x ⟨48 + f.val, by omega⟩ * cc f + x ⟨32 + f.val, by omega⟩ * sc f)

/-- The lane 16 on or 16 back that a lane is turned with. -/
def partner (x : Fin 64 → EReal) (j : Fin 64) : EReal :=
  if h : j.val % 32 < 16 then x ⟨j.val + 16, by omega⟩ else x ⟨j.val - 16, by omega⟩

/-- Turning a row lane by lane: each lane times its cosine plus its partner times its signed sine. -/
theorem turn_eq (cr sr cc sc : Fin 16 → EReal) (x : Fin 64 → EReal) (j : Fin 64) :
    x j * quarters cr cr cc cc j + partner x j * quarters (fun f => -sr f) sr (fun f => -sc f) sc j = turn cr sr cc sc x j := by
  obtain ⟨j, hj⟩ := j
  unfold turn quarters partner
  dsimp only
  by_cases h1 : j < 16
  · have e : (⟨j + 16, by omega⟩ : Fin 64) = ⟨16 + j, by omega⟩ := Fin.ext (Nat.add_comm _ _)
    rw [dif_pos h1, dif_pos h1, dif_pos h1, dif_pos (show j % 32 < 16 by omega), mul_neg, ← sub_eq_add_neg, e]
  by_cases h2 : j - 16 < 16
  · have e : (⟨j, hj⟩ : Fin 64) = ⟨16 + (j - 16), by omega⟩ := Fin.ext (by show j = 16 + (j - 16); omega)
    rw [dif_neg h1, dif_neg h1, dif_neg h1, dif_pos h2, dif_pos h2, dif_pos h2, dif_neg (show ¬ j % 32 < 16 by omega), ← e]
  by_cases h3 : j - 16 - 16 < 16
  · have e : (⟨j, hj⟩ : Fin 64) = ⟨32 + (j - 16 - 16), by omega⟩ := Fin.ext (by show j = 32 + (j - 16 - 16); omega)
    have e' : (⟨j + 16, by omega⟩ : Fin 64) = ⟨48 + (j - 16 - 16), by omega⟩ := Fin.ext (by show j + 16 = 48 + (j - 16 - 16); omega)
    rw [dif_neg h1, dif_neg h1, dif_neg h1, dif_neg h2, dif_neg h2, dif_neg h2, dif_pos h3, dif_pos h3, dif_pos h3,
      dif_pos (show j % 32 < 16 by omega), mul_neg, ← sub_eq_add_neg, ← e, e']
  · have e : (⟨j, hj⟩ : Fin 64) = ⟨48 + (j - 16 - 16 - 16), by omega⟩ := Fin.ext (by show j = 48 + (j - 16 - 16 - 16); omega)
    have e' : (⟨j - 16, by omega⟩ : Fin 64) = ⟨32 + (j - 16 - 16 - 16), by omega⟩ := Fin.ext (by show j - 16 = 32 + (j - 16 - 16 - 16); omega)
    rw [dif_neg h1, dif_neg h1, dif_neg h1, dif_neg h2, dif_neg h2, dif_neg h2, dif_neg h3, dif_neg h3, dif_neg h3,
      dif_neg (show ¬ j % 32 < 16 by omega), ← e, e']

/-- Bit 4 of a lane number chooses the partner. -/
theorem bit_select (l : Fin 512) (a b : EReal) :
    Scalar.select (IntOp.cmpi CmpIPredicate.eq (IntOp.andi (BitVec.ofNat 32 l.val) 16#32) 0#32) a b = if l.val % 32 < 16 then a else b := by
  have h : ∀ l : Fin 512, IntOp.cmpi CmpIPredicate.eq (IntOp.andi (BitVec.ofNat 32 l.val) 16#32) 0#32 = if l.val % 32 < 16 then 1#1 else 0#1 := by
    decide +kernel
  rw [h l]
  split <;> rfl

/-- The 64 lanes of head `h` of row `r` of a block. -/
def headOf {n : Nat} (x : Vec Ideal ⟨3, ![1, 512, n]⟩ .f32) (r : Fin 512) (o : Nat) (ho : o + 64 ≤ n) (j : Fin 64) : EReal :=
  x (ix3 0 r ⟨o + j.val, by omega⟩)

/-- Four copies of a table side by side, read at a lane of head `h`. -/
theorem four_at (x : Vec Ideal S512x128 .f32) (r : Fin 512) (h : Fin 8) (j : Fin 64) (C : Fin 64 → EReal)
    (hc : ∀ l : Fin 128, (x (ix2 r l) : EReal) = C ⟨l.val % 64, by omega⟩) (k : Nat) (hk : k = 64 * h.val + j.val) :
    (if h0 : k < 128 then x (ix2 r ⟨k, h0⟩) else if h1 : k - 128 < 128 then x (ix2 r ⟨k - 128, h1⟩)
      else if h2 : k - 128 - 128 < 128 then x (ix2 r ⟨k - 128 - 128, h2⟩)
      else x (ix2 r ⟨k - 128 - 128 - 128, by omega⟩) : EReal) = C j := by
  split_ifs <;> rw [hc] <;> refine congrArg C (Fin.ext ?_) <;> dsimp only <;> omega

/-- A lane of the queries before they are stored. -/
theorem q_at (x : Vec Ideal S1x512x512 .f32) (cs sn : Vec Ideal S512x128 .f32) (r : Fin 512) (h : Fin 8) (j : Fin 64) (C S : Fin 64 → EReal)
    (hc : ∀ l : Fin 128, (cs (ix2 r l) : EReal) = C ⟨l.val % 64, by omega⟩) (hs : ∀ l : Fin 128, (sn (ix2 r l) : EReal) = S ⟨l.val % 64, by omega⟩) :
    (k0_pay2 (F := Ideal) x cs sn (ix2 r ⟨64 * h.val + j.val, by omega⟩) : EReal)
      = (headOf x r (64 * h.val) (by omega) j * C j + partner (headOf x r (64 * h.val) (by omega)) j * S j) * Ideal.ofBits .f32 0x3E000000#32 := by
  pointwise [k0_pay2]
  rw [bit_select ⟨64 * h.val + j.val, by omega⟩, four_at cs r h j C hc _ rfl, four_at sn r h j S hs _ rfl]
  refine congrArg (fun w : EReal => (x (ix3 0 r ⟨64 * h.val + j.val, by omega⟩) * C j + w * S j) * Ideal.ofBits .f32 0x3E000000#32) ?_
  unfold partner headOf
  dsimp only
  by_cases hj : j.val % 32 < 16
  · rw [if_pos (show (64 * h.val + j.val) % 32 < 16 by omega), dif_pos hj]
    refine congrArg (fun l => x (ix3 0 r l)) (Fin.ext ?_)
    show (64 * h.val + j.val + 512 - 496) % 512 = 64 * h.val + (j.val + 16)
    omega
  · rw [if_neg (show ¬ (64 * h.val + j.val) % 32 < 16 by omega), dif_neg hj]
    refine congrArg (fun l => x (ix3 0 r l)) (Fin.ext ?_)
    show (64 * h.val + j.val + 512 - 16) % 512 = 64 * h.val + (j.val - 16)
    omega

/-- A lane of the keys before they are stored. -/
theorem k_at (x : Vec Ideal S1x512x128 .f32) (cs sn : Vec Ideal S512x128 .f32) (r : Fin 512) (h : Fin 2) (j : Fin 64) (C S : Fin 64 → EReal)
    (hc : ∀ l : Fin 128, (cs (ix2 r l) : EReal) = C ⟨l.val % 64, by omega⟩) (hs : ∀ l : Fin 128, (sn (ix2 r l) : EReal) = S ⟨l.val % 64, by omega⟩) :
    (k0_pay7 (F := Ideal) (k0_pay3 x) (k0_pay4 cs) (k0_pay5 sn) (k0_pay6 x) (ix2 r ⟨64 * h.val + j.val, by omega⟩) : EReal)
      = headOf x r (64 * h.val) (by omega) j * C j + partner (headOf x r (64 * h.val) (by omega)) j * S j := by
  have e : (⟨(64 * h.val + j.val) % 64, by omega⟩ : Fin 64) = j := Fin.ext (by show (64 * h.val + j.val) % 64 = j.val; omega)
  pointwise [k0_pay7, k0_pay3, k0_pay4, k0_pay5, k0_pay6]
  rw [bit_select ⟨64 * h.val + j.val, by omega⟩, hc, hs]
  dsimp only
  rw [e]
  refine congrArg₂ (fun u w : EReal => u + w * S j) rfl ?_
  unfold partner headOf
  by_cases hj : j.val % 32 < 16
  · rw [if_pos (show (64 * h.val + j.val) % 32 < 16 by omega), dif_pos hj]
    refine congrArg (fun l => x (ix3 0 r l)) (Fin.ext ?_)
    show (64 * h.val + j.val + 128 - 112) % 128 = 64 * h.val + (j.val + 16)
    omega
  · rw [if_neg (show ¬ (64 * h.val + j.val) % 32 < 16 by omega), dif_neg hj]
    refine congrArg (fun l => x (ix3 0 r l)) (Fin.ext ?_)
    show (64 * h.val + j.val + 128 - 16) % 128 = 64 * h.val + (j.val - 16)
    omega

open Cert.RotateRefIdeal.Read in
/-- The cosines of a row's angles, by lanes. -/
def cosRow (n : Fin 8192) : Fin 64 → EReal :=
  quarters (fun f => val_main_v18 (F := Ideal) (ix2 n f)) (fun f => val_main_v18 (F := Ideal) (ix2 n f))
    (fun f => val_main_v30 (F := Ideal) (ix2 n f)) (fun f => val_main_v30 (F := Ideal) (ix2 n f))

open Cert.RotateRefIdeal.Read in
/-- The signed sines of a row's angles, by lanes. -/
def sinRow (n : Fin 8192) : Fin 64 → EReal :=
  quarters (fun f => -(val_main_v24 (F := Ideal) (ix2 n f) : EReal)) (fun f => val_main_v24 (F := Ideal) (ix2 n f))
    (fun f => -(val_main_v36 (F := Ideal) (ix2 n f) : EReal)) (fun f => val_main_v36 (F := Ideal) (ix2 n f))

/-- The two copies of a table's four parts, as the grid finds them. -/
abbrev joined (a b c d : Vec Ideal S8192x16 .f32) : Vec Ideal S8192x128 .f32 :=
  shapeCast S8192x128 (broadcastInDim S1x8192x2x64 ![0, 1, 2, 3] bcast_S1x8192x1x64_S1x8192x2x64_0_1_2_3 (shapeCast S1x8192x1x64
    (concatenate S8192x64 1 [⟨S8192x16, a⟩, ⟨S8192x16, b⟩, ⟨S8192x16, c⟩, ⟨S8192x16, d⟩]
      concatenates_S8192x16_S8192x16_S8192x16_S8192x16_S8192x64_d1 : Vec Ideal S8192x64 .f32) shapeCasts_S8192x64_S1x8192x1x64)) shapeCasts_S1x8192x2x64_S8192x128

/-- Such a table, entry by entry. -/
theorem joined_at (a b c d : Vec Ideal S8192x16 .f32) (n : Fin 8192) (l : Fin 128) :
    (joined a b c d (ix2 n l) : EReal) = quarters (fun f => a (ix2 n f)) (fun f => b (ix2 n f)) (fun f => c (ix2 n f)) (fun f => d (ix2 n f)) ⟨l.val % 64, by omega⟩ := by
  unfold joined
  pointwise [quarters]

open Cert.RotateRefIdeal.Read in
/-- The cosines, as the grid finds them. -/
theorem cos_arr (c : Dev nD) : V m c main_v37 = joined (val_main_v18 (F := Ideal)) (val_main_v18 (F := Ideal)) (val_main_v30 (F := Ideal)) (val_main_v30 (F := Ideal)) := by
  simp only [V, hostOps0]
  rfl

open Cert.RotateRefIdeal.Read in
/-- The signed sines, as the grid finds them. -/
theorem sin_arr (c : Dev nD) : V m c main_v40 = joined (fun i => -(val_main_v24 (F := Ideal) i : EReal)) (val_main_v24 (F := Ideal))
    (fun i => -(val_main_v36 (F := Ideal) i : EReal)) (val_main_v36 (F := Ideal)) := by
  simp only [V, hostOps0]
  rfl

/-- The block each window stages at a grid point. -/
theorem idx : ∀ t : Fin cfg0.N, win0_0.index t = ![t.val / 16, t.val % 16, 0] ∧ win0_1.index t = ![t.val / 16, t.val % 16, 4]
    ∧ win0_2.index t = ![t.val / 16, t.val % 16, 5] ∧ win0_3.index t = ![t.val % 16, 0] ∧ win0_4.index t = ![t.val % 16, 0]
    ∧ win0_8.index t = ![t.val / 16, 0, t.val % 16, 0] ∧ win0_9.index t = ![t.val / 16, 0, t.val % 16, 0]
    ∧ win0_10.index t = ![t.val / 16, 0, t.val % 16, 0] :=
  (by decide +kernel : ∀ t : Fin grid0.N, _)

/-- The staged cosines of a row. -/
theorem cos_at (c : Dev nD) (t : Fin cfg0.N) (n : Fin 8192) (r : Fin 512) (hn : n.val = 512 * (t.val % 16) + r.val) (l : Fin 128) :
    (iblk m c 3 t (ix2 r l : S512x128.Idx) : EReal) = cosRow n ⟨l.val % 64, by omega⟩ := by
  refine Eq.trans ?_ ((congrFun (cos_arr m c) (ix2 n l)).trans (joined_at _ _ _ _ n l))
  blk_ext [iblk, idx t, hn]

/-- The staged signed sines of a row. -/
theorem sin_at (c : Dev nD) (t : Fin cfg0.N) (n : Fin 8192) (r : Fin 512) (hn : n.val = 512 * (t.val % 16) + r.val) (l : Fin 128) :
    (iblk m c 4 t (ix2 r l : S512x128.Idx) : EReal) = sinRow n ⟨l.val % 64, by omega⟩ := by
  refine Eq.trans ?_ ((congrFun (sin_arr m c) (ix2 n l)).trans (joined_at _ _ _ _ n l))
  blk_ext [iblk, idx t, hn]

/-- A store for one head, at an index of the block that it fills. -/
theorem stored_at (k : FVec Ideal S1x1x512x64 .bf16) (f : Fin 512 → Fin 64 → EReal) (hk : ∀ r j, (k (ix4 0 0 r j) : EReal) = f r j)
    (z : S1x1x512x64.Idx) (r : Fin 512) (j : Fin 64) (z2 : (z 2).val = r.val) (z3 : (z 3).val = j.val) : (k z : EReal) = f r j := by
  obtain ⟨a, b, r', j', rfl⟩ : ∃ (a b : Fin 1) (r' : Fin 512) (j' : Fin 64), z = (ix4 a b r' j' : S1x1x512x64.Idx) := ⟨z 0, z 1, z 2, z 3, eq_ix4 z⟩
  obtain rfl : r' = r := Fin.ext z2
  obtain rfl : j' = j := Fin.ext z3
  obtain rfl : a = 0 := Subsingleton.elim _ _
  obtain rfl : b = 0 := Subsingleton.elim _ _
  exact hk _ _

/-- The queries stored for head `h`. -/
theorem q_block (c : Dev nD) (t : Fin cfg0.N) (h : Fin 8) (r : Fin 512) (j : Fin 64) (y : S1x8x512x64.Idx) (y1 : (y 1).val = h.val)
    (y2 : (y 2).val = r.val) (y3 : (y 3).val = j.val) :
    ((outsAt0 m c t).1 y : EReal) = k0_pay2 (F := Ideal) (X0_0 m c t) (iblk m c 3 t) (iblk m c 4 t) (ix2 r ⟨64 * h.val + j.val, by omega⟩) := by
  unfold outsAt0
  dsimp only
  generalize X0_0 m c t = x
  generalize iblk m c 1 t = x1
  generalize iblk m c 2 t = x2
  generalize iblk m c 3 t = x3
  generalize iblk m c 4 t = x4
  frame_open
  frame_out
  generalize k0_pay2 (F := Ideal) x x3 x4 = w
  canon_tiles z p
  · obtain rfl : h = 7 := Fin.ext (by show h.val = 7; omega)
    exact stored_at _ (fun r j => w (ix2 r ⟨64 * 7 + j.val, by omega⟩)) (fun r j => by pointwise [k0_pay17]) z r j (by omega) (by omega)
  · obtain rfl : h = 6 := Fin.ext (by show h.val = 6; omega)
    exact stored_at _ (fun r j => w (ix2 r ⟨64 * 6 + j.val, by omega⟩)) (fun r j => by pointwise [k0_pay16]) z r j (by omega) (by omega)
  · obtain rfl : h = 5 := Fin.ext (by show h.val = 5; omega)
    exact stored_at _ (fun r j => w (ix2 r ⟨64 * 5 + j.val, by omega⟩)) (fun r j => by pointwise [k0_pay15, k0_pay14]) z r j (by omega) (by omega)
  · obtain rfl : h = 4 := Fin.ext (by show h.val = 4; omega)
    exact stored_at _ (fun r j => w (ix2 r ⟨64 * 4 + j.val, by omega⟩)) (fun r j => by pointwise [k0_pay13]) z r j (by omega) (by omega)
  · obtain rfl : h = 3 := Fin.ext (by show h.val = 3; omega)
    exact stored_at _ (fun r j => w (ix2 r ⟨64 * 3 + j.val, by omega⟩)) (fun r j => by pointwise [k0_pay12]) z r j (by omega) (by omega)
  · obtain rfl : h = 2 := Fin.ext (by show h.val = 2; omega)
    exact stored_at _ (fun r j => w (ix2 r ⟨64 * 2 + j.val, by omega⟩)) (fun r j => by pointwise [k0_pay11]) z r j (by omega) (by omega)
  · obtain rfl : h = 1 := Fin.ext (by show h.val = 1; omega)
    exact stored_at _ (fun r j => w (ix2 r ⟨64 * 1 + j.val, by omega⟩)) (fun r j => by pointwise [k0_pay10]) z r j (by omega) (by omega)
  · obtain rfl : h = 0 := Fin.ext (by show h.val = 0; omega)
    exact stored_at _ (fun r j => w (ix2 r ⟨64 * 0 + j.val, by omega⟩)) (fun r j => by pointwise [k0_pay9]) z r j (by omega) (by omega)

/-- The keys stored for head `h`. -/
theorem k_block (c : Dev nD) (t : Fin cfg0.N) (h : Fin 2) (r : Fin 512) (j : Fin 64) (y : S1x2x512x64.Idx) (y1 : (y 1).val = h.val)
    (y2 : (y 2).val = r.val) (y3 : (y 3).val = j.val) :
    ((outsAt0 m c t).2.1 y : EReal) = k0_pay7 (F := Ideal) (k0_pay3 (iblk m c 1 t)) (k0_pay4 (iblk m c 3 t)) (k0_pay5 (iblk m c 4 t)) (k0_pay6 (iblk m c 1 t))
      (ix2 r ⟨64 * h.val + j.val, by omega⟩) := by
  unfold outsAt0
  dsimp only
  generalize X0_0 m c t = x
  generalize iblk m c 1 t = x1
  generalize iblk m c 2 t = x2
  generalize iblk m c 3 t = x3
  generalize iblk m c 4 t = x4
  frame_open
  frame_out
  generalize k0_pay7 (F := Ideal) (k0_pay3 x1) (k0_pay4 x3) (k0_pay5 x4) (k0_pay6 x1) = w
  canon_tiles z p
  · obtain rfl : h = 1 := Fin.ext (by show h.val = 1; omega)
    exact stored_at _ (fun r j => w (ix2 r ⟨64 * 1 + j.val, by omega⟩)) (fun r j => by pointwise [k0_pay20]) z r j (by omega) (by omega)
  · obtain rfl : h = 0 := Fin.ext (by show h.val = 0; omega)
    exact stored_at _ (fun r j => w (ix2 r ⟨64 * 0 + j.val, by omega⟩)) (fun r j => by pointwise [k0_pay18]) z r j (by omega) (by omega)

/-- The values stored for head `h`. -/
theorem v_block (c : Dev nD) (t : Fin cfg0.N) (h : Fin 2) (r : Fin 512) (j : Fin 64) (y : S1x2x512x64.Idx) (y1 : (y 1).val = h.val)
    (y2 : (y 2).val = r.val) (y3 : (y 3).val = j.val) :
    ((outsAt0 m c t).2.2 y : EReal) = iblk m c 2 t (ix3 0 r ⟨64 * h.val + j.val, by omega⟩ : S1x512x128.Idx) := by
  unfold outsAt0
  dsimp only
  generalize X0_0 m c t = x
  generalize iblk m c 1 t = x1
  generalize iblk m c 2 t = x2
  generalize iblk m c 3 t = x3
  generalize iblk m c 4 t = x4
  frame_open
  frame_out
  canon_tiles z p
  · obtain rfl : h = 1 := Fin.ext (by show h.val = 1; omega)
    exact stored_at _ (fun r j => x2 (ix3 0 r ⟨64 * 1 + j.val, by omega⟩ : S1x512x128.Idx)) (fun r j => by pointwise [k0_pay1, k0_pay21, k0_pay8]) z r j (by omega) (by omega)
  · obtain rfl : h = 0 := Fin.ext (by show h.val = 0; omega)
    exact stored_at _ (fun r j => x2 (ix3 0 r ⟨64 * 0 + j.val, by omega⟩ : S1x512x128.Idx)) (fun r j => by pointwise [k0_pay19, k0_pay8]) z r j (by omega) (by omega)

/-- The 64 lanes from column `o` on of a row of the projection. -/
def lanes (X : S2x8192x2304.Idx → EReal) (b : Fin 2) (n : Fin 8192) (o : Nat) (ho : o + 64 ≤ 2304) (j : Fin 64) : EReal :=
  X (ix3 b n ⟨o + j.val, by omega⟩)

open Cert.RotateRefIdeal.Read in
/-- A head's 64 lanes turned by the angles of row `n`. -/
def turned (n : Fin 8192) : (Fin 64 → EReal) → Fin 64 → EReal :=
  turn (fun f => val_main_v18 (F := Ideal) (ix2 n f)) (fun f => val_main_v24 (F := Ideal) (ix2 n f))
    (fun f => val_main_v30 (F := Ideal) (ix2 n f)) (fun f => val_main_v36 (F := Ideal) (ix2 n f))

/-- Turning a head's lanes with the lane tables of a row. -/
theorem turned_eq (n : Fin 8192) (x : Fin 64 → EReal) (j : Fin 64) : x j * cosRow n j + partner x j * sinRow n j = turned n x j :=
  turn_eq _ _ _ _ x j

/-- The queries: eight heads from column 0 on, turned, times an eighth. -/
def queries (X : S2x8192x2304.Idx → EReal) (i : S2x8x8192x64.Idx) : EReal :=
  turned (i 2) (lanes X (i 0) (i 2) (64 * (i 1).val) (by have : (i 1).val < 8 := (i 1).isLt; omega)) (i 3) * Ideal.ofBits .f32 0x3E000000#32

/-- The keys: two heads from column 512 on, turned. -/
def keys (X : S2x8192x2304.Idx → EReal) (i : S2x2x8192x64.Idx) : EReal :=
  turned (i 2) (lanes X (i 0) (i 2) (512 + 64 * (i 1).val) (by have : (i 1).val < 2 := (i 1).isLt; omega)) (i 3)

/-- The values: two heads from column 640 on. -/
def values (X : S2x8192x2304.Idx → EReal) (i : S2x2x8192x64.Idx) : EReal :=
  lanes X (i 0) (i 2) (640 + 64 * (i 1).val) (by have : (i 1).val < 2 := (i 1).isLt; omega) (i 3)

/-- The staged block of the queries' columns is the array's. -/
theorem x_at (c : Dev nD) (t : Fin cfg0.N) (b : Fin 2) (n : Fin 8192) (r l : Fin 512) (hb : b.val = t.val / 16)
    (hn : n.val = 512 * (t.val % 16) + r.val) :
    (X0_0 m c t (ix3 0 r l : S1x512x512.Idx) : EReal) = m ((c : Thread nD τ).loc main_arg0) (ix3 b n ⟨l.val, by omega⟩ : S2x8192x2304.Idx) := by
  rw [← V_main_arg0 m c]
  unfold X0_0 Pipeline.Window.fill
  rw [dif_pos (moved0_0 t _)]
  blk_ext [iblk, idx t, hb, hn]

/-- The first result array of the kernel. -/
theorem q_arr (c : Dev nD) : (dats m 0 c).arrAt 8 cfg0.N = queries (m ((c : Thread nD τ).loc main_arg0)) := by
  refine (dats m 0 c).arrAt_eq_of_covers 8 _ (by decide +kernel) fun t _ y => ?_
  blk_simp
  rw [after0_8]
  obtain ⟨i, hi⟩ : ∃ i : S2x8x8192x64.Idx, i = (win0_8.blk t).view.emb y := ⟨_, rfl⟩
  have i0 : (i 0).val = t.val / 16 := by rw [hi]; blk_simp [idx t]; try omega
  have i1 : (i 1).val = (y 1).val := by rw [hi]; blk_simp [idx t]; try omega
  have i2 : (i 2).val = 512 * (t.val % 16) + (y 2).val := by rw [hi]; blk_simp [idx t]; try omega
  have i3 : (i 3).val = (y 3).val := by rw [hi]; blk_simp [idx t]; try omega
  rw [← hi]
  refine (q_block m c t (i 1) ⟨(y 2).val, (y 2).isLt⟩ (i 3) y i1.symm rfl i3.symm).trans ?_
  refine (q_at _ _ _ _ _ _ _ _ (cos_at m c t (i 2) _ i2) (sin_at m c t (i 2) _ i2)).trans ?_
  refine (congrArg (fun z : EReal => z * _) (turned_eq (i 2) _ (i 3))).trans ?_
  refine congrArg (fun x : Fin 64 → EReal => turned (i 2) x (i 3) * Ideal.ofBits .f32 0x3E000000#32) (funext fun j => ?_)
  exact x_at m c t (i 0) (i 2) _ _ i0 i2

/-- The second result array of the kernel. -/
theorem k_arr (c : Dev nD) : (dats m 0 c).arrAt 9 cfg0.N = keys (m ((c : Thread nD τ).loc main_arg0)) := by
  refine (dats m 0 c).arrAt_eq_of_covers 9 _ (by decide +kernel) fun t _ y => ?_
  blk_simp
  rw [after0_9]
  obtain ⟨i, hi⟩ : ∃ i : S2x2x8192x64.Idx, i = (win0_9.blk t).view.emb y := ⟨_, rfl⟩
  have i0 : (i 0).val = t.val / 16 := by rw [hi]; blk_simp [idx t]; try omega
  have i1 : (i 1).val = (y 1).val := by rw [hi]; blk_simp [idx t]; try omega
  have i2 : (i 2).val = 512 * (t.val % 16) + (y 2).val := by rw [hi]; blk_simp [idx t]; try omega
  have i3 : (i 3).val = (y 3).val := by rw [hi]; blk_simp [idx t]; try omega
  rw [← hi]
  refine (k_block m c t (i 1) ⟨(y 2).val, (y 2).isLt⟩ (i 3) y i1.symm rfl i3.symm).trans ?_
  refine (k_at _ _ _ _ _ _ _ _ (cos_at m c t (i 2) _ i2) (sin_at m c t (i 2) _ i2)).trans ?_
  refine (turned_eq (i 2) _ (i 3)).trans ?_
  refine congrArg (fun x : Fin 64 → EReal => turned (i 2) x (i 3)) (funext fun j => ?_)
  unfold headOf lanes
  rw [← V_main_arg0 m c]
  blk_ext [iblk, idx t, i0, i2]

/-- The third result array of the kernel. -/
theorem v_arr (c : Dev nD) : (dats m 0 c).arrAt 10 cfg0.N = values (m ((c : Thread nD τ).loc main_arg0)) := by
  refine (dats m 0 c).arrAt_eq_of_covers 10 _ (by decide +kernel) fun t _ y => ?_
  blk_simp
  rw [after0_10]
  obtain ⟨i, hi⟩ : ∃ i : S2x2x8192x64.Idx, i = (win0_10.blk t).view.emb y := ⟨_, rfl⟩
  have i0 : (i 0).val = t.val / 16 := by rw [hi]; blk_simp [idx t]; try omega
  have i1 : (i 1).val = (y 1).val := by rw [hi]; blk_simp [idx t]; try omega
  have i2 : (i 2).val = 512 * (t.val % 16) + (y 2).val := by rw [hi]; blk_simp [idx t]; try omega
  have i3 : (i 3).val = (y 3).val := by rw [hi]; blk_simp [idx t]; try omega
  rw [← hi]
  refine (v_block m c t (i 1) ⟨(y 2).val, (y 2).isLt⟩ (i 3) y i1.symm rfl i3.symm).trans ?_
  unfold values lanes
  rw [← V_main_arg0 m c]
  blk_ext [iblk, idx t, i0, i2]

section Reference
open Cert.RotateRefIdeal.Read

variable (X : Vec Ideal S2x8192x2304 .f32)

/-- The reference's queries by heads. -/
theorem ref_q (b : Fin 2) (n : Fin 8192) (h : Fin 8) (j : Fin 64) :
    (val_main_v38 (F := Ideal) X (ix4 b n h j) : EReal) = lanes X b n (64 * h.val) (by omega) j := by
  rw [val_main_v38_apply, val_main_v37_apply]
  refine congrArg X ?_
  funext a
  fin_cases a <;> refine Fin.ext ?_
  · show (((b.val * 8192 + n.val) * 8 + h.val) * 64 + j.val) / 4194304 = b.val
    omega
  · show (((b.val * 8192 + n.val) * 8 + h.val) * 64 + j.val) / 512 % 8192 = n.val
    omega
  · show (((b.val * 8192 + n.val) * 8 + h.val) * 64 + j.val) % 512 = 64 * h.val + j.val
    omega

/-- The reference's keys by heads. -/
theorem ref_k (b : Fin 2) (n : Fin 8192) (h : Fin 2) (j : Fin 64) :
    (val_main_v40 (F := Ideal) X (ix4 b n h j) : EReal) = lanes X b n (512 + 64 * h.val) (by omega) j := by
  rw [val_main_v40_apply, val_main_v39_apply]
  refine congrArg X ?_
  funext a
  fin_cases a <;> refine Fin.ext ?_
  · show (((b.val * 8192 + n.val) * 2 + h.val) * 64 + j.val) / 1048576 = b.val
    omega
  · show (((b.val * 8192 + n.val) * 2 + h.val) * 64 + j.val) / 128 % 8192 = n.val
    omega
  · show 512 + (((b.val * 8192 + n.val) * 2 + h.val) * 64 + j.val) % 128 = 512 + 64 * h.val + j.val
    omega

/-- The reference's values by heads. -/
theorem ref_v (b : Fin 2) (n : Fin 8192) (h : Fin 2) (j : Fin 64) :
    (val_main_v42 (F := Ideal) X (ix4 b n h j) : EReal) = lanes X b n (640 + 64 * h.val) (by omega) j := by
  rw [val_main_v42_apply, val_main_v41_apply]
  refine congrArg X ?_
  funext a
  fin_cases a <;> refine Fin.ext ?_
  · show (((b.val * 8192 + n.val) * 2 + h.val) * 64 + j.val) / 1048576 = b.val
    omega
  · show (((b.val * 8192 + n.val) * 2 + h.val) * 64 + j.val) / 128 % 8192 = n.val
    omega
  · show 640 + (((b.val * 8192 + n.val) * 2 + h.val) * 64 + j.val) % 128 = 640 + 64 * h.val + j.val
    omega

/-- The reference's queries, turned. -/
theorem ref_turned_q (b : Fin 2) (n : Fin 8192) (h : Fin 8) (j : Fin 64) :
    (val_main_v79 (F := Ideal) X (ix4 b n h j) : EReal) = turned n (fun j => val_main_v38 (F := Ideal) X (ix4 b n h j)) j := by
  pointwise [val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, turned, turn, quarters]

/-- The reference's keys, turned. -/
theorem ref_turned_k (b : Fin 2) (n : Fin 8192) (h : Fin 2) (j : Fin 64) :
    (val_main_v118 (F := Ideal) X (ix4 b n h j) : EReal) = turned n (fun j => val_main_v40 (F := Ideal) X (ix4 b n h j)) j := by
  pointwise [val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, turned, turn, quarters]

/-- The reference's first array. -/
theorem ref_queries : val_main_v120 (F := Ideal) X = queries X := by
  funext i
  rw [val_main_v120_apply, val_main_v119_apply, val_main_v81_apply, val_main_v80_apply, val_main_cst_1_apply]
  refine (congrArg (fun z : EReal => z * Ideal.ofBits .f32 0x3E000000#32) ((congrArg (val_main_v79 (F := Ideal) X) (?_ : _ = ix4 (i 0) (i 2) (i 1) (i 3))).trans (ref_turned_q X _ _ _ _))).trans ?_
  · funext a; fin_cases a <;> rfl
  · exact congrArg (fun x : Fin 64 → EReal => turned (i 2) x (i 3) * Ideal.ofBits .f32 0x3E000000#32) (funext fun j => ref_q X _ _ _ j)

/-- The reference's second array. -/
theorem ref_keys : val_main_v122 (F := Ideal) X = keys X := by
  funext i
  rw [val_main_v122_apply, val_main_v121_apply]
  refine ((congrArg (val_main_v118 (F := Ideal) X) (?_ : _ = ix4 (i 0) (i 2) (i 1) (i 3))).trans (ref_turned_k X _ _ _ _)).trans ?_
  · funext a; fin_cases a <;> rfl
  · exact congrArg (fun x : Fin 64 → EReal => turned (i 2) x (i 3)) (funext fun j => ref_k X _ _ _ j)

/-- The reference's third array. -/
theorem ref_values : val_main_v124 (F := Ideal) X = values X := by
  funext i
  rw [val_main_v124_apply, val_main_v123_apply]
  exact (congrArg (val_main_v42 (F := Ideal) X) (by funext a; fin_cases a <;> rfl)).trans (ref_v X (i 0) (i 2) (i 1) (i 3))

end Reference

end Cert.RotateIdeal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInRefIdeal
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInRefIdeal
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutRefIdeal
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutRefIdeal
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsRefIdeal
public import proofs.«01_k».proof.Proof.Gen.Pre_finite_q_k
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.EvenInIdeal.Value
public import proofs.«01_k».proof.Proof.Gen.EvenInRefIdeal.Run
public import proofs.«01_k».proof.Proof.Gen.EvenInRefIdeal.Read
public import proofs.«01_k».proof.Proof.Gen.OddInIdeal.Value
public import proofs.«01_k».proof.Proof.Gen.OddInRefIdeal.Run
public import proofs.«01_k».proof.Proof.Gen.OddInRefIdeal.Read
public import proofs.«01_k».proof.Proof.Gen.QueryIdeal.Value
public import proofs.«01_k».proof.Proof.Gen.QueryRefIdeal.Run
public import proofs.«01_k».proof.Proof.Gen.QueryRefIdeal.Read
public import proofs.«01_k».proof.Proof.Gen.OddOutIdeal.Value
public import proofs.«01_k».proof.Proof.Gen.OddOutRefIdeal.Run
public import proofs.«01_k».proof.Proof.Gen.OddOutRefIdeal.Read
public import proofs.«01_k».proof.Proof.Gen.EvenOutIdeal.Value
public import proofs.«01_k».proof.Proof.Gen.EvenOutRefIdeal.Run
public import proofs.«01_k».proof.Proof.Gen.EvenOutRefIdeal.Read
public import proofs.«01_k».proof.Proof.Reference
public import proofs.«01_k».proof.Proof.Finite
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanRefIdeal
public import proofs.«01_k».proof.Proof.Gen.ScanIdeal.Value
public import proofs.«01_k».proof.Proof.Gen.ScanRefIdeal.Run
public import proofs.«01_k».proof.Proof.Gen.ScanRefIdeal.Step
public import proofs.«01_k».proof.Proof.Gen.ScanRefIdeal.StepRun
public import proofs.«01_k».proof.Proof.Gen.Gated
public import proofs.«01_k».proof.Proof.Gen.Gated.Skeleton
public import proofs.«01_k».proof.Proof.Gen.Gated.Launch
public import proofs.«01_k».proof.Proof.Gen.Gated.Points
public import proofs.«01_k».proof.Proof.Gen.Gated.Frame
public import proofs.«01_k».proof.Proof.Gen.GatedIdeal
public import proofs.«01_k».proof.Proof.Gen.GatedIdeal.Skeleton
public import proofs.«01_k».proof.Proof.Gen.GatedIdeal.Launch
public import proofs.«01_k».proof.Proof.Gen.GatedIdeal.Points
public import proofs.«01_k».proof.Proof.Gen.GatedIdeal.Frame
public import proofs.«01_k».proof.Proof.Gen.GatedRefIdeal
public import proofs.«01_k».proof.Proof.Gen.GatedIdeal.Value
public import proofs.«01_k».proof.Proof.Gen.GatedRefIdeal.Run
public import proofs.«01_k».proof.Proof.Gen.GatedRefIdeal.Read
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseRefIdeal
public import proofs.«01_k».proof.Proof.Gen.DenseIdeal.Value
public import proofs.«01_k».proof.Proof.Gen.DenseRefIdeal.Run
public import proofs.«01_k».proof.Proof.Gen.DenseRefIdeal.Read
public import proofs.«01_k».proof.Proof.Gen.Rotate
public import proofs.«01_k».proof.Proof.Gen.Rotate.Skeleton
public import proofs.«01_k».proof.Proof.Gen.Rotate.Launch
public import proofs.«01_k».proof.Proof.Gen.Rotate.Points
public import proofs.«01_k».proof.Proof.Gen.Rotate.Frame
public import proofs.«01_k».proof.Proof.Gen.RotateIdeal
public import proofs.«01_k».proof.Proof.Gen.RotateIdeal.Skeleton
public import proofs.«01_k».proof.Proof.Gen.RotateIdeal.Launch
public import proofs.«01_k».proof.Proof.Gen.RotateIdeal.Points
public import proofs.«01_k».proof.Proof.Gen.RotateIdeal.Frame
public import proofs.«01_k».proof.Proof.Gen.RotateRefIdeal
public import proofs.«01_k».proof.Proof.Gen.RotateIdeal.Value
public import proofs.«01_k».proof.Proof.Gen.RotateRefIdeal.Run
public import proofs.«01_k».proof.Proof.Gen.RotateRefIdeal.Read
public import proofs.«01_k».proof.Proof.Gen.Windowed
public import proofs.«01_k».proof.Proof.Gen.Windowed.Skeleton
public import proofs.«01_k».proof.Proof.Gen.Windowed.Launch
public import proofs.«01_k».proof.Proof.Gen.Windowed.Points
public import proofs.«01_k».proof.Proof.Gen.Windowed.Frame
public import proofs.«01_k».proof.Proof.Gen.WindowedIdeal
public import proofs.«01_k».proof.Proof.Gen.WindowedIdeal.Skeleton
public import proofs.«01_k».proof.Proof.Gen.WindowedIdeal.Launch
public import proofs.«01_k».proof.Proof.Gen.WindowedIdeal.Points
public import proofs.«01_k».proof.Proof.Gen.WindowedIdeal.Frame
public import proofs.«01_k».proof.Proof.Gen.WindowedRefIdeal
public import proofs.«01_k».proof.Proof.Gen.Pre_finite_windowed
public import proofs.«01_k».proof.Proof.Gen.WindowedIdeal.Value
public import proofs.«01_k».proof.Proof.Gen.WindowedRefIdeal.Run
public import proofs.«01_k».proof.Proof.Gen.WindowedRefIdeal.Read
public import proofs.«01_k».proof.Proof.WindowReference
public import proofs.«01_k».proof.Proof.WindowFinite
public import proofs.«01_k».proof.Proof.EvenIn
public import proofs.«01_k».proof.Proof.OddIn
public import proofs.«01_k».proof.Proof.Query
public import proofs.«01_k».proof.Proof.OddOut
public import proofs.«01_k».proof.Proof.EvenOut
public import proofs.«01_k».proof.Proof.Experts
public import proofs.«01_k».proof.Proof.ScanKernel
public import proofs.«01_k».proof.Proof.ScanReference
public import proofs.«01_k».proof.Proof.Gated
public import proofs.«01_k».proof.Proof.Dense
public import proofs.«01_k».proof.Proof.Rotate
public import proofs.«01_k».proof.Proof.Gen.ExpertsIdeal.Value
public import proofs.«01_k».proof.Proof.Gen.ExpertsRefIdeal.Run
public import proofs.«01_k».proof.Proof.Gen.ExpertsRefIdeal.Read
public import Idealize.ShloMosaic.Adequacy
public import Idealize.ShloMosaic.Init

@[expose] public section

noncomputable section

namespace Cert.Proof

open Idealize.ShloMosaic Idealize.SL.Sem

instance preFacts : Cert.Pre_finite_q_k.Facts := Cert.Flash.facts

instance windowFacts : Cert.Pre_finite_windowed.Facts := Cert.Window.facts

/-- The kernel runs, keeps its arguments and ends with every counter at zero. -/
theorem frame_kernel : Cert.quiescent_Kernel := fun m g _ => Cert.Kernel.Gen.frame m g

/-- The same of the kernel at the ideal instance. -/
theorem frame_kernel_ideal : Cert.quiescent_KernelIdeal := fun m g _ => Cert.KernelIdeal.Gen.frame m g

/-- The same of the reference. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- With real queries and keys, the kernel's attention and the reference's are one array. -/
theorem attention : Cert.algebraic_KernelIdeal_ReferenceIdeal_pre_finite_q_k := by
  intro m g m' g' hpre hagree
  have hre := fun c => Cert.Flash.real_entries _ _ _ (hpre c)
  choose M hM using fun c => Cert.Flash.ref_arr _ _ (Cert.Flash.vA m c) (hre c).1 (hre c).2
  refine ⟨fun c => Cert.Flash.attO (Cert.Flash.qA m c) (Cert.Flash.kA m c) (Cert.Flash.vA m c) (M c), ?_, ?_⟩
  · refine (θ_run Cert.KernelIdeal.defs _ _).mono (fun r h c => ?_) (Cert.KernelIdeal.Value.run_blocks m g)
    exact ⟨(h c).1.trans (Cert.Flash.kernel_arr m c (hre c).1 (hre c).2 (M c)), (h c).2⟩
  · refine (θ_run Cert.ReferenceIdeal.defs _ _).mono (fun r h c => ?_) (Cert.ReferenceIdeal.Value.run m' g')
    refine ⟨(h c).1.trans ((Cert.ReferenceIdeal.Read.val_main_v19_eq _ _ _).trans ?_), (h c).2⟩
    obtain ⟨e0, e1, e2⟩ := hagree c
    rw [e0, e1, e2]
    exact hM c

/-- The even layer's projection into its mixers runs, keeps its arguments and ends with every counter at zero. -/
theorem frame_EvenIn : Cert.quiescent_EvenIn := fun m g _ => Cert.EvenIn.Gen.frame m g

/-- The same at the ideal instance. -/
theorem frame_EvenInIdeal : Cert.quiescent_EvenInIdeal := fun m g _ => Cert.EvenInIdeal.Gen.frame m g

/-- The same of its reference. -/
theorem frame_EvenInRefIdeal : Cert.quiescent_EvenInRefIdeal := fun m g _ =>
  (θ_run Cert.EvenInRefIdeal.defs _ _).mono (fun r h => ⟨fun c => (h c).2, sem_eq_zero_of_no_sems (by decide) r.2⟩)
    (Cert.EvenInRefIdeal.Value.run m g)

/-- The even layer's projection into its mixers: kernel and reference are one array. -/
theorem value_EvenIn : Cert.algebraic_EvenInIdeal_EvenInRefIdeal := by
  intro m g m' g' _ hagree
  refine ⟨fun c => Cert.Projection.proj (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1)) (m ((c.tc : Thread Cert.EvenInIdeal.nD Cert.EvenInIdeal.τ).loc Cert.EvenInIdeal.main_arg2)) (m ((c.tc : Thread Cert.EvenInIdeal.nD Cert.EvenInIdeal.τ).loc Cert.EvenInIdeal.main_arg3)), ?_, ?_⟩
  · exact (θ_run Cert.EvenInIdeal.defs _ _).mono (fun r h c => ⟨(h c).1.trans (Cert.EvenInIdeal.kernel_arr m c), (h c).2⟩)
      (Cert.EvenInIdeal.Value.run_blocks m g)
  · refine (θ_run Cert.EvenInRefIdeal.defs _ _).mono (fun r h c => ?_) (Cert.EvenInRefIdeal.Value.run m' g')
    refine ⟨(h c).1.trans ((Cert.EvenInRefIdeal.Read.val_main_v6_eq _ _ _ _).trans ?_), (h c).2⟩
    obtain ⟨e0, e1, e2, e3⟩ := hagree c
    rw [e0, e1, e2, e3]
    exact Cert.EvenInIdeal.ref_arr _ _ _ _

/-- The odd layer's projection into its mixers runs, keeps its arguments and ends with every counter at zero. -/
theorem frame_OddIn : Cert.quiescent_OddIn := fun m g _ => Cert.OddIn.Gen.frame m g

/-- The same at the ideal instance. -/
theorem frame_OddInIdeal : Cert.quiescent_OddInIdeal := fun m g _ => Cert.OddInIdeal.Gen.frame m g

/-- The same of its reference. -/
theorem frame_OddInRefIdeal : Cert.quiescent_OddInRefIdeal := fun m g _ =>
  (θ_run Cert.OddInRefIdeal.defs _ _).mono (fun r h => ⟨fun c => (h c).2, sem_eq_zero_of_no_sems (by decide) r.2⟩)
    (Cert.OddInRefIdeal.Value.run m g)

/-- The odd layer's projection into its mixers: kernel and reference are one array. -/
theorem value_OddIn : Cert.algebraic_OddInIdeal_OddInRefIdeal := by
  intro m g m' g' _ hagree
  refine ⟨fun c => Cert.Projection.proj (m ((c.tc : Thread Cert.OddInIdeal.nD Cert.OddInIdeal.τ).loc Cert.OddInIdeal.main_arg0)) (m ((c.tc : Thread Cert.OddInIdeal.nD Cert.OddInIdeal.τ).loc Cert.OddInIdeal.main_arg1)) (m ((c.tc : Thread Cert.OddInIdeal.nD Cert.OddInIdeal.τ).loc Cert.OddInIdeal.main_arg2)) (m ((c.tc : Thread Cert.OddInIdeal.nD Cert.OddInIdeal.τ).loc Cert.OddInIdeal.main_arg3)), ?_, ?_⟩
  · exact (θ_run Cert.OddInIdeal.defs _ _).mono (fun r h c => ⟨(h c).1.trans (Cert.OddInIdeal.kernel_arr m c), (h c).2⟩)
      (Cert.OddInIdeal.Value.run_blocks m g)
  · refine (θ_run Cert.OddInRefIdeal.defs _ _).mono (fun r h c => ?_) (Cert.OddInRefIdeal.Value.run m' g')
    refine ⟨(h c).1.trans ((Cert.OddInRefIdeal.Read.val_main_v6_eq _ _ _ _).trans ?_), (h c).2⟩
    obtain ⟨e0, e1, e2, e3⟩ := hagree c
    rw [e0, e1, e2, e3]
    exact Cert.OddInIdeal.ref_arr _ _ _ _

/-- The projection into the expert queries runs, keeps its arguments and ends with every counter at zero. -/
theorem frame_Query : Cert.quiescent_Query := fun m g _ => Cert.Query.Gen.frame m g

/-- The same at the ideal instance. -/
theorem frame_QueryIdeal : Cert.quiescent_QueryIdeal := fun m g _ => Cert.QueryIdeal.Gen.frame m g

/-- The same of its reference. -/
theorem frame_QueryRefIdeal : Cert.quiescent_QueryRefIdeal := fun m g _ =>
  (θ_run Cert.QueryRefIdeal.defs _ _).mono (fun r h => ⟨fun c => (h c).2, sem_eq_zero_of_no_sems (by decide) r.2⟩)
    (Cert.QueryRefIdeal.Value.run m g)

/-- The projection into the expert queries: kernel and reference are one array. -/
theorem value_Query : Cert.algebraic_QueryIdeal_QueryRefIdeal := by
  intro m g m' g' _ hagree
  refine ⟨fun c => Cert.Projection.proj (m ((c.tc : Thread Cert.QueryIdeal.nD Cert.QueryIdeal.τ).loc Cert.QueryIdeal.main_arg0)) (m ((c.tc : Thread Cert.QueryIdeal.nD Cert.QueryIdeal.τ).loc Cert.QueryIdeal.main_arg1)) (m ((c.tc : Thread Cert.QueryIdeal.nD Cert.QueryIdeal.τ).loc Cert.QueryIdeal.main_arg2)) (m ((c.tc : Thread Cert.QueryIdeal.nD Cert.QueryIdeal.τ).loc Cert.QueryIdeal.main_arg3)), ?_, ?_⟩
  · exact (θ_run Cert.QueryIdeal.defs _ _).mono (fun r h c => ⟨(h c).1.trans (Cert.QueryIdeal.kernel_arr m c), (h c).2⟩)
      (Cert.QueryIdeal.Value.run_blocks m g)
  · refine (θ_run Cert.QueryRefIdeal.defs _ _).mono (fun r h c => ?_) (Cert.QueryRefIdeal.Value.run m' g')
    refine ⟨(h c).1.trans ((Cert.QueryRefIdeal.Read.val_main_v6_eq _ _ _ _).trans ?_), (h c).2⟩
    obtain ⟨e0, e1, e2, e3⟩ := hagree c
    rw [e0, e1, e2, e3]
    exact Cert.QueryIdeal.ref_arr _ _ _ _

/-- The output of the odd layer's mixers runs, keeps its arguments and ends with every counter at zero. -/
theorem frame_OddOut : Cert.quiescent_OddOut := fun m g _ => Cert.OddOut.Gen.frame m g

/-- The same at the ideal instance. -/
theorem frame_OddOutIdeal : Cert.quiescent_OddOutIdeal := fun m g _ => Cert.OddOutIdeal.Gen.frame m g

/-- The same of its reference. -/
theorem frame_OddOutRefIdeal : Cert.quiescent_OddOutRefIdeal := fun m g _ =>
  (θ_run Cert.OddOutRefIdeal.defs _ _).mono (fun r h => ⟨fun c => (h c).2, sem_eq_zero_of_no_sems (by decide) r.2⟩)
    (Cert.OddOutRefIdeal.Value.run m g)

/-- The output of the odd layer's mixers: kernel and reference are one array. -/
theorem value_OddOut : Cert.algebraic_OddOutIdeal_OddOutRefIdeal := by
  intro m g m' g' _ hagree
  refine ⟨fun c => Cert.LayerNorm.merged (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5)) (m ((c.tc : Thread Cert.OddOutIdeal.nD Cert.OddOutIdeal.τ).loc Cert.OddOutIdeal.main_arg6)), ?_, ?_⟩
  · exact (θ_run Cert.OddOutIdeal.defs _ _).mono (fun r h c => ⟨(h c).1.trans (Cert.OddOutIdeal.kernel_arr m c), (h c).2⟩)
      (Cert.OddOutIdeal.Value.run_blocks m g)
  · refine (θ_run Cert.OddOutRefIdeal.defs _ _).mono (fun r h c => ?_) (Cert.OddOutRefIdeal.Value.run m' g')
    refine ⟨(h c).1.trans ((Cert.OddOutRefIdeal.Read.val_main_v32_eq _ _).trans ?_), (h c).2⟩
    obtain ⟨e0, e1, e2, e3, e4, e5, e6⟩ := hagree c
    rw [e0, e1, e2, e3, e4, e5, e6]
    exact Cert.OddOutIdeal.ref_arr _ _ _ _ _ _ _

/-- The output of the even layer's mixers runs, keeps its arguments and ends with every counter at zero. -/
theorem frame_EvenOut : Cert.quiescent_EvenOut := fun m g _ => Cert.EvenOut.Gen.frame m g

/-- The same at the ideal instance. -/
theorem frame_EvenOutIdeal : Cert.quiescent_EvenOutIdeal := fun m g _ => Cert.EvenOutIdeal.Gen.frame m g

/-- The same of its reference. -/
theorem frame_EvenOutRefIdeal : Cert.quiescent_EvenOutRefIdeal := fun m g _ =>
  (θ_run Cert.EvenOutRefIdeal.defs _ _).mono (fun r h => ⟨fun c => (h c).2, sem_eq_zero_of_no_sems (by decide) r.2⟩)
    (Cert.EvenOutRefIdeal.Value.run m g)

/-- The output of the even layer's mixers: kernel and reference are one array. -/
theorem value_EvenOut : Cert.algebraic_EvenOutIdeal_EvenOutRefIdeal := by
  intro m g m' g' _ hagree
  refine ⟨fun c => Cert.LayerNorm.merged (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4)) (m ((c.tc : Thread Cert.EvenOutIdeal.nD Cert.EvenOutIdeal.τ).loc Cert.EvenOutIdeal.main_arg5)) (m ((c.tc : Thread Cert.EvenOutIdeal.nD Cert.EvenOutIdeal.τ).loc Cert.EvenOutIdeal.main_arg6)), ?_, ?_⟩
  · exact (θ_run Cert.EvenOutIdeal.defs _ _).mono (fun r h c => ⟨(h c).1.trans (Cert.EvenOutIdeal.kernel_arr m c), (h c).2⟩)
      (Cert.EvenOutIdeal.Value.run_blocks m g)
  · refine (θ_run Cert.EvenOutRefIdeal.defs _ _).mono (fun r h c => ?_) (Cert.EvenOutRefIdeal.Value.run m' g')
    refine ⟨(h c).1.trans ((Cert.EvenOutRefIdeal.Read.val_main_v31_eq _ _).trans ?_), (h c).2⟩
    obtain ⟨e0, e1, e2, e3, e4, e5, e6⟩ := hagree c
    rw [e0, e1, e2, e3, e4, e5, e6]
    exact Cert.EvenOutIdeal.ref_arr _ _ _ _ _ _ _

/-- The experts run, keep their arguments and end with every counter at zero. -/
theorem frame_Experts : Cert.quiescent_Experts := fun m g _ => Cert.Experts.Gen.frame m g

/-- The same at the ideal instance. -/
theorem frame_ExpertsIdeal : Cert.quiescent_ExpertsIdeal := fun m g _ => Cert.ExpertsIdeal.Gen.frame m g

/-- The same of their reference. -/
theorem frame_ExpertsRefIdeal : Cert.quiescent_ExpertsRefIdeal := fun m g _ =>
  (θ_run Cert.ExpertsRefIdeal.defs _ _).mono (fun r h => ⟨fun c => (h c).2, sem_eq_zero_of_no_sems (by decide) r.2⟩)
    (Cert.ExpertsRefIdeal.Value.run m g)

/-- The experts, the gated residual and the layer norm: kernel and reference are one array. -/
theorem value_Experts : Cert.algebraic_ExpertsIdeal_ExpertsRefIdeal := by
  intro m g m' g' _ hagree
  refine ⟨fun c => Cert.ExpertsIdeal.mixedExperts (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)), ?_, ?_⟩
  · exact (θ_run Cert.ExpertsIdeal.defs _ _).mono (fun r h c => ⟨(h c).1.trans (Cert.ExpertsIdeal.kernel_arr m c), (h c).2⟩)
      (Cert.ExpertsIdeal.Value.run_blocks m g)
  · refine (θ_run Cert.ExpertsRefIdeal.defs _ _).mono (fun r h c => ?_) (Cert.ExpertsRefIdeal.Value.run m' g')
    refine ⟨(h c).1.trans ((Cert.ExpertsRefIdeal.Read.val_main_v50_eq _ _).trans ?_), (h c).2⟩
    obtain ⟨e0, e1, e2, e3, e4, e5, e6, e7, e8⟩ := hagree c
    rw [e0, e1, e2, e3, e4, e5, e6, e7, e8]
    exact Cert.ExpertsIdeal.ref_arr _ _ _ _ _ _ _ _ _

/-- The recurrence runs, keeps its arguments and ends with every counter at zero. -/
theorem frame_Scan : Cert.quiescent_Scan := fun m g _ => Cert.Scan.Gen.frame m g

/-- The same at the ideal instance. -/
theorem frame_ScanIdeal : Cert.quiescent_ScanIdeal := fun m g _ => Cert.ScanIdeal.Gen.frame m g

/-- The same of its reference. -/
theorem frame_ScanRefIdeal : Cert.quiescent_ScanRefIdeal := fun m g _ =>
  (θ_run Cert.ScanRefIdeal.defs _ _).mono (fun r h => ⟨fun c => (h c).2.2, sem_eq_zero_of_no_sems (by decide) r.2⟩)
    (Cert.ScanRefIdeal.Value.run m g)

/-- The recurrence: kernel and reference are one array in each direction. -/
theorem value_Scan : Cert.algebraic_ScanIdeal_ScanRefIdeal := by
  intro m g m' g' _ hagree
  refine ⟨fun c => Cert.Recur.result (Cert.Recur.args m c) 0, fun c => Cert.Recur.result (Cert.Recur.args m c) 1, ?_, ?_⟩
  · exact (θ_run Cert.ScanIdeal.defs _ _).mono
      (fun r h c => ⟨(h c).1.trans (Cert.Recur.front_arr m c), (h c).2.1.trans (Cert.Recur.back_arr m c), (h c).2.2⟩)
      (Cert.ScanIdeal.Value.run_blocks m g)
  · refine (θ_run Cert.ScanRefIdeal.defs _ _).mono (fun r h c => ?_) (Cert.ScanRefIdeal.StepRun.run_iter m' g'
      (fun c => Cert.Recur.states (Cert.ScanRefIdeal.StepRun.initState m' c)) (fun _ => rfl) (fun _ _ => rfl))
    have I := Cert.Recur.Inv.start (Cert.ScanRefIdeal.StepRun.initState m' c) rfl rfl rfl
    have e : Cert.Recur.arrays (Cert.ScanRefIdeal.StepRun.initState m' c) = Cert.Recur.args m c := by
      obtain ⟨e0, e1, e2, e3, e4, e5⟩ := hagree c
      unfold Cert.Recur.arrays Cert.ScanRefIdeal.StepRun.initState Cert.ScanRefIdeal.Step.init Cert.Recur.args
      rw [e0, e1, e2, e3, e4, e5]
    rw [e] at I
    exact ⟨(h c).1.trans I.front_end, (h c).2.1.trans I.back_end, (h c).2.2⟩

/-- The gate of the recurrence's result runs, keeps its arguments and ends with every counter at zero. -/
theorem frame_Gated : Cert.quiescent_Gated := fun m g _ => Cert.Gated.Gen.frame m g

/-- The same at the ideal instance. -/
theorem frame_GatedIdeal : Cert.quiescent_GatedIdeal := fun m g _ => Cert.GatedIdeal.Gen.frame m g

/-- The same of its reference. -/
theorem frame_GatedRefIdeal : Cert.quiescent_GatedRefIdeal := fun m g _ =>
  (θ_run Cert.GatedRefIdeal.defs _ _).mono (fun r h => ⟨fun c => (h c).2, sem_eq_zero_of_no_sems (by decide) r.2⟩)
    (Cert.GatedRefIdeal.Value.run m g)

/-- The gate of the recurrence's result: kernel and reference are one array. -/
theorem value_Gated : Cert.algebraic_GatedIdeal_GatedRefIdeal := by
  intro m g m' g' _ hagree
  refine ⟨fun c => Cert.GatedIdeal.gatedArr (m ((c.tc : Thread Cert.GatedIdeal.nD Cert.GatedIdeal.τ).loc Cert.GatedIdeal.main_arg0)) (m ((c.tc : Thread Cert.GatedIdeal.nD Cert.GatedIdeal.τ).loc Cert.GatedIdeal.main_arg1)) (m ((c.tc : Thread Cert.GatedIdeal.nD Cert.GatedIdeal.τ).loc Cert.GatedIdeal.main_arg2)) (m ((c.tc : Thread Cert.GatedIdeal.nD Cert.GatedIdeal.τ).loc Cert.GatedIdeal.main_arg3)), ?_, ?_⟩
  · exact (θ_run Cert.GatedIdeal.defs _ _).mono (fun r h c => ⟨(h c).1.trans (Cert.GatedIdeal.kernel_arr m c), (h c).2⟩)
      (Cert.GatedIdeal.Value.run_blocks m g)
  · refine (θ_run Cert.GatedRefIdeal.defs _ _).mono (fun r h c => ?_) (Cert.GatedRefIdeal.Value.run m' g')
    refine ⟨(h c).1.trans ((Cert.GatedRefIdeal.Read.val_main_v21_eq _ _ _ _).trans ?_), (h c).2⟩
    obtain ⟨e0, e1, e2, e3⟩ := hagree c
    rw [e0, e1, e2, e3]
    exact Cert.GatedIdeal.ref_arr _ _ _ _

/-- The dense gates run, keep their arguments and end with every counter at zero. -/
theorem frame_Dense : Cert.quiescent_Dense := fun m g _ => Cert.Dense.Gen.frame m g

/-- The same at the ideal instance. -/
theorem frame_DenseIdeal : Cert.quiescent_DenseIdeal := fun m g _ => Cert.DenseIdeal.Gen.frame m g

/-- The same of their reference. -/
theorem frame_DenseRefIdeal : Cert.quiescent_DenseRefIdeal := fun m g _ =>
  (θ_run Cert.DenseRefIdeal.defs _ _).mono (fun r h => ⟨fun c => (h c).2, sem_eq_zero_of_no_sems (by decide) r.2⟩)
    (Cert.DenseRefIdeal.Value.run m g)

/-- The dense gates of all experts: kernel and reference are one array. -/
theorem value_Dense : Cert.algebraic_DenseIdeal_DenseRefIdeal := by
  intro m g m' g' _ hagree
  refine ⟨fun c => Cert.DenseIdeal.denseArr (m ((c.tc : Thread Cert.DenseIdeal.nD Cert.DenseIdeal.τ).loc Cert.DenseIdeal.main_arg0)) (m ((c.tc : Thread Cert.DenseIdeal.nD Cert.DenseIdeal.τ).loc Cert.DenseIdeal.main_arg1)), ?_, ?_⟩
  · exact (θ_run Cert.DenseIdeal.defs _ _).mono (fun r h c => ⟨(h c).1.trans (Cert.DenseIdeal.kernel_arr m c), (h c).2⟩)
      (Cert.DenseIdeal.Value.run_blocks m g)
  · refine (θ_run Cert.DenseRefIdeal.defs _ _).mono (fun r h c => ?_) (Cert.DenseRefIdeal.Value.run m' g')
    refine ⟨(h c).1.trans ((Cert.DenseRefIdeal.Read.val_main_v10_eq _ _).trans ?_), (h c).2⟩
    obtain ⟨e0, e1⟩ := hagree c
    rw [e0, e1]
    exact Cert.DenseIdeal.ref_arr _ _

/-- The preparation of the even layer's queries, keys and values runs, keeps its arguments and ends with every counter at zero. -/
theorem frame_Rotate : Cert.quiescent_Rotate := fun m g _ => Cert.Rotate.Gen.frame m g

/-- The same at the ideal instance. -/
theorem frame_RotateIdeal : Cert.quiescent_RotateIdeal := fun m g _ => Cert.RotateIdeal.Gen.frame m g

/-- The same of its reference. -/
theorem frame_RotateRefIdeal : Cert.quiescent_RotateRefIdeal := fun m g _ =>
  (θ_run Cert.RotateRefIdeal.defs _ _).mono (fun r h => ⟨fun c => (h c).2.2.2, sem_eq_zero_of_no_sems (by decide) r.2⟩)
    (Cert.RotateRefIdeal.Value.run m g)

/-- The even layer's queries, keys and values: kernel and reference are the same three arrays. -/
theorem value_Rotate : Cert.algebraic_RotateIdeal_RotateRefIdeal := by
  intro m g m' g' _ hagree
  refine ⟨fun c => Cert.RotateIdeal.queries (m ((c.tc : Thread Cert.RotateIdeal.nD Cert.RotateIdeal.τ).loc Cert.RotateIdeal.main_arg0)),
    fun c => Cert.RotateIdeal.keys (m ((c.tc : Thread Cert.RotateIdeal.nD Cert.RotateIdeal.τ).loc Cert.RotateIdeal.main_arg0)),
    fun c => Cert.RotateIdeal.values (m ((c.tc : Thread Cert.RotateIdeal.nD Cert.RotateIdeal.τ).loc Cert.RotateIdeal.main_arg0)), ?_, ?_⟩
  · exact (θ_run Cert.RotateIdeal.defs _ _).mono (fun r h c => ⟨(h c).1.trans (Cert.RotateIdeal.q_arr m c),
      (h c).2.1.trans (Cert.RotateIdeal.k_arr m c), (h c).2.2.1.trans (Cert.RotateIdeal.v_arr m c), (h c).2.2.2⟩)
      (Cert.RotateIdeal.Value.run_blocks m g)
  · refine (θ_run Cert.RotateRefIdeal.defs _ _).mono (fun r h c => ?_) (Cert.RotateRefIdeal.Value.run m' g')
    have e := hagree c
    refine ⟨(h c).1.trans ((Cert.RotateRefIdeal.Read.val_main_v120_eq _ _).trans ?_),
      (h c).2.1.trans ((Cert.RotateRefIdeal.Read.val_main_v122_eq _ _).trans ?_),
      (h c).2.2.1.trans ((Cert.RotateRefIdeal.Read.val_main_v124_eq _).trans ?_), (h c).2.2.2⟩
    · rw [e]
      exact Cert.RotateIdeal.ref_queries _
    · rw [e]
      exact Cert.RotateIdeal.ref_keys _
    · rw [e]
      exact Cert.RotateIdeal.ref_values _

/-- The windowed attention runs, keeps its arguments and ends with every counter at zero. -/
theorem frame_Windowed : Cert.quiescent_Windowed := fun m g _ => Cert.Windowed.Gen.frame m g

/-- The same at the ideal instance. -/
theorem frame_WindowedIdeal : Cert.quiescent_WindowedIdeal := fun m g _ => Cert.WindowedIdeal.Gen.frame m g

/-- The same of its reference. -/
theorem frame_WindowedRefIdeal : Cert.quiescent_WindowedRefIdeal := fun m g _ =>
  (θ_run Cert.WindowedRefIdeal.defs _ _).mono (fun r h => ⟨fun c => (h c).2, sem_eq_zero_of_no_sems (by decide) r.2⟩)
    (Cert.WindowedRefIdeal.Value.run m g)

/-- With real queries and keys and no infinite sink, the windowed attention: kernel and reference are one array. -/
theorem value_Windowed : Cert.algebraic_WindowedIdeal_WindowedRefIdeal_pre_finite_windowed := by
  intro m g m' g' hpre hagree
  have hre := fun c => Cert.Window.real_entries _ _ _ _ _ _ (hpre c)
  choose M hM using fun c : Dev Cert.WindowedIdeal.nD => Cert.Window.ref_arr (m ((c.tc : Thread Cert.WindowedIdeal.nD Cert.WindowedIdeal.τ).loc Cert.WindowedIdeal.main_arg0)) (m ((c.tc : Thread Cert.WindowedIdeal.nD Cert.WindowedIdeal.τ).loc Cert.WindowedIdeal.main_arg1)) (m ((c.tc : Thread Cert.WindowedIdeal.nD Cert.WindowedIdeal.τ).loc Cert.WindowedIdeal.main_arg2)) (m ((c.tc : Thread Cert.WindowedIdeal.nD Cert.WindowedIdeal.τ).loc Cert.WindowedIdeal.main_arg3)) (m ((c.tc : Thread Cert.WindowedIdeal.nD Cert.WindowedIdeal.τ).loc Cert.WindowedIdeal.main_arg4)) (m ((c.tc : Thread Cert.WindowedIdeal.nD Cert.WindowedIdeal.τ).loc Cert.WindowedIdeal.main_arg5)) (hre c).1 (hre c).2.1 (hre c).2.2.1 (hre c).2.2.2
  refine ⟨fun c => Cert.Window.arrW (m ((c.tc : Thread Cert.WindowedIdeal.nD Cert.WindowedIdeal.τ).loc Cert.WindowedIdeal.main_arg0)) (m ((c.tc : Thread Cert.WindowedIdeal.nD Cert.WindowedIdeal.τ).loc Cert.WindowedIdeal.main_arg1)) (m ((c.tc : Thread Cert.WindowedIdeal.nD Cert.WindowedIdeal.τ).loc Cert.WindowedIdeal.main_arg2)) (m ((c.tc : Thread Cert.WindowedIdeal.nD Cert.WindowedIdeal.τ).loc Cert.WindowedIdeal.main_arg3)) (m ((c.tc : Thread Cert.WindowedIdeal.nD Cert.WindowedIdeal.τ).loc Cert.WindowedIdeal.main_arg4)) (m ((c.tc : Thread Cert.WindowedIdeal.nD Cert.WindowedIdeal.τ).loc Cert.WindowedIdeal.main_arg5)) (M c), ?_, ?_⟩
  · refine (θ_run Cert.WindowedIdeal.defs _ _).mono (fun r h c => ?_) (Cert.WindowedIdeal.Value.run_blocks m g)
    exact ⟨(h c).1.trans (Cert.Window.kernel_arr m c (M c) _ _ _ _ _ _ rfl rfl rfl rfl rfl rfl (hre c).1 (hre c).2.1 (hre c).2.2.1 (hre c).2.2.2), (h c).2⟩
  · refine (θ_run Cert.WindowedRefIdeal.defs _ _).mono (fun r h c => ?_) (Cert.WindowedRefIdeal.Value.run m' g')
    refine ⟨(h c).1.trans ((Cert.WindowedRefIdeal.Read.val_main_v37_eq _ _).trans ?_), (h c).2⟩
    obtain ⟨e0, e1, e2, e3, e4, e5⟩ := hagree c
    rw [e0, e1, e2, e3, e4, e5]
    exact hM c

/-- Everything claimed. -/
theorem claim : Cert.Claim :=
  ⟨Cert.Kernel.Gen.facts, Cert.KernelIdeal.Gen.facts, Cert.ReferenceIdeal.Gen.facts,
    Cert.EvenIn.Gen.facts, Cert.EvenInIdeal.Gen.facts, Cert.EvenInRefIdeal.Gen.facts,
    Cert.OddIn.Gen.facts, Cert.OddInIdeal.Gen.facts, Cert.OddInRefIdeal.Gen.facts,
    Cert.Query.Gen.facts, Cert.QueryIdeal.Gen.facts, Cert.QueryRefIdeal.Gen.facts,
    Cert.OddOut.Gen.facts, Cert.OddOutIdeal.Gen.facts, Cert.OddOutRefIdeal.Gen.facts,
    Cert.EvenOut.Gen.facts, Cert.EvenOutIdeal.Gen.facts, Cert.EvenOutRefIdeal.Gen.facts,
    Cert.Experts.Gen.facts, Cert.ExpertsIdeal.Gen.facts, Cert.ExpertsRefIdeal.Gen.facts,
    Cert.Scan.Gen.facts, Cert.ScanIdeal.Gen.facts, Cert.ScanRefIdeal.Gen.facts,
    Cert.Gated.Gen.facts, Cert.GatedIdeal.Gen.facts, Cert.GatedRefIdeal.Gen.facts,
    Cert.Dense.Gen.facts, Cert.DenseIdeal.Gen.facts, Cert.DenseRefIdeal.Gen.facts,
    Cert.Rotate.Gen.facts, Cert.RotateIdeal.Gen.facts, Cert.RotateRefIdeal.Gen.facts,
    Cert.Windowed.Gen.facts, Cert.WindowedIdeal.Gen.facts, Cert.WindowedRefIdeal.Gen.facts, preFacts, windowFacts,
    frame_kernel, frame_kernel_ideal, fun m g _ => frame_kernel_ideal m g trivial, frame_reference,
    fun m g _ => frame_reference m g trivial,
    frame_EvenIn, frame_EvenInIdeal, frame_EvenInRefIdeal, frame_OddIn, frame_OddInIdeal, frame_OddInRefIdeal, frame_Query, frame_QueryIdeal, frame_QueryRefIdeal, frame_OddOut, frame_OddOutIdeal, frame_OddOutRefIdeal, frame_EvenOut, frame_EvenOutIdeal, frame_EvenOutRefIdeal,
    frame_Experts, frame_ExpertsIdeal, frame_ExpertsRefIdeal,
    frame_Scan, frame_ScanIdeal, frame_ScanRefIdeal,
    frame_Gated, frame_GatedIdeal, frame_GatedRefIdeal,
    frame_Dense, frame_DenseIdeal, frame_DenseRefIdeal,
    frame_Rotate, frame_RotateIdeal, frame_RotateRefIdeal,
    frame_Windowed, frame_WindowedIdeal, fun m g _ => frame_WindowedIdeal m g trivial, frame_WindowedRefIdeal,
    fun m g _ => frame_WindowedRefIdeal m g trivial,
    trivial, attention, trivial, value_EvenIn,
    trivial, value_OddIn,
    trivial, value_Query,
    trivial, value_OddOut,
    trivial, value_EvenOut,
    trivial, value_Experts,
    trivial, value_Scan,
    trivial, value_Gated,
    trivial, value_Dense,
    trivial, value_Rotate,
    trivial, value_Windowed⟩

end Cert.Proof

end
